-- ==== Defs.lean ====
def Pre_Kernel [hPre_starts : Cert.Pre_starts.Facts] (m : (ℓ : Loc Cert.Kernel.nD Cert.Kernel.τ Cert.Kernel.sig) → Buf (Elt Bits) ℓ) : Prop :=
  ∀ c : Dev Cert.Kernel.nD,
    (Cert.Pre_starts.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_starts : Cert.Pre_starts.Facts] (m : (ℓ : Loc Cert.KernelIdeal.nD Cert.KernelIdeal.τ Cert.KernelIdeal.sig) → Buf (Elt Ideal) ℓ) : Prop :=
  ∀ c : Dev Cert.KernelIdeal.nD,
    (Cert.Pre_starts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_attends [hPre_attends : Cert.Pre_attends.Facts] (m : (ℓ : Loc Cert.KernelIdeal.nD Cert.KernelIdeal.τ Cert.KernelIdeal.sig) → Buf (Elt Ideal) ℓ) : Prop :=
  ∀ c : Dev Cert.KernelIdeal.nD,
    (Cert.Pre_attends.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_attends [hPre_attends : Cert.Pre_attends.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_attends.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Experts [hPre_routes : Cert.Pre_routes.Facts] (m : (ℓ : Loc Cert.Experts.nD Cert.Experts.τ Cert.Experts.sig) → Buf (Elt Bits) ℓ) : Prop :=
  ∀ c : Dev Cert.Experts.nD,
    (Cert.Pre_routes.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_routes : Cert.Pre_routes.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_routes.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_routes [hPre_routes : Cert.Pre_routes.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_routes.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5))) = (fun _ => 1#1)

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastReferenceIdeal (m : (ℓ : Loc Cert.LastReferenceIdeal.nD Cert.LastReferenceIdeal.τ Cert.LastReferenceIdeal.sig) → Buf (Elt Ideal) ℓ) : Prop :=
  True

def Pre_Rows (m : (ℓ : Loc Cert.Rows.nD Cert.Rows.τ Cert.Rows.sig) → Buf (Elt Bits) ℓ) : Prop :=
  True

def Pre_RowsIdeal (m : (ℓ : Loc Cert.RowsIdeal.nD Cert.RowsIdeal.τ Cert.RowsIdeal.sig) → Buf (Elt Ideal) ℓ) : Prop :=
  True

def Pre_RowsReferenceIdeal (m : (ℓ : Loc Cert.RowsReferenceIdeal.nD Cert.RowsReferenceIdeal.τ Cert.RowsReferenceIdeal.sig) → Buf (Elt Ideal) ℓ) : Prop :=
  True

def Pre_SampleLast (m : (ℓ : Loc Cert.SampleLast.nD Cert.SampleLast.τ Cert.SampleLast.sig) → Buf (Elt Bits) ℓ) : Prop :=
  True

def Pre_SampleLastIdeal (m : (ℓ : Loc Cert.SampleLastIdeal.nD Cert.SampleLastIdeal.τ Cert.SampleLastIdeal.sig) → Buf (Elt Ideal) ℓ) : Prop :=
  True

def Pre_SampleLastReferenceIdeal (m : (ℓ : Loc Cert.SampleLastReferenceIdeal.nD Cert.SampleLastReferenceIdeal.τ Cert.SampleLastReferenceIdeal.sig) → Buf (Elt Ideal) ℓ) : Prop :=
  True

def quiescent_Kernel [hKernel : Cert.Kernel.Facts] [hPre_starts : Cert.Pre_starts.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_starts : Cert.Pre_starts.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_attends [hKernelIdeal : Cert.KernelIdeal.Facts] [hPre_attends : Cert.Pre_attends.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_attends m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_attends [hReferenceIdeal : Cert.ReferenceIdeal.Facts] [hPre_attends : Cert.Pre_attends.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_attends m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Experts [hExperts : Cert.Experts.Facts] [hPre_routes : Cert.Pre_routes.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_routes : Cert.Pre_routes.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_ExpertsReferenceIdeal_pre_routes [hExpertsReferenceIdeal : Cert.ExpertsReferenceIdeal.Facts] [hPre_routes : Cert.Pre_routes.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_routes m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3))
      ∧ r.2.sem = fun _ => 0)

def quiescent_LastReferenceIdeal [hLastReferenceIdeal : Cert.LastReferenceIdeal.Facts] : Prop :=
  ∀ (m : (ℓ : Loc Cert.LastReferenceIdeal.nD Cert.LastReferenceIdeal.τ Cert.LastReferenceIdeal.sig) → Buf (Elt Ideal) ℓ) (g : Dev Cert.LastReferenceIdeal.nD → PrngReg), Pre_LastReferenceIdeal m →
    θ_run (Cert.LastReferenceIdeal.defs (F := Ideal)) (onTc (τ := Cert.LastReferenceIdeal.τ) (Cert.LastReferenceIdeal.main (F := Ideal))) ⟨m, fun _ => 0, g⟩ (fun r => (∀ c : Dev Cert.LastReferenceIdeal.nD,
      r.2.mem ((c.tc : Thread Cert.LastReferenceIdeal.nD Cert.LastReferenceIdeal.τ).loc Cert.LastReferenceIdeal.main_arg0) = m ((c.tc : Thread Cert.LastReferenceIdeal.nD Cert.LastReferenceIdeal.τ).loc Cert.LastReferenceIdeal.main_arg0)
      ∧ r.2.mem ((c.tc : Thread Cert.LastReferenceIdeal.nD Cert.LastReferenceIdeal.τ).loc Cert.LastReferenceIdeal.main_arg1) = m ((c.tc : Thread Cert.LastReferenceIdeal.nD Cert.LastReferenceIdeal.τ).loc Cert.LastReferenceIdeal.main_arg1)
      ∧ r.2.mem ((c.tc : Thread Cert.LastReferenceIdeal.nD Cert.LastReferenceIdeal.τ).loc Cert.LastReferenceIdeal.main_arg2) = m ((c.tc : Thread Cert.LastReferenceIdeal.nD Cert.LastReferenceIdeal.τ).loc Cert.LastReferenceIdeal.main_arg2)
      ∧ r.2.mem ((c.tc : Thread Cert.LastReferenceIdeal.nD Cert.LastReferenceIdeal.τ).loc Cert.LastReferenceIdeal.main_arg3) = m ((c.tc : Thread Cert.LastReferenceIdeal.nD Cert.LastReferenceIdeal.τ).loc Cert.LastReferenceIdeal.main_arg3))
      ∧ r.2.sem = fun _ => 0)

def quiescent_Rows [hRows : Cert.Rows.Facts] : Prop :=
  ∀ (m : (ℓ : Loc Cert.Rows.nD Cert.Rows.τ Cert.Rows.sig) → Buf (Elt Bits) ℓ) (g : Dev Cert.Rows.nD → PrngReg), Pre_Rows m →
    θ_run (Cert.Rows.defs (F := Bits)) (onTc (τ := Cert.Rows.τ) (Cert.Rows.main (F := Bits))) ⟨m, fun _ => 0, g⟩ (fun r => (∀ c : Dev Cert.Rows.nD,
      r.2.mem ((c.tc : Thread Cert.Rows.nD Cert.Rows.τ).loc Cert.Rows.main_arg0) = m ((c.tc : Thread Cert.Rows.nD Cert.Rows.τ).loc Cert.Rows.main_arg0)
      ∧ r.2.mem ((c.tc : Thread Cert.Rows.nD Cert.Rows.τ).loc Cert.Rows.main_arg1) = m ((c.tc : Thread Cert.Rows.nD Cert.Rows.τ).loc Cert.Rows.main_arg1)
      ∧ r.2.mem ((c.tc : Thread Cert.Rows.nD Cert.Rows.τ).loc Cert.Rows.main_arg2) = m ((c.tc : Thread Cert.Rows.nD Cert.Rows.τ).loc Cert.Rows.main_arg2)
      ∧ r.2.mem ((c.tc : Thread Cert.Rows.nD Cert.Rows.τ).loc Cert.Rows.main_arg3) = m ((c.tc : Thread Cert.Rows.nD Cert.Rows.τ).loc Cert.Rows.main_arg3)
      ∧ r.2.mem ((c.tc : Thread Cert.Rows.nD Cert.Rows.τ).loc Cert.Rows.main_arg4) = m ((c.tc : Thread Cert.Rows.nD Cert.Rows.τ).loc Cert.Rows.main_arg4)
      ∧ r.2.mem ((c.tc : Thread Cert.Rows.nD Cert.Rows.τ).loc Cert.Rows.main_arg5) = m ((c.tc : Thread Cert.Rows.nD Cert.Rows.τ).loc Cert.Rows.main_arg5)
      ∧ r.2.mem ((c.tc : Thread Cert.Rows.nD Cert.Rows.τ).loc Cert.Rows.main_arg6) = m ((c.tc : Thread Cert.Rows.nD Cert.Rows.τ).loc Cert.Rows.main_arg6)
      ∧ r.2.mem ((c.tc : Thread Cert.Rows.nD Cert.Rows.τ).loc Cert.Rows.main_arg7) = m ((c.tc : Thread Cert.Rows.nD Cert.Rows.τ).loc Cert.Rows.main_arg7)
      ∧ r.2.mem ((c.tc : Thread Cert.Rows.nD Cert.Rows.τ).loc Cert.Rows.main_arg8) = m ((c.tc : Thread Cert.Rows.nD Cert.Rows.τ).loc Cert.Rows.main_arg8)
      ∧ r.2.mem ((c.tc : Thread Cert.Rows.nD Cert.Rows.τ).loc Cert.Rows.main_arg9) = m ((c.tc : Thread Cert.Rows.nD Cert.Rows.τ).loc Cert.Rows.main_arg9)
      ∧ r.2.mem ((c.tc : Thread Cert.Rows.nD Cert.Rows.τ).loc Cert.Rows.main_arg10) = m ((c.tc : Thread Cert.Rows.nD Cert.Rows.τ).loc Cert.Rows.main_arg10)
      ∧ r.2.mem ((c.tc : Thread Cert.Rows.nD Cert.Rows.τ).loc Cert.Rows.main_arg11) = m ((c.tc : Thread Cert.Rows.nD Cert.Rows.τ).loc Cert.Rows.main_arg11)
      ∧ r.2.mem ((c.tc : Thread Cert.Rows.nD Cert.Rows.τ).loc Cert.Rows.main_arg12) = m ((c.tc : Thread Cert.Rows.nD Cert.Rows.τ).loc Cert.Rows.main_arg12)
      ∧ r.2.mem ((c.tc : Thread Cert.Rows.nD Cert.Rows.τ).loc Cert.Rows.main_arg13) = m ((c.tc : Thread Cert.Rows.nD Cert.Rows.τ).loc Cert.Rows.main_arg13)
      ∧ r.2.mem ((c.tc : Thread Cert.Rows.nD Cert.Rows.τ).loc Cert.Rows.main_arg14) = m ((c.tc : Thread Cert.Rows.nD Cert.Rows.τ).loc Cert.Rows.main_arg14)
      ∧ r.2.mem ((c.tc : Thread Cert.Rows.nD Cert.Rows.τ).loc Cert.Rows.main_arg15) = m ((c.tc : Thread Cert.Rows.nD Cert.Rows.τ).loc Cert.Rows.main_arg15)
      ∧ r.2.mem ((c.tc : Thread Cert.Rows.nD Cert.Rows.τ).loc Cert.Rows.main_arg16) = m ((c.tc : Thread Cert.Rows.nD Cert.Rows.τ).loc Cert.Rows.main_arg16)
      ∧ r.2.mem ((c.tc : Thread Cert.Rows.nD Cert.Rows.τ).loc Cert.Rows.main_arg17) = m ((c.tc : Thread Cert.Rows.nD Cert.Rows.τ).loc Cert.Rows.main_arg17)
      ∧ r.2.mem ((c.tc : Thread Cert.Rows.nD Cert.Rows.τ).loc Cert.Rows.main_arg18) = m ((c.tc : Thread Cert.Rows.nD Cert.Rows.τ).loc Cert.Rows.main_arg18)
      ∧ r.2.mem ((c.tc : Thread Cert.Rows.nD Cert.Rows.τ).loc Cert.Rows.main_arg19) = m ((c.tc : Thread Cert.Rows.nD Cert.Rows.τ).loc Cert.Rows.main_arg19)
      ∧ r.2.mem ((c.tc : Thread Cert.Rows.nD Cert.Rows.τ).loc Cert.Rows.main_arg20) = m ((c.tc : Thread Cert.Rows.nD Cert.Rows.τ).loc Cert.Rows.main_arg20)
      ∧ r.2.mem ((c.tc : Thread Cert.Rows.nD Cert.Rows.τ).loc Cert.Rows.main_arg21) = m ((c.tc : Thread Cert.Rows.nD Cert.Rows.τ).loc Cert.Rows.main_arg21))
      ∧ r.2.sem = fun _ => 0)

def quiescent_RowsIdeal [hRowsIdeal : Cert.RowsIdeal.Facts] : Prop :=
  ∀ (m : (ℓ : Loc Cert.RowsIdeal.nD Cert.RowsIdeal.τ Cert.RowsIdeal.sig) → Buf (Elt Ideal) ℓ) (g : Dev Cert.RowsIdeal.nD → PrngReg), Pre_RowsIdeal m →
    θ_run (Cert.RowsIdeal.defs (F := Ideal)) (onTc (τ := Cert.RowsIdeal.τ) (Cert.RowsIdeal.main (F := Ideal))) ⟨m, fun _ => 0, g⟩ (fun r => (∀ c : Dev Cert.RowsIdeal.nD,
      r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
      ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1)
      ∧ r.2.mem ((c.tc : Thread Cert.RowsIdeal.nD Cert.RowsIdeal.τ).loc Cert.RowsIdeal.main_arg2) = m ((c.tc : Thread Cert.RowsIdeal.nD Cert.RowsIdeal.τ).loc Cert.RowsIdeal.main_arg2)
      ∧ r.2.mem ((c.tc : Thread Cert.RowsIdeal.nD Cert.RowsIdeal.τ).loc Cert.RowsIdeal.main_arg3) = m ((c.tc : Thread Cert.RowsIdeal.nD Cert.RowsIdeal.τ).loc Cert.RowsIdeal.main_arg3)
      ∧ r.2.mem ((c.tc : Thread Cert.RowsIdeal.nD Cert.RowsIdeal.τ).loc Cert.RowsIdeal.main_arg4) = m ((c.tc : Thread Cert.RowsIdeal.nD Cert.RowsIdeal.τ).loc Cert.RowsIdeal.main_arg4)
      ∧ r.2.mem ((c.tc : Thread Cert.RowsIdeal.nD Cert.RowsIdeal.τ).loc Cert.RowsIdeal.main_arg5) = m ((c.tc : Thread Cert.RowsIdeal.nD Cert.RowsIdeal.τ).loc Cert.RowsIdeal.main_arg5)
      ∧ r.2.mem ((c.tc : Thread Cert.RowsIdeal.nD Cert.RowsIdeal.τ).loc Cert.RowsIdeal.main_arg6) = m ((c.tc : Thread Cert.RowsIdeal.nD Cert.RowsIdeal.τ).loc Cert.RowsIdeal.main_arg6)
      ∧ r.2.mem ((c.tc : Thread Cert.RowsIdeal.nD Cert.RowsIdeal.τ).loc Cert.RowsIdeal.main_arg7) = m ((c.tc : Thread Cert.RowsIdeal.nD Cert.RowsIdeal.τ).loc Cert.RowsIdeal.main_arg7)
      ∧ r.2.mem ((c.tc : Thread Cert.RowsIdeal.nD Cert.RowsIdeal.τ).loc Cert.RowsIdeal.main_arg8) = m ((c.tc : Thread Cert.RowsIdeal.nD Cert.RowsIdeal.τ).loc Cert.RowsIdeal.main_arg8)
      ∧ r.2.mem ((c.tc : Thread Cert.RowsIdeal.nD Cert.RowsIdeal.τ).loc Cert.RowsIdeal.main_arg9) = m ((c.tc : Thread Cert.RowsIdeal.nD Cert.RowsIdeal.τ).loc Cert.RowsIdeal.main_arg9)
      ∧ r.2.mem ((c.tc : Thread Cert.RowsIdeal.nD Cert.RowsIdeal.τ).loc Cert.RowsIdeal.main_arg10) = m ((c.tc : Thread Cert.RowsIdeal.nD Cert.RowsIdeal.τ).loc Cert.RowsIdeal.main_arg10)
      ∧ r.2.mem ((c.tc : Thread Cert.RowsIdeal.nD Cert.RowsIdeal.τ).loc Cert.RowsIdeal.main_arg11) = m ((c.tc : Thread Cert.RowsIdeal.nD Cert.RowsIdeal.τ).loc Cert.RowsIdeal.main_arg11)
      ∧ r.2.mem ((c.tc : Thread Cert.RowsIdeal.nD Cert.RowsIdeal.τ).loc Cert.RowsIdeal.main_arg12) = m ((c.tc : Thread Cert.RowsIdeal.nD Cert.RowsIdeal.τ).loc Cert.RowsIdeal.main_arg12)
      ∧ r.2.mem ((c.tc : Thread Cert.RowsIdeal.nD Cert.RowsIdeal.τ).loc Cert.RowsIdeal.main_arg13) = m ((c.tc : Thread Cert.RowsIdeal.nD Cert.RowsIdeal.τ).loc Cert.RowsIdeal.main_arg13)
      ∧ r.2.mem ((c.tc : Thread Cert.RowsIdeal.nD Cert.RowsIdeal.τ).loc Cert.RowsIdeal.main_arg14) = m ((c.tc : Thread Cert.RowsIdeal.nD Cert.RowsIdeal.τ).loc Cert.RowsIdeal.main_arg14)
      ∧ r.2.mem ((c.tc : Thread Cert.RowsIdeal.nD Cert.RowsIdeal.τ).loc Cert.RowsIdeal.main_arg15) = m ((c.tc : Thread Cert.RowsIdeal.nD Cert.RowsIdeal.τ).loc Cert.RowsIdeal.main_arg15)
      ∧ r.2.mem ((c.tc : Thread Cert.RowsIdeal.nD Cert.RowsIdeal.τ).loc Cert.RowsIdeal.main_arg16) = m ((c.tc : Thread Cert.RowsIdeal.nD Cert.RowsIdeal.τ).loc Cert.RowsIdeal.main_arg16)
      ∧ r.2.mem ((c.tc : Thread Cert.RowsIdeal.nD Cert.RowsIdeal.τ).loc Cert.RowsIdeal.main_arg17) = m ((c.tc : Thread Cert.RowsIdeal.nD Cert.RowsIdeal.τ).loc Cert.RowsIdeal.main_arg17)
      ∧ r.2.mem ((c.tc : Thread Cert.RowsIdeal.nD Cert.RowsIdeal.τ).loc Cert.RowsIdeal.main_arg18) = m ((c.tc : Thread Cert.RowsIdeal.nD Cert.RowsIdeal.τ).loc Cert.RowsIdeal.main_arg18)
      ∧ r.2.mem ((c.tc : Thread Cert.RowsIdeal.nD Cert.RowsIdeal.τ).loc Cert.RowsIdeal.main_arg19) = m ((c.tc : Thread Cert.RowsIdeal.nD Cert.RowsIdeal.τ).loc Cert.RowsIdeal.main_arg19)
      ∧ r.2.mem ((c.tc : Thread Cert.RowsIdeal.nD Cert.RowsIdeal.τ).loc Cert.RowsIdeal.main_arg20) = m ((c.tc : Thread Cert.RowsIdeal.nD Cert.RowsIdeal.τ).loc Cert.RowsIdeal.main_arg20)
      ∧ r.2.mem ((c.tc : Thread Cert.RowsIdeal.nD Cert.RowsIdeal.τ).loc Cert.RowsIdeal.main_arg21) = m ((c.tc : Thread Cert.RowsIdeal.nD Cert.RowsIdeal.τ).loc Cert.RowsIdeal.main_arg21))
      ∧ r.2.sem = fun _ => 0)

def quiescent_RowsReferenceIdeal [hRowsReferenceIdeal : Cert.RowsReferenceIdeal.Facts] : Prop :=
  ∀ (m : (ℓ : Loc Cert.RowsReferenceIdeal.nD Cert.RowsReferenceIdeal.τ Cert.RowsReferenceIdeal.sig) → Buf (Elt Ideal) ℓ) (g : Dev Cert.RowsReferenceIdeal.nD → PrngReg), Pre_RowsReferenceIdeal m →
    θ_run (Cert.RowsReferenceIdeal.defs (F := Ideal)) (onTc (τ := Cert.RowsReferenceIdeal.τ) (Cert.RowsReferenceIdeal.main (F := Ideal))) ⟨m, fun _ => 0, g⟩ (fun r => (∀ c : Dev Cert.RowsReferenceIdeal.nD,
      r.2.mem ((c.tc : Thread Cert.RowsReferenceIdeal.nD Cert.RowsReferenceIdeal.τ).loc Cert.RowsReferenceIdeal.main_arg0) = m ((c.tc : Thread Cert.RowsReferenceIdeal.nD Cert.RowsReferenceIdeal.τ).loc Cert.RowsReferenceIdeal.main_arg0)
      ∧ r.2.mem ((c.tc : Thread Cert.RowsReferenceIdeal.nD Cert.RowsReferenceIdeal.τ).loc Cert.RowsReferenceIdeal.main_arg1) = m ((c.tc : Thread Cert.RowsReferenceIdeal.nD Cert.RowsReferenceIdeal.τ).loc Cert.RowsReferenceIdeal.main_arg1)
      ∧ r.2.mem ((c.tc : Thread Cert.RowsReferenceIdeal.nD Cert.RowsReferenceIdeal.τ).loc Cert.RowsReferenceIdeal.main_arg2) = m ((c.tc : Thread Cert.RowsReferenceIdeal.nD Cert.RowsReferenceIdeal.τ).loc Cert.RowsReferenceIdeal.main_arg2)
      ∧ r.2.mem ((c.tc : Thread Cert.RowsReferenceIdeal.nD Cert.RowsReferenceIdeal.τ).loc Cert.RowsReferenceIdeal.main_arg3) = m ((c.tc : Thread Cert.RowsReferenceIdeal.nD Cert.RowsReferenceIdeal.τ).loc Cert.RowsReferenceIdeal.main_arg3)
      ∧ r.2.mem ((c.tc : Thread Cert.RowsReferenceIdeal.nD Cert.RowsReferenceIdeal.τ).loc Cert.RowsReferenceIdeal.main_arg4) = m ((c.tc : Thread Cert.RowsReferenceIdeal.nD Cert.RowsReferenceIdeal.τ).loc Cert.RowsReferenceIdeal.main_arg4)
      ∧ r.2.mem ((c.tc : Thread Cert.RowsReferenceIdeal.nD Cert.RowsReferenceIdeal.τ).loc Cert.RowsReferenceIdeal.main_arg5) = m ((c.tc : Thread Cert.RowsReferenceIdeal.nD Cert.RowsReferenceIdeal.τ).loc Cert.RowsReferenceIdeal.main_arg5)
      ∧ r.2.mem ((c.tc : Thread Cert.RowsReferenceIdeal.nD Cert.RowsReferenceIdeal.τ).loc Cert.RowsReferenceIdeal.main_arg6) = m ((c.tc : Thread Cert.RowsReferenceIdeal.nD Cert.RowsReferenceIdeal.τ).loc Cert.RowsReferenceIdeal.main_arg6)
      ∧ r.2.mem ((c.tc : Thread Cert.RowsReferenceIdeal.nD Cert.RowsReferenceIdeal.τ).loc Cert.RowsReferenceIdeal.main_arg7) = m ((c.tc : Thread Cert.RowsReferenceIdeal.nD Cert.RowsReferenceIdeal.τ).loc Cert.RowsReferenceIdeal.main_arg7)
      ∧ r.2.mem ((c.tc : Thread Cert.RowsReferenceIdeal.nD Cert.RowsReferenceIdeal.τ).loc Cert.RowsReferenceIdeal.main_arg8) = m ((c.tc : Thread Cert.RowsReferenceIdeal.nD Cert.RowsReferenceIdeal.τ).loc Cert.RowsReferenceIdeal.main_arg8)
      ∧ r.2.mem ((c.tc : Thread Cert.RowsReferenceIdeal.nD Cert.RowsReferenceIdeal.τ).loc Cert.RowsReferenceIdeal.main_arg9) = m ((c.tc : Thread Cert.RowsReferenceIdeal.nD Cert.RowsReferenceIdeal.τ).loc Cert.RowsReferenceIdeal.main_arg9)
      ∧ r.2.mem ((c.tc : Thread Cert.RowsReferenceIdeal.nD Cert.RowsReferenceIdeal.τ).loc Cert.RowsReferenceIdeal.main_arg10) = m ((c.tc : Thread Cert.RowsReferenceIdeal.nD Cert.RowsReferenceIdeal.τ).loc Cert.RowsReferenceIdeal.main_arg10)
      ∧ r.2.mem ((c.tc : Thread Cert.RowsReferenceIdeal.nD Cert.RowsReferenceIdeal.τ).loc Cert.RowsReferenceIdeal.main_arg11) = m ((c.tc : Thread Cert.RowsReferenceIdeal.nD Cert.RowsReferenceIdeal.τ).loc Cert.RowsReferenceIdeal.main_arg11)
      ∧ r.2.mem ((c.tc : Thread Cert.RowsReferenceIdeal.nD Cert.RowsReferenceIdeal.τ).loc Cert.RowsReferenceIdeal.main_arg12) = m ((c.tc : Thread Cert.RowsReferenceIdeal.nD Cert.RowsReferenceIdeal.τ).loc Cert.RowsReferenceIdeal.main_arg12)
      ∧ r.2.mem ((c.tc : Thread Cert.RowsReferenceIdeal.nD Cert.RowsReferenceIdeal.τ).loc Cert.RowsReferenceIdeal.main_arg13) = m ((c.tc : Thread Cert.RowsReferenceIdeal.nD Cert.RowsReferenceIdeal.τ).loc Cert.RowsReferenceIdeal.main_arg13)
      ∧ r.2.mem ((c.tc : Thread Cert.RowsReferenceIdeal.nD Cert.RowsReferenceIdeal.τ).loc Cert.RowsReferenceIdeal.main_arg14) = m ((c.tc : Thread Cert.RowsReferenceIdeal.nD Cert.RowsReferenceIdeal.τ).loc Cert.RowsReferenceIdeal.main_arg14)
      ∧ r.2.mem ((c.tc : Thread Cert.RowsReferenceIdeal.nD Cert.RowsReferenceIdeal.τ).loc Cert.RowsReferenceIdeal.main_arg15) = m ((c.tc : Thread Cert.RowsReferenceIdeal.nD Cert.RowsReferenceIdeal.τ).loc Cert.RowsReferenceIdeal.main_arg15)
      ∧ r.2.mem ((c.tc : Thread Cert.RowsReferenceIdeal.nD Cert.RowsReferenceIdeal.τ).loc Cert.RowsReferenceIdeal.main_arg16) = m ((c.tc : Thread Cert.RowsReferenceIdeal.nD Cert.RowsReferenceIdeal.τ).loc Cert.RowsReferenceIdeal.main_arg16)
      ∧ r.2.mem ((c.tc : Thread Cert.RowsReferenceIdeal.nD Cert.RowsReferenceIdeal.τ).loc Cert.RowsReferenceIdeal.main_arg17) = m ((c.tc : Thread Cert.RowsReferenceIdeal.nD Cert.RowsReferenceIdeal.τ).loc Cert.RowsReferenceIdeal.main_arg17)
      ∧ r.2.mem ((c.tc : Thread Cert.RowsReferenceIdeal.nD Cert.RowsReferenceIdeal.τ).loc Cert.RowsReferenceIdeal.main_arg18) = m ((c.tc : Thread Cert.RowsReferenceIdeal.nD Cert.RowsReferenceIdeal.τ).loc Cert.RowsReferenceIdeal.main_arg18)
      ∧ r.2.mem ((c.tc : Thread Cert.RowsReferenceIdeal.nD Cert.RowsReferenceIdeal.τ).loc Cert.RowsReferenceIdeal.main_arg19) = m ((c.tc : Thread Cert.RowsReferenceIdeal.nD Cert.RowsReferenceIdeal.τ).loc Cert.RowsReferenceIdeal.main_arg19)
      ∧ r.2.mem ((c.tc : Thread Cert.RowsReferenceIdeal.nD Cert.RowsReferenceIdeal.τ).loc Cert.RowsReferenceIdeal.main_arg20) = m ((c.tc : Thread Cert.RowsReferenceIdeal.nD Cert.RowsReferenceIdeal.τ).loc Cert.RowsReferenceIdeal.main_arg20)
      ∧ r.2.mem ((c.tc : Thread Cert.RowsReferenceIdeal.nD Cert.RowsReferenceIdeal.τ).loc Cert.RowsReferenceIdeal.main_arg21) = m ((c.tc : Thread Cert.RowsReferenceIdeal.nD Cert.RowsReferenceIdeal.τ).loc Cert.RowsReferenceIdeal.main_arg21))
      ∧ r.2.sem = fun _ => 0)

def quiescent_SampleLast [hSampleLast : Cert.SampleLast.Facts] : Prop :=
  ∀ (m : (ℓ : Loc Cert.SampleLast.nD Cert.SampleLast.τ Cert.SampleLast.sig) → Buf (Elt Bits) ℓ) (g : Dev Cert.SampleLast.nD → PrngReg), Pre_SampleLast m →
    θ_run (Cert.SampleLast.defs (F := Bits)) (onTc (τ := Cert.SampleLast.τ) (Cert.SampleLast.main (F := Bits))) ⟨m, fun _ => 0, g⟩ (fun r => (∀ c : Dev Cert.SampleLast.nD,
      r.2.mem ((c.tc : Thread Cert.SampleLast.nD Cert.SampleLast.τ).loc Cert.SampleLast.main_arg0) = m ((c.tc : Thread Cert.SampleLast.nD Cert.SampleLast.τ).loc Cert.SampleLast.main_arg0)
      ∧ r.2.mem ((c.tc : Thread Cert.SampleLast.nD Cert.SampleLast.τ).loc Cert.SampleLast.main_arg1) = m ((c.tc : Thread Cert.SampleLast.nD Cert.SampleLast.τ).loc Cert.SampleLast.main_arg1)
      ∧ r.2.mem ((c.tc : Thread Cert.SampleLast.nD Cert.SampleLast.τ).loc Cert.SampleLast.main_arg2) = m ((c.tc : Thread Cert.SampleLast.nD Cert.SampleLast.τ).loc Cert.SampleLast.main_arg2)
      ∧ r.2.mem ((c.tc : Thread Cert.SampleLast.nD Cert.SampleLast.τ).loc Cert.SampleLast.main_arg3) = m ((c.tc : Thread Cert.SampleLast.nD Cert.SampleLast.τ).loc Cert.SampleLast.main_arg3))
      ∧ r.2.sem = fun _ => 0)

def quiescent_SampleLastIdeal [hSampleLastIdeal : Cert.SampleLastIdeal.Facts] : Prop :=
  ∀ (m : (ℓ : Loc Cert.SampleLastIdeal.nD Cert.SampleLastIdeal.τ Cert.SampleLastIdeal.sig) → Buf (Elt Ideal) ℓ) (g : Dev Cert.SampleLastIdeal.nD → PrngReg), Pre_SampleLastIdeal m →
    θ_run (Cert.SampleLastIdeal.defs (F := Ideal)) (onTc (τ := Cert.SampleLastIdeal.τ) (Cert.SampleLastIdeal.main (F := Ideal))) ⟨m, fun _ => 0, g⟩ (fun r => (∀ c : Dev Cert.SampleLastIdeal.nD,
      r.2.mem ((c.tc : Thread Cert.SampleLastIdeal.nD Cert.SampleLastIdeal.τ).loc Cert.SampleLastIdeal.main_arg0) = m ((c.tc : Thread Cert.SampleLastIdeal.nD Cert.SampleLastIdeal.τ).loc Cert.SampleLastIdeal.main_arg0)
      ∧ r.2.mem ((c.tc : Thread Cert.SampleLastIdeal.nD Cert.SampleLastIdeal.τ).loc Cert.SampleLastIdeal.main_arg1) = m ((c.tc : Thread Cert.SampleLastIdeal.nD Cert.SampleLastIdeal.τ).loc Cert.SampleLastIdeal.main_arg1)
      ∧ r.2.mem ((c.tc : Thread Cert.SampleLastIdeal.nD Cert.SampleLastIdeal.τ).loc Cert.SampleLastIdeal.main_arg2) = m ((c.tc : Thread Cert.SampleLastIdeal.nD Cert.SampleLastIdeal.τ).loc Cert.SampleLastIdeal.main_arg2)
      ∧ r.2.mem ((c.tc : Thread Cert.SampleLastIdeal.nD Cert.SampleLastIdeal.τ).loc Cert.SampleLastIdeal.main_arg3) = m ((c.tc : Thread Cert.SampleLastIdeal.nD Cert.SampleLastIdeal.τ).loc Cert.SampleLastIdeal.main_arg3))
      ∧ r.2.sem = fun _ => 0)

def quiescent_SampleLastReferenceIdeal [hSampleLastReferenceIdeal : Cert.SampleLastReferenceIdeal.Facts] : Prop :=
  ∀ (m : (ℓ : Loc Cert.SampleLastReferenceIdeal.nD Cert.SampleLastReferenceIdeal.τ Cert.SampleLastReferenceIdeal.sig) → Buf (Elt Ideal) ℓ) (g : Dev Cert.SampleLastReferenceIdeal.nD → PrngReg), Pre_SampleLastReferenceIdeal m →
    θ_run (Cert.SampleLastReferenceIdeal.defs (F := Ideal)) (onTc (τ := Cert.SampleLastReferenceIdeal.τ) (Cert.SampleLastReferenceIdeal.main (F := Ideal))) ⟨m, fun _ => 0, g⟩ (fun r => (∀ c : Dev Cert.SampleLastReferenceIdeal.nD,
      r.2.mem ((c.tc : Thread Cert.SampleLastReferenceIdeal.nD Cert.SampleLastReferenceIdeal.τ).loc Cert.SampleLastReferenceIdeal.main_arg0) = m ((c.tc : Thread Cert.SampleLastReferenceIdeal.nD Cert.SampleLastReferenceIdeal.τ).loc Cert.SampleLastReferenceIdeal.main_arg0)
      ∧ r.2.mem ((c.tc : Thread Cert.SampleLastReferenceIdeal.nD Cert.SampleLastReferenceIdeal.τ).loc Cert.SampleLastReferenceIdeal.main_arg1) = m ((c.tc : Thread Cert.SampleLastReferenceIdeal.nD Cert.SampleLastReferenceIdeal.τ).loc Cert.SampleLastReferenceIdeal.main_arg1)
      ∧ r.2.mem ((c.tc : Thread Cert.SampleLastReferenceIdeal.nD Cert.SampleLastReferenceIdeal.τ).loc Cert.SampleLastReferenceIdeal.main_arg2) = m ((c.tc : Thread Cert.SampleLastReferenceIdeal.nD Cert.SampleLastReferenceIdeal.τ).loc Cert.SampleLastReferenceIdeal.main_arg2)
      ∧ r.2.mem ((c.tc : Thread Cert.SampleLastReferenceIdeal.nD Cert.SampleLastReferenceIdeal.τ).loc Cert.SampleLastReferenceIdeal.main_arg3) = m ((c.tc : Thread Cert.SampleLastReferenceIdeal.nD Cert.SampleLastReferenceIdeal.τ).loc Cert.SampleLastReferenceIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_attends [hKernelIdeal : Cert.KernelIdeal.Facts] [hReferenceIdeal : Cert.ReferenceIdeal.Facts] [hPre_attends : Cert.Pre_attends.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_attends m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_routes : Cert.Pre_routes.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v31) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5))

def preserves_Last_LastIdeal : Prop :=
  True

def algebraic_LastIdeal_LastReferenceIdeal [hLastIdeal : Cert.LastIdeal.Facts] [hLastReferenceIdeal : Cert.LastReferenceIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastReferenceIdeal.nD Cert.LastReferenceIdeal.τ Cert.LastReferenceIdeal.sig) → Buf (Elt Ideal) ℓ) (g' : Dev Cert.LastReferenceIdeal.nD → PrngReg), Pre_LastIdeal m →
    (∀ c : Dev Cert.LastIdeal.nD,
      m' ((c.tc : Thread Cert.LastReferenceIdeal.nD Cert.LastReferenceIdeal.τ).loc Cert.LastReferenceIdeal.main_arg0) = m ((c.tc : Thread Cert.LastIdeal.nD Cert.LastIdeal.τ).loc Cert.LastIdeal.main_arg0)
      ∧ m' ((c.tc : Thread Cert.LastReferenceIdeal.nD Cert.LastReferenceIdeal.τ).loc Cert.LastReferenceIdeal.main_arg1) = m ((c.tc : Thread Cert.LastIdeal.nD Cert.LastIdeal.τ).loc Cert.LastIdeal.main_arg1)
      ∧ m' ((c.tc : Thread Cert.LastReferenceIdeal.nD Cert.LastReferenceIdeal.τ).loc Cert.LastReferenceIdeal.main_arg2) = m ((c.tc : Thread Cert.LastIdeal.nD Cert.LastIdeal.τ).loc Cert.LastIdeal.main_arg2)
      ∧ m' ((c.tc : Thread Cert.LastReferenceIdeal.nD Cert.LastReferenceIdeal.τ).loc Cert.LastReferenceIdeal.main_arg3) = m ((c.tc : Thread Cert.LastIdeal.nD Cert.LastIdeal.τ).loc Cert.LastIdeal.main_arg3)) →
    ∃ (v0 : (c : Dev Cert.LastIdeal.nD) → Buf (Elt Ideal) ((c.tc : Thread Cert.LastIdeal.nD Cert.LastIdeal.τ).loc Cert.LastIdeal.main_v0)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v0) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3))
      ∧ θ_run (Cert.LastReferenceIdeal.defs (F := Ideal)) (onTc (τ := Cert.LastReferenceIdeal.τ) (Cert.LastReferenceIdeal.main (F := Ideal))) ⟨m', fun _ => 0, g'⟩ (fun r => ∀ c : Dev Cert.LastReferenceIdeal.nD,
          r.2.mem ((c.tc : Thread Cert.LastReferenceIdeal.nD Cert.LastReferenceIdeal.τ).loc Cert.LastReferenceIdeal.main_v15) = v0 c
          ∧ r.2.mem ((c.tc : Thread Cert.LastReferenceIdeal.nD Cert.LastReferenceIdeal.τ).loc Cert.LastReferenceIdeal.main_arg0) = m' ((c.tc : Thread Cert.LastReferenceIdeal.nD Cert.LastReferenceIdeal.τ).loc Cert.LastReferenceIdeal.main_arg0)
          ∧ r.2.mem ((c.tc : Thread Cert.LastReferenceIdeal.nD Cert.LastReferenceIdeal.τ).loc Cert.LastReferenceIdeal.main_arg1) = m' ((c.tc : Thread Cert.LastReferenceIdeal.nD Cert.LastReferenceIdeal.τ).loc Cert.LastReferenceIdeal.main_arg1)
          ∧ r.2.mem ((c.tc : Thread Cert.LastReferenceIdeal.nD Cert.LastReferenceIdeal.τ).loc Cert.LastReferenceIdeal.main_arg2) = m' ((c.tc : Thread Cert.LastReferenceIdeal.nD Cert.LastReferenceIdeal.τ).loc Cert.LastReferenceIdeal.main_arg2)
          ∧ r.2.mem ((c.tc : Thread Cert.LastReferenceIdeal.nD Cert.LastReferenceIdeal.τ).loc Cert.LastReferenceIdeal.main_arg3) = m' ((c.tc : Thread Cert.LastReferenceIdeal.nD Cert.LastReferenceIdeal.τ).loc Cert.LastReferenceIdeal.main_arg3))

def preserves_Rows_RowsIdeal : Prop :=
  True

def algebraic_RowsIdeal_RowsReferenceIdeal [hRowsIdeal : Cert.RowsIdeal.Facts] [hRowsReferenceIdeal : Cert.RowsReferenceIdeal.Facts] : Prop :=
  ∀ (m : (ℓ : Loc Cert.RowsIdeal.nD Cert.RowsIdeal.τ Cert.RowsIdeal.sig) → Buf (Elt Ideal) ℓ) (g : Dev Cert.RowsIdeal.nD → PrngReg)
    (m' : (ℓ : Loc Cert.RowsReferenceIdeal.nD Cert.RowsReferenceIdeal.τ Cert.RowsReferenceIdeal.sig) → Buf (Elt Ideal) ℓ) (g' : Dev Cert.RowsReferenceIdeal.nD → PrngReg), Pre_RowsIdeal m →
    (∀ c : Dev Cert.RowsIdeal.nD,
      m' ((c.tc : Thread Cert.RowsReferenceIdeal.nD Cert.RowsReferenceIdeal.τ).loc Cert.RowsReferenceIdeal.main_arg0) = m ((c.tc : Thread Cert.RowsIdeal.nD Cert.RowsIdeal.τ).loc Cert.RowsIdeal.main_arg0)
      ∧ m' ((c.tc : Thread Cert.RowsReferenceIdeal.nD Cert.RowsReferenceIdeal.τ).loc Cert.RowsReferenceIdeal.main_arg1) = m ((c.tc : Thread Cert.RowsIdeal.nD Cert.RowsIdeal.τ).loc Cert.RowsIdeal.main_arg1)
      ∧ m' ((c.tc : Thread Cert.RowsReferenceIdeal.nD Cert.RowsReferenceIdeal.τ).loc Cert.RowsReferenceIdeal.main_arg2) = m ((c.tc : Thread Cert.RowsIdeal.nD Cert.RowsIdeal.τ).loc Cert.RowsIdeal.main_arg2)
      ∧ m' ((c.tc : Thread Cert.RowsReferenceIdeal.nD Cert.RowsReferenceIdeal.τ).loc Cert.RowsReferenceIdeal.main_arg3) = m ((c.tc : Thread Cert.RowsIdeal.nD Cert.RowsIdeal.τ).loc Cert.RowsIdeal.main_arg3)
      ∧ m' ((c.tc : Thread Cert.RowsReferenceIdeal.nD Cert.RowsReferenceIdeal.τ).loc Cert.RowsReferenceIdeal.main_arg4) = m ((c.tc : Thread Cert.RowsIdeal.nD Cert.RowsIdeal.τ).loc Cert.RowsIdeal.main_arg4)
      ∧ m' ((c.tc : Thread Cert.RowsReferenceIdeal.nD Cert.RowsReferenceIdeal.τ).loc Cert.RowsReferenceIdeal.main_arg5) = m ((c.tc : Thread Cert.RowsIdeal.nD Cert.RowsIdeal.τ).loc Cert.RowsIdeal.main_arg5)
      ∧ m' ((c.tc : Thread Cert.RowsReferenceIdeal.nD Cert.RowsReferenceIdeal.τ).loc Cert.RowsReferenceIdeal.main_arg6) = m ((c.tc : Thread Cert.RowsIdeal.nD Cert.RowsIdeal.τ).loc Cert.RowsIdeal.main_arg6)
      ∧ m' ((c.tc : Thread Cert.RowsReferenceIdeal.nD Cert.RowsReferenceIdeal.τ).loc Cert.RowsReferenceIdeal.main_arg7) = m ((c.tc : Thread Cert.RowsIdeal.nD Cert.RowsIdeal.τ).loc Cert.RowsIdeal.main_arg7)
      ∧ m' ((c.tc : Thread Cert.RowsReferenceIdeal.nD Cert.RowsReferenceIdeal.τ).loc Cert.RowsReferenceIdeal.main_arg8) = m ((c.tc : Thread Cert.RowsIdeal.nD Cert.RowsIdeal.τ).loc Cert.RowsIdeal.main_arg8)
      ∧ m' ((c.tc : Thread Cert.RowsReferenceIdeal.nD Cert.RowsReferenceIdeal.τ).loc Cert.RowsReferenceIdeal.main_arg9) = m ((c.tc : Thread Cert.RowsIdeal.nD Cert.RowsIdeal.τ).loc Cert.RowsIdeal.main_arg9)
      ∧ m' ((c.tc : Thread Cert.RowsReferenceIdeal.nD Cert.RowsReferenceIdeal.τ).loc Cert.RowsReferenceIdeal.main_arg10) = m ((c.tc : Thread Cert.RowsIdeal.nD Cert.RowsIdeal.τ).loc Cert.RowsIdeal.main_arg10)
      ∧ m' ((c.tc : Thread Cert.RowsReferenceIdeal.nD Cert.RowsReferenceIdeal.τ).loc Cert.RowsReferenceIdeal.main_arg11) = m ((c.tc : Thread Cert.RowsIdeal.nD Cert.RowsIdeal.τ).loc Cert.RowsIdeal.main_arg11)
      ∧ m' ((c.tc : Thread Cert.RowsReferenceIdeal.nD Cert.RowsReferenceIdeal.τ).loc Cert.RowsReferenceIdeal.main_arg12) = m ((c.tc : Thread Cert.RowsIdeal.nD Cert.RowsIdeal.τ).loc Cert.RowsIdeal.main_arg12)
      ∧ m' ((c.tc : Thread Cert.RowsReferenceIdeal.nD Cert.RowsReferenceIdeal.τ).loc Cert.RowsReferenceIdeal.main_arg13) = m ((c.tc : Thread Cert.RowsIdeal.nD Cert.RowsIdeal.τ).loc Cert.RowsIdeal.main_arg13)
      ∧ m' ((c.tc : Thread Cert.RowsReferenceIdeal.nD Cert.RowsReferenceIdeal.τ).loc Cert.RowsReferenceIdeal.main_arg14) = m ((c.tc : Thread Cert.RowsIdeal.nD Cert.RowsIdeal.τ).loc Cert.RowsIdeal.main_arg14)
      ∧ m' ((c.tc : Thread Cert.RowsReferenceIdeal.nD Cert.RowsReferenceIdeal.τ).loc Cert.RowsReferenceIdeal.main_arg15) = m ((c.tc : Thread Cert.RowsIdeal.nD Cert.RowsIdeal.τ).loc Cert.RowsIdeal.main_arg15)
      ∧ m' ((c.tc : Thread Cert.RowsReferenceIdeal.nD Cert.RowsReferenceIdeal.τ).loc Cert.RowsReferenceIdeal.main_arg16) = m ((c.tc : Thread Cert.RowsIdeal.nD Cert.RowsIdeal.τ).loc Cert.RowsIdeal.main_arg16)
      ∧ m' ((c.tc : Thread Cert.RowsReferenceIdeal.nD Cert.RowsReferenceIdeal.τ).loc Cert.RowsReferenceIdeal.main_arg17) = m ((c.tc : Thread Cert.RowsIdeal.nD Cert.RowsIdeal.τ).loc Cert.RowsIdeal.main_arg17)
      ∧ m' ((c.tc : Thread Cert.RowsReferenceIdeal.nD Cert.RowsReferenceIdeal.τ).loc Cert.RowsReferenceIdeal.main_arg18) = m ((c.tc : Thread Cert.RowsIdeal.nD Cert.RowsIdeal.τ).loc Cert.RowsIdeal.main_arg18)
      ∧ m' ((c.tc : Thread Cert.RowsReferenceIdeal.nD Cert.RowsReferenceIdeal.τ).loc Cert.RowsReferenceIdeal.main_arg19) = m ((c.tc : Thread Cert.RowsIdeal.nD Cert.RowsIdeal.τ).loc Cert.RowsIdeal.main_arg19)
      ∧ m' ((c.tc : Thread Cert.RowsReferenceIdeal.nD Cert.RowsReferenceIdeal.τ).loc Cert.RowsReferenceIdeal.main_arg20) = m ((c.tc : Thread Cert.RowsIdeal.nD Cert.RowsIdeal.τ).loc Cert.RowsIdeal.main_arg20)
      ∧ m' ((c.tc : Thread Cert.RowsReferenceIdeal.nD Cert.RowsReferenceIdeal.τ).loc Cert.RowsReferenceIdeal.main_arg21) = m ((c.tc : Thread Cert.RowsIdeal.nD Cert.RowsIdeal.τ).loc Cert.RowsIdeal.main_arg21)) →
    ∃ (v0 : (c : Dev Cert.RowsIdeal.nD) → Buf (Elt Ideal) ((c.tc : Thread Cert.RowsIdeal.nD Cert.RowsIdeal.τ).loc Cert.RowsIdeal.main_v0_3)) (v1 : (c : Dev Cert.RowsIdeal.nD) → Buf (Elt Ideal) ((c.tc : Thread Cert.RowsIdeal.nD Cert.RowsIdeal.τ).loc Cert.RowsIdeal.main_v0_4)) (v2 : (c : Dev Cert.RowsIdeal.nD) → Buf (Elt Ideal) ((c.tc : Thread Cert.RowsIdeal.nD Cert.RowsIdeal.τ).loc Cert.RowsIdeal.main_v0_5)) (v3 : (c : Dev Cert.RowsIdeal.nD) → Buf (Elt Ideal) ((c.tc : Thread Cert.RowsIdeal.nD Cert.RowsIdeal.τ).loc Cert.RowsIdeal.main_v0_6)) (v4 : (c : Dev Cert.RowsIdeal.nD) → Buf (Elt Ideal) ((c.tc : Thread Cert.RowsIdeal.nD Cert.RowsIdeal.τ).loc Cert.RowsIdeal.main_v0_7)),
      θ_run (Cert.RowsIdeal.defs (F := Ideal)) (onTc (τ := Cert.RowsIdeal.τ) (Cert.RowsIdeal.main (F := Ideal))) ⟨m, fun _ => 0, g⟩ (fun r => ∀ c : Dev Cert.RowsIdeal.nD,
          r.2.mem ((c.tc : Thread Cert.RowsIdeal.nD Cert.RowsIdeal.τ).loc Cert.RowsIdeal.main_v0_3) = v0 c
          ∧ r.2.mem ((c.tc : Thread Cert.RowsIdeal.nD Cert.RowsIdeal.τ).loc Cert.RowsIdeal.main_v0_4) = v1 c
          ∧ r.2.mem ((c.tc : Thread Cert.RowsIdeal.nD Cert.RowsIdeal.τ).loc Cert.RowsIdeal.main_v0_5) = v2 c
          ∧ r.2.mem ((c.tc : Thread Cert.RowsIdeal.nD Cert.RowsIdeal.τ).loc Cert.RowsIdeal.main_v0_6) = v3 c
          ∧ r.2.mem ((c.tc : Thread Cert.RowsIdeal.nD Cert.RowsIdeal.τ).loc Cert.RowsIdeal.main_v0_7) = v4 c
          ∧ r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
          ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1)
          ∧ r.2.mem ((c.tc : Thread Cert.RowsIdeal.nD Cert.RowsIdeal.τ).loc Cert.RowsIdeal.main_arg2) = m ((c.tc : Thread Cert.RowsIdeal.nD Cert.RowsIdeal.τ).loc Cert.RowsIdeal.main_arg2)
          ∧ r.2.mem ((c.tc : Thread Cert.RowsIdeal.nD Cert.RowsIdeal.τ).loc Cert.RowsIdeal.main_arg3) = m ((c.tc : Thread Cert.RowsIdeal.nD Cert.RowsIdeal.τ).loc Cert.RowsIdeal.main_arg3)
          ∧ r.2.mem ((c.tc : Thread Cert.RowsIdeal.nD Cert.RowsIdeal.τ).loc Cert.RowsIdeal.main_arg4) = m ((c.tc : Thread Cert.RowsIdeal.nD Cert.RowsIdeal.τ).loc Cert.RowsIdeal.main_arg4)
          ∧ r.2.mem ((c.tc : Thread Cert.RowsIdeal.nD Cert.RowsIdeal.τ).loc Cert.RowsIdeal.main_arg5) = m ((c.tc : Thread Cert.RowsIdeal.nD Cert.RowsIdeal.τ).loc Cert.RowsIdeal.main_arg5)
          ∧ r.2.mem ((c.tc : Thread Cert.RowsIdeal.nD Cert.RowsIdeal.τ).loc Cert.RowsIdeal.main_arg6) = m ((c.tc : Thread Cert.RowsIdeal.nD Cert.RowsIdeal.τ).loc Cert.RowsIdeal.main_arg6)
          ∧ r.2.mem ((c.tc : Thread Cert.RowsIdeal.nD Cert.RowsIdeal.τ).loc Cert.RowsIdeal.main_arg7) = m ((c.tc : Thread Cert.RowsIdeal.nD Cert.RowsIdeal.τ).loc Cert.RowsIdeal.main_arg7)
          ∧ r.2.mem ((c.tc : Thread Cert.RowsIdeal.nD Cert.RowsIdeal.τ).loc Cert.RowsIdeal.main_arg8) = m ((c.tc : Thread Cert.RowsIdeal.nD Cert.RowsIdeal.τ).loc Cert.RowsIdeal.main_arg8)
          ∧ r.2.mem ((c.tc : Thread Cert.RowsIdeal.nD Cert.RowsIdeal.τ).loc Cert.RowsIdeal.main_arg9) = m ((c.tc : Thread Cert.RowsIdeal.nD Cert.RowsIdeal.τ).loc Cert.RowsIdeal.main_arg9)
          ∧ r.2.mem ((c.tc : Thread Cert.RowsIdeal.nD Cert.RowsIdeal.τ).loc Cert.RowsIdeal.main_arg10) = m ((c.tc : Thread Cert.RowsIdeal.nD Cert.RowsIdeal.τ).loc Cert.RowsIdeal.main_arg10)
          ∧ r.2.mem ((c.tc : Thread Cert.RowsIdeal.nD Cert.RowsIdeal.τ).loc Cert.RowsIdeal.main_arg11) = m ((c.tc : Thread Cert.RowsIdeal.nD Cert.RowsIdeal.τ).loc Cert.RowsIdeal.main_arg11)
          ∧ r.2.mem ((c.tc : Thread Cert.RowsIdeal.nD Cert.RowsIdeal.τ).loc Cert.RowsIdeal.main_arg12) = m ((c.tc : Thread Cert.RowsIdeal.nD Cert.RowsIdeal.τ).loc Cert.RowsIdeal.main_arg12)
          ∧ r.2.mem ((c.tc : Thread Cert.RowsIdeal.nD Cert.RowsIdeal.τ).loc Cert.RowsIdeal.main_arg13) = m ((c.tc : Thread Cert.RowsIdeal.nD Cert.RowsIdeal.τ).loc Cert.RowsIdeal.main_arg13)
          ∧ r.2.mem ((c.tc : Thread Cert.RowsIdeal.nD Cert.RowsIdeal.τ).loc Cert.RowsIdeal.main_arg14) = m ((c.tc : Thread Cert.RowsIdeal.nD Cert.RowsIdeal.τ).loc Cert.RowsIdeal.main_arg14)
          ∧ r.2.mem ((c.tc : Thread Cert.RowsIdeal.nD Cert.RowsIdeal.τ).loc Cert.RowsIdeal.main_arg15) = m ((c.tc : Thread Cert.RowsIdeal.nD Cert.RowsIdeal.τ).loc Cert.RowsIdeal.main_arg15)
          ∧ r.2.mem ((c.tc : Thread Cert.RowsIdeal.nD Cert.RowsIdeal.τ).loc Cert.RowsIdeal.main_arg16) = m ((c.tc : Thread Cert.RowsIdeal.nD Cert.RowsIdeal.τ).loc Cert.RowsIdeal.main_arg16)
          ∧ r.2.mem ((c.tc : Thread Cert.RowsIdeal.nD Cert.RowsIdeal.τ).loc Cert.RowsIdeal.main_arg17) = m ((c.tc : Thread Cert.RowsIdeal.nD Cert.RowsIdeal.τ).loc Cert.RowsIdeal.main_arg17)
          ∧ r.2.mem ((c.tc : Thread Cert.RowsIdeal.nD Cert.RowsIdeal.τ).loc Cert.RowsIdeal.main_arg18) = m ((c.tc : Thread Cert.RowsIdeal.nD Cert.RowsIdeal.τ).loc Cert.RowsIdeal.main_arg18)
          ∧ r.2.mem ((c.tc : Thread Cert.RowsIdeal.nD Cert.RowsIdeal.τ).loc Cert.RowsIdeal.main_arg19) = m ((c.tc : Thread Cert.RowsIdeal.nD Cert.RowsIdeal.τ).loc Cert.RowsIdeal.main_arg19)
          ∧ r.2.mem ((c.tc : Thread Cert.RowsIdeal.nD Cert.RowsIdeal.τ).loc Cert.RowsIdeal.main_arg20) = m ((c.tc : Thread Cert.RowsIdeal.nD Cert.RowsIdeal.τ).loc Cert.RowsIdeal.main_arg20)
          ∧ r.2.mem ((c.tc : Thread Cert.RowsIdeal.nD Cert.RowsIdeal.τ).loc Cert.RowsIdeal.main_arg21) = m ((c.tc : Thread Cert.RowsIdeal.nD Cert.RowsIdeal.τ).loc Cert.RowsIdeal.main_arg21))
      ∧ θ_run (Cert.RowsReferenceIdeal.defs (F := Ideal)) (onTc (τ := Cert.RowsReferenceIdeal.τ) (Cert.RowsReferenceIdeal.main (F := Ideal))) ⟨m', fun _ => 0, g'⟩ (fun r => ∀ c : Dev Cert.RowsReferenceIdeal.nD,
          r.2.mem ((c.tc : Thread Cert.RowsReferenceIdeal.nD Cert.RowsReferenceIdeal.τ).loc Cert.RowsReferenceIdeal.main_v54) = v0 c
          ∧ r.2.mem ((c.tc : Thread Cert.RowsReferenceIdeal.nD Cert.RowsReferenceIdeal.τ).loc Cert.RowsReferenceIdeal.main_v57) = v1 c
          ∧ r.2.mem ((c.tc : Thread Cert.RowsReferenceIdeal.nD Cert.RowsReferenceIdeal.τ).loc Cert.RowsReferenceIdeal.main_v61) = v2 c
          ∧ r.2.mem ((c.tc : Thread Cert.RowsReferenceIdeal.nD Cert.RowsReferenceIdeal.τ).loc Cert.RowsReferenceIdeal.main_v65) = v3 c
          ∧ r.2.mem ((c.tc : Thread Cert.RowsReferenceIdeal.nD Cert.RowsReferenceIdeal.τ).loc Cert.RowsReferenceIdeal.main_v68) = v4 c
          ∧ r.2.mem ((c.tc : Thread Cert.RowsReferenceIdeal.nD Cert.RowsReferenceIdeal.τ).loc Cert.RowsReferenceIdeal.main_arg0) = m' ((c.tc : Thread Cert.RowsReferenceIdeal.nD Cert.RowsReferenceIdeal.τ).loc Cert.RowsReferenceIdeal.main_arg0)
          ∧ r.2.mem ((c.tc : Thread Cert.RowsReferenceIdeal.nD Cert.RowsReferenceIdeal.τ).loc Cert.RowsReferenceIdeal.main_arg1) = m' ((c.tc : Thread Cert.RowsReferenceIdeal.nD Cert.RowsReferenceIdeal.τ).loc Cert.RowsReferenceIdeal.main_arg1)
          ∧ r.2.mem ((c.tc : Thread Cert.RowsReferenceIdeal.nD Cert.RowsReferenceIdeal.τ).loc Cert.RowsReferenceIdeal.main_arg2) = m' ((c.tc : Thread Cert.RowsReferenceIdeal.nD Cert.RowsReferenceIdeal.τ).loc Cert.RowsReferenceIdeal.main_arg2)
          ∧ r.2.mem ((c.tc : Thread Cert.RowsReferenceIdeal.nD Cert.RowsReferenceIdeal.τ).loc Cert.RowsReferenceIdeal.main_arg3) = m' ((c.tc : Thread Cert.RowsReferenceIdeal.nD Cert.RowsReferenceIdeal.τ).loc Cert.RowsReferenceIdeal.main_arg3)
          ∧ r.2.mem ((c.tc : Thread Cert.RowsReferenceIdeal.nD Cert.RowsReferenceIdeal.τ).loc Cert.RowsReferenceIdeal.main_arg4) = m' ((c.tc : Thread Cert.RowsReferenceIdeal.nD Cert.RowsReferenceIdeal.τ).loc Cert.RowsReferenceIdeal.main_arg4)
          ∧ r.2.mem ((c.tc : Thread Cert.RowsReferenceIdeal.nD Cert.RowsReferenceIdeal.τ).loc Cert.RowsReferenceIdeal.main_arg5) = m' ((c.tc : Thread Cert.RowsReferenceIdeal.nD Cert.RowsReferenceIdeal.τ).loc Cert.RowsReferenceIdeal.main_arg5)
          ∧ r.2.mem ((c.tc : Thread Cert.RowsReferenceIdeal.nD Cert.RowsReferenceIdeal.τ).loc Cert.RowsReferenceIdeal.main_arg6) = m' ((c.tc : Thread Cert.RowsReferenceIdeal.nD Cert.RowsReferenceIdeal.τ).loc Cert.RowsReferenceIdeal.main_arg6)
          ∧ r.2.mem ((c.tc : Thread Cert.RowsReferenceIdeal.nD Cert.RowsReferenceIdeal.τ).loc Cert.RowsReferenceIdeal.main_arg7) = m' ((c.tc : Thread Cert.RowsReferenceIdeal.nD Cert.RowsReferenceIdeal.τ).loc Cert.RowsReferenceIdeal.main_arg7)
          ∧ r.2.mem ((c.tc : Thread Cert.RowsReferenceIdeal.nD Cert.RowsReferenceIdeal.τ).loc Cert.RowsReferenceIdeal.main_arg8) = m' ((c.tc : Thread Cert.RowsReferenceIdeal.nD Cert.RowsReferenceIdeal.τ).loc Cert.RowsReferenceIdeal.main_arg8)
          ∧ r.2.mem ((c.tc : Thread Cert.RowsReferenceIdeal.nD Cert.RowsReferenceIdeal.τ).loc Cert.RowsReferenceIdeal.main_arg9) = m' ((c.tc : Thread Cert.RowsReferenceIdeal.nD Cert.RowsReferenceIdeal.τ).loc Cert.RowsReferenceIdeal.main_arg9)
          ∧ r.2.mem ((c.tc : Thread Cert.RowsReferenceIdeal.nD Cert.RowsReferenceIdeal.τ).loc Cert.RowsReferenceIdeal.main_arg10) = m' ((c.tc : Thread Cert.RowsReferenceIdeal.nD Cert.RowsReferenceIdeal.τ).loc Cert.RowsReferenceIdeal.main_arg10)
          ∧ r.2.mem ((c.tc : Thread Cert.RowsReferenceIdeal.nD Cert.RowsReferenceIdeal.τ).loc Cert.RowsReferenceIdeal.main_arg11) = m' ((c.tc : Thread Cert.RowsReferenceIdeal.nD Cert.RowsReferenceIdeal.τ).loc Cert.RowsReferenceIdeal.main_arg11)
          ∧ r.2.mem ((c.tc : Thread Cert.RowsReferenceIdeal.nD Cert.RowsReferenceIdeal.τ).loc Cert.RowsReferenceIdeal.main_arg12) = m' ((c.tc : Thread Cert.RowsReferenceIdeal.nD Cert.RowsReferenceIdeal.τ).loc Cert.RowsReferenceIdeal.main_arg12)
          ∧ r.2.mem ((c.tc : Thread Cert.RowsReferenceIdeal.nD Cert.RowsReferenceIdeal.τ).loc Cert.RowsReferenceIdeal.main_arg13) = m' ((c.tc : Thread Cert.RowsReferenceIdeal.nD Cert.RowsReferenceIdeal.τ).loc Cert.RowsReferenceIdeal.main_arg13)
          ∧ r.2.mem ((c.tc : Thread Cert.RowsReferenceIdeal.nD Cert.RowsReferenceIdeal.τ).loc Cert.RowsReferenceIdeal.main_arg14) = m' ((c.tc : Thread Cert.RowsReferenceIdeal.nD Cert.RowsReferenceIdeal.τ).loc Cert.RowsReferenceIdeal.main_arg14)
          ∧ r.2.mem ((c.tc : Thread Cert.RowsReferenceIdeal.nD Cert.RowsReferenceIdeal.τ).loc Cert.RowsReferenceIdeal.main_arg15) = m' ((c.tc : Thread Cert.RowsReferenceIdeal.nD Cert.RowsReferenceIdeal.τ).loc Cert.RowsReferenceIdeal.main_arg15)
          ∧ r.2.mem ((c.tc : Thread Cert.RowsReferenceIdeal.nD Cert.RowsReferenceIdeal.τ).loc Cert.RowsReferenceIdeal.main_arg16) = m' ((c.tc : Thread Cert.RowsReferenceIdeal.nD Cert.RowsReferenceIdeal.τ).loc Cert.RowsReferenceIdeal.main_arg16)
          ∧ r.2.mem ((c.tc : Thread Cert.RowsReferenceIdeal.nD Cert.RowsReferenceIdeal.τ).loc Cert.RowsReferenceIdeal.main_arg17) = m' ((c.tc : Thread Cert.RowsReferenceIdeal.nD Cert.RowsReferenceIdeal.τ).loc Cert.RowsReferenceIdeal.main_arg17)
          ∧ r.2.mem ((c.tc : Thread Cert.RowsReferenceIdeal.nD Cert.RowsReferenceIdeal.τ).loc Cert.RowsReferenceIdeal.main_arg18) = m' ((c.tc : Thread Cert.RowsReferenceIdeal.nD Cert.RowsReferenceIdeal.τ).loc Cert.RowsReferenceIdeal.main_arg18)
          ∧ r.2.mem ((c.tc : Thread Cert.RowsReferenceIdeal.nD Cert.RowsReferenceIdeal.τ).loc Cert.RowsReferenceIdeal.main_arg19) = m' ((c.tc : Thread Cert.RowsReferenceIdeal.nD Cert.RowsReferenceIdeal.τ).loc Cert.RowsReferenceIdeal.main_arg19)
          ∧ r.2.mem ((c.tc : Thread Cert.RowsReferenceIdeal.nD Cert.RowsReferenceIdeal.τ).loc Cert.RowsReferenceIdeal.main_arg20) = m' ((c.tc : Thread Cert.RowsReferenceIdeal.nD Cert.RowsReferenceIdeal.τ).loc Cert.RowsReferenceIdeal.main_arg20)
          ∧ r.2.mem ((c.tc : Thread Cert.RowsReferenceIdeal.nD Cert.RowsReferenceIdeal.τ).loc Cert.RowsReferenceIdeal.main_arg21) = m' ((c.tc : Thread Cert.RowsReferenceIdeal.nD Cert.RowsReferenceIdeal.τ).loc Cert.RowsReferenceIdeal.main_arg21))

def preserves_SampleLast_SampleLastIdeal : Prop :=
  True

def algebraic_SampleLastIdeal_SampleLastReferenceIdeal [hSampleLastIdeal : Cert.SampleLastIdeal.Facts] [hSampleLastReferenceIdeal : Cert.SampleLastReferenceIdeal.Facts] : Prop :=
  ∀ (m : (ℓ : Loc Cert.SampleLastIdeal.nD Cert.SampleLastIdeal.τ Cert.SampleLastIdeal.sig) → Buf (Elt Ideal) ℓ) (g : Dev Cert.SampleLastIdeal.nD → PrngReg)
    (m' : (ℓ : Loc Cert.SampleLastReferenceIdeal.nD Cert.SampleLastReferenceIdeal.τ Cert.SampleLastReferenceIdeal.sig) → Buf (Elt Ideal) ℓ) (g' : Dev Cert.SampleLastReferenceIdeal.nD → PrngReg), Pre_SampleLastIdeal m →
    (∀ c : Dev Cert.SampleLastIdeal.nD,
      m' ((c.tc : Thread Cert.SampleLastReferenceIdeal.nD Cert.SampleLastReferenceIdeal.τ).loc Cert.SampleLastReferenceIdeal.main_arg0) = m ((c.tc : Thread Cert.SampleLastIdeal.nD Cert.SampleLastIdeal.τ).loc Cert.SampleLastIdeal.main_arg0)
      ∧ m' ((c.tc : Thread Cert.SampleLastReferenceIdeal.nD Cert.SampleLastReferenceIdeal.τ).loc Cert.SampleLastReferenceIdeal.main_arg1) = m ((c.tc : Thread Cert.SampleLastIdeal.nD Cert.SampleLastIdeal.τ).loc Cert.SampleLastIdeal.main_arg1)
      ∧ m' ((c.tc : Thread Cert.SampleLastReferenceIdeal.nD Cert.SampleLastReferenceIdeal.τ).loc Cert.SampleLastReferenceIdeal.main_arg2) = m ((c.tc : Thread Cert.SampleLastIdeal.nD Cert.SampleLastIdeal.τ).loc Cert.SampleLastIdeal.main_arg2)
      ∧ m' ((c.tc : Thread Cert.SampleLastReferenceIdeal.nD Cert.SampleLastReferenceIdeal.τ).loc Cert.SampleLastReferenceIdeal.main_arg3) = m ((c.tc : Thread Cert.SampleLastIdeal.nD Cert.SampleLastIdeal.τ).loc Cert.SampleLastIdeal.main_arg3)) →
    ∃ (v0 : (c : Dev Cert.SampleLastIdeal.nD) → Buf (Elt Ideal) ((c.tc : Thread Cert.SampleLastIdeal.nD Cert.SampleLastIdeal.τ).loc Cert.SampleLastIdeal.main_v0)),
      θ_run (Cert.SampleLastIdeal.defs (F := Ideal)) (onTc (τ := Cert.SampleLastIdeal.τ) (Cert.SampleLastIdeal.main (F := Ideal))) ⟨m, fun _ => 0, g⟩ (fun r => ∀ c : Dev Cert.SampleLastIdeal.nD,
          r.2.mem ((c.tc : Thread Cert.SampleLastIdeal.nD Cert.SampleLastIdeal.τ).loc Cert.SampleLastIdeal.main_v0) = v0 c
          ∧ r.2.mem ((c.tc : Thread Cert.SampleLastIdeal.nD Cert.SampleLastIdeal.τ).loc Cert.SampleLastIdeal.main_arg0) = m ((c.tc : Thread Cert.SampleLastIdeal.nD Cert.SampleLastIdeal.τ).loc Cert.SampleLastIdeal.main_arg0)
          ∧ r.2.mem ((c.tc : Thread Cert.SampleLastIdeal.nD Cert.SampleLastIdeal.τ).loc Cert.SampleLastIdeal.main_arg1) = m ((c.tc : Thread Cert.SampleLastIdeal.nD Cert.SampleLastIdeal.τ).loc Cert.SampleLastIdeal.main_arg1)
          ∧ r.2.mem ((c.tc : Thread Cert.SampleLastIdeal.nD Cert.SampleLastIdeal.τ).loc Cert.SampleLastIdeal.main_arg2) = m ((c.tc : Thread Cert.SampleLastIdeal.nD Cert.SampleLastIdeal.τ).loc Cert.SampleLastIdeal.main_arg2)
          ∧ r.2.mem ((c.tc : Thread Cert.SampleLastIdeal.nD Cert.SampleLastIdeal.τ).loc Cert.SampleLastIdeal.main_arg3) = m ((c.tc : Thread Cert.SampleLastIdeal.nD Cert.SampleLastIdeal.τ).loc Cert.SampleLastIdeal.main_arg3))
      ∧ θ_run (Cert.SampleLastReferenceIdeal.defs (F := Ideal)) (onTc (τ := Cert.SampleLastReferenceIdeal.τ) (Cert.SampleLastReferenceIdeal.main (F := Ideal))) ⟨m', fun _ => 0, g'⟩ (fun r => ∀ c : Dev Cert.SampleLastReferenceIdeal.nD,
          r.2.mem ((c.tc : Thread Cert.SampleLastReferenceIdeal.nD Cert.SampleLastReferenceIdeal.τ).loc Cert.SampleLastReferenceIdeal.main_v15) = v0 c
          ∧ r.2.mem ((c.tc : Thread Cert.SampleLastReferenceIdeal.nD Cert.SampleLastReferenceIdeal.τ).loc Cert.SampleLastReferenceIdeal.main_arg0) = m' ((c.tc : Thread Cert.SampleLastReferenceIdeal.nD Cert.SampleLastReferenceIdeal.τ).loc Cert.SampleLastReferenceIdeal.main_arg0)
          ∧ r.2.mem ((c.tc : Thread Cert.SampleLastReferenceIdeal.nD Cert.SampleLastReferenceIdeal.τ).loc Cert.SampleLastReferenceIdeal.main_arg1) = m' ((c.tc : Thread Cert.SampleLastReferenceIdeal.nD Cert.SampleLastReferenceIdeal.τ).loc Cert.SampleLastReferenceIdeal.main_arg1)
          ∧ r.2.mem ((c.tc : Thread Cert.SampleLastReferenceIdeal.nD Cert.SampleLastReferenceIdeal.τ).loc Cert.SampleLastReferenceIdeal.main_arg2) = m' ((c.tc : Thread Cert.SampleLastReferenceIdeal.nD Cert.SampleLastReferenceIdeal.τ).loc Cert.SampleLastReferenceIdeal.main_arg2)
          ∧ r.2.mem ((c.tc : Thread Cert.SampleLastReferenceIdeal.nD Cert.SampleLastReferenceIdeal.τ).loc Cert.SampleLastReferenceIdeal.main_arg3) = m' ((c.tc : Thread Cert.SampleLastReferenceIdeal.nD Cert.SampleLastReferenceIdeal.τ).loc Cert.SampleLastReferenceIdeal.main_arg3))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hLast : Cert.Last.Facts) (hLastIdeal : Cert.LastIdeal.Facts) (hLastReferenceIdeal : Cert.LastReferenceIdeal.Facts) (hRows : Cert.Rows.Facts) (hRowsIdeal : Cert.RowsIdeal.Facts) (hRowsReferenceIdeal : Cert.RowsReferenceIdeal.Facts) (hSampleLast : Cert.SampleLast.Facts) (hSampleLastIdeal : Cert.SampleLastIdeal.Facts) (hSampleLastReferenceIdeal : Cert.SampleLastReferenceIdeal.Facts) (hPre_starts : Cert.Pre_starts.Facts) (hPre_attends : Cert.Pre_attends.Facts) (hPre_routes : Cert.Pre_routes.Facts),
    quiescent_Kernel (hKernel := hKernel) (hPre_starts := hPre_starts)
    ∧ quiescent_KernelIdeal (hKernelIdeal := hKernelIdeal) (hPre_starts := hPre_starts)
    ∧ quiescent_KernelIdeal_pre_attends (hKernelIdeal := hKernelIdeal) (hPre_attends := hPre_attends)
    ∧ quiescent_ReferenceIdeal (hReferenceIdeal := hReferenceIdeal)
    ∧ quiescent_ReferenceIdeal_pre_attends (hReferenceIdeal := hReferenceIdeal) (hPre_attends := hPre_attends)
    ∧ quiescent_Experts (hExperts := hExperts) (hPre_routes := hPre_routes)
    ∧ quiescent_ExpertsIdeal (hExpertsIdeal := hExpertsIdeal) (hPre_routes := hPre_routes)
    ∧ quiescent_ExpertsReferenceIdeal (hExpertsReferenceIdeal := hExpertsReferenceIdeal)
    ∧ quiescent_ExpertsReferenceIdeal_pre_routes (hExpertsReferenceIdeal := hExpertsReferenceIdeal) (hPre_routes := hPre_routes)
    ∧ quiescent_Last (hLast := hLast)
    ∧ quiescent_LastIdeal (hLastIdeal := hLastIdeal)
    ∧ quiescent_LastReferenceIdeal (hLastReferenceIdeal := hLastReferenceIdeal)
    ∧ quiescent_Rows (hRows := hRows)
    ∧ quiescent_RowsIdeal (hRowsIdeal := hRowsIdeal)
    ∧ quiescent_RowsReferenceIdeal (hRowsReferenceIdeal := hRowsReferenceIdeal)
    ∧ quiescent_SampleLast (hSampleLast := hSampleLast)
    ∧ quiescent_SampleLastIdeal (hSampleLastIdeal := hSampleLastIdeal)
    ∧ quiescent_SampleLastReferenceIdeal (hSampleLastReferenceIdeal := hSampleLastReferenceIdeal)
    ∧ preserves_Kernel_KernelIdeal
    ∧ algebraic_KernelIdeal_ReferenceIdeal_pre_attends (hKernelIdeal := hKernelIdeal) (hReferenceIdeal := hReferenceIdeal) (hPre_attends := hPre_attends)
    ∧ preserves_Experts_ExpertsIdeal
    ∧ algebraic_ExpertsIdeal_ExpertsReferenceIdeal (hExpertsIdeal := hExpertsIdeal) (hExpertsReferenceIdeal := hExpertsReferenceIdeal) (hPre_routes := hPre_routes)
    ∧ preserves_Last_LastIdeal
    ∧ algebraic_LastIdeal_LastReferenceIdeal (hLastIdeal := hLastIdeal) (hLastReferenceIdeal := hLastReferenceIdeal)
    ∧ preserves_Rows_RowsIdeal
    ∧ algebraic_RowsIdeal_RowsReferenceIdeal (hRowsIdeal := hRowsIdeal) (hRowsReferenceIdeal := hRowsReferenceIdeal)
    ∧ preserves_SampleLast_SampleLastIdeal
    ∧ algebraic_SampleLastIdeal_SampleLastReferenceIdeal (hSampleLastIdeal := hSampleLastIdeal) (hSampleLastReferenceIdeal := hSampleLastReferenceIdeal)
-- ==== Pre_attends.lean ====
abbrev S256 : Shape := ⟨1, ![256]⟩
abbrev S4x16x8192x128 : Shape := ⟨4, ![4, 16, 8192, 128]⟩
abbrev S_ : Shape := ⟨0, ![]⟩
abbrev S4x16x8192x1 : Shape := ⟨4, ![4, 16, 8192, 1]⟩
abbrev S4x16x8192 : Shape := ⟨3, ![4, 16, 8192]⟩

class Facts : Prop where
  bcast_S_S256 : S_.BroadcastsInDim S256 (![] : Fin 0 → Fin S256.rank)
  reducesTo_S256_S_d0 : S256.ReducesTo [0] S_
  h_S_ : 0 < S_.numel
  bitsLt_bf16_f32 : FTy.bits .bf16 < FTy.bits .f32
  bcast_S_S4x16x8192x128 : S_.BroadcastsInDim S4x16x8192x128 (![] : Fin 0 → Fin S4x16x8192x128.rank)
  reducesTo_S4x16x8192x128_S_d0_1_2_3 : S4x16x8192x128.ReducesTo [0, 1, 2, 3] S_
  slices_S4x16x8192x128_S4x16x8192x1_0_0_0_64 : S4x16x8192x128.Slices ![0, 0, 0, 64] S4x16x8192x1
  shapeCasts_S4x16x8192x1_S4x16x8192 : S4x16x8192x1.ShapeCasts S4x16x8192
  bcast_S_S4x16x8192 : S_.BroadcastsInDim S4x16x8192 (![] : Fin 0 → Fin S4x16x8192.rank)
  reducesTo_S4x16x8192_S_d0_1_2 : S4x16x8192.ReducesTo [0, 1, 2] S_

variable [Facts]

def fn_part1 {F : FTy → Type} [FloatOps F] (main_arg3 : FVec F S4x16x8192x128 .bf16) (main_v7 : IVec S_ 1) (main_v12 : IVec S_ 1) (main_v16 : IVec S4x16x8192x128 1) (main_c_4 : IVec S_ 1) : IVec S_ 1 :=
  let main_v17 : IVec S_ 1 := (fun x v => Host.reduce IntOp.andi x v reducesTo_S4x16x8192x128_S_d0_1_2_3 h_S_) main_v16 main_c_4
  let main_v18 : IVec S_ 1 := andi main_v12 main_v17
  let main_v19 : IVec S_ 1 := andi main_v7 main_v18
  let main_v20 : FVec F S4x16x8192x1 .bf16 := (extractStridedSlice S4x16x8192x1 ![0, 0, 0, 64] · slices_S4x16x8192x128_S4x16x8192x1_0_0_0_64) main_arg3
  let main_v21 : FVec F S4x16x8192 .bf16 := shapeCast S4x16x8192 main_v20 shapeCasts_S4x16x8192x1_S4x16x8192
  let main_v22 : FVec F S4x16x8192 .f32 := (extf .f32 · bitsLt_bf16_f32) main_v21
  let main_cst_5 : FVec F S_ .f32 := constant S_ .f32 0x3F800000#32
  let main_v23 : FVec F S4x16x8192 .f32 := broadcastInDim S4x16x8192 ![] bcast_S_S4x16x8192 main_cst_5
  let main_v24 : IVec S4x16x8192 1 := cmpf .oeq main_v22 main_v23
  let main_c_6 : IVec S_ 1 := constantI S_ 1 1#1
  let main_v25 : IVec S_ 1 := (fun x v => Host.reduce IntOp.andi x v reducesTo_S4x16x8192_S_d0_1_2 h_S_) main_v24 main_c_6
  let main_v26 : IVec S_ 1 := andi main_v19 main_v25
  main_v26

def fn {F : FTy → Type} [FloatOps F] (main_arg0 : IVec S256 32) (main_arg1 : FVec F S4x16x8192x128 .bf16) (main_arg2 : FVec F S4x16x8192x128 .bf16) (main_arg3 : FVec F S4x16x8192x128 .bf16) : IVec S_ 1 :=
  let main_v0 : IVec S256 32 := iotaInDim S256 32 0
  let main_c : IVec S_ 32 := constantI S_ 32 7#32
  let main_v1 : IVec S256 32 := broadcastInDim S256 ![] bcast_S_S256 main_c
  let main_v2 : IVec S256 32 := andi main_v0 main_v1
  let main_c_0 : IVec S_ 32 := constantI S_ 32 0#32
  let main_v3 : IVec S256 32 := broadcastInDim S256 ![] bcast_S_S256 main_c_0
  let main_v4 : IVec S256 1 := cmpi .sge main_arg0 main_v3
  let main_v5 : IVec S256 1 := cmpi .sle main_arg0 main_v2
  let main_v6 : IVec S256 1 := andi main_v4 main_v5
  let main_c_1 : IVec S_ 1 := constantI S_ 1 1#1
  let main_v7 : IVec S_ 1 := (fun x v => Host.reduce IntOp.andi x v reducesTo_S256_S_d0 h_S_) main_v6 main_c_1
  let main_v8 : FVec F S4x16x8192x128 .f32 := (extf .f32 · bitsLt_bf16_f32) main_arg1
  let main_v9 : FVec F S4x16x8192x128 .f32 := Host.absf main_v8
  let main_cst : FVec F S_ .f32 := constant S_ .f32 0x7F800000#32
  let main_v10 : FVec F S4x16x8192x128 .f32 := broadcastInDim S4x16x8192x128 ![] bcast_S_S4x16x8192x128 main_cst
  let main_v11 : IVec S4x16x8192x128 1 := cmpf .olt main_v9 main_v10
  let main_c_2 : IVec S_ 1 := constantI S_ 1 1#1
  let main_v12 : IVec S_ 1 := (fun x v => Host.reduce IntOp.andi x v reducesTo_S4x16x8192x128_S_d0_1_2_3 h_S_) main_v11 main_c_2
  let main_v13 : FVec F S4x16x8192x128 .f32 := (extf .f32 · bitsLt_bf16_f32) main_arg2
  let main_v14 : FVec F S4x16x8192x128 .f32 := Host.absf main_v13
  let main_cst_3 : FVec F S_ .f32 := constant S_ .f32 0x7F800000#32
  let main_v15 : FVec F S4x16x8192x128 .f32 := broadcastInDim S4x16x8192x128 ![] bcast_S_S4x16x8192x128 main_cst_3
  let main_v16 : IVec S4x16x8192x128 1 := cmpf .olt main_v14 main_v15
  let main_c_4 : IVec S_ 1 := constantI S_ 1 1#1
  fn_part1 (F := F) main_arg3 main_v7 main_v12 main_v16 main_c_4
-- ==== Pre_routes.lean ====
abbrev S68 : Shape := ⟨1, ![68]⟩
abbrev S1 : Shape := ⟨1, ![1]⟩
abbrev S34816x1152 : Shape := ⟨2, ![34816, 1152]⟩
abbrev S32x1024x256 : Shape := ⟨3, ![32, 1024, 256]⟩
abbrev S4x2048x1024 : Shape := ⟨3, ![4, 2048, 1024]⟩
abbrev S_ : Shape := ⟨0, ![]⟩

class Facts : Prop where
  bcast_S_S68 : S_.BroadcastsInDim S68 (![] : Fin 0 → Fin S68.rank)
  reducesTo_S68_S_d0 : S68.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S68 32) (main_arg1 : IVec S1 32) (main_arg2 : FVec F S34816x1152 .f32) (main_arg3 : FVec F S32x1024x256 .bf16) (main_arg4 : FVec F S32x1024x256 .bf16) (main_arg5 : FVec F S4x2048x1024 .bf16) : IVec S_ 1 :=
  let main_c : IVec S_ 32 := constantI S_ 32 0#32
  let main_v0 : IVec S68 32 := broadcastInDim S68 ![] bcast_S_S68 main_c
  let main_v1 : IVec S68 1 := cmpi .sge main_arg0 main_v0
  let main_c_0 : IVec S_ 32 := constantI S_ 32 3#32
  let main_v2 : IVec S68 32 := broadcastInDim S68 ![] bcast_S_S68 main_c_0
  let main_v3 : IVec S68 1 := cmpi .sle main_arg0 main_v2
  let main_v4 : IVec S68 1 := andi main_v1 main_v3
  let main_c_1 : IVec S_ 1 := constantI S_ 1 1#1
  let main_v5 : IVec S_ 1 := (fun x v => Host.reduce IntOp.andi x v reducesTo_S68_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 1 := constantI S_ 1 1#1
  let main_v8 : IVec S_ 1 := (fun x v => Host.reduce IntOp.andi x v reducesTo_S1_S_d0 h_S_) main_v7 main_c_3
  let main_v9 : IVec S_ 1 := andi main_v5 main_v8
  main_v9
-- ==== Pre_starts.lean ====
abbrev S256 : Shape := ⟨1, ![256]⟩
abbrev S4x16x8192x128 : Shape := ⟨4, ![4, 16, 8192, 128]⟩
abbrev S_ : Shape := ⟨0, ![]⟩

class Facts : Prop where
  bcast_S_S256 : S_.BroadcastsInDim S256 (![] : Fin 0 → Fin S256.rank)

variable [Facts]

def fn {F : FTy → Type} [FloatOps F] (main_arg0 : IVec S256 32) (main_arg1 : FVec F S4x16x8192x128 .bf16) (main_arg2 : FVec F S4x16x8192x128 .bf16) (main_arg3 : FVec F S4x16x8192x128 .bf16) : IVec S256 1 :=
  let main_v0 : IVec S256 32 := iotaInDim S256 32 0
  let main_c : IVec S_ 32 := constantI S_ 32 7#32
  let main_v1 : IVec S256 32 := broadcastInDim S256 ![] bcast_S_S256 main_c
  let main_v2 : IVec S256 32 := andi main_v0 main_v1
  let main_c_0 : IVec S_ 32 := constantI S_ 32 0#32
  let main_v3 : IVec S256 32 := broadcastInDim S256 ![] bcast_S_S256 main_c_0
  let main_v4 : IVec S256 1 := cmpi .sge main_arg0 main_v3
  let main_v5 : IVec S256 1 := cmpi .sle main_arg0 main_v2
  let main_v6 : IVec S256 1 := andi main_v4 main_v5
  main_v6
-- ==== Kernel.lean ====
abbrev S256 : Shape := ⟨1, ![256]⟩
abbrev S4x16x8192x128 : Shape := ⟨4, ![4, 16, 8192, 128]⟩
abbrev S4x8192x1024 : Shape := ⟨3, ![4, 8192, 1024]⟩
abbrev S1x2x1024x128 : Shape := ⟨4, ![1, 2, 1024, 128]⟩
abbrev S1x2x8192x128 : Shape := ⟨4, ![1, 2, 8192, 128]⟩
abbrev S1x1024x128 : Shape := ⟨3, ![1, 1024, 128]⟩
abbrev S2x1024x128 : Shape := ⟨3, ![2, 1024, 128]⟩
abbrev S2x2x1024x1024 : Shape := ⟨4, ![2, 2, 1024, 1024]⟩
abbrev S1024x1024 : Shape := ⟨2, ![1024, 1024]⟩
abbrev S1 : Shape := ⟨1, ![1]⟩
abbrev S1x1x1024x128 : Shape := ⟨4, ![1, 1, 1024, 128]⟩
abbrev S1024x128 : Shape := ⟨2, ![1024, 128]⟩
abbrev S1x1x1024x1024 : Shape := ⟨4, ![1, 1, 1024, 1024]⟩
abbrev S1024 : Shape := ⟨1, ![1024]⟩
abbrev S1024x1 : Shape := ⟨2, ![1024, 1]⟩

abbrev nBuf : Space → Nat
  | .hbm => 4
  | .vmem => 11
  | .smem => 1
  | _ => 0

abbrev bufTy : (tb : Table) → Fin (tcTables nBuf tb) → BufTy
  | .hbm, ⟨0, _⟩ => ⟨S4x16x8192x128, .bf16⟩
  | .hbm, ⟨1, _⟩ => ⟨S4x16x8192x128, .bf16⟩
  | .hbm, ⟨2, _⟩ => ⟨S4x16x8192x128, .bf16⟩
  | .hbm, ⟨3, _⟩ => ⟨S4x8192x1024, .f32⟩
  | .local _ .vmem, ⟨0, _⟩ => ⟨S1x2x1024x128, .bf16⟩
  | .local _ .vmem, ⟨1, _⟩ => ⟨S1x2x1024x128, .bf16⟩
  | .local _ .vmem, ⟨2, _⟩ => ⟨S1x2x8192x128, .bf16⟩
  | .local _ .vmem, ⟨3, _⟩ => ⟨S1x2x8192x128, .bf16⟩
  | .local _ .vmem, ⟨4, _⟩ => ⟨S1x2x8192x128, .bf16⟩
  | .local _ .vmem, ⟨5, _⟩ => ⟨S1x2x8192x128, .bf16⟩
  | .local _ .vmem, ⟨6, _⟩ => ⟨S1x1024x128, .f32⟩
  | .local _ .vmem, ⟨7, _⟩ => ⟨S1x1024x128, .f32⟩
  | .local _ .vmem, ⟨8, _⟩ => ⟨S2x1024x128, .f32⟩
  | .local _ .vmem, ⟨9, _⟩ => ⟨S2x1024x128, .f32⟩
  | .local _ .vmem, ⟨10, _⟩ => ⟨S2x2x1024x1024, .f32⟩
  | .local _ .smem, ⟨0, _⟩ => ⟨S256, .i32⟩
  | _, _ => ⟨S4x16x8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 8], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c8_i32 : BitVec 32 := 8#32
  let v31 : BitVec 32 := Scalar.muli arg0 c8_i32
  let arg1 : BitVec 32 := BitVec.ofNat 32 (i 1).val
  let v32 : BitVec 32 := Scalar.addi v31 arg1
  let c8_i32_13 : BitVec 32 := 8#32
  let v33 : BitVec 32 := Scalar.muli v32 c8_i32_13
  let arg2 : BitVec 32 := BitVec.ofNat 32 (i 2).val
  let v34 : BitVec 32 := Scalar.addi v33 arg2
  let v35 : Index := Scalar.indexCast v34
  ![v35.toNat]
def k0_mult1 (v36 : BitVec 32) : BitVec 32 :=
  let c1024_i32_14 : BitVec 32 := 1024#32
  let v38 : BitVec 32 := Scalar.muli v36 c1024_i32_14
  v38

def k0_off2 (v36 : BitVec 32) : Fin 4 → Nat :=
  let c0_19 : Index := 0#32
  let c0_20 : Index := 0#32
  let c1024_i32_14 : BitVec 32 := 1024#32
  let v38 : BitVec 32 := Scalar.muli v36 c1024_i32_14
  let v39 : BitVec 32 := v38
  let v42 : Index := Scalar.indexCast v39
  let c0_21 : Index := 0#32
  ![0, 0, v42.toNat, 0]
def k0_mult2 (v36 : BitVec 32) : BitVec 32 :=
  let c1024_i32_27 : BitVec 32 := 1024#32
  let v49 : BitVec 32 := Scalar.muli v36 c1024_i32_27
  v49
def k0_off3 (v36 : BitVec 32) : Fin 4 → Nat :=
  let c0_31 : Index := 0#32
  let c1_32 : Index := 1#32
  let c1024_i32_27 : BitVec 32 := 1024#32
  let v49 : BitVec 32 := Scalar.muli v36 c1024_i32_27
  let v50 : BitVec 32 := v49
  let v53 : Index := Scalar.indexCast v50
  let c0_33 : Index := 0#32
  ![0, 1, v53.toNat, 0]
@[reducible] def k0_t1_loop (i : grid0.Coords) (v36 : BitVec 32) : Scf.Loop 32 :=
  let c0_i32_46 : BitVec 32 := 0#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c0_i32_8 : BitVec 32 := 0#32
  let v15 : BitVec 1 := Scalar.cmpi .sgt v1 c0_i32_8
  let v16 : BitVec 32 := Scalar.extui v15
  let c0_i32_9 : BitVec 32 := 0#32
  let v17 : BitVec 1 := Scalar.cmpi .slt v1 c0_i32_9
  let v18 : BitVec 32 := Scalar.extui v17
  let v19 : BitVec 32 := Scalar.subi v16 v18
  let c1024_i32_7 : BitVec 32 := 1024#32
  let c0_i32_10 : BitVec 32 := 0#32
  let v20 : BitVec 1 := Scalar.cmpi .sgt c1024_i32_7 c0_i32_10
  let v21 : BitVec 32 := Scalar.extui v20
  let c0_i32_11 : BitVec 32 := 0#32
  let v22 : BitVec 1 := Scalar.cmpi .slt c1024_i32_7 c0_i32_11
  let v23 : BitVec 32 := Scalar.extui v22
  let v24 : BitVec 32 := Scalar.subi v21 v23
  let v25 : BitVec 1 := Scalar.cmpi .ne v19 v24
  let v26 : BitVec 32 := Scalar.remsi v1 c1024_i32_7
  let c0_i32_12 : BitVec 32 := 0#32
  let v27 : BitVec 1 := Scalar.cmpi .ne v26 c0_i32_12
  let v28 : BitVec 1 := Scalar.andi v25 v27
  let v14 : BitVec 32 := Scalar.divsi v1 c1024_i32_7
  let c1_i32 : BitVec 32 := 1#32
  let v29 : BitVec 32 := Scalar.subi v14 c1_i32
  let v30 : BitVec 32 := Scalar.select v28 v29 v14
  let v37 : BitVec 32 := Scalar.subi v30 v36
  let c0_i32_39 : BitVec 32 := 0#32
  let v61 : BitVec 1 := Scalar.cmpi .sgt v37 c0_i32_39
  let v62 : BitVec 32 := Scalar.extui v61
  let c0_i32_40 : BitVec 32 := 0#32
  let v63 : BitVec 1 := Scalar.cmpi .slt v37 c0_i32_40
  let v64 : BitVec 32 := Scalar.extui v63
  let v65 : BitVec 32 := Scalar.subi v62 v64
  let c2_i32 : BitVec 32 := 2#32
  let c0_i32_41 : BitVec 32 := 0#32
  let v66 : BitVec 1 := Scalar.cmpi .sgt c2_i32 c0_i32_41
  let v67 : BitVec 32 := Scalar.extui v66
  let c0_i32_42 : BitVec 32 := 0#32
  let v68 : BitVec 1 := Scalar.cmpi .slt c2_i32 c0_i32_42
  let v69 : BitVec 32 := Scalar.extui v68
  let v70 : BitVec 32 := Scalar.subi v67 v69
  let v71 : BitVec 1 := Scalar.cmpi .ne v65 v70
  let v72 : BitVec 32 := Scalar.remsi v37 c2_i32
  let c0_i32_43 : BitVec 32 := 0#32
  let v73 : BitVec 1 := Scalar.cmpi .ne v72 c0_i32_43
  let v74 : BitVec 1 := Scalar.andi v71 v73
  let v60 : BitVec 32 := Scalar.divsi v37 c2_i32
  let c1_i32_44 : BitVec 32 := 1#32
  let v75 : BitVec 32 := Scalar.subi v60 c1_i32_44
  let v76 : BitVec 32 := Scalar.select v74 v75 v60
  let v77 : BitVec 32 := Scalar.subi v76 c0_i32_46
  let c1_i32_47 : BitVec 32 := 1#32
  let v79 : BitVec 32 := Scalar.divsi v77 c1_i32_47
  let v80 : BitVec 32 := Scalar.muli v79 c1_i32_47
  let v81 : BitVec 32 := Scalar.addi c0_i32_46 v80
  let c1_i32_48 : BitVec 32 := 1#32
  ⟨c0_i32_46, v81, c1_i32_48⟩
def k0_mult3 (i : grid0.Coords) (v36 : BitVec 32) (k0_t1 : Fin (k0_t1_loop i v36).trips) : BitVec 32 :=
  let c2_i32_76 : BitVec 32 := 2#32
  let c0_i32_46 : BitVec 32 := 0#32
  let c1_i32_48 : BitVec 32 := 1#32
  let arg11 : BitVec 32 := Scf.iv c0_i32_46 c1_i32_48 k0_t1
  let v126 : BitVec 32 := Scalar.muli c2_i32_76 arg11
  let v127 : BitVec 32 := Scalar.addi v36 v126
  let c1_i32_77 : BitVec 32 := 1#32
  let v128 : BitVec 32 := Scalar.addi v127 c1_i32_77
  let c1024_i32_78 : BitVec 32 := 1024#32
  let v129 : BitVec 32 := Scalar.muli v128 c1024_i32_78
  v129
def k0_off4 (i : grid0.Coords) (v36 : BitVec 32) (k0_t1 : Fin (k0_t1_loop i v36).trips) (c1_i32_77 : BitVec 32) : Fin 4 → Nat :=
  let c0_83 : Index := 0#32
  let c0_84 : Index := 0#32
  let c2_i32_76 : BitVec 32 := 2#32
  let c0_i32_46 : BitVec 32 := 0#32
  let c1_i32_48 : BitVec 32 := 1#32
  let arg11 : BitVec 32 := Scf.iv c0_i32_46 c1_i32_48 k0_t1
  let v126 : BitVec 32 := Scalar.muli c2_i32_76 arg11
  let v127 : BitVec 32 := Scalar.addi v36 v126
  let v128 : BitVec 32 := Scalar.addi v127 c1_i32_77
  let c1024_i32_78 : BitVec 32 := 1024#32
  let v129 : BitVec 32 := Scalar.muli v128 c1024_i32_78
  let v130 : BitVec 32 := v129
  let v133 : Index := Scalar.indexCast v130
  let c0_85 : Index := 0#32
  ![0, 0, v133.toNat, 0]
def k0_mult4 (i : grid0.Coords) (v36 : BitVec 32) (k0_t1 : Fin (k0_t1_loop i v36).trips) : BitVec 32 :=
  let c2_i32_76 : BitVec 32 := 2#32
  let c0_i32_46 : BitVec 32 := 0#32
  let c1_i32_48 : BitVec 32 := 1#32
  let arg11 : BitVec 32 := Scf.iv c0_i32_46 c1_i32_48 k0_t1
  let v126 : BitVec 32 := Scalar.muli c2_i32_76 arg11
  let v127 : BitVec 32 := Scalar.addi v36 v126
  let c1_i32_77 : BitVec 32 := 1#32
  let v128 : BitVec 32 := Scalar.addi v127 c1_i32_77
  let c1024_i32_91 : BitVec 32 := 1024#32
  let v140 : BitVec 32 := Scalar.muli v128 c1024_i32_91
  v140
def k0_off5 (i : grid0.Coords) (v36 : BitVec 32) (k0_t1 : Fin (k0_t1_loop i v36).trips) (c1_i32_77 : BitVec 32) : Fin 4 → Nat :=
  let c0_96 : Index := 0#32
  let c1_97 : Index := 1#32
  let c2_i32_76 : BitVec 32 := 2#32
  let c0_i32_46 : BitVec 32 := 0#32
  let c1_i32_48 : BitVec 32 := 1#32
  let arg11 : BitVec 32 := Scf.iv c0_i32_46 c1_i32_48 k0_t1
  let v126 : BitVec 32 := Scalar.muli c2_i32_76 arg11
  let v127 : BitVec 32 := Scalar.addi v36 v126
  let v128 : BitVec 32 := Scalar.addi v127 c1_i32_77
  let c1024_i32_91 : BitVec 32 := 1024#32
  let v140 : BitVec 32 := Scalar.muli v128 c1024_i32_91
  let v141 : BitVec 32 := v140
  let v144 : Index := Scalar.indexCast v141
  let c0_98 : Index := 0#32
  ![0, 1, v144.toNat, 0]
def k0_mult5 (i : grid0.Coords) (v36 : BitVec 32) (k0_t1 : Fin (k0_t1_loop i v36).trips) : BitVec 32 :=
  let c2_i32_76 : BitVec 32 := 2#32
  let c0_i32_46 : BitVec 32 := 0#32
  let c1_i32_48 : BitVec 32 := 1#32
  let arg11 : BitVec 32 := Scf.iv c0_i32_46 c1_i32_48 k0_t1
  let v126 : BitVec 32 := Scalar.muli c2_i32_76 arg11
  let v127 : BitVec 32 := Scalar.addi v36 v126
  let c1024_i32_108 : BitVec 32 := 1024#32
  let v153 : BitVec 32 := Scalar.muli v127 c1024_i32_108
  v153
def k0_off6 (i : grid0.Coords) (v36 : BitVec 32) (k0_t1 : Fin (k0_t1_loop i v36).trips) : Fin 4 → Nat :=
  let c0_113 : Index := 0#32
  let c0_114 : Index := 0#32
  let c2_i32_76 : BitVec 32 := 2#32
  let c0_i32_46 : BitVec 32 := 0#32
  let c1_i32_48 : BitVec 32 := 1#32
  let arg11 : BitVec 32 := Scf.iv c0_i32_46 c1_i32_48 k0_t1
  let v126 : BitVec 32 := Scalar.muli c2_i32_76 arg11
  let v127 : BitVec 32 := Scalar.addi v36 v126
  let c1024_i32_108 : BitVec 32 := 1024#32
  let v153 : BitVec 32 := Scalar.muli v127 c1024_i32_108
  let v154 : BitVec 32 := v153
  let v201 : Index := Scalar.indexCast v154
  let c0_115 : Index := 0#32
  ![0, 0, v201.toNat, 0]
def k0_mult6 (i : grid0.Coords) (v36 : BitVec 32) (k0_t1 : Fin (k0_t1_loop i v36).trips) : BitVec 32 :=
  let c2_i32_76 : BitVec 32 := 2#32
  let c0_i32_46 : BitVec 32 := 0#32
  let c1_i32_48 : BitVec 32 := 1#32
  let arg11 : BitVec 32 := Scf.iv c0_i32_46 c1_i32_48 k0_t1
  let v126 : BitVec 32 := Scalar.muli c2_i32_76 arg11
  let v127 : BitVec 32 := Scalar.addi v36 v126
  let c1024_i32_130 : BitVec 32 := 1024#32
  let v219 : BitVec 32 := Scalar.muli v127 c1024_i32_130
  v219
def k0_off7 (i : grid0.Coords) (v36 : BitVec 32) (k0_t1 : Fin (k0_t1_loop i v36).trips) : Fin 4 → Nat :=
  let c0_135 : Index := 0#32
  let c1_136 : Index := 1#32
  let c2_i32_76 : BitVec 32 := 2#32
  let c0_i32_46 : BitVec 32 := 0#32
  let c1_i32_48 : BitVec 32 := 1#32
  let arg11 : BitVec 32 := Scf.iv c0_i32_46 c1_i32_48 k0_t1
  let v126 : BitVec 32 := Scalar.muli c2_i32_76 arg11
  let v127 : BitVec 32 := Scalar.addi v36 v126
  let c1024_i32_130 : BitVec 32 := 1024#32
  let v219 : BitVec 32 := Scalar.muli v127 c1024_i32_130
  let v220 : BitVec 32 := v219
  let v267 : Index := Scalar.indexCast v220
  let c0_137 : Index := 0#32
  ![0, 1, v267.toNat, 0]
def k0_mult7 (i : grid0.Coords) (v36 : BitVec 32) (k0_t1 : Fin (k0_t1_loop i v36).trips) : BitVec 32 :=
  let c2_i32_76 : BitVec 32 := 2#32
  let c0_i32_46 : BitVec 32 := 0#32
  let c1_i32_48 : BitVec 32 := 1#32
  let arg11 : BitVec 32 := Scf.iv c0_i32_46 c1_i32_48 k0_t1
  let v126 : BitVec 32 := Scalar.muli c2_i32_76 arg11
  let v127 : BitVec 32 := Scalar.addi v36 v126
  let c2_i32_148 : BitVec 32 := 2#32
  let v283 : BitVec 32 := Scalar.addi v127 c2_i32_148
  let c1024_i32_149 : BitVec 32 := 1024#32
  let v284 : BitVec 32 := Scalar.muli v283 c1024_i32_149
  v284
def k0_mult8 (i : grid0.Coords) (v36 : BitVec 32) (k0_t1 : Fin (k0_t1_loop i v36).trips) : BitVec 32 :=
  let c2_i32_76 : BitVec 32 := 2#32
  let c0_i32_46 : BitVec 32 := 0#32
  let c1_i32_48 : BitVec 32 := 1#32
  let arg11 : BitVec 32 := Scf.iv c0_i32_46 c1_i32_48 k0_t1
  let v126 : BitVec 32 := Scalar.muli c2_i32_76 arg11
  let v127 : BitVec 32 := Scalar.addi v36 v126
  let c2_i32_148 : BitVec 32 := 2#32
  let v283 : BitVec 32 := Scalar.addi v127 c2_i32_148
  let c1024_i32_162 : BitVec 32 := 1024#32
  let v295 : BitVec 32 := Scalar.muli v283 c1024_i32_162
  v295
def k0_mult9 (i : grid0.Coords) (v36 : BitVec 32) (k0_t1 : Fin (k0_t1_loop i v36).trips) : BitVec 32 :=
  let c2_i32_76 : BitVec 32 := 2#32
  let c0_i32_46 : BitVec 32 := 0#32
  let c1_i32_48 : BitVec 32 := 1#32
  let arg11 : BitVec 32 := Scf.iv c0_i32_46 c1_i32_48 k0_t1
  let v126 : BitVec 32 := Scalar.muli c2_i32_76 arg11
  let v127 : BitVec 32 := Scalar.addi v36 v126
  let c1_i32_175 : BitVec 32 := 1#32
  let v306 : BitVec 32 := Scalar.addi v127 c1_i32_175
  let c1024_i32_180 : BitVec 32 := 1024#32
  let v309 : BitVec 32 := Scalar.muli v306 c1024_i32_180
  v309
def k0_mult10 (i : grid0.Coords) (v36 : BitVec 32) (k0_t1 : Fin (k0_t1_loop i v36).trips) : BitVec 32 :=
  let c2_i32_76 : BitVec 32 := 2#32
  let c0_i32_46 : BitVec 32 := 0#32
  let c1_i32_48 : BitVec 32 := 1#32
  let arg11 : BitVec 32 := Scf.iv c0_i32_46 c1_i32_48 k0_t1
  let v126 : BitVec 32 := Scalar.muli c2_i32_76 arg11
  let v127 : BitVec 32 := Scalar.addi v36 v126
  let c1_i32_175 : BitVec 32 := 1#32
  let v306 : BitVec 32 := Scalar.addi v127 c1_i32_175
  let c1024_i32_202 : BitVec 32 := 1024#32
  let v375 : BitVec 32 := Scalar.muli v306 c1024_i32_202
  v375
@[reducible] def k0_t2_loop (i : grid0.Coords) (v36 : BitVec 32) : Scf.Loop 32 :=
  let c0_i32_46 : BitVec 32 := 0#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c0_i32_8 : BitVec 32 := 0#32
  let v15 : BitVec 1 := Scalar.cmpi .sgt v1 c0_i32_8
  let v16 : BitVec 32 := Scalar.extui v15
  let c0_i32_9 : BitVec 32 := 0#32
  let v17 : BitVec 1 := Scalar.cmpi .slt v1 c0_i32_9
  let v18 : BitVec 32 := Scalar.extui v17
  let v19 : BitVec 32 := Scalar.subi v16 v18
  let c1024_i32_7 : BitVec 32 := 1024#32
  let c0_i32_10 : BitVec 32 := 0#32
  let v20 : BitVec 1 := Scalar.cmpi .sgt c1024_i32_7 c0_i32_10
  let v21 : BitVec 32 := Scalar.extui v20
  let c0_i32_11 : BitVec 32 := 0#32
  let v22 : BitVec 1 := Scalar.cmpi .slt c1024_i32_7 c0_i32_11
  let v23 : BitVec 32 := Scalar.extui v22
  let v24 : BitVec 32 := Scalar.subi v21 v23
  let v25 : BitVec 1 := Scalar.cmpi .ne v19 v24
  let v26 : BitVec 32 := Scalar.remsi v1 c1024_i32_7
  let c0_i32_12 : BitVec 32 := 0#32
  let v27 : BitVec 1 := Scalar.cmpi .ne v26 c0_i32_12
  let v28 : BitVec 1 := Scalar.andi v25 v27
  let v14 : BitVec 32 := Scalar.divsi v1 c1024_i32_7
  let c1_i32 : BitVec 32 := 1#32
  let v29 : BitVec 32 := Scalar.subi v14 c1_i32
  let v30 : BitVec 32 := Scalar.select v28 v29 v14
  let v37 : BitVec 32 := Scalar.subi v30 v36
  let c0_i32_39 : BitVec 32 := 0#32
  let v61 : BitVec 1 := Scalar.cmpi .sgt v37 c0_i32_39
  let v62 : BitVec 32 := Scalar.extui v61
  let c0_i32_40 : BitVec 32 := 0#32
  let v63 : BitVec 1 := Scalar.cmpi .slt v37 c0_i32_40
  let v64 : BitVec 32 := Scalar.extui v63
  let v65 : BitVec 32 := Scalar.subi v62 v64
  let c2_i32 : BitVec 32 := 2#32
  let c0_i32_41 : BitVec 32 := 0#32
  let v66 : BitVec 1 := Scalar.cmpi .sgt c2_i32 c0_i32_41
  let v67 : BitVec 32 := Scalar.extui v66
  let c0_i32_42 : BitVec 32 := 0#32
  let v68 : BitVec 1 := Scalar.cmpi .slt c2_i32 c0_i32_42
  let v69 : BitVec 32 := Scalar.extui v68
  let v70 : BitVec 32 := Scalar.subi v67 v69
  let v71 : BitVec 1 := Scalar.cmpi .ne v65 v70
  let v72 : BitVec 32 := Scalar.remsi v37 c2_i32
  let c0_i32_43 : BitVec 32 := 0#32
  let v73 : BitVec 1 := Scalar.cmpi .ne v72 c0_i32_43
  let v74 : BitVec 1 := Scalar.andi v71 v73
  let v60 : BitVec 32 := Scalar.divsi v37 c2_i32
  let c1_i32_44 : BitVec 32 := 1#32
  let v75 : BitVec 32 := Scalar.subi v60 c1_i32_44
  let v76 : BitVec 32 := Scalar.select v74 v75 v60
  let v77 : BitVec 32 := Scalar.subi v76 c0_i32_46
  let c1_i32_47 : BitVec 32 := 1#32
  let v79 : BitVec 32 := Scalar.divsi v77 c1_i32_47
  let v80 : BitVec 32 := Scalar.muli v79 c1_i32_47
  let v81 : BitVec 32 := Scalar.addi c0_i32_46 v80
  let v78 : BitVec 32 := Scalar.addi c0_i32_46 v77
  let c1_i32_49 : BitVec 32 := 1#32
  ⟨v81, v78, c1_i32_49⟩
def k0_mult11 (i : grid0.Coords) (v36 : BitVec 32) (k0_t2 : Fin (k0_t2_loop i v36).trips) : BitVec 32 :=
  let c2_i32_76 : BitVec 32 := 2#32
  let c0_i32_46 : BitVec 32 := 0#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c0_i32_8 : BitVec 32 := 0#32
  let v15 : BitVec 1 := Scalar.cmpi .sgt v1 c0_i32_8
  let v16 : BitVec 32 := Scalar.extui v15
  let c0_i32_9 : BitVec 32 := 0#32
  let v17 : BitVec 1 := Scalar.cmpi .slt v1 c0_i32_9
  let v18 : BitVec 32 := Scalar.extui v17
  let v19 : BitVec 32 := Scalar.subi v16 v18
  let c1024_i32_7 : BitVec 32 := 1024#32
  let c0_i32_10 : BitVec 32 := 0#32
  let v20 : BitVec 1 := Scalar.cmpi .sgt c1024_i32_7 c0_i32_10
  let v21 : BitVec 32 := Scalar.extui v20
  let c0_i32_11 : BitVec 32 := 0#32
  let v22 : BitVec 1 := Scalar.cmpi .slt c1024_i32_7 c0_i32_11
  let v23 : BitVec 32 := Scalar.extui v22
  let v24 : BitVec 32 := Scalar.subi v21 v23
  let v25 : BitVec 1 := Scalar.cmpi .ne v19 v24
  let v26 : BitVec 32 := Scalar.remsi v1 c1024_i32_7
  let c0_i32_12 : BitVec 32 := 0#32
  let v27 : BitVec 1 := Scalar.cmpi .ne v26 c0_i32_12
  let v28 : BitVec 1 := Scalar.andi v25 v27
  let v14 : BitVec 32 := Scalar.divsi v1 c1024_i32_7
  let c1_i32 : BitVec 32 := 1#32
  let v29 : BitVec 32 := Scalar.subi v14 c1_i32
  let v30 : BitVec 32 := Scalar.select v28 v29 v14
  let v37 : BitVec 32 := Scalar.subi v30 v36
  let c0_i32_39 : BitVec 32 := 0#32
  let v61 : BitVec 1 := Scalar.cmpi .sgt v37 c0_i32_39
  let v62 : BitVec 32 := Scalar.extui v61
  let c0_i32_40 : BitVec 32 := 0#32
  let v63 : BitVec 1 := Scalar.cmpi .slt v37 c0_i32_40
  let v64 : BitVec 32 := Scalar.extui v63
  let v65 : BitVec 32 := Scalar.subi v62 v64
  let c2_i32 : BitVec 32 := 2#32
  let c0_i32_41 : BitVec 32 := 0#32
  let v66 : BitVec 1 := Scalar.cmpi .sgt c2_i32 c0_i32_41
  let v67 : BitVec 32 := Scalar.extui v66
  let c0_i32_42 : BitVec 32 := 0#32
  let v68 : BitVec 1 := Scalar.cmpi .slt c2_i32 c0_i32_42
  let v69 : BitVec 32 := Scalar.extui v68
  let v70 : BitVec 32 := Scalar.subi v67 v69
  let v71 : BitVec 1 := Scalar.cmpi .ne v65 v70
  let v72 : BitVec 32 := Scalar.remsi v37 c2_i32
  let c0_i32_43 : BitVec 32 := 0#32
  let v73 : BitVec 1 := Scalar.cmpi .ne v72 c0_i32_43
  let v74 : BitVec 1 := Scalar.andi v71 v73
  let v60 : BitVec 32 := Scalar.divsi v37 c2_i32
  let c1_i32_44 : BitVec 32 := 1#32
  let v75 : BitVec 32 := Scalar.subi v60 c1_i32_44
  let v76 : BitVec 32 := Scalar.select v74 v75 v60
  let v77 : BitVec 32 := Scalar.subi v76 c0_i32_46
  let c1_i32_47 : BitVec 32 := 1#32
  let v79 : BitVec 32 := Scalar.divsi v77 c1_i32_47
  let v80 : BitVec 32 := Scalar.muli v79 c1_i32_47
  let v81 : BitVec 32 := Scalar.addi c0_i32_46 v80
  let c1_i32_49 : BitVec 32 := 1#32
  let arg11 : BitVec 32 := Scf.iv v81 c1_i32_49 k0_t2
  let v126 : BitVec 32 := Scalar.muli c2_i32_76 arg11
  let v127 : BitVec 32 := Scalar.addi v36 v126
  let c1_i32_77 : BitVec 32 := 1#32
  let v128 : BitVec 32 := Scalar.addi v127 c1_i32_77
  let c1024_i32_78 : BitVec 32 := 1024#32
  let v129 : BitVec 32 := Scalar.muli v128 c1024_i32_78
  v129
def k0_off8 (i : grid0.Coords) (v36 : BitVec 32) (k0_t2 : Fin (k0_t2_loop i v36).trips) (c1_i32_77 : BitVec 32) : Fin 4 → Nat :=
  let c0_83 : Index := 0#32
  let c0_84 : Index := 0#32
  let c2_i32_76 : BitVec 32 := 2#32
  let c0_i32_46 : BitVec 32 := 0#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c0_i32_8 : BitVec 32 := 0#32
  let v15 : BitVec 1 := Scalar.cmpi .sgt v1 c0_i32_8
  let v16 : BitVec 32 := Scalar.extui v15
  let c0_i32_9 : BitVec 32 := 0#32
  let v17 : BitVec 1 := Scalar.cmpi .slt v1 c0_i32_9
  let v18 : BitVec 32 := Scalar.extui v17
  let v19 : BitVec 32 := Scalar.subi v16 v18
  let c1024_i32_7 : BitVec 32 := 1024#32
  let c0_i32_10 : BitVec 32 := 0#32
  let v20 : BitVec 1 := Scalar.cmpi .sgt c1024_i32_7 c0_i32_10
  let v21 : BitVec 32 := Scalar.extui v20
  let c0_i32_11 : BitVec 32 := 0#32
  let v22 : BitVec 1 := Scalar.cmpi .slt c1024_i32_7 c0_i32_11
  let v23 : BitVec 32 := Scalar.extui v22
  let v24 : BitVec 32 := Scalar.subi v21 v23
  let v25 : BitVec 1 := Scalar.cmpi .ne v19 v24
  let v26 : BitVec 32 := Scalar.remsi v1 c1024_i32_7
  let c0_i32_12 : BitVec 32 := 0#32
  let v27 : BitVec 1 := Scalar.cmpi .ne v26 c0_i32_12
  let v28 : BitVec 1 := Scalar.andi v25 v27
  let v14 : BitVec 32 := Scalar.divsi v1 c1024_i32_7
  let c1_i32 : BitVec 32 := 1#32
  let v29 : BitVec 32 := Scalar.subi v14 c1_i32
  let v30 : BitVec 32 := Scalar.select v28 v29 v14
  let v37 : BitVec 32 := Scalar.subi v30 v36
  let c0_i32_39 : BitVec 32 := 0#32
  let v61 : BitVec 1 := Scalar.cmpi .sgt v37 c0_i32_39
  let v62 : BitVec 32 := Scalar.extui v61
  let c0_i32_40 : BitVec 32 := 0#32
  let v63 : BitVec 1 := Scalar.cmpi .slt v37 c0_i32_40
  let v64 : BitVec 32 := Scalar.extui v63
  let v65 : BitVec 32 := Scalar.subi v62 v64
  let c2_i32 : BitVec 32 := 2#32
  let c0_i32_41 : BitVec 32 := 0#32
  let v66 : BitVec 1 := Scalar.cmpi .sgt c2_i32 c0_i32_41
  let v67 : BitVec 32 := Scalar.extui v66
  let c0_i32_42 : BitVec 32 := 0#32
  let v68 : BitVec 1 := Scalar.cmpi .slt c2_i32 c0_i32_42
  let v69 : BitVec 32 := Scalar.extui v68
  let v70 : BitVec 32 := Scalar.subi v67 v69
  let v71 : BitVec 1 := Scalar.cmpi .ne v65 v70
  let v72 : BitVec 32 := Scalar.remsi v37 c2_i32
  let c0_i32_43 : BitVec 32 := 0#32
  let v73 : BitVec 1 := Scalar.cmpi .ne v72 c0_i32_43
  let v74 : BitVec 1 := Scalar.andi v71 v73
  let v60 : BitVec 32 := Scalar.divsi v37 c2_i32
  let c1_i32_44 : BitVec 32 := 1#32
  let v75 : BitVec 32 := Scalar.subi v60 c1_i32_44
  let v76 : BitVec 32 := Scalar.select v74 v75 v60
  let v77 : BitVec 32 := Scalar.subi v76 c0_i32_46
  let c1_i32_47 : BitVec 32 := 1#32
  let v79 : BitVec 32 := Scalar.divsi v77 c1_i32_47
  let v80 : BitVec 32 := Scalar.muli v79 c1_i32_47
  let v81 : BitVec 32 := Scalar.addi c0_i32_46 v80
  let c1_i32_49 : BitVec 32 := 1#32
  let arg11 : BitVec 32 := Scf.iv v81 c1_i32_49 k0_t2
  let v126 : BitVec 32 := Scalar.muli c2_i32_76 arg11
  let v127 : BitVec 32 := Scalar.addi v36 v126
  let v128 : BitVec 32 := Scalar.addi v127 c1_i32_77
  let c1024_i32_78 : BitVec 32 := 1024#32
  let v129 : BitVec 32 := Scalar.muli v128 c1024_i32_78
  let v130 : BitVec 32 := v129
  let v133 : Index := Scalar.indexCast v130
  let c0_85 : Index := 0#32
  ![0, 0, v133.toNat, 0]
def k0_mult12 (i : grid0.Coords) (v36 : BitVec 32) (k0_t2 : Fin (k0_t2_loop i v36).trips) : BitVec 32 :=
  let c2_i32_76 : BitVec 32 := 2#32
  let c0_i32_46 : BitVec 32 := 0#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c0_i32_8 : BitVec 32 := 0#32
  let v15 : BitVec 1 := Scalar.cmpi .sgt v1 c0_i32_8
  let v16 : BitVec 32 := Scalar.extui v15
  let c0_i32_9 : BitVec 32 := 0#32
  let v17 : BitVec 1 := Scalar.cmpi .slt v1 c0_i32_9
  let v18 : BitVec 32 := Scalar.extui v17
  let v19 : BitVec 32 := Scalar.subi v16 v18
  let c1024_i32_7 : BitVec 32 := 1024#32
  let c0_i32_10 : BitVec 32 := 0#32
  let v20 : BitVec 1 := Scalar.cmpi .sgt c1024_i32_7 c0_i32_10
  let v21 : BitVec 32 := Scalar.extui v20
  let c0_i32_11 : BitVec 32 := 0#32
  let v22 : BitVec 1 := Scalar.cmpi .slt c1024_i32_7 c0_i32_11
  let v23 : BitVec 32 := Scalar.extui v22
  let v24 : BitVec 32 := Scalar.subi v21 v23
  let v25 : BitVec 1 := Scalar.cmpi .ne v19 v24
  let v26 : BitVec 32 := Scalar.remsi v1 c1024_i32_7
  let c0_i32_12 : BitVec 32 := 0#32
  let v27 : BitVec 1 := Scalar.cmpi .ne v26 c0_i32_12
  let v28 : BitVec 1 := Scalar.andi v25 v27
  let v14 : BitVec 32 := Scalar.divsi v1 c1024_i32_7
  let c1_i32 : BitVec 32 := 1#32
  let v29 : BitVec 32 := Scalar.subi v14 c1_i32
  let v30 : BitVec 32 := Scalar.select v28 v29 v14
  let v37 : BitVec 32 := Scalar.subi v30 v36
  let c0_i32_39 : BitVec 32 := 0#32
  let v61 : BitVec 1 := Scalar.cmpi .sgt v37 c0_i32_39
  let v62 : BitVec 32 := Scalar.extui v61
  let c0_i32_40 : BitVec 32 := 0#32
  let v63 : BitVec 1 := Scalar.cmpi .slt v37 c0_i32_40
  let v64 : BitVec 32 := Scalar.extui v63
  let v65 : BitVec 32 := Scalar.subi v62 v64
  let c2_i32 : BitVec 32 := 2#32
  let c0_i32_41 : BitVec 32 := 0#32
  let v66 : BitVec 1 := Scalar.cmpi .sgt c2_i32 c0_i32_41
  let v67 : BitVec 32 := Scalar.extui v66
  let c0_i32_42 : BitVec 32 := 0#32
  let v68 : BitVec 1 := Scalar.cmpi .slt c2_i32 c0_i32_42
  let v69 : BitVec 32 := Scalar.extui v68
  let v70 : BitVec 32 := Scalar.subi v67 v69
  let v71 : BitVec 1 := Scalar.cmpi .ne v65 v70
  let v72 : BitVec 32 := Scalar.remsi v37 c2_i32
  let c0_i32_43 : BitVec 32 := 0#32
  let v73 : BitVec 1 := Scalar.cmpi .ne v72 c0_i32_43
  let v74 : BitVec 1 := Scalar.andi v71 v73
  let v60 : BitVec 32 := Scalar.divsi v37 c2_i32
  let c1_i32_44 : BitVec 32 := 1#32
  let v75 : BitVec 32 := Scalar.subi v60 c1_i32_44
  let v76 : BitVec 32 := Scalar.select v74 v75 v60
  let v77 : BitVec 32 := Scalar.subi v76 c0_i32_46
  let c1_i32_47 : BitVec 32 := 1#32
  let v79 : BitVec 32 := Scalar.divsi v77 c1_i32_47
  let v80 : BitVec 32 := Scalar.muli v79 c1_i32_47
  let v81 : BitVec 32 := Scalar.addi c0_i32_46 v80
  let c1_i32_49 : BitVec 32 := 1#32
  let arg11 : BitVec 32 := Scf.iv v81 c1_i32_49 k0_t2
  let v126 : BitVec 32 := Scalar.muli c2_i32_76 arg11
  let v127 : BitVec 32 := Scalar.addi v36 v126
  let c1_i32_77 : BitVec 32 := 1#32
  let v128 : BitVec 32 := Scalar.addi v127 c1_i32_77
  let c1024_i32_91 : BitVec 32 := 1024#32
  let v140 : BitVec 32 := Scalar.muli v128 c1024_i32_91
  v140
def k0_off9 (i : grid0.Coords) (v36 : BitVec 32) (k0_t2 : Fin (k0_t2_loop i v36).trips) (c1_i32_77 : BitVec 32) : Fin 4 → Nat :=
  let c0_96 : Index := 0#32
  let c1_97 : Index := 1#32
  let c2_i32_76 : BitVec 32 := 2#32
  let c0_i32_46 : BitVec 32 := 0#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c0_i32_8 : BitVec 32 := 0#32
  let v15 : BitVec 1 := Scalar.cmpi .sgt v1 c0_i32_8
  let v16 : BitVec 32 := Scalar.extui v15
  let c0_i32_9 : BitVec 32 := 0#32
  let v17 : BitVec 1 := Scalar.cmpi .slt v1 c0_i32_9
  let v18 : BitVec 32 := Scalar.extui v17
  let v19 : BitVec 32 := Scalar.subi v16 v18
  let c1024_i32_7 : BitVec 32 := 1024#32
  let c0_i32_10 : BitVec 32 := 0#32
  let v20 : BitVec 1 := Scalar.cmpi .sgt c1024_i32_7 c0_i32_10
  let v21 : BitVec 32 := Scalar.extui v20
  let c0_i32_11 : BitVec 32 := 0#32
  let v22 : BitVec 1 := Scalar.cmpi .slt c1024_i32_7 c0_i32_11
  let v23 : BitVec 32 := Scalar.extui v22
  let v24 : BitVec 32 := Scalar.subi v21 v23
  let v25 : BitVec 1 := Scalar.cmpi .ne v19 v24
  let v26 : BitVec 32 := Scalar.remsi v1 c1024_i32_7
  let c0_i32_12 : BitVec 32 := 0#32
  let v27 : BitVec 1 := Scalar.cmpi .ne v26 c0_i32_12
  let v28 : BitVec 1 := Scalar.andi v25 v27
  let v14 : BitVec 32 := Scalar.divsi v1 c1024_i32_7
  let c1_i32 : BitVec 32 := 1#32
  let v29 : BitVec 32 := Scalar.subi v14 c1_i32
  let v30 : BitVec 32 := Scalar.select v28 v29 v14
  let v37 : BitVec 32 := Scalar.subi v30 v36
  let c0_i32_39 : BitVec 32 := 0#32
  let v61 : BitVec 1 := Scalar.cmpi .sgt v37 c0_i32_39
  let v62 : BitVec 32 := Scalar.extui v61
  let c0_i32_40 : BitVec 32 := 0#32
  let v63 : BitVec 1 := Scalar.cmpi .slt v37 c0_i32_40
  let v64 : BitVec 32 := Scalar.extui v63
  let v65 : BitVec 32 := Scalar.subi v62 v64
  let c2_i32 : BitVec 32 := 2#32
  let c0_i32_41 : BitVec 32 := 0#32
  let v66 : BitVec 1 := Scalar.cmpi .sgt c2_i32 c0_i32_41
  let v67 : BitVec 32 := Scalar.extui v66
  let c0_i32_42 : BitVec 32 := 0#32
  let v68 : BitVec 1 := Scalar.cmpi .slt c2_i32 c0_i32_42
  let v69 : BitVec 32 := Scalar.extui v68
  let v70 : BitVec 32 := Scalar.subi v67 v69
  let v71 : BitVec 1 := Scalar.cmpi .ne v65 v70
  let v72 : BitVec 32 := Scalar.remsi v37 c2_i32
  let c0_i32_43 : BitVec 32 := 0#32
  let v73 : BitVec 1 := Scalar.cmpi .ne v72 c0_i32_43
  let v74 : BitVec 1 := Scalar.andi v71 v73
  let v60 : BitVec 32 := Scalar.divsi v37 c2_i32
  let c1_i32_44 : BitVec 32 := 1#32
  let v75 : BitVec 32 := Scalar.subi v60 c1_i32_44
  let v76 : BitVec 32 := Scalar.select v74 v75 v60
  let v77 : BitVec 32 := Scalar.subi v76 c0_i32_46
  let c1_i32_47 : BitVec 32 := 1#32
  let v79 : BitVec 32 := Scalar.divsi v77 c1_i32_47
  let v80 : BitVec 32 := Scalar.muli v79 c1_i32_47
  let v81 : BitVec 32 := Scalar.addi c0_i32_46 v80
  let c1_i32_49 : BitVec 32 := 1#32
  let arg11 : BitVec 32 := Scf.iv v81 c1_i32_49 k0_t2
  let v126 : BitVec 32 := Scalar.muli c2_i32_76 arg11
  let v127 : BitVec 32 := Scalar.addi v36 v126
  let v128 : BitVec 32 := Scalar.addi v127 c1_i32_77
  let c1024_i32_91 : BitVec 32 := 1024#32
  let v140 : BitVec 32 := Scalar.muli v128 c1024_i32_91
  let v141 : BitVec 32 := v140
  let v144 : Index := Scalar.indexCast v141
  let c0_98 : Index := 0#32
  ![0, 1, v144.toNat, 0]
def k0_mult13 (i : grid0.Coords) (v36 : BitVec 32) (k0_t2 : Fin (k0_t2_loop i v36).trips) : BitVec 32 :=
  let c2_i32_76 : BitVec 32 := 2#32
  let c0_i32_46 : BitVec 32 := 0#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c0_i32_8 : BitVec 32 := 0#32
  let v15 : BitVec 1 := Scalar.cmpi .sgt v1 c0_i32_8
  let v16 : BitVec 32 := Scalar.extui v15
  let c0_i32_9 : BitVec 32 := 0#32
  let v17 : BitVec 1 := Scalar.cmpi .slt v1 c0_i32_9
  let v18 : BitVec 32 := Scalar.extui v17
  let v19 : BitVec 32 := Scalar.subi v16 v18
  let c1024_i32_7 : BitVec 32 := 1024#32
  let c0_i32_10 : BitVec 32 := 0#32
  let v20 : BitVec 1 := Scalar.cmpi .sgt c1024_i32_7 c0_i32_10
  let v21 : BitVec 32 := Scalar.extui v20
  let c0_i32_11 : BitVec 32 := 0#32
  let v22 : BitVec 1 := Scalar.cmpi .slt c1024_i32_7 c0_i32_11
  let v23 : BitVec 32 := Scalar.extui v22
  let v24 : BitVec 32 := Scalar.subi v21 v23
  let v25 : BitVec 1 := Scalar.cmpi .ne v19 v24
  let v26 : BitVec 32 := Scalar.remsi v1 c1024_i32_7
  let c0_i32_12 : BitVec 32 := 0#32
  let v27 : BitVec 1 := Scalar.cmpi .ne v26 c0_i32_12
  let v28 : BitVec 1 := Scalar.andi v25 v27
  let v14 : BitVec 32 := Scalar.divsi v1 c1024_i32_7
  let c1_i32 : BitVec 32 := 1#32
  let v29 : BitVec 32 := Scalar.subi v14 c1_i32
  let v30 : BitVec 32 := Scalar.select v28 v29 v14
  let v37 : BitVec 32 := Scalar.subi v30 v36
  let c0_i32_39 : BitVec 32 := 0#32
  let v61 : BitVec 1 := Scalar.cmpi .sgt v37 c0_i32_39
  let v62 : BitVec 32 := Scalar.extui v61
  let c0_i32_40 : BitVec 32 := 0#32
  let v63 : BitVec 1 := Scalar.cmpi .slt v37 c0_i32_40
  let v64 : BitVec 32 := Scalar.extui v63
  let v65 : BitVec 32 := Scalar.subi v62 v64
  let c2_i32 : BitVec 32 := 2#32
  let c0_i32_41 : BitVec 32 := 0#32
  let v66 : BitVec 1 := Scalar.cmpi .sgt c2_i32 c0_i32_41
  let v67 : BitVec 32 := Scalar.extui v66
  let c0_i32_42 : BitVec 32 := 0#32
  let v68 : BitVec 1 := Scalar.cmpi .slt c2_i32 c0_i32_42
  let v69 : BitVec 32 := Scalar.extui v68
  let v70 : BitVec 32 := Scalar.subi v67 v69
  let v71 : BitVec 1 := Scalar.cmpi .ne v65 v70
  let v72 : BitVec 32 := Scalar.remsi v37 c2_i32
  let c0_i32_43 : BitVec 32 := 0#32
  let v73 : BitVec 1 := Scalar.cmpi .ne v72 c0_i32_43
  let v74 : BitVec 1 := Scalar.andi v71 v73
  let v60 : BitVec 32 := Scalar.divsi v37 c2_i32
  let c1_i32_44 : BitVec 32 := 1#32
  let v75 : BitVec 32 := Scalar.subi v60 c1_i32_44
  let v76 : BitVec 32 := Scalar.select v74 v75 v60
  let v77 : BitVec 32 := Scalar.subi v76 c0_i32_46
  let c1_i32_47 : BitVec 32 := 1#32
  let v79 : BitVec 32 := Scalar.divsi v77 c1_i32_47
  let v80 : BitVec 32 := Scalar.muli v79 c1_i32_47
  let v81 : BitVec 32 := Scalar.addi c0_i32_46 v80
  let c1_i32_49 : BitVec 32 := 1#32
  let arg11 : BitVec 32 := Scf.iv v81 c1_i32_49 k0_t2
  let v126 : BitVec 32 := Scalar.muli c2_i32_76 arg11
  let v127 : BitVec 32 := Scalar.addi v36 v126
  let c1024_i32_108 : BitVec 32 := 1024#32
  let v153 : BitVec 32 := Scalar.muli v127 c1024_i32_108
  v153
def k0_off10 (i : grid0.Coords) (v36 : BitVec 32) (k0_t2 : Fin (k0_t2_loop i v36).trips) : Fin 4 → Nat :=
  let c0_113 : Index := 0#32
  let c0_114 : Index := 0#32
  let c2_i32_76 : BitVec 32 := 2#32
  let c0_i32_46 : BitVec 32 := 0#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c0_i32_8 : BitVec 32 := 0#32
  let v15 : BitVec 1 := Scalar.cmpi .sgt v1 c0_i32_8
  let v16 : BitVec 32 := Scalar.extui v15
  let c0_i32_9 : BitVec 32 := 0#32
  let v17 : BitVec 1 := Scalar.cmpi .slt v1 c0_i32_9
  let v18 : BitVec 32 := Scalar.extui v17
  let v19 : BitVec 32 := Scalar.subi v16 v18
  let c1024_i32_7 : BitVec 32 := 1024#32
  let c0_i32_10 : BitVec 32 := 0#32
  let v20 : BitVec 1 := Scalar.cmpi .sgt c1024_i32_7 c0_i32_10
  let v21 : BitVec 32 := Scalar.extui v20
  let c0_i32_11 : BitVec 32 := 0#32
  let v22 : BitVec 1 := Scalar.cmpi .slt c1024_i32_7 c0_i32_11
  let v23 : BitVec 32 := Scalar.extui v22
  let v24 : BitVec 32 := Scalar.subi v21 v23
  let v25 : BitVec 1 := Scalar.cmpi .ne v19 v24
  let v26 : BitVec 32 := Scalar.remsi v1 c1024_i32_7
  let c0_i32_12 : BitVec 32 := 0#32
  let v27 : BitVec 1 := Scalar.cmpi .ne v26 c0_i32_12
  let v28 : BitVec 1 := Scalar.andi v25 v27
  let v14 : BitVec 32 := Scalar.divsi v1 c1024_i32_7
  let c1_i32 : BitVec 32 := 1#32
  let v29 : BitVec 32 := Scalar.subi v14 c1_i32
  let v30 : BitVec 32 := Scalar.select v28 v29 v14
  let v37 : BitVec 32 := Scalar.subi v30 v36
  let c0_i32_39 : BitVec 32 := 0#32
  let v61 : BitVec 1 := Scalar.cmpi .sgt v37 c0_i32_39
  let v62 : BitVec 32 := Scalar.extui v61
  let c0_i32_40 : BitVec 32 := 0#32
  let v63 : BitVec 1 := Scalar.cmpi .slt v37 c0_i32_40
  let v64 : BitVec 32 := Scalar.extui v63
  let v65 : BitVec 32 := Scalar.subi v62 v64
  let c2_i32 : BitVec 32 := 2#32
  let c0_i32_41 : BitVec 32 := 0#32
  let v66 : BitVec 1 := Scalar.cmpi .sgt c2_i32 c0_i32_41
  let v67 : BitVec 32 := Scalar.extui v66
  let c0_i32_42 : BitVec 32 := 0#32
  let v68 : BitVec 1 := Scalar.cmpi .slt c2_i32 c0_i32_42
  let v69 : BitVec 32 := Scalar.extui v68
  let v70 : BitVec 32 := Scalar.subi v67 v69
  let v71 : BitVec 1 := Scalar.cmpi .ne v65 v70
  let v72 : BitVec 32 := Scalar.remsi v37 c2_i32
  let c0_i32_43 : BitVec 32 := 0#32
  let v73 : BitVec 1 := Scalar.cmpi .ne v72 c0_i32_43
  let v74 : BitVec 1 := Scalar.andi v71 v73
  let v60 : BitVec 32 := Scalar.divsi v37 c2_i32
  let c1_i32_44 : BitVec 32 := 1#32
  let v75 : BitVec 32 := Scalar.subi v60 c1_i32_44
  let v76 : BitVec 32 := Scalar.select v74 v75 v60
  let v77 : BitVec 32 := Scalar.subi v76 c0_i32_46
  let c1_i32_47 : BitVec 32 := 1#32
  let v79 : BitVec 32 := Scalar.divsi v77 c1_i32_47
  let v80 : BitVec 32 := Scalar.muli v79 c1_i32_47
  let v81 : BitVec 32 := Scalar.addi c0_i32_46 v80
  let c1_i32_49 : BitVec 32 := 1#32
  let arg11 : BitVec 32 := Scf.iv v81 c1_i32_49 k0_t2
  let v126 : BitVec 32 := Scalar.muli c2_i32_76 arg11
  let v127 : BitVec 32 := Scalar.addi v36 v126
  let c1024_i32_108 : BitVec 32 := 1024#32
  let v153 : BitVec 32 := Scalar.muli v127 c1024_i32_108
  let v154 : BitVec 32 := v153
  let v201 : Index := Scalar.indexCast v154
  let c0_115 : Index := 0#32
  ![0, 0, v201.toNat, 0]
def k0_mult14 (i : grid0.Coords) (v36 : BitVec 32) (k0_t2 : Fin (k0_t2_loop i v36).trips) : BitVec 32 :=
  let c2_i32_76 : BitVec 32 := 2#32
  let c0_i32_46 : BitVec 32 := 0#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c0_i32_8 : BitVec 32 := 0#32
  let v15 : BitVec 1 := Scalar.cmpi .sgt v1 c0_i32_8
  let v16 : BitVec 32 := Scalar.extui v15
  let c0_i32_9 : BitVec 32 := 0#32
  let v17 : BitVec 1 := Scalar.cmpi .slt v1 c0_i32_9
  let v18 : BitVec 32 := Scalar.extui v17
  let v19 : BitVec 32 := Scalar.subi v16 v18
  let c1024_i32_7 : BitVec 32 := 1024#32
  let c0_i32_10 : BitVec 32 := 0#32
  let v20 : BitVec 1 := Scalar.cmpi .sgt c1024_i32_7 c0_i32_10
  let v21 : BitVec 32 := Scalar.extui v20
  let c0_i32_11 : BitVec 32 := 0#32
  let v22 : BitVec 1 := Scalar.cmpi .slt c1024_i32_7 c0_i32_11
  let v23 : BitVec 32 := Scalar.extui v22
  let v24 : BitVec 32 := Scalar.subi v21 v23
  let v25 : BitVec 1 := Scalar.cmpi .ne v19 v24
  let v26 : BitVec 32 := Scalar.remsi v1 c1024_i32_7
  let c0_i32_12 : BitVec 32 := 0#32
  let v27 : BitVec 1 := Scalar.cmpi .ne v26 c0_i32_12
  let v28 : BitVec 1 := Scalar.andi v25 v27
  let v14 : BitVec 32 := Scalar.divsi v1 c1024_i32_7
  let c1_i32 : BitVec 32 := 1#32
  let v29 : BitVec 32 := Scalar.subi v14 c1_i32
  let v30 : BitVec 32 := Scalar.select v28 v29 v14
  let v37 : BitVec 32 := Scalar.subi v30 v36
  let c0_i32_39 : BitVec 32 := 0#32
  let v61 : BitVec 1 := Scalar.cmpi .sgt v37 c0_i32_39
  let v62 : BitVec 32 := Scalar.extui v61
  let c0_i32_40 : BitVec 32 := 0#32
  let v63 : BitVec 1 := Scalar.cmpi .slt v37 c0_i32_40
  let v64 : BitVec 32 := Scalar.extui v63
  let v65 : BitVec 32 := Scalar.subi v62 v64
  let c2_i32 : BitVec 32 := 2#32
  let c0_i32_41 : BitVec 32 := 0#32
  let v66 : BitVec 1 := Scalar.cmpi .sgt c2_i32 c0_i32_41
  let v67 : BitVec 32 := Scalar.extui v66
  let c0_i32_42 : BitVec 32 := 0#32
  let v68 : BitVec 1 := Scalar.cmpi .slt c2_i32 c0_i32_42
  let v69 : BitVec 32 := Scalar.extui v68
  let v70 : BitVec 32 := Scalar.subi v67 v69
  let v71 : BitVec 1 := Scalar.cmpi .ne v65 v70
  let v72 : BitVec 32 := Scalar.remsi v37 c2_i32
  let c0_i32_43 : BitVec 32 := 0#32
  let v73 : BitVec 1 := Scalar.cmpi .ne v72 c0_i32_43
  let v74 : BitVec 1 := Scalar.andi v71 v73
  let v60 : BitVec 32 := Scalar.divsi v37 c2_i32
  let c1_i32_44 : BitVec 32 := 1#32
  let v75 : BitVec 32 := Scalar.subi v60 c1_i32_44
  let v76 : BitVec 32 := Scalar.select v74 v75 v60
  let v77 : BitVec 32 := Scalar.subi v76 c0_i32_46
  let c1_i32_47 : BitVec 32 := 1#32
  let v79 : BitVec 32 := Scalar.divsi v77 c1_i32_47
  let v80 : BitVec 32 := Scalar.muli v79 c1_i32_47
  let v81 : BitVec 32 := Scalar.addi c0_i32_46 v80
  let c1_i32_49 : BitVec 32 := 1#32
  let arg11 : BitVec 32 := Scf.iv v81 c1_i32_49 k0_t2
  let v126 : BitVec 32 := Scalar.muli c2_i32_76 arg11
  let v127 : BitVec 32 := Scalar.addi v36 v126
  let c1024_i32_130 : BitVec 32 := 1024#32
  let v219 : BitVec 32 := Scalar.muli v127 c1024_i32_130
  v219
def k0_off11 (i : grid0.Coords) (v36 : BitVec 32) (k0_t2 : Fin (k0_t2_loop i v36).trips) : Fin 4 → Nat :=
  let c0_135 : Index := 0#32
  let c1_136 : Index := 1#32
  let c2_i32_76 : BitVec 32 := 2#32
  let c0_i32_46 : BitVec 32 := 0#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c0_i32_8 : BitVec 32 := 0#32
  let v15 : BitVec 1 := Scalar.cmpi .sgt v1 c0_i32_8
  let v16 : BitVec 32 := Scalar.extui v15
  let c0_i32_9 : BitVec 32 := 0#32
  let v17 : BitVec 1 := Scalar.cmpi .slt v1 c0_i32_9
  let v18 : BitVec 32 := Scalar.extui v17
  let v19 : BitVec 32 := Scalar.subi v16 v18
  let c1024_i32_7 : BitVec 32 := 1024#32
  let c0_i32_10 : BitVec 32 := 0#32
  let v20 : BitVec 1 := Scalar.cmpi .sgt c1024_i32_7 c0_i32_10
  let v21 : BitVec 32 := Scalar.extui v20
  let c0_i32_11 : BitVec 32 := 0#32
  let v22 : BitVec 1 := Scalar.cmpi .slt c1024_i32_7 c0_i32_11
  let v23 : BitVec 32 := Scalar.extui v22
  let v24 : BitVec 32 := Scalar.subi v21 v23
  let v25 : BitVec 1 := Scalar.cmpi .ne v19 v24
  let v26 : BitVec 32 := Scalar.remsi v1 c1024_i32_7
  let c0_i32_12 : BitVec 32 := 0#32
  let v27 : BitVec 1 := Scalar.cmpi .ne v26 c0_i32_12
  let v28 : BitVec 1 := Scalar.andi v25 v27
  let v14 : BitVec 32 := Scalar.divsi v1 c1024_i32_7
  let c1_i32 : BitVec 32 := 1#32
  let v29 : BitVec 32 := Scalar.subi v14 c1_i32
  let v30 : BitVec 32 := Scalar.select v28 v29 v14
  let v37 : BitVec 32 := Scalar.subi v30 v36
  let c0_i32_39 : BitVec 32 := 0#32
  let v61 : BitVec 1 := Scalar.cmpi .sgt v37 c0_i32_39
  let v62 : BitVec 32 := Scalar.extui v61
  let c0_i32_40 : BitVec 32 := 0#32
  let v63 : BitVec 1 := Scalar.cmpi .slt v37 c0_i32_40
  let v64 : BitVec 32 := Scalar.extui v63
  let v65 : BitVec 32 := Scalar.subi v62 v64
  let c2_i32 : BitVec 32 := 2#32
  let c0_i32_41 : BitVec 32 := 0#32
  let v66 : BitVec 1 := Scalar.cmpi .sgt c2_i32 c0_i32_41
  let v67 : BitVec 32 := Scalar.extui v66
  let c0_i32_42 : BitVec 32 := 0#32
  let v68 : BitVec 1 := Scalar.cmpi .slt c2_i32 c0_i32_42
  let v69 : BitVec 32 := Scalar.extui v68
  let v70 : BitVec 32 := Scalar.subi v67 v69
  let v71 : BitVec 1 := Scalar.cmpi .ne v65 v70
  let v72 : BitVec 32 := Scalar.remsi v37 c2_i32
  let c0_i32_43 : BitVec 32 := 0#32
  let v73 : BitVec 1 := Scalar.cmpi .ne v72 c0_i32_43
  let v74 : BitVec 1 := Scalar.andi v71 v73
  let v60 : BitVec 32 := Scalar.divsi v37 c2_i32
  let c1_i32_44 : BitVec 32 := 1#32
  let v75 : BitVec 32 := Scalar.subi v60 c1_i32_44
  let v76 : BitVec 32 := Scalar.select v74 v75 v60
  let v77 : BitVec 32 := Scalar.subi v76 c0_i32_46
  let c1_i32_47 : BitVec 32 := 1#32
  let v79 : BitVec 32 := Scalar.divsi v77 c1_i32_47
  let v80 : BitVec 32 := Scalar.muli v79 c1_i32_47
  let v81 : BitVec 32 := Scalar.addi c0_i32_46 v80
  let c1_i32_49 : BitVec 32 := 1#32
  let arg11 : BitVec 32 := Scf.iv v81 c1_i32_49 k0_t2
  let v126 : BitVec 32 := Scalar.muli c2_i32_76 arg11
  let v127 : BitVec 32 := Scalar.addi v36 v126
  let c1024_i32_130 : BitVec 32 := 1024#32
  let v219 : BitVec 32 := Scalar.muli v127 c1024_i32_130
  let v220 : BitVec 32 := v219
  let v267 : Index := Scalar.indexCast v220
  let c0_137 : Index := 0#32
  ![0, 1, v267.toNat, 0]
def k0_mult15 (i : grid0.Coords) (v36 : BitVec 32) (k0_t2 : Fin (k0_t2_loop i v36).trips) : BitVec 32 :=
  let c2_i32_76 : BitVec 32 := 2#32
  let c0_i32_46 : BitVec 32 := 0#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c0_i32_8 : BitVec 32 := 0#32
  let v15 : BitVec 1 := Scalar.cmpi .sgt v1 c0_i32_8
  let v16 : BitVec 32 := Scalar.extui v15
  let c0_i32_9 : BitVec 32 := 0#32
  let v17 : BitVec 1 := Scalar.cmpi .slt v1 c0_i32_9
  let v18 : BitVec 32 := Scalar.extui v17
  let v19 : BitVec 32 := Scalar.subi v16 v18
  let c1024_i32_7 : BitVec 32 := 1024#32
  let c0_i32_10 : BitVec 32 := 0#32
  let v20 : BitVec 1 := Scalar.cmpi .sgt c1024_i32_7 c0_i32_10
  let v21 : BitVec 32 := Scalar.extui v20
  let c0_i32_11 : BitVec 32 := 0#32
  let v22 : BitVec 1 := Scalar.cmpi .slt c1024_i32_7 c0_i32_11
  let v23 : BitVec 32 := Scalar.extui v22
  let v24 : BitVec 32 := Scalar.subi v21 v23
  let v25 : BitVec 1 := Scalar.cmpi .ne v19 v24
  let v26 : BitVec 32 := Scalar.remsi v1 c1024_i32_7
  let c0_i32_12 : BitVec 32 := 0#32
  let v27 : BitVec 1 := Scalar.cmpi .ne v26 c0_i32_12
  let v28 : BitVec 1 := Scalar.andi v25 v27
  let v14 : BitVec 32 := Scalar.divsi v1 c1024_i32_7
  let c1_i32 : BitVec 32 := 1#32
  let v29 : BitVec 32 := Scalar.subi v14 c1_i32
  let v30 : BitVec 32 := Scalar.select v28 v29 v14
  let v37 : BitVec 32 := Scalar.subi v30 v36
  let c0_i32_39 : BitVec 32 := 0#32
  let v61 : BitVec 1 := Scalar.cmpi .sgt v37 c0_i32_39
  let v62 : BitVec 32 := Scalar.extui v61
  let c0_i32_40 : BitVec 32 := 0#32
  let v63 : BitVec 1 := Scalar.cmpi .slt v37 c0_i32_40
  let v64 : BitVec 32 := Scalar.extui v63
  let v65 : BitVec 32 := Scalar.subi v62 v64
  let c2_i32 : BitVec 32 := 2#32
  let c0_i32_41 : BitVec 32 := 0#32
  let v66 : BitVec 1 := Scalar.cmpi .sgt c2_i32 c0_i32_41
  let v67 : BitVec 32 := Scalar.extui v66
  let c0_i32_42 : BitVec 32 := 0#32
  let v68 : BitVec 1 := Scalar.cmpi .slt c2_i32 c0_i32_42
  let v69 : BitVec 32 := Scalar.extui v68
  let v70 : BitVec 32 := Scalar.subi v67 v69
  let v71 : BitVec 1 := Scalar.cmpi .ne v65 v70
  let v72 : BitVec 32 := Scalar.remsi v37 c2_i32
  let c0_i32_43 : BitVec 32 := 0#32
  let v73 : BitVec 1 := Scalar.cmpi .ne v72 c0_i32_43
  let v74 : BitVec 1 := Scalar.andi v71 v73
  let v60 : BitVec 32 := Scalar.divsi v37 c2_i32
  let c1_i32_44 : BitVec 32 := 1#32
  let v75 : BitVec 32 := Scalar.subi v60 c1_i32_44
  let v76 : BitVec 32 := Scalar.select v74 v75 v60
  let v77 : BitVec 32 := Scalar.subi v76 c0_i32_46
  let c1_i32_47 : BitVec 32 := 1#32
  let v79 : BitVec 32 := Scalar.divsi v77 c1_i32_47
  let v80 : BitVec 32 := Scalar.muli v79 c1_i32_47
  let v81 : BitVec 32 := Scalar.addi c0_i32_46 v80
  let c1_i32_49 : BitVec 32 := 1#32
  let arg11 : BitVec 32 := Scf.iv v81 c1_i32_49 k0_t2
  let v126 : BitVec 32 := Scalar.muli c2_i32_76 arg11
  let v127 : BitVec 32 := Scalar.addi v36 v126
  let c2_i32_148 : BitVec 32 := 2#32
  let v283 : BitVec 32 := Scalar.addi v127 c2_i32_148
  let c1024_i32_149 : BitVec 32 := 1024#32
  let v284 : BitVec 32 := Scalar.muli v283 c1024_i32_149
  v284
def k0_mult16 (i : grid0.Coords) (v36 : BitVec 32) (k0_t2 : Fin (k0_t2_loop i v36).trips) : BitVec 32 :=
  let c2_i32_76 : BitVec 32 := 2#32
  let c0_i32_46 : BitVec 32 := 0#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c0_i32_8 : BitVec 32 := 0#32
  let v15 : BitVec 1 := Scalar.cmpi .sgt v1 c0_i32_8
  let v16 : BitVec 32 := Scalar.extui v15
  let c0_i32_9 : BitVec 32 := 0#32
  let v17 : BitVec 1 := Scalar.cmpi .slt v1 c0_i32_9
  let v18 : BitVec 32 := Scalar.extui v17
  let v19 : BitVec 32 := Scalar.subi v16 v18
  let c1024_i32_7 : BitVec 32 := 1024#32
  let c0_i32_10 : BitVec 32 := 0#32
  let v20 : BitVec 1 := Scalar.cmpi .sgt c1024_i32_7 c0_i32_10
  let v21 : BitVec 32 := Scalar.extui v20
  let c0_i32_11 : BitVec 32 := 0#32
  let v22 : BitVec 1 := Scalar.cmpi .slt c1024_i32_7 c0_i32_11
  let v23 : BitVec 32 := Scalar.extui v22
  let v24 : BitVec 32 := Scalar.subi v21 v23
  let v25 : BitVec 1 := Scalar.cmpi .ne v19 v24
  let v26 : BitVec 32 := Scalar.remsi v1 c1024_i32_7
  let c0_i32_12 : BitVec 32 := 0#32
  let v27 : BitVec 1 := Scalar.cmpi .ne v26 c0_i32_12
  let v28 : BitVec 1 := Scalar.andi v25 v27
  let v14 : BitVec 32 := Scalar.divsi v1 c1024_i32_7
  let c1_i32 : BitVec 32 := 1#32
  let v29 : BitVec 32 := Scalar.subi v14 c1_i32
  let v30 : BitVec 32 := Scalar.select v28 v29 v14
  let v37 : BitVec 32 := Scalar.subi v30 v36
  let c0_i32_39 : BitVec 32 := 0#32
  let v61 : BitVec 1 := Scalar.cmpi .sgt v37 c0_i32_39
  let v62 : BitVec 32 := Scalar.extui v61
  let c0_i32_40 : BitVec 32 := 0#32
  let v63 : BitVec 1 := Scalar.cmpi .slt v37 c0_i32_40
  let v64 : BitVec 32 := Scalar.extui v63
  let v65 : BitVec 32 := Scalar.subi v62 v64
  let c2_i32 : BitVec 32 := 2#32
  let c0_i32_41 : BitVec 32 := 0#32
  let v66 : BitVec 1 := Scalar.cmpi .sgt c2_i32 c0_i32_41
  let v67 : BitVec 32 := Scalar.extui v66
  let c0_i32_42 : BitVec 32 := 0#32
  let v68 : BitVec 1 := Scalar.cmpi .slt c2_i32 c0_i32_42
  let v69 : BitVec 32 := Scalar.extui v68
  let v70 : BitVec 32 := Scalar.subi v67 v69
  let v71 : BitVec 1 := Scalar.cmpi .ne v65 v70
  let v72 : BitVec 32 := Scalar.remsi v37 c2_i32
  let c0_i32_43 : BitVec 32 := 0#32
  let v73 : BitVec 1 := Scalar.cmpi .ne v72 c0_i32_43
  let v74 : BitVec 1 := Scalar.andi v71 v73
  let v60 : BitVec 32 := Scalar.divsi v37 c2_i32
  let c1_i32_44 : BitVec 32 := 1#32
  let v75 : BitVec 32 := Scalar.subi v60 c1_i32_44
  let v76 : BitVec 32 := Scalar.select v74 v75 v60
  let v77 : BitVec 32 := Scalar.subi v76 c0_i32_46
  let c1_i32_47 : BitVec 32 := 1#32
  let v79 : BitVec 32 := Scalar.divsi v77 c1_i32_47
  let v80 : BitVec 32 := Scalar.muli v79 c1_i32_47
  let v81 : BitVec 32 := Scalar.addi c0_i32_46 v80
  let c1_i32_49 : BitVec 32 := 1#32
  let arg11 : BitVec 32 := Scf.iv v81 c1_i32_49 k0_t2
  let v126 : BitVec 32 := Scalar.muli c2_i32_76 arg11
  let v127 : BitVec 32 := Scalar.addi v36 v126
  let c2_i32_148 : BitVec 32 := 2#32
  let v283 : BitVec 32 := Scalar.addi v127 c2_i32_148
  let c1024_i32_162 : BitVec 32 := 1024#32
  let v295 : BitVec 32 := Scalar.muli v283 c1024_i32_162
  v295
def k0_mult17 (i : grid0.Coords) (v36 : BitVec 32) (k0_t2 : Fin (k0_t2_loop i v36).trips) : BitVec 32 :=
  let c2_i32_76 : BitVec 32 := 2#32
  let c0_i32_46 : BitVec 32 := 0#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c0_i32_8 : BitVec 32 := 0#32
  let v15 : BitVec 1 := Scalar.cmpi .sgt v1 c0_i32_8
  let v16 : BitVec 32 := Scalar.extui v15
  let c0_i32_9 : BitVec 32 := 0#32
  let v17 : BitVec 1 := Scalar.cmpi .slt v1 c0_i32_9
  let v18 : BitVec 32 := Scalar.extui v17
  let v19 : BitVec 32 := Scalar.subi v16 v18
  let c1024_i32_7 : BitVec 32 := 1024#32
  let c0_i32_10 : BitVec 32 := 0#32
  let v20 : BitVec 1 := Scalar.cmpi .sgt c1024_i32_7 c0_i32_10
  let v21 : BitVec 32 := Scalar.extui v20
  let c0_i32_11 : BitVec 32 := 0#32
  let v22 : BitVec 1 := Scalar.cmpi .slt c1024_i32_7 c0_i32_11
  let v23 : BitVec 32 := Scalar.extui v22
  let v24 : BitVec 32 := Scalar.subi v21 v23
  let v25 : BitVec 1 := Scalar.cmpi .ne v19 v24
  let v26 : BitVec 32 := Scalar.remsi v1 c1024_i32_7
  let c0_i32_12 : BitVec 32 := 0#32
  let v27 : BitVec 1 := Scalar.cmpi .ne v26 c0_i32_12
  let v28 : BitVec 1 := Scalar.andi v25 v27
  let v14 : BitVec 32 := Scalar.divsi v1 c1024_i32_7
  let c1_i32 : BitVec 32 := 1#32
  let v29 : BitVec 32 := Scalar.subi v14 c1_i32
  let v30 : BitVec 32 := Scalar.select v28 v29 v14
  let v37 : BitVec 32 := Scalar.subi v30 v36
  let c0_i32_39 : BitVec 32 := 0#32
  let v61 : BitVec 1 := Scalar.cmpi .sgt v37 c0_i32_39
  let v62 : BitVec 32 := Scalar.extui v61
  let c0_i32_40 : BitVec 32 := 0#32
  let v63 : BitVec 1 := Scalar.cmpi .slt v37 c0_i32_40
  let v64 : BitVec 32 := Scalar.extui v63
  let v65 : BitVec 32 := Scalar.subi v62 v64
  let c2_i32 : BitVec 32 := 2#32
  let c0_i32_41 : BitVec 32 := 0#32
  let v66 : BitVec 1 := Scalar.cmpi .sgt c2_i32 c0_i32_41
  let v67 : BitVec 32 := Scalar.extui v66
  let c0_i32_42 : BitVec 32 := 0#32
  let v68 : BitVec 1 := Scalar.cmpi .slt c2_i32 c0_i32_42
  let v69 : BitVec 32 := Scalar.extui v68
  let v70 : BitVec 32 := Scalar.subi v67 v69
  let v71 : BitVec 1 := Scalar.cmpi .ne v65 v70
  let v72 : BitVec 32 := Scalar.remsi v37 c2_i32
  let c0_i32_43 : BitVec 32 := 0#32
  let v73 : BitVec 1 := Scalar.cmpi .ne v72 c0_i32_43
  let v74 : BitVec 1 := Scalar.andi v71 v73
  let v60 : BitVec 32 := Scalar.divsi v37 c2_i32
  let c1_i32_44 : BitVec 32 := 1#32
  let v75 : BitVec 32 := Scalar.subi v60 c1_i32_44
  let v76 : BitVec 32 := Scalar.select v74 v75 v60
  let v77 : BitVec 32 := Scalar.subi v76 c0_i32_46
  let c1_i32_47 : BitVec 32 := 1#32
  let v79 : BitVec 32 := Scalar.divsi v77 c1_i32_47
  let v80 : BitVec 32 := Scalar.muli v79 c1_i32_47
  let v81 : BitVec 32 := Scalar.addi c0_i32_46 v80
  let c1_i32_49 : BitVec 32 := 1#32
  let arg11 : BitVec 32 := Scf.iv v81 c1_i32_49 k0_t2
  let v126 : BitVec 32 := Scalar.muli c2_i32_76 arg11
  let v127 : BitVec 32 := Scalar.addi v36 v126
  let c1_i32_175 : BitVec 32 := 1#32
  let v306 : BitVec 32 := Scalar.addi v127 c1_i32_175
  let c1024_i32_180 : BitVec 32 := 1024#32
  let v309 : BitVec 32 := Scalar.muli v306 c1024_i32_180
  v309
def k0_mult18 (i : grid0.Coords) (v36 : BitVec 32) (k0_t2 : Fin (k0_t2_loop i v36).trips) : BitVec 32 :=
  let c2_i32_76 : BitVec 32 := 2#32
  let c0_i32_46 : BitVec 32 := 0#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c0_i32_8 : BitVec 32 := 0#32
  let v15 : BitVec 1 := Scalar.cmpi .sgt v1 c0_i32_8
  let v16 : BitVec 32 := Scalar.extui v15
  let c0_i32_9 : BitVec 32 := 0#32
  let v17 : BitVec 1 := Scalar.cmpi .slt v1 c0_i32_9
  let v18 : BitVec 32 := Scalar.extui v17
  let v19 : BitVec 32 := Scalar.subi v16 v18
  let c1024_i32_7 : BitVec 32 := 1024#32
  let c0_i32_10 : BitVec 32 := 0#32
  let v20 : BitVec 1 := Scalar.cmpi .sgt c1024_i32_7 c0_i32_10
  let v21 : BitVec 32 := Scalar.extui v20
  let c0_i32_11 : BitVec 32 := 0#32
  let v22 : BitVec 1 := Scalar.cmpi .slt c1024_i32_7 c0_i32_11
  let v23 : BitVec 32 := Scalar.extui v22
  let v24 : BitVec 32 := Scalar.subi v21 v23
  let v25 : BitVec 1 := Scalar.cmpi .ne v19 v24
  let v26 : BitVec 32 := Scalar.remsi v1 c1024_i32_7
  let c0_i32_12 : BitVec 32 := 0#32
  let v27 : BitVec 1 := Scalar.cmpi .ne v26 c0_i32_12
  let v28 : BitVec 1 := Scalar.andi v25 v27
  let v14 : BitVec 32 := Scalar.divsi v1 c1024_i32_7
  let c1_i32 : BitVec 32 := 1#32
  let v29 : BitVec 32 := Scalar.subi v14 c1_i32
  let v30 : BitVec 32 := Scalar.select v28 v29 v14
  let v37 : BitVec 32 := Scalar.subi v30 v36
  let c0_i32_39 : BitVec 32 := 0#32
  let v61 : BitVec 1 := Scalar.cmpi .sgt v37 c0_i32_39
  let v62 : BitVec 32 := Scalar.extui v61
  let c0_i32_40 : BitVec 32 := 0#32
  let v63 : BitVec 1 := Scalar.cmpi .slt v37 c0_i32_40
  let v64 : BitVec 32 := Scalar.extui v63
  let v65 : BitVec 32 := Scalar.subi v62 v64
  let c2_i32 : BitVec 32 := 2#32
  let c0_i32_41 : BitVec 32 := 0#32
  let v66 : BitVec 1 := Scalar.cmpi .sgt c2_i32 c0_i32_41
  let v67 : BitVec 32 := Scalar.extui v66
  let c0_i32_42 : BitVec 32 := 0#32
  let v68 : BitVec 1 := Scalar.cmpi .slt c2_i32 c0_i32_42
  let v69 : BitVec 32 := Scalar.extui v68
  let v70 : BitVec 32 := Scalar.subi v67 v69
  let v71 : BitVec 1 := Scalar.cmpi .ne v65 v70
  let v72 : BitVec 32 := Scalar.remsi v37 c2_i32
  let c0_i32_43 : BitVec 32 := 0#32
  let v73 : BitVec 1 := Scalar.cmpi .ne v72 c0_i32_43
  let v74 : BitVec 1 := Scalar.andi v71 v73
  let v60 : BitVec 32 := Scalar.divsi v37 c2_i32
  let c1_i32_44 : BitVec 32 := 1#32
  let v75 : BitVec 32 := Scalar.subi v60 c1_i32_44
  let v76 : BitVec 32 := Scalar.select v74 v75 v60
  let v77 : BitVec 32 := Scalar.subi v76 c0_i32_46
  let c1_i32_47 : BitVec 32 := 1#32
  let v79 : BitVec 32 := Scalar.divsi v77 c1_i32_47
  let v80 : BitVec 32 := Scalar.muli v79 c1_i32_47
  let v81 : BitVec 32 := Scalar.addi c0_i32_46 v80
  let c1_i32_49 : BitVec 32 := 1#32
  let arg11 : BitVec 32 := Scf.iv v81 c1_i32_49 k0_t2
  let v126 : BitVec 32 := Scalar.muli c2_i32_76 arg11
  let v127 : BitVec 32 := Scalar.addi v36 v126
  let c1_i32_175 : BitVec 32 := 1#32
  let v306 : BitVec 32 := Scalar.addi v127 c1_i32_175
  let c1024_i32_202 : BitVec 32 := 1024#32
  let v375 : BitVec 32 := Scalar.muli v306 c1024_i32_202
  v375
def k0_mult19 (i : grid0.Coords) : BitVec 32 :=
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c0_i32_8 : BitVec 32 := 0#32
  let v15 : BitVec 1 := Scalar.cmpi .sgt v1 c0_i32_8
  let v16 : BitVec 32 := Scalar.extui v15
  let c0_i32_9 : BitVec 32 := 0#32
  let v17 : BitVec 1 := Scalar.cmpi .slt v1 c0_i32_9
  let v18 : BitVec 32 := Scalar.extui v17
  let v19 : BitVec 32 := Scalar.subi v16 v18
  let c1024_i32_7 : BitVec 32 := 1024#32
  let c0_i32_10 : BitVec 32 := 0#32
  let v20 : BitVec 1 := Scalar.cmpi .sgt c1024_i32_7 c0_i32_10
  let v21 : BitVec 32 := Scalar.extui v20
  let c0_i32_11 : BitVec 32 := 0#32
  let v22 : BitVec 1 := Scalar.cmpi .slt c1024_i32_7 c0_i32_11
  let v23 : BitVec 32 := Scalar.extui v22
  let v24 : BitVec 32 := Scalar.subi v21 v23
  let v25 : BitVec 1 := Scalar.cmpi .ne v19 v24
  let v26 : BitVec 32 := Scalar.remsi v1 c1024_i32_7
  let c0_i32_12 : BitVec 32 := 0#32
  let v27 : BitVec 1 := Scalar.cmpi .ne v26 c0_i32_12
  let v28 : BitVec 1 := Scalar.andi v25 v27
  let v14 : BitVec 32 := Scalar.divsi v1 c1024_i32_7
  let c1_i32 : BitVec 32 := 1#32
  let v29 : BitVec 32 := Scalar.subi v14 c1_i32
  let v30 : BitVec 32 := Scalar.select v28 v29 v14
  let c1024_i32_81 : BitVec 32 := 1024#32
  let v138 : BitVec 32 := Scalar.muli v30 c1024_i32_81
  v138
def k0_off12 (i : grid0.Coords) : Fin 4 → Nat :=
  let c0_87 : Index := 0#32
  let c0_88 : Index := 0#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c0_i32_8 : BitVec 32 := 0#32
  let v15 : BitVec 1 := Scalar.cmpi .sgt v1 c0_i32_8
  let v16 : BitVec 32 := Scalar.extui v15
  let c0_i32_9 : BitVec 32 := 0#32
  let v17 : BitVec 1 := Scalar.cmpi .slt v1 c0_i32_9
  let v18 : BitVec 32 := Scalar.extui v17
  let v19 : BitVec 32 := Scalar.subi v16 v18
  let c1024_i32_7 : BitVec 32 := 1024#32
  let c0_i32_10 : BitVec 32 := 0#32
  let v20 : BitVec 1 := Scalar.cmpi .sgt c1024_i32_7 c0_i32_10
  let v21 : BitVec 32 := Scalar.extui v20
  let c0_i32_11 : BitVec 32 := 0#32
  let v22 : BitVec 1 := Scalar.cmpi .slt c1024_i32_7 c0_i32_11
  let v23 : BitVec 32 := Scalar.extui v22
  let v24 : BitVec 32 := Scalar.subi v21 v23
  let v25 : BitVec 1 := Scalar.cmpi .ne v19 v24
  let v26 : BitVec 32 := Scalar.remsi v1 c1024_i32_7
  let c0_i32_12 : BitVec 32 := 0#32
  let v27 : BitVec 1 := Scalar.cmpi .ne v26 c0_i32_12
  let v28 : BitVec 1 := Scalar.andi v25 v27
  let v14 : BitVec 32 := Scalar.divsi v1 c1024_i32_7
  let c1_i32 : BitVec 32 := 1#32
  let v29 : BitVec 32 := Scalar.subi v14 c1_i32
  let v30 : BitVec 32 := Scalar.select v28 v29 v14
  let c1024_i32_81 : BitVec 32 := 1024#32
  let v138 : BitVec 32 := Scalar.muli v30 c1024_i32_81
  let v139 : BitVec 32 := v138
  let v188 : Index := Scalar.indexCast v139
  let c0_89 : Index := 0#32
  ![0, 0, v188.toNat, 0]
def k0_mult20 (i : grid0.Coords) : BitVec 32 :=
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c0_i32_8 : BitVec 32 := 0#32
  let v15 : BitVec 1 := Scalar.cmpi .sgt v1 c0_i32_8
  let v16 : BitVec 32 := Scalar.extui v15
  let c0_i32_9 : BitVec 32 := 0#32
  let v17 : BitVec 1 := Scalar.cmpi .slt v1 c0_i32_9
  let v18 : BitVec 32 := Scalar.extui v17
  let v19 : BitVec 32 := Scalar.subi v16 v18
  let c1024_i32_7 : BitVec 32 := 1024#32
  let c0_i32_10 : BitVec 32 := 0#32
  let v20 : BitVec 1 := Scalar.cmpi .sgt c1024_i32_7 c0_i32_10
  let v21 : BitVec 32 := Scalar.extui v20
  let c0_i32_11 : BitVec 32 := 0#32
  let v22 : BitVec 1 := Scalar.cmpi .slt c1024_i32_7 c0_i32_11
  let v23 : BitVec 32 := Scalar.extui v22
  let v24 : BitVec 32 := Scalar.subi v21 v23
  let v25 : BitVec 1 := Scalar.cmpi .ne v19 v24
  let v26 : BitVec 32 := Scalar.remsi v1 c1024_i32_7
  let c0_i32_12 : BitVec 32 := 0#32
  let v27 : BitVec 1 := Scalar.cmpi .ne v26 c0_i32_12
  let v28 : BitVec 1 := Scalar.andi v25 v27
  let v14 : BitVec 32 := Scalar.divsi v1 c1024_i32_7
  let c1_i32 : BitVec 32 := 1#32
  let v29 : BitVec 32 := Scalar.subi v14 c1_i32
  let v30 : BitVec 32 := Scalar.select v28 v29 v14
  let c1024_i32_104 : BitVec 32 := 1024#32
  let v206 : BitVec 32 := Scalar.muli v30 c1024_i32_104
  v206
def k0_off13 (i : grid0.Coords) : Fin 4 → Nat :=
  let c0_110 : Index := 0#32
  let c1_111 : Index := 1#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c0_i32_8 : BitVec 32 := 0#32
  let v15 : BitVec 1 := Scalar.cmpi .sgt v1 c0_i32_8
  let v16 : BitVec 32 := Scalar.extui v15
  let c0_i32_9 : BitVec 32 := 0#32
  let v17 : BitVec 1 := Scalar.cmpi .slt v1 c0_i32_9
  let v18 : BitVec 32 := Scalar.extui v17
  let v19 : BitVec 32 := Scalar.subi v16 v18
  let c1024_i32_7 : BitVec 32 := 1024#32
  let c0_i32_10 : BitVec 32 := 0#32
  let v20 : BitVec 1 := Scalar.cmpi .sgt c1024_i32_7 c0_i32_10
  let v21 : BitVec 32 := Scalar.extui v20
  let c0_i32_11 : BitVec 32 := 0#32
  let v22 : BitVec 1 := Scalar.cmpi .slt c1024_i32_7 c0_i32_11
  let v23 : BitVec 32 := Scalar.extui v22
  let v24 : BitVec 32 := Scalar.subi v21 v23
  let v25 : BitVec 1 := Scalar.cmpi .ne v19 v24
  let v26 : BitVec 32 := Scalar.remsi v1 c1024_i32_7
  let c0_i32_12 : BitVec 32 := 0#32
  let v27 : BitVec 1 := Scalar.cmpi .ne v26 c0_i32_12
  let v28 : BitVec 1 := Scalar.andi v25 v27
  let v14 : BitVec 32 := Scalar.divsi v1 c1024_i32_7
  let c1_i32 : BitVec 32 := 1#32
  let v29 : BitVec 32 := Scalar.subi v14 c1_i32
  let v30 : BitVec 32 := Scalar.select v28 v29 v14
  let c1024_i32_104 : BitVec 32 := 1024#32
  let v206 : BitVec 32 := Scalar.muli v30 c1024_i32_104
  let v207 : BitVec 32 := v206
  let v256 : Index := Scalar.indexCast v207
  let c0_112 : Index := 0#32
  ![0, 1, v256.toNat, 0]
def k0_mult21 (i : grid0.Coords) : BitVec 32 :=
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c0_i32_8 : BitVec 32 := 0#32
  let v15 : BitVec 1 := Scalar.cmpi .sgt v1 c0_i32_8
  let v16 : BitVec 32 := Scalar.extui v15
  let c0_i32_9 : BitVec 32 := 0#32
  let v17 : BitVec 1 := Scalar.cmpi .slt v1 c0_i32_9
  let v18 : BitVec 32 := Scalar.extui v17
  let v19 : BitVec 32 := Scalar.subi v16 v18
  let c1024_i32_7 : BitVec 32 := 1024#32
  let c0_i32_10 : BitVec 32 := 0#32
  let v20 : BitVec 1 := Scalar.cmpi .sgt c1024_i32_7 c0_i32_10
  let v21 : BitVec 32 := Scalar.extui v20
  let c0_i32_11 : BitVec 32 := 0#32
  let v22 : BitVec 1 := Scalar.cmpi .slt c1024_i32_7 c0_i32_11
  let v23 : BitVec 32 := Scalar.extui v22
  let v24 : BitVec 32 := Scalar.subi v21 v23
  let v25 : BitVec 1 := Scalar.cmpi .ne v19 v24
  let v26 : BitVec 32 := Scalar.remsi v1 c1024_i32_7
  let c0_i32_12 : BitVec 32 := 0#32
  let v27 : BitVec 1 := Scalar.cmpi .ne v26 c0_i32_12
  let v28 : BitVec 1 := Scalar.andi v25 v27
  let v14 : BitVec 32 := Scalar.divsi v1 c1024_i32_7
  let c1_i32 : BitVec 32 := 1#32
  let v29 : BitVec 32 := Scalar.subi v14 c1_i32
  let v30 : BitVec 32 := Scalar.select v28 v29 v14
  let c1024_i32_76 : BitVec 32 := 1024#32
  let v126 : BitVec 32 := Scalar.muli v30 c1024_i32_76
  v126
def k0_off14 (i : grid0.Coords) : Fin 4 → Nat :=
  let c0_81 : Index := 0#32
  let c0_82 : Index := 0#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c0_i32_8 : BitVec 32 := 0#32
  let v15 : BitVec 1 := Scalar.cmpi .sgt v1 c0_i32_8
  let v16 : BitVec 32 := Scalar.extui v15
  let c0_i32_9 : BitVec 32 := 0#32
  let v17 : BitVec 1 := Scalar.cmpi .slt v1 c0_i32_9
  let v18 : BitVec 32 := Scalar.extui v17
  let v19 : BitVec 32 := Scalar.subi v16 v18
  let c1024_i32_7 : BitVec 32 := 1024#32
  let c0_i32_10 : BitVec 32 := 0#32
  let v20 : BitVec 1 := Scalar.cmpi .sgt c1024_i32_7 c0_i32_10
  let v21 : BitVec 32 := Scalar.extui v20
  let c0_i32_11 : BitVec 32 := 0#32
  let v22 : BitVec 1 := Scalar.cmpi .slt c1024_i32_7 c0_i32_11
  let v23 : BitVec 32 := Scalar.extui v22
  let v24 : BitVec 32 := Scalar.subi v21 v23
  let v25 : BitVec 1 := Scalar.cmpi .ne v19 v24
  let v26 : BitVec 32 := Scalar.remsi v1 c1024_i32_7
  let c0_i32_12 : BitVec 32 := 0#32
  let v27 : BitVec 1 := Scalar.cmpi .ne v26 c0_i32_12
  let v28 : BitVec 1 := Scalar.andi v25 v27
  let v14 : BitVec 32 := Scalar.divsi v1 c1024_i32_7
  let c1_i32 : BitVec 32 := 1#32
  let v29 : BitVec 32 := Scalar.subi v14 c1_i32
  let v30 : BitVec 32 := Scalar.select v28 v29 v14
  let c1024_i32_76 : BitVec 32 := 1024#32
  let v126 : BitVec 32 := Scalar.muli v30 c1024_i32_76
  let v127 : BitVec 32 := v126
  let v130 : Index := Scalar.indexCast v127
  let c0_83 : Index := 0#32
  ![0, 0, v130.toNat, 0]
def k0_mult22 (i : grid0.Coords) : BitVec 32 :=
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c0_i32_8 : BitVec 32 := 0#32
  let v15 : BitVec 1 := Scalar.cmpi .sgt v1 c0_i32_8
  let v16 : BitVec 32 := Scalar.extui v15
  let c0_i32_9 : BitVec 32 := 0#32
  let v17 : BitVec 1 := Scalar.cmpi .slt v1 c0_i32_9
  let v18 : BitVec 32 := Scalar.extui v17
  let v19 : BitVec 32 := Scalar.subi v16 v18
  let c1024_i32_7 : BitVec 32 := 1024#32
  let c0_i32_10 : BitVec 32 := 0#32
  let v20 : BitVec 1 := Scalar.cmpi .sgt c1024_i32_7 c0_i32_10
  let v21 : BitVec 32 := Scalar.extui v20
  let c0_i32_11 : BitVec 32 := 0#32
  let v22 : BitVec 1 := Scalar.cmpi .slt c1024_i32_7 c0_i32_11
  let v23 : BitVec 32 := Scalar.extui v22
  let v24 : BitVec 32 := Scalar.subi v21 v23
  let v25 : BitVec 1 := Scalar.cmpi .ne v19 v24
  let v26 : BitVec 32 := Scalar.remsi v1 c1024_i32_7
  let c0_i32_12 : BitVec 32 := 0#32
  let v27 : BitVec 1 := Scalar.cmpi .ne v26 c0_i32_12
  let v28 : BitVec 1 := Scalar.andi v25 v27
  let v14 : BitVec 32 := Scalar.divsi v1 c1024_i32_7
  let c1_i32 : BitVec 32 := 1#32
  let v29 : BitVec 32 := Scalar.subi v14 c1_i32
  let v30 : BitVec 32 := Scalar.select v28 v29 v14
  let c1024_i32_89 : BitVec 32 := 1024#32
  let v137 : BitVec 32 := Scalar.muli v30 c1024_i32_89
  v137
def k0_off15 (i : grid0.Coords) : Fin 4 → Nat :=
  let c0_94 : Index := 0#32
  let c1_95 : Index := 1#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c0_i32_8 : BitVec 32 := 0#32
  let v15 : BitVec 1 := Scalar.cmpi .sgt v1 c0_i32_8
  let v16 : BitVec 32 := Scalar.extui v15
  let c0_i32_9 : BitVec 32 := 0#32
  let v17 : BitVec 1 := Scalar.cmpi .slt v1 c0_i32_9
  let v18 : BitVec 32 := Scalar.extui v17
  let v19 : BitVec 32 := Scalar.subi v16 v18
  let c1024_i32_7 : BitVec 32 := 1024#32
  let c0_i32_10 : BitVec 32 := 0#32
  let v20 : BitVec 1 := Scalar.cmpi .sgt c1024_i32_7 c0_i32_10
  let v21 : BitVec 32 := Scalar.extui v20
  let c0_i32_11 : BitVec 32 := 0#32
  let v22 : BitVec 1 := Scalar.cmpi .slt c1024_i32_7 c0_i32_11
  let v23 : BitVec 32 := Scalar.extui v22
  let v24 : BitVec 32 := Scalar.subi v21 v23
  let v25 : BitVec 1 := Scalar.cmpi .ne v19 v24
  let v26 : BitVec 32 := Scalar.remsi v1 c1024_i32_7
  let c0_i32_12 : BitVec 32 := 0#32
  let v27 : BitVec 1 := Scalar.cmpi .ne v26 c0_i32_12
  let v28 : BitVec 1 := Scalar.andi v25 v27
  let v14 : BitVec 32 := Scalar.divsi v1 c1024_i32_7
  let c1_i32 : BitVec 32 := 1#32
  let v29 : BitVec 32 := Scalar.subi v14 c1_i32
  let v30 : BitVec 32 := Scalar.select v28 v29 v14
  let c1024_i32_89 : BitVec 32 := 1024#32
  let v137 : BitVec 32 := Scalar.muli v30 c1024_i32_89
  let v138 : BitVec 32 := v137
  let v141 : Index := Scalar.indexCast v138
  let c0_96 : Index := 0#32
  ![0, 1, v141.toNat, 0]
def k0_mult23 (i : grid0.Coords) : BitVec 32 :=
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c0_i32_8 : BitVec 32 := 0#32
  let v15 : BitVec 1 := Scalar.cmpi .sgt v1 c0_i32_8
  let v16 : BitVec 32 := Scalar.extui v15
  let c0_i32_9 : BitVec 32 := 0#32
  let v17 : BitVec 1 := Scalar.cmpi .slt v1 c0_i32_9
  let v18 : BitVec 32 := Scalar.extui v17
  let v19 : BitVec 32 := Scalar.subi v16 v18
  let c1024_i32_7 : BitVec 32 := 1024#32
  let c0_i32_10 : BitVec 32 := 0#32
  let v20 : BitVec 1 := Scalar.cmpi .sgt c1024_i32_7 c0_i32_10
  let v21 : BitVec 32 := Scalar.extui v20
  let c0_i32_11 : BitVec 32 := 0#32
  let v22 : BitVec 1 := Scalar.cmpi .slt c1024_i32_7 c0_i32_11
  let v23 : BitVec 32 := Scalar.extui v22
  let v24 : BitVec 32 := Scalar.subi v21 v23
  let v25 : BitVec 1 := Scalar.cmpi .ne v19 v24
  let v26 : BitVec 32 := Scalar.remsi v1 c1024_i32_7
  let c0_i32_12 : BitVec 32 := 0#32
  let v27 : BitVec 1 := Scalar.cmpi .ne v26 c0_i32_12
  let v28 : BitVec 1 := Scalar.andi v25 v27
  let v14 : BitVec 32 := Scalar.divsi v1 c1024_i32_7
  let c1_i32 : BitVec 32 := 1#32
  let v29 : BitVec 32 := Scalar.subi v14 c1_i32
  let v30 : BitVec 32 := Scalar.select v28 v29 v14
  let c1_i32_102 : BitVec 32 := 1#32
  let v148 : BitVec 32 := Scalar.subi v30 c1_i32_102
  let c1024_i32_107 : BitVec 32 := 1024#32
  let v151 : BitVec 32 := Scalar.muli v148 c1024_i32_107
  v151
def k0_off16 (i : grid0.Coords) : Fin 4 → Nat :=
  let c0_112 : Index := 0#32
  let c0_113 : Index := 0#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c0_i32_8 : BitVec 32 := 0#32
  let v15 : BitVec 1 := Scalar.cmpi .sgt v1 c0_i32_8
  let v16 : BitVec 32 := Scalar.extui v15
  let c0_i32_9 : BitVec 32 := 0#32
  let v17 : BitVec 1 := Scalar.cmpi .slt v1 c0_i32_9
  let v18 : BitVec 32 := Scalar.extui v17
  let v19 : BitVec 32 := Scalar.subi v16 v18
  let c1024_i32_7 : BitVec 32 := 1024#32
  let c0_i32_10 : BitVec 32 := 0#32
  let v20 : BitVec 1 := Scalar.cmpi .sgt c1024_i32_7 c0_i32_10
  let v21 : BitVec 32 := Scalar.extui v20
  let c0_i32_11 : BitVec 32 := 0#32
  let v22 : BitVec 1 := Scalar.cmpi .slt c1024_i32_7 c0_i32_11
  let v23 : BitVec 32 := Scalar.extui v22
  let v24 : BitVec 32 := Scalar.subi v21 v23
  let v25 : BitVec 1 := Scalar.cmpi .ne v19 v24
  let v26 : BitVec 32 := Scalar.remsi v1 c1024_i32_7
  let c0_i32_12 : BitVec 32 := 0#32
  let v27 : BitVec 1 := Scalar.cmpi .ne v26 c0_i32_12
  let v28 : BitVec 1 := Scalar.andi v25 v27
  let v14 : BitVec 32 := Scalar.divsi v1 c1024_i32_7
  let c1_i32 : BitVec 32 := 1#32
  let v29 : BitVec 32 := Scalar.subi v14 c1_i32
  let v30 : BitVec 32 := Scalar.select v28 v29 v14
  let c1_i32_102 : BitVec 32 := 1#32
  let v148 : BitVec 32 := Scalar.subi v30 c1_i32_102
  let c1024_i32_107 : BitVec 32 := 1024#32
  let v151 : BitVec 32 := Scalar.muli v148 c1024_i32_107
  let v152 : BitVec 32 := v151
  let v199 : Index := Scalar.indexCast v152
  let c0_114 : Index := 0#32
  ![0, 0, v199.toNat, 0]
def k0_cond2 (i : grid0.Coords) (v36 : BitVec 32) : BitVec 1 :=
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c0_i32_8 : BitVec 32 := 0#32
  let v15 : BitVec 1 := Scalar.cmpi .sgt v1 c0_i32_8
  let v16 : BitVec 32 := Scalar.extui v15
  let c0_i32_9 : BitVec 32 := 0#32
  let v17 : BitVec 1 := Scalar.cmpi .slt v1 c0_i32_9
  let v18 : BitVec 32 := Scalar.extui v17
  let v19 : BitVec 32 := Scalar.subi v16 v18
  let c1024_i32_7 : BitVec 32 := 1024#32
  let c0_i32_10 : BitVec 32 := 0#32
  let v20 : BitVec 1 := Scalar.cmpi .sgt c1024_i32_7 c0_i32_10
  let v21 : BitVec 32 := Scalar.extui v20
  let c0_i32_11 : BitVec 32 := 0#32
  let v22 : BitVec 1 := Scalar.cmpi .slt c1024_i32_7 c0_i32_11
  let v23 : BitVec 32 := Scalar.extui v22
  let v24 : BitVec 32 := Scalar.subi v21 v23
  let v25 : BitVec 1 := Scalar.cmpi .ne v19 v24
  let v26 : BitVec 32 := Scalar.remsi v1 c1024_i32_7
  let c0_i32_12 : BitVec 32 := 0#32
  let v27 : BitVec 1 := Scalar.cmpi .ne v26 c0_i32_12
  let v28 : BitVec 1 := Scalar.andi v25 v27
  let v14 : BitVec 32 := Scalar.divsi v1 c1024_i32_7
  let c1_i32 : BitVec 32 := 1#32
  let v29 : BitVec 32 := Scalar.subi v14 c1_i32
  let v30 : BitVec 32 := Scalar.select v28 v29 v14
  let v37 : BitVec 32 := Scalar.subi v30 v36
  let c2_i32_58 : BitVec 32 := 2#32
  let c0_i32_59 : BitVec 32 := 0#32
  let v95 : BitVec 1 := Scalar.cmpi .eq c2_i32_58 c0_i32_59
  let c1_i32_60 : BitVec 32 := 1#32
  let v96 : BitVec 32 := Scalar.select v95 c1_i32_60 c2_i32_58
  let v97 : BitVec 32 := Scalar.remsi v37 v96
  let c0_i32_62 : BitVec 32 := 0#32
  let v99 : BitVec 1 := Scalar.cmpi .slt v97 c0_i32_62
  let c0_i32_63 : BitVec 32 := 0#32
  let v100 : BitVec 1 := Scalar.cmpi .slt v96 c0_i32_63
  let v101 : BitVec 1 := Scalar.xori v99 v100
  let c0_i32_61 : BitVec 32 := 0#32
  let v98 : BitVec 1 := Scalar.cmpi .ne v97 c0_i32_61
  let v102 : BitVec 1 := Scalar.andi v101 v98
  let v103 : BitVec 32 := Scalar.addi v97 v96
  let v104 : BitVec 32 := Scalar.select v102 v103 v97
  let c1_i32_64 : BitVec 32 := 1#32
  let v105 : BitVec 1 := Scalar.cmpi .eq v104 c1_i32_64
  let v106 : BitVec 32 := Scalar.extui v105
  let c0_i32_65 : BitVec 32 := 0#32
  let v107 : BitVec 1 := Scalar.cmpi .ne v106 c0_i32_65
  v107

def k0_mult24 (i : grid0.Coords) : BitVec 32 :=
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c0_i32_8 : BitVec 32 := 0#32
  let v15 : BitVec 1 := Scalar.cmpi .sgt v1 c0_i32_8
  let v16 : BitVec 32 := Scalar.extui v15
  let c0_i32_9 : BitVec 32 := 0#32
  let v17 : BitVec 1 := Scalar.cmpi .slt v1 c0_i32_9
  let v18 : BitVec 32 := Scalar.extui v17
  let v19 : BitVec 32 := Scalar.subi v16 v18
  let c1024_i32_7 : BitVec 32 := 1024#32
  let c0_i32_10 : BitVec 32 := 0#32
  let v20 : BitVec 1 := Scalar.cmpi .sgt c1024_i32_7 c0_i32_10
  let v21 : BitVec 32 := Scalar.extui v20
  let c0_i32_11 : BitVec 32 := 0#32
  let v22 : BitVec 1 := Scalar.cmpi .slt c1024_i32_7 c0_i32_11
  let v23 : BitVec 32 := Scalar.extui v22
  let v24 : BitVec 32 := Scalar.subi v21 v23
  let v25 : BitVec 1 := Scalar.cmpi .ne v19 v24
  let v26 : BitVec 32 := Scalar.remsi v1 c1024_i32_7
  let c0_i32_12 : BitVec 32 := 0#32
  let v27 : BitVec 1 := Scalar.cmpi .ne v26 c0_i32_12
  let v28 : BitVec 1 := Scalar.andi v25 v27
  let v14 : BitVec 32 := Scalar.divsi v1 c1024_i32_7
  let c1_i32 : BitVec 32 := 1#32
  let v29 : BitVec 32 := Scalar.subi v14 c1_i32
  let v30 : BitVec 32 := Scalar.select v28 v29 v14
  let c1_i32_102 : BitVec 32 := 1#32
  let v148 : BitVec 32 := Scalar.subi v30 c1_i32_102
  let c1024_i32_129 : BitVec 32 := 1024#32
  let v217 : BitVec 32 := Scalar.muli v148 c1024_i32_129
  v217
def k0_off17 (i : grid0.Coords) : Fin 4 → Nat :=
  let c0_134 : Index := 0#32
  let c1_135 : Index := 1#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c0_i32_8 : BitVec 32 := 0#32
  let v15 : BitVec 1 := Scalar.cmpi .sgt v1 c0_i32_8
  let v16 : BitVec 32 := Scalar.extui v15
  let c0_i32_9 : BitVec 32 := 0#32
  let v17 : BitVec 1 := Scalar.cmpi .slt v1 c0_i32_9
  let v18 : BitVec 32 := Scalar.extui v17
  let v19 : BitVec 32 := Scalar.subi v16 v18
  let c1024_i32_7 : BitVec 32 := 1024#32
  let c0_i32_10 : BitVec 32 := 0#32
  let v20 : BitVec 1 := Scalar.cmpi .sgt c1024_i32_7 c0_i32_10
  let v21 : BitVec 32 := Scalar.extui v20
  let c0_i32_11 : BitVec 32 := 0#32
  let v22 : BitVec 1 := Scalar.cmpi .slt c1024_i32_7 c0_i32_11
  let v23 : BitVec 32 := Scalar.extui v22
  let v24 : BitVec 32 := Scalar.subi v21 v23
  let v25 : BitVec 1 := Scalar.cmpi .ne v19 v24
  let v26 : BitVec 32 := Scalar.remsi v1 c1024_i32_7
  let c0_i32_12 : BitVec 32 := 0#32
  let v27 : BitVec 1 := Scalar.cmpi .ne v26 c0_i32_12
  let v28 : BitVec 1 := Scalar.andi v25 v27
  let v14 : BitVec 32 := Scalar.divsi v1 c1024_i32_7
  let c1_i32 : BitVec 32 := 1#32
  let v29 : BitVec 32 := Scalar.subi v14 c1_i32
  let v30 : BitVec 32 := Scalar.select v28 v29 v14
  let c1_i32_102 : BitVec 32 := 1#32
  let v148 : BitVec 32 := Scalar.subi v30 c1_i32_102
  let c1024_i32_129 : BitVec 32 := 1024#32
  let v217 : BitVec 32 := Scalar.muli v148 c1024_i32_129
  let v218 : BitVec 32 := v217
  let v265 : Index := Scalar.indexCast v218
  let c0_136 : Index := 0#32
  ![0, 1, v265.toNat, 0]

def k0_chk1 (i : grid0.Coords) (v36 : BitVec 32) : Prop :=
  (1024 ∣ (k0_mult1 v36).toNat) ∧
  (∀ a, (k0_off2 v36) a + S1x1x1024x128.size a ≤ S1x2x8192x128.size a) ∧
  (1024 ∣ (k0_mult2 v36).toNat) ∧
  (∀ a, (k0_off3 v36) a + S1x1x1024x128.size a ≤ S1x2x8192x128.size a) ∧
  ((k0_t1_loop i v36).OK) ∧
  (∀ k0_t1 : Fin (k0_t1_loop i v36).trips, 1024 ∣ (k0_mult3 i v36 k0_t1).toNat) ∧
  (∀ k0_t1 : Fin (k0_t1_loop i v36).trips, ∀ (r : Fin 2), ∀ a, (k0_off4 i v36 k0_t1 (BitVec.ofNat 32 (1 + r.val))) a + S1x1x1024x128.size a ≤ S1x2x8192x128.size a) ∧
  (∀ k0_t1 : Fin (k0_t1_loop i v36).trips, 1024 ∣ (k0_mult4 i v36 k0_t1).toNat) ∧
  (∀ k0_t1 : Fin (k0_t1_loop i v36).trips, ∀ (r : Fin 2), ∀ a, (k0_off5 i v36 k0_t1 (BitVec.ofNat 32 (1 + r.val))) a + S1x1x1024x128.size a ≤ S1x2x8192x128.size a) ∧
  (∀ k0_t1 : Fin (k0_t1_loop i v36).trips, 1024 ∣ (k0_mult5 i v36 k0_t1).toNat) ∧
  (∀ k0_t1 : Fin (k0_t1_loop i v36).trips, ∀ a, (k0_off6 i v36 k0_t1) a + S1x1x1024x128.size a ≤ S1x2x8192x128.size a) ∧
  (∀ k0_t1 : Fin (k0_t1_loop i v36).trips, 1024 ∣ (k0_mult6 i v36 k0_t1).toNat) ∧
  (∀ k0_t1 : Fin (k0_t1_loop i v36).trips, ∀ a, (k0_off7 i v36 k0_t1) a + S1x1x1024x128.size a ≤ S1x2x8192x128.size a) ∧
  (∀ k0_t1 : Fin (k0_t1_loop i v36).trips, 1024 ∣ (k0_mult7 i v36 k0_t1).toNat) ∧
  (∀ k0_t1 : Fin (k0_t1_loop i v36).trips, 1024 ∣ (k0_mult8 i v36 k0_t1).toNat) ∧
  (∀ k0_t1 : Fin (k0_t1_loop i v36).trips, 1024 ∣ (k0_mult9 i v36 k0_t1).toNat) ∧
  (∀ k0_t1 : Fin (k0_t1_loop i v36).trips, 1024 ∣ (k0_mult10 i v36 k0_t1).toNat) ∧
  ((k0_t2_loop i v36).OK) ∧
  (∀ k0_t2 : Fin (k0_t2_loop i v36).trips, 1024 ∣ (k0_mult11 i v36 k0_t2).toNat) ∧
  (∀ k0_t2 : Fin (k0_t2_loop i v36).trips, ∀ (r : Fin 2), ∀ a, (k0_off8 i v36 k0_t2 (BitVec.ofNat 32 (1 + r.val))) a + S1x1x1024x128.size a ≤ S1x2x8192x128.size a) ∧
  (∀ k0_t2 : Fin (k0_t2_loop i v36).trips, 1024 ∣ (k0_mult12 i v36 k0_t2).toNat) ∧
  (∀ k0_t2 : Fin (k0_t2_loop i v36).trips, ∀ (r : Fin 2), ∀ a, (k0_off9 i v36 k0_t2 (BitVec.ofNat 32 (1 + r.val))) a + S1x1x1024x128.size a ≤ S1x2x8192x128.size a) ∧
  (∀ k0_t2 : Fin (k0_t2_loop i v36).trips, 1024 ∣ (k0_mult13 i v36 k0_t2).toNat) ∧
  (∀ k0_t2 : Fin (k0_t2_loop i v36).trips, ∀ a, (k0_off10 i v36 k0_t2) a + S1x1x1024x128.size a ≤ S1x2x8192x128.size a) ∧
  (∀ k0_t2 : Fin (k0_t2_loop i v36).trips, 1024 ∣ (k0_mult14 i v36 k0_t2).toNat) ∧
  (∀ k0_t2 : Fin (k0_t2_loop i v36).trips, ∀ a, (k0_off11 i v36 k0_t2) a + S1x1x1024x128.size a ≤ S1x2x8192x128.size a) ∧
  (∀ k0_t2 : Fin (k0_t2_loop i v36).trips, 1024 ∣ (k0_mult15 i v36 k0_t2).toNat) ∧
  (∀ k0_t2 : Fin (k0_t2_loop i v36).trips, 1024 ∣ (k0_mult16 i v36 k0_t2).toNat) ∧
  (∀ k0_t2 : Fin (k0_t2_loop i v36).trips, 1024 ∣ (k0_mult17 i v36 k0_t2).toNat) ∧
  (∀ k0_t2 : Fin (k0_t2_loop i v36).trips, 1024 ∣ (k0_mult18 i v36 k0_t2).toNat) ∧
  (∀ (k0_h2 : k0_cond2 i v36 = 1#1), ∀ a, (k0_off16 i) a + S1x1x1024x128.size a ≤ S1x2x8192x128.size a) ∧
  (∀ (k0_h2 : k0_cond2 i v36 = 1#1), ∀ a, (k0_off17 i) a + S1x1x1024x128.size a ≤ S1x2x8192x128.size a)
theorem k0_mult1_dvd : ∀ (i : grid0.Coords) (v36 : BitVec 32) (k0_hw1 : k0_chk1 i v36), 1024 ∣ (k0_mult1 v36).toNat := fun i v36 k0_hw1 => k0_hw1.1
theorem k0_off2_inb : ∀ (i : grid0.Coords) (v36 : BitVec 32) (k0_hw1 : k0_chk1 i v36), ∀ a, (k0_off2 v36) a + S1x1x1024x128.size a ≤ S1x2x8192x128.size a := fun i v36 k0_hw1 => k0_hw1.2.1
theorem k0_mult2_dvd : ∀ (i : grid0.Coords) (v36 : BitVec 32) (k0_hw1 : k0_chk1 i v36), 1024 ∣ (k0_mult2 v36).toNat := fun i v36 k0_hw1 => k0_hw1.2.2.1
theorem k0_off3_inb : ∀ (i : grid0.Coords) (v36 : BitVec 32) (k0_hw1 : k0_chk1 i v36), ∀ a, (k0_off3 v36) a + S1x1x1024x128.size a ≤ S1x2x8192x128.size a := fun i v36 k0_hw1 => k0_hw1.2.2.2.1
theorem k0_t1_ok : ∀ (i : grid0.Coords) (v36 : BitVec 32) (k0_hw1 : k0_chk1 i v36), (k0_t1_loop i v36).OK := fun i v36 k0_hw1 => k0_hw1.2.2.2.2.1
theorem k0_mult3_dvd : ∀ (i : grid0.Coords) (v36 : BitVec 32) (k0_hw1 : k0_chk1 i v36) (k0_t1 : Fin (k0_t1_loop i v36).trips), 1024 ∣ (k0_mult3 i v36 k0_t1).toNat := fun i v36 k0_hw1 k0_t1 => k0_hw1.2.2.2.2.2.1 k0_t1
theorem k0_off4_inb : ∀ (i : grid0.Coords) (v36 : BitVec 32) (k0_hw1 : k0_chk1 i v36) (k0_t1 : Fin (k0_t1_loop i v36).trips), ∀ (r : Fin 2), ∀ a, (k0_off4 i v36 k0_t1 (BitVec.ofNat 32 (1 + r.val))) a + S1x1x1024x128.size a ≤ S1x2x8192x128.size a := fun i v36 k0_hw1 k0_t1 r => k0_hw1.2.2.2.2.2.2.1 k0_t1 r
theorem k0_mult4_dvd : ∀ (i : grid0.Coords) (v36 : BitVec 32) (k0_hw1 : k0_chk1 i v36) (k0_t1 : Fin (k0_t1_loop i v36).trips), 1024 ∣ (k0_mult4 i v36 k0_t1).toNat := fun i v36 k0_hw1 k0_t1 => k0_hw1.2.2.2.2.2.2.2.1 k0_t1
theorem k0_off5_inb : ∀ (i : grid0.Coords) (v36 : BitVec 32) (k0_hw1 : k0_chk1 i v36) (k0_t1 : Fin (k0_t1_loop i v36).trips), ∀ (r : Fin 2), ∀ a, (k0_off5 i v36 k0_t1 (BitVec.ofNat 32 (1 + r.val))) a + S1x1x1024x128.size a ≤ S1x2x8192x128.size a := fun i v36 k0_hw1 k0_t1 r => k0_hw1.2.2.2.2.2.2.2.2.1 k0_t1 r
theorem k0_mult5_dvd : ∀ (i : grid0.Coords) (v36 : BitVec 32) (k0_hw1 : k0_chk1 i v36) (k0_t1 : Fin (k0_t1_loop i v36).trips), 1024 ∣ (k0_mult5 i v36 k0_t1).toNat := fun i v36 k0_hw1 k0_t1 => k0_hw1.2.2.2.2.2.2.2.2.2.1 k0_t1
theorem k0_off6_inb : ∀ (i : grid0.Coords) (v36 : BitVec 32) (k0_hw1 : k0_chk1 i v36) (k0_t1 : Fin (k0_t1_loop i v36).trips), ∀ a, (k0_off6 i v36 k0_t1) a + S1x1x1024x128.size a ≤ S1x2x8192x128.size a := fun i v36 k0_hw1 k0_t1 => k0_hw1.2.2.2.2.2.2.2.2.2.2.1 k0_t1
theorem k0_mult6_dvd : ∀ (i : grid0.Coords) (v36 : BitVec 32) (k0_hw1 : k0_chk1 i v36) (k0_t1 : Fin (k0_t1_loop i v36).trips), 1024 ∣ (k0_mult6 i v36 k0_t1).toNat := fun i v36 k0_hw1 k0_t1 => k0_hw1.2.2.2.2.2.2.2.2.2.2.2.1 k0_t1
theorem k0_off7_inb : ∀ (i : grid0.Coords) (v36 : BitVec 32) (k0_hw1 : k0_chk1 i v36) (k0_t1 : Fin (k0_t1_loop i v36).trips), ∀ a, (k0_off7 i v36 k0_t1) a + S1x1x1024x128.size a ≤ S1x2x8192x128.size a := fun i v36 k0_hw1 k0_t1 => k0_hw1.2.2.2.2.2.2.2.2.2.2.2.2.1 k0_t1
theorem k0_mult7_dvd : ∀ (i : grid0.Coords) (v36 : BitVec 32) (k0_hw1 : k0_chk1 i v36) (k0_t1 : Fin (k0_t1_loop i v36).trips), 1024 ∣ (k0_mult7 i v36 k0_t1).toNat := fun i v36 k0_hw1 k0_t1 => k0_hw1.2.2.2.2.2.2.2.2.2.2.2.2.2.1 k0_t1
theorem k0_mult8_dvd : ∀ (i : grid0.Coords) (v36 : BitVec 32) (k0_hw1 : k0_chk1 i v36) (k0_t1 : Fin (k0_t1_loop i v36).trips), 1024 ∣ (k0_mult8 i v36 k0_t1).toNat := fun i v36 k0_hw1 k0_t1 => k0_hw1.2.2.2.2.2.2.2.2.2.2.2.2.2.2.1 k0_t1
theorem k0_mult9_dvd : ∀ (i : grid0.Coords) (v36 : BitVec 32) (k0_hw1 : k0_chk1 i v36) (k0_t1 : Fin (k0_t1_loop i v36).trips), 1024 ∣ (k0_mult9 i v36 k0_t1).toNat := fun i v36 k0_hw1 k0_t1 => k0_hw1.2.2.2.2.2.2.2.2.2.2.2.2.2.2.2.1 k0_t1
theorem k0_mult10_dvd : ∀ (i : grid0.Coords) (v36 : BitVec 32) (k0_hw1 : k0_chk1 i v36) (k0_t1 : Fin (k0_t1_loop i v36).trips), 1024 ∣ (k0_mult10 i v36 k0_t1).toNat := fun i v36 k0_hw1 k0_t1 => k0_hw1.2.2.2.2.2.2.2.2.2.2.2.2.2.2.2.2.1 k0_t1
theorem k0_t2_ok : ∀ (i : grid0.Coords) (v36 : BitVec 32) (k0_hw1 : k0_chk1 i v36), (k0_t2_loop i v36).OK := fun i v36 k0_hw1 => k0_hw1.2.2.2.2.2.2.2.2.2.2.2.2.2.2.2.2.2.1
theorem k0_mult11_dvd : ∀ (i : grid0.Coords) (v36 : BitVec 32) (k0_hw1 : k0_chk1 i v36) (k0_t2 : Fin (k0_t2_loop i v36).trips), 1024 ∣ (k0_mult11 i v36 k0_t2).toNat := fun i v36 k0_hw1 k0_t2 => k0_hw1.2.2.2.2.2.2.2.2.2.2.2.2.2.2.2.2.2.2.1 k0_t2
theorem k0_off8_inb : ∀ (i : grid0.Coords) (v36 : BitVec 32) (k0_hw1 : k0_chk1 i v36) (k0_t2 : Fin (k0_t2_loop i v36).trips), ∀ (r : Fin 2), ∀ a, (k0_off8 i v36 k0_t2 (BitVec.ofNat 32 (1 + r.val))) a + S1x1x1024x128.size a ≤ S1x2x8192x128.size a := fun i v36 k0_hw1 k0_t2 r => k0_hw1.2.2.2.2.2.2.2.2.2.2.2.2.2.2.2.2.2.2.2.1 k0_t2 r
theorem k0_mult12_dvd : ∀ (i : grid0.Coords) (v36 : BitVec 32) (k0_hw1 : k0_chk1 i v36) (k0_t2 : Fin (k0_t2_loop i v36).trips), 1024 ∣ (k0_mult12 i v36 k0_t2).toNat := fun i v36 k0_hw1 k0_t2 => k0_hw1.2.2.2.2.2.2.2.2.2.2.2.2.2.2.2.2.2.2.2.2.1 k0_t2
theorem k0_off9_inb : ∀ (i : grid0.Coords) (v36 : BitVec 32) (k0_hw1 : k0_chk1 i v36) (k0_t2 : Fin (k0_t2_loop i v36).trips), ∀ (r : Fin 2), ∀ a, (k0_off9 i v36 k0_t2 (BitVec.ofNat 32 (1 + r.val))) a + S1x1x1024x128.size a ≤ S1x2x8192x128.size a := fun i v36 k0_hw1 k0_t2 r => k0_hw1.2.2.2.2.2.2.2.2.2.2.2.2.2.2.2.2.2.2.2.2.2.1 k0_t2 r
theorem k0_mult13_dvd : ∀ (i : grid0.Coords) (v36 : BitVec 32) (k0_hw1 : k0_chk1 i v36) (k0_t2 : Fin (k0_t2_loop i v36).trips), 1024 ∣ (k0_mult13 i v36 k0_t2).toNat := fun i v36 k0_hw1 k0_t2 => k0_hw1.2.2.2.2.2.2.2.2.2.2.2.2.2.2.2.2.2.2.2.2.2.2.1 k0_t2
theorem k0_off10_inb : ∀ (i : grid0.Coords) (v36 : BitVec 32) (k0_hw1 : k0_chk1 i v36) (k0_t2 : Fin (k0_t2_loop i v36).trips), ∀ a, (k0_off10 i v36 k0_t2) a + S1x1x1024x128.size a ≤ S1x2x8192x128.size a := fun i v36 k0_hw1 k0_t2 => k0_hw1.2.2.2.2.2.2.2.2.2.2.2.2.2.2.2.2.2.2.2.2.2.2.2.1 k0_t2
theorem k0_mult14_dvd : ∀ (i : grid0.Coords) (v36 : BitVec 32) (k0_hw1 : k0_chk1 i v36) (k0_t2 : Fin (k0_t2_loop i v36).trips), 1024 ∣ (k0_mult14 i v36 k0_t2).toNat := fun i v36 k0_hw1 k0_t2 => k0_hw1.2.2.2.2.2.2.2.2.2.2.2.2.2.2.2.2.2.2.2.2.2.2.2.2.1 k0_t2
theorem k0_off11_inb : ∀ (i : grid0.Coords) (v36 : BitVec 32) (k0_hw1 : k0_chk1 i v36) (k0_t2 : Fin (k0_t2_loop i v36).trips), ∀ a, (k0_off11 i v36 k0_t2) a + S1x1x1024x128.size a ≤ S1x2x8192x128.size a := fun i v36 k0_hw1 k0_t2 => k0_hw1.2.2.2.2.2.2.2.2.2.2.2.2.2.2.2.2.2.2.2.2.2.2.2.2.2.1 k0_t2
theorem k0_mult15_dvd : ∀ (i : grid0.Coords) (v36 : BitVec 32) (k0_hw1 : k0_chk1 i v36) (k0_t2 : Fin (k0_t2_loop i v36).trips), 1024 ∣ (k0_mult15 i v36 k0_t2).toNat := fun i v36 k0_hw1 k0_t2 => k0_hw1.2.2.2.2.2.2.2.2.2.2.2.2.2.2.2.2.2.2.2.2.2.2.2.2.2.2.1 k0_t2
theorem k0_mult16_dvd : ∀ (i : grid0.Coords) (v36 : BitVec 32) (k0_hw1 : k0_chk1 i v36) (k0_t2 : Fin (k0_t2_loop i v36).trips), 1024 ∣ (k0_mult16 i v36 k0_t2).toNat := fun i v36 k0_hw1 k0_t2 => k0_hw1.2.2.2.2.2.2.2.2.2.2.2.2.2.2.2.2.2.2.2.2.2.2.2.2.2.2.2.1 k0_t2
theorem k0_mult17_dvd : ∀ (i : grid0.Coords) (v36 : BitVec 32) (k0_hw1 : k0_chk1 i v36) (k0_t2 : Fin (k0_t2_loop i v36).trips), 1024 ∣ (k0_mult17 i v36 k0_t2).toNat := fun i v36 k0_hw1 k0_t2 => k0_hw1.2.2.2.2.2.2.2.2.2.2.2.2.2.2.2.2.2.2.2.2.2.2.2.2.2.2.2.2.1 k0_t2
theorem k0_mult18_dvd : ∀ (i : grid0.Coords) (v36 : BitVec 32) (k0_hw1 : k0_chk1 i v36) (k0_t2 : Fin (k0_t2_loop i v36).trips), 1024 ∣ (k0_mult18 i v36 k0_t2).toNat := fun i v36 k0_hw1 k0_t2 => k0_hw1.2.2.2.2.2.2.2.2.2.2.2.2.2.2.2.2.2.2.2.2.2.2.2.2.2.2.2.2.2.1 k0_t2
theorem k0_off16_inb : ∀ (i : grid0.Coords) (v36 : BitVec 32) (k0_hw1 : k0_chk1 i v36), ∀ (k0_h2 : k0_cond2 i v36 = 1#1), ∀ a, (k0_off16 i) a + S1x1x1024x128.size a ≤ S1x2x8192x128.size a := fun i v36 k0_hw1 k0_h2 => k0_hw1.2.2.2.2.2.2.2.2.2.2.2.2.2.2.2.2.2.2.2.2.2.2.2.2.2.2.2.2.2.2.1 k0_h2
theorem k0_off17_inb : ∀ (i : grid0.Coords) (v36 : BitVec 32) (k0_hw1 : k0_chk1 i v36), ∀ (k0_h2 : k0_cond2 i v36 = 1#1), ∀ a, (k0_off17 i) a + S1x1x1024x128.size a ≤ S1x2x8192x128.size a := fun i v36 k0_hw1 k0_h2 => k0_hw1.2.2.2.2.2.2.2.2.2.2.2.2.2.2.2.2.2.2.2.2.2.2.2.2.2.2.2.2.2.2.2 k0_h2

def k0_mult25 (i : grid0.Coords) : BitVec 32 :=
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c0_i32_8 : BitVec 32 := 0#32
  let v15 : BitVec 1 := Scalar.cmpi .sgt v1 c0_i32_8
  let v16 : BitVec 32 := Scalar.extui v15
  let c0_i32_9 : BitVec 32 := 0#32
  let v17 : BitVec 1 := Scalar.cmpi .slt v1 c0_i32_9
  let v18 : BitVec 32 := Scalar.extui v17
  let v19 : BitVec 32 := Scalar.subi v16 v18
  let c1024_i32_7 : BitVec 32 := 1024#32
  let c0_i32_10 : BitVec 32 := 0#32
  let v20 : BitVec 1 := Scalar.cmpi .sgt c1024_i32_7 c0_i32_10
  let v21 : BitVec 32 := Scalar.extui v20
  let c0_i32_11 : BitVec 32 := 0#32
  let v22 : BitVec 1 := Scalar.cmpi .slt c1024_i32_7 c0_i32_11
  let v23 : BitVec 32 := Scalar.extui v22
  let v24 : BitVec 32 := Scalar.subi v21 v23
  let v25 : BitVec 1 := Scalar.cmpi .ne v19 v24
  let v26 : BitVec 32 := Scalar.remsi v1 c1024_i32_7
  let c0_i32_12 : BitVec 32 := 0#32
  let v27 : BitVec 1 := Scalar.cmpi .ne v26 c0_i32_12
  let v28 : BitVec 1 := Scalar.andi v25 v27
  let v14 : BitVec 32 := Scalar.divsi v1 c1024_i32_7
  let c1_i32 : BitVec 32 := 1#32
  let v29 : BitVec 32 := Scalar.subi v14 c1_i32
  let v30 : BitVec 32 := Scalar.select v28 v29 v14
  let c1024_i32_152 : BitVec 32 := 1024#32
  let v293 : BitVec 32 := Scalar.muli v30 c1024_i32_152
  v293
def k0_mult26 (i : grid0.Coords) : BitVec 32 :=
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c0_i32_8 : BitVec 32 := 0#32
  let v15 : BitVec 1 := Scalar.cmpi .sgt v1 c0_i32_8
  let v16 : BitVec 32 := Scalar.extui v15
  let c0_i32_9 : BitVec 32 := 0#32
  let v17 : BitVec 1 := Scalar.cmpi .slt v1 c0_i32_9
  let v18 : BitVec 32 := Scalar.extui v17
  let v19 : BitVec 32 := Scalar.subi v16 v18
  let c1024_i32_7 : BitVec 32 := 1024#32
  let c0_i32_10 : BitVec 32 := 0#32
  let v20 : BitVec 1 := Scalar.cmpi .sgt c1024_i32_7 c0_i32_10
  let v21 : BitVec 32 := Scalar.extui v20
  let c0_i32_11 : BitVec 32 := 0#32
  let v22 : BitVec 1 := Scalar.cmpi .slt c1024_i32_7 c0_i32_11
  let v23 : BitVec 32 := Scalar.extui v22
  let v24 : BitVec 32 := Scalar.subi v21 v23
  let v25 : BitVec 1 := Scalar.cmpi .ne v19 v24
  let v26 : BitVec 32 := Scalar.remsi v1 c1024_i32_7
  let c0_i32_12 : BitVec 32 := 0#32
  let v27 : BitVec 1 := Scalar.cmpi .ne v26 c0_i32_12
  let v28 : BitVec 1 := Scalar.andi v25 v27
  let v14 : BitVec 32 := Scalar.divsi v1 c1024_i32_7
  let c1_i32 : BitVec 32 := 1#32
  let v29 : BitVec 32 := Scalar.subi v14 c1_i32
  let v30 : BitVec 32 := Scalar.select v28 v29 v14
  let c1024_i32_175 : BitVec 32 := 1024#32
  let v361 : BitVec 32 := Scalar.muli v30 c1024_i32_175
  v361
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S256 : Shape := ⟨1, ![256]⟩
abbrev S4x16x8192x128 : Shape := ⟨4, ![4, 16, 8192, 128]⟩
abbrev S4x16x8192x64 : Shape := ⟨4, ![4, 16, 8192, 64]⟩
abbrev S4x16x8192x8192 : Shape := ⟨4, ![4, 16, 8192, 8192]⟩
abbrev S8192 : Shape := ⟨1, ![8192]⟩
abbrev S1x8192 : Shape := ⟨2, ![1, 8192]⟩
abbrev S_ : Shape := ⟨0, ![]⟩
abbrev S8192x1 : Shape := ⟨2, ![8192, 1]⟩
abbrev S8192x8192 : Shape := ⟨2, ![8192, 8192]⟩
abbrev S16 : Shape := ⟨1, ![16]⟩
abbrev S16x1x1 : Shape := ⟨3, ![16, 1, 1]⟩
abbrev S1x8192x8192 : Shape := ⟨3, ![1, 8192, 8192]⟩
abbrev S16x8192x8192 : Shape := ⟨3, ![16, 8192, 8192]⟩
abbrev S4x8x8 : Shape := ⟨3, ![4, 8, 8]⟩
abbrev S4x8x2x8 : Shape := ⟨4, ![4, 8, 2, 8]⟩
abbrev S4x16x8 : Shape := ⟨3, ![4, 16, 8]⟩
abbrev S4x16x8x1024 : Shape := ⟨4, ![4, 16, 8, 1024]⟩
abbrev S4x16x8192 : Shape := ⟨3, ![4, 16, 8192]⟩
abbrev S1x1x1x8192 : Shape := ⟨4, ![1, 1, 1, 8192]⟩
abbrev S4x16x8192x1 : Shape := ⟨4, ![4, 16, 8192, 1]⟩
abbrev S1x16x8192x8192 : Shape := ⟨4, ![1, 16, 8192, 8192]⟩
abbrev S4x16x64x8192 : Shape := ⟨4, ![4, 16, 64, 8192]⟩
abbrev S4x8192x16x64 : Shape := ⟨4, ![4, 8192, 16, 64]⟩
abbrev S4x8192x1024 : Shape := ⟨3, ![4, 8192, 1024]⟩

abbrev nBuf : Space → Nat
  | .hbm => 105
  | .vmem => 0
  | .smem => 0
  | _ => 0

abbrev bufTy : (tb : Table) → Fin (tcTables nBuf tb) → BufTy
  | .hbm, ⟨0, _⟩ => ⟨S256, .i32⟩
  | .hbm, ⟨1, _⟩ => ⟨S4x16x8192x128, .bf16⟩
  | .hbm, ⟨2, _⟩ => ⟨S4x16x8192x128, .bf16⟩
  | .hbm, ⟨3, _⟩ => ⟨S4x16x8192x128, .bf16⟩
  | .hbm, ⟨4, _⟩ => ⟨S4x16x8192x128, .f32⟩
  | .hbm, ⟨5, _⟩ => ⟨S4x16x8192x128, .f32⟩
  | .hbm, ⟨6, _⟩ => ⟨S4x16x8192x64, .bf16⟩
  | .hbm, ⟨7, _⟩ => ⟨S4x16x8192x64, .f32⟩
  | .hbm, ⟨8, _⟩ => ⟨S4x16x8192x8192, .f32⟩
  | .hbm, ⟨9, _⟩ => ⟨S8192, .i32⟩
  | .hbm, ⟨10, _⟩ => ⟨S8192, .i32⟩
  | .hbm, ⟨11, _⟩ => ⟨S1x8192, .i32⟩
  | .hbm, ⟨12, _⟩ => ⟨S_, .i32⟩
  | .hbm, ⟨13, _⟩ => ⟨S_, .i32⟩
  | .hbm, ⟨14, _⟩ => ⟨S1x8192, .i32⟩
  | .hbm, ⟨15, _⟩ => ⟨S1x8192, .i32⟩
  | .hbm, ⟨16, _⟩ => ⟨S1x8192, .i32⟩
  | .hbm, ⟨17, _⟩ => ⟨S_, .i32⟩
  | .hbm, ⟨18, _⟩ => ⟨S1x8192, .i32⟩
  | .hbm, ⟨19, _⟩ => ⟨S1x8192, .i1⟩
  | .hbm, ⟨20, _⟩ => ⟨S1x8192, .i32⟩
  | .hbm, ⟨21, _⟩ => ⟨S1x8192, .i32⟩
  | .hbm, ⟨22, _⟩ => ⟨S_, .i32⟩
  | .hbm, ⟨23, _⟩ => ⟨S1x8192, .i32⟩
  | .hbm, ⟨24, _⟩ => ⟨S1x8192, .i1⟩
  | .hbm, ⟨25, _⟩ => ⟨S1x8192, .i1⟩
  | .hbm, ⟨26, _⟩ => ⟨S_, .i32⟩
  | .hbm, ⟨27, _⟩ => ⟨S1x8192, .i32⟩
  | .hbm, ⟨28, _⟩ => ⟨S1x8192, .i32⟩
  | .hbm, ⟨29, _⟩ => ⟨S1x8192, .i32⟩
  | .hbm, ⟨30, _⟩ => ⟨S8192x1, .i32⟩
  | .hbm, ⟨31, _⟩ => ⟨S_, .i32⟩
  | .hbm, ⟨32, _⟩ => ⟨S_, .i32⟩
  | .hbm, ⟨33, _⟩ => ⟨S8192x1, .i32⟩
  | .hbm, ⟨34, _⟩ => ⟨S8192x1, .i32⟩
  | .hbm, ⟨35, _⟩ => ⟨S8192x1, .i32⟩
  | .hbm, ⟨36, _⟩ => ⟨S_, .i32⟩
  | .hbm, ⟨37, _⟩ => ⟨S8192x1, .i32⟩
  | .hbm, ⟨38, _⟩ => ⟨S8192x1, .i1⟩
  | .hbm, ⟨39, _⟩ => ⟨S8192x1, .i32⟩
  | .hbm, ⟨40, _⟩ => ⟨S8192x1, .i32⟩
  | .hbm, ⟨41, _⟩ => ⟨S_, .i32⟩
  | .hbm, ⟨42, _⟩ => ⟨S8192x1, .i32⟩
  | .hbm, ⟨43, _⟩ => ⟨S8192x1, .i1⟩
  | .hbm, ⟨44, _⟩ => ⟨S8192x1, .i1⟩
  | .hbm, ⟨45, _⟩ => ⟨S_, .i32⟩
  | .hbm, ⟨46, _⟩ => ⟨S8192x1, .i32⟩
  | .hbm, ⟨47, _⟩ => ⟨S8192x1, .i32⟩
  | .hbm, ⟨48, _⟩ => ⟨S8192x1, .i32⟩
  | .hbm, ⟨49, _⟩ => ⟨S8192x8192, .i32⟩
  | .hbm, ⟨50, _⟩ => ⟨S8192x8192, .i32⟩
  | .hbm, ⟨51, _⟩ => ⟨S8192x8192, .i1⟩
  | .hbm, ⟨52, _⟩ => ⟨S1x8192, .i32⟩
  | .hbm, ⟨53, _⟩ => ⟨S8192x1, .i32⟩
  | .hbm, ⟨54, _⟩ => ⟨S8192x8192, .i32⟩
  | .hbm, ⟨55, _⟩ => ⟨S8192x8192, .i32⟩
  | .hbm, ⟨56, _⟩ => ⟨S8192x8192, .i1⟩
  | .hbm, ⟨57, _⟩ => ⟨S16, .i32⟩
  | .hbm, ⟨58, _⟩ => ⟨S_, .i32⟩
  | .hbm, ⟨59, _⟩ => ⟨S16, .i32⟩
  | .hbm, ⟨60, _⟩ => ⟨S16, .i1⟩
  | .hbm, ⟨61, _⟩ => ⟨S16x1x1, .i1⟩
  | .hbm, ⟨62, _⟩ => ⟨S1x8192x8192, .i1⟩
  | .hbm, ⟨63, _⟩ => ⟨S1x8192x8192, .i1⟩
  | .hbm, ⟨64, _⟩ => ⟨S16x8192x8192, .i1⟩
  | .hbm, ⟨65, _⟩ => ⟨S16x8192x8192, .i1⟩
  | .hbm, ⟨66, _⟩ => ⟨S16x8192x8192, .i1⟩
  | .hbm, ⟨67, _⟩ => ⟨S16x8192x8192, .i1⟩
  | .hbm, ⟨68, _⟩ => ⟨S4x8x8, .i32⟩
  | .hbm, ⟨69, _⟩ => ⟨S_, .i32⟩
  | .hbm, ⟨70, _⟩ => ⟨S4x8x8, .i32⟩
  | .hbm, ⟨71, _⟩ => ⟨S4x8x8, .i32⟩
  | .hbm, ⟨72, _⟩ => ⟨S4x8x2x8, .i32⟩
  | .hbm, ⟨73, _⟩ => ⟨S4x16x8, .i32⟩
  | .hbm, ⟨74, _⟩ => ⟨S4x16x8x1024, .i32⟩
  | .hbm, ⟨75, _⟩ => ⟨S4x16x8192, .i32⟩
  | .hbm, ⟨76, _⟩ => ⟨S1x1x1x8192, .i32⟩
  | .hbm, ⟨77, _⟩ => ⟨S4x16x8192x1, .i32⟩
  | .hbm, ⟨78, _⟩ => ⟨S4x16x8192x8192, .i32⟩
  | .hbm, ⟨79, _⟩ => ⟨S4x16x8192x8192, .i32⟩
  | .hbm, ⟨80, _⟩ => ⟨S4x16x8192x8192, .i1⟩
  | .hbm, ⟨81, _⟩ => ⟨S1x16x8192x8192, .i1⟩
  | .hbm, ⟨82, _⟩ => ⟨S4x16x8192x8192, .i1⟩
  | .hbm, ⟨83, _⟩ => ⟨S4x16x8192x8192, .i1⟩
  | .hbm, ⟨84, _⟩ => ⟨S_, .f32⟩
  | .hbm, ⟨85, _⟩ => ⟨S_, .f32⟩
  | .hbm, ⟨86, _⟩ => ⟨S4x16x8192x8192, .f32⟩
  | .hbm, ⟨87, _⟩ => ⟨S4x16x8192x8192, .f32⟩
  | .hbm, ⟨88, _⟩ => ⟨S_, .f32⟩
  | .hbm, ⟨89, _⟩ => ⟨S4x16x8192, .f32⟩
  | .hbm, ⟨90, _⟩ => ⟨S_, .f32⟩
  | .hbm, ⟨91, _⟩ => ⟨S4x16x8192, .f32⟩
  | .hbm, ⟨92, _⟩ => ⟨S4x16x8192, .f32⟩
  | .hbm, ⟨93, _⟩ => ⟨S4x16x8192x1, .f32⟩
  | .hbm, ⟨94, _⟩ => ⟨S4x16x8192x8192, .f32⟩
  | .hbm, ⟨95, _⟩ => ⟨S4x16x8192x8192, .f32⟩
  | .hbm, ⟨96, _⟩ => ⟨S4x16x8192x8192, .f32⟩
  | .hbm, ⟨97, _⟩ => ⟨S_, .f32⟩
  | .hbm, ⟨98, _⟩ => ⟨S4x16x8192, .f32⟩
  | .hbm, ⟨99, _⟩ => ⟨S4x16x8192x1, .f32⟩
  | .hbm, ⟨100, _⟩ => ⟨S4x16x8192x8192, .f32⟩
  | .hbm, ⟨101, _⟩ => ⟨S4x16x8192x8192, .f32⟩
  | .hbm, ⟨102, _⟩ => ⟨S4x16x64x8192, .f32⟩
  | .hbm, ⟨103, _⟩ => ⟨S4x8192x16x64, .f32⟩
  | .hbm, ⟨104, _⟩ => ⟨S4x8192x1024, .f32⟩
  | _, _ => ⟨S256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v8 : Ref sig .tc := ⟨.hbm, 29, rfl⟩
abbrev main_v9 : Ref sig .tc := ⟨.hbm, 30, rfl⟩
abbrev main_c_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_c : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_0 : Ref sig .tc := ⟨.hbm, 45, rfl⟩
abbrev main_call1_v12 : Ref sig .tc := ⟨.hbm, 46, rfl⟩
abbrev main_call1_v13 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_c_1 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_v25 : Ref sig .tc := ⟨.hbm, 67, rfl⟩
abbrev main_v26 : Ref sig .tc := ⟨.hbm, 68, rfl⟩
abbrev main_c_2 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_cst : Ref sig .tc := ⟨.hbm, 84, rfl⟩
abbrev main_call3_v0 : Ref sig .tc := ⟨.hbm, 85, rfl⟩
abbrev main_call3_v1 : Ref sig .tc := ⟨.hbm, 86, rfl⟩
abbrev main_v41 : Ref sig .tc := ⟨.hbm, 87, rfl⟩
abbrev main_cst_3 : Ref sig .tc := ⟨.hbm, 88, rfl⟩
abbrev main_v42 : Ref sig .tc := ⟨.hbm, 89, rfl⟩
abbrev main_cst_4 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_cst_5 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩

abbrev nD : Nat := 1
abbrev τ : Topo := Topo.v7x

variable {F : FTy → Type} [FloatOps F]
-- ==== Experts.lean ====
abbrev S68 : Shape := ⟨1, ![68]⟩
abbrev S1 : Shape := ⟨1, ![1]⟩
abbrev S34816x1152 : Shape := ⟨2, ![34816, 1152]⟩
abbrev S32x1024x256 : Shape := ⟨3, ![32, 1024, 256]⟩
abbrev S4x2048x1024 : Shape := ⟨3, ![4, 2048, 1024]⟩
abbrev S34816x1024 : Shape := ⟨2, ![34816, 1024]⟩
abbrev S512x1152 : Shape := ⟨2, ![512, 1152]⟩
abbrev S8x1024x256 : Shape := ⟨3, ![8, 1024, 256]⟩
abbrev S1x2048x1024 : Shape := ⟨3, ![1, 2048, 1024]⟩
abbrev S512x1024 : Shape := ⟨2, ![512, 1024]⟩
abbrev S512x2048 : Shape := ⟨2, ![512, 2048]⟩
abbrev S512x128 : Shape := ⟨2, ![512, 128]⟩
abbrev S1x1024x256 : Shape := ⟨3, ![1, 1024, 256]⟩
abbrev S1024x256 : Shape := ⟨2, ![1024, 256]⟩
abbrev S512x256 : Shape := ⟨2, ![512, 256]⟩
abbrev S512 : Shape := ⟨1, ![512]⟩
abbrev S512x1 : Shape := ⟨2, ![512, 1]⟩
abbrev S2048x1024 : Shape := ⟨2, ![2048, 1024]⟩

abbrev nBuf : Space → Nat
  | .hbm => 5
  | .vmem => 11
  | .smem => 2
  | _ => 0

abbrev bufTy : (tb : Table) → Fin (tcTables nBuf tb) → BufTy
  | .hbm, ⟨0, _⟩ => ⟨S34816x1152, .f32⟩
  | .hbm, ⟨1, _⟩ => ⟨S32x1024x256, .bf16⟩
  | .hbm, ⟨2, _⟩ => ⟨S32x1024x256, .bf16⟩
  | .hbm, ⟨3, _⟩ => ⟨S4x2048x1024, .bf16⟩
  | .hbm, ⟨4, _⟩ => ⟨S34816x1024, .f32⟩
  | .local _ .vmem, ⟨0, _⟩ => ⟨S512x1152, .f32⟩
  | .local _ .vmem, ⟨1, _⟩ => ⟨S512x1152, .f32⟩
  | .local _ .vmem, ⟨2, _⟩ => ⟨S8x1024x256, .bf16⟩
  | .local _ .vmem, ⟨3, _⟩ => ⟨S8x1024x256, .bf16⟩
  | .local _ .vmem, ⟨4, _⟩ => ⟨S8x1024x256, .bf16⟩
  | .local _ .vmem, ⟨5, _⟩ => ⟨S8x1024x256, .bf16⟩
  | .local _ .vmem, ⟨6, _⟩ => ⟨S1x2048x1024, .bf16⟩
  | .local _ .vmem, ⟨7, _⟩ => ⟨S1x2048x1024, .bf16⟩
  | .local _ .vmem, ⟨8, _⟩ => ⟨S512x1024, .f32⟩
  | .local _ .vmem, ⟨9, _⟩ => ⟨S512x1024, .f32⟩
  | .local _ .vmem, ⟨10, _⟩ => ⟨S512x2048, .bf16⟩
  | .local _ .smem, ⟨0, _⟩ => ⟨S68, .i32⟩
  | .local _ .smem, ⟨1, _⟩ => ⟨S1, .i32⟩
  | _, _ => ⟨S34816x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![68], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v8 : Index := Scalar.indexCast arg0
  ![v8.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S68.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S68) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S68.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S68) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S68.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S68) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsReferenceIdeal.lean ====
abbrev S68 : Shape := ⟨1, ![68]⟩
abbrev S1 : Shape := ⟨1, ![1]⟩
abbrev S34816x1152 : Shape := ⟨2, ![34816, 1152]⟩
abbrev S32x1024x256 : Shape := ⟨3, ![32, 1024, 256]⟩
abbrev S4x2048x1024 : Shape := ⟨3, ![4, 2048, 1024]⟩
abbrev S34816 : Shape := ⟨1, ![34816]⟩
abbrev S32 : Shape := ⟨1, ![32]⟩
abbrev S68x512 : Shape := ⟨2, ![68, 512]⟩
abbrev S1x32 : Shape := ⟨2, ![1, 32]⟩
abbrev S_ : Shape := ⟨0, ![]⟩
abbrev S34816x1 : Shape := ⟨2, ![34816, 1]⟩
abbrev S34816x32 : Shape := ⟨2, ![34816, 32]⟩
abbrev S34816x1024 : Shape := ⟨2, ![34816, 1024]⟩
abbrev S34816x32x256 : Shape := ⟨3, ![34816, 32, 256]⟩
abbrev S34816x32x1 : Shape := ⟨3, ![34816, 32, 1]⟩
abbrev S32x256x1024 : Shape := ⟨3, ![32, 256, 1024]⟩

abbrev nBuf : Space → Nat
  | .hbm => 83
  | .vmem => 0
  | .smem => 0
  | _ => 0

abbrev bufTy : (tb : Table) → Fin (tcTables nBuf tb) → BufTy
  | .hbm, ⟨0, _⟩ => ⟨S68, .i32⟩
  | .hbm, ⟨1, _⟩ => ⟨S1, .i32⟩
  | .hbm, ⟨2, _⟩ => ⟨S34816x1152, .f32⟩
  | .hbm, ⟨3, _⟩ => ⟨S32x1024x256, .bf16⟩
  | .hbm, ⟨4, _⟩ => ⟨S32x1024x256, .bf16⟩
  | .hbm, ⟨5, _⟩ => ⟨S4x2048x1024, .bf16⟩
  | .hbm, ⟨6, _⟩ => ⟨S34816, .i32⟩
  | .hbm, ⟨7, _⟩ => ⟨S32, .i32⟩
  | .hbm, ⟨8, _⟩ => ⟨S68x512, .i32⟩
  | .hbm, ⟨9, _⟩ => ⟨S34816, .i32⟩
  | .hbm, ⟨10, _⟩ => ⟨S1x32, .i32⟩
  | .hbm, ⟨11, _⟩ => ⟨S_, .i32⟩
  | .hbm, ⟨12, _⟩ => ⟨S_, .i32⟩
  | .hbm, ⟨13, _⟩ => ⟨S1x32, .i32⟩
  | .hbm, ⟨14, _⟩ => ⟨S1x32, .i32⟩
  | .hbm, ⟨15, _⟩ => ⟨S1x32, .i32⟩
  | .hbm, ⟨16, _⟩ => ⟨S_, .i32⟩
  | .hbm, ⟨17, _⟩ => ⟨S1x32, .i32⟩
  | .hbm, ⟨18, _⟩ => ⟨S1x32, .i1⟩
  | .hbm, ⟨19, _⟩ => ⟨S1x32, .i32⟩
  | .hbm, ⟨20, _⟩ => ⟨S1x32, .i32⟩
  | .hbm, ⟨21, _⟩ => ⟨S_, .i32⟩
  | .hbm, ⟨22, _⟩ => ⟨S1x32, .i32⟩
  | .hbm, ⟨23, _⟩ => ⟨S1x32, .i1⟩
  | .hbm, ⟨24, _⟩ => ⟨S1x32, .i1⟩
  | .hbm, ⟨25, _⟩ => ⟨S_, .i32⟩
  | .hbm, ⟨26, _⟩ => ⟨S1x32, .i32⟩
  | .hbm, ⟨27, _⟩ => ⟨S1x32, .i32⟩
  | .hbm, ⟨28, _⟩ => ⟨S1x32, .i32⟩
  | .hbm, ⟨29, _⟩ => ⟨S34816x1, .i32⟩
  | .hbm, ⟨30, _⟩ => ⟨S34816x32, .i32⟩
  | .hbm, ⟨31, _⟩ => ⟨S34816x32, .i32⟩
  | .hbm, ⟨32, _⟩ => ⟨S34816x32, .i1⟩
  | .hbm, ⟨33, _⟩ => ⟨S34816x1, .i32⟩
  | .hbm, ⟨34, _⟩ => ⟨S_, .i32⟩
  | .hbm, ⟨35, _⟩ => ⟨S_, .i32⟩
  | .hbm, ⟨36, _⟩ => ⟨S34816x1, .i32⟩
  | .hbm, ⟨37, _⟩ => ⟨S34816x1, .i32⟩
  | .hbm, ⟨38, _⟩ => ⟨S34816x1, .i32⟩
  | .hbm, ⟨39, _⟩ => ⟨S_, .i32⟩
  | .hbm, ⟨40, _⟩ => ⟨S34816x1, .i32⟩
  | .hbm, ⟨41, _⟩ => ⟨S34816x1, .i1⟩
  | .hbm, ⟨42, _⟩ => ⟨S34816x1, .i32⟩
  | .hbm, ⟨43, _⟩ => ⟨S34816x1, .i32⟩
  | .hbm, ⟨44, _⟩ => ⟨S_, .i32⟩
  | .hbm, ⟨45, _⟩ => ⟨S34816x1, .i32⟩
  | .hbm, ⟨46, _⟩ => ⟨S34816x1, .i1⟩
  | .hbm, ⟨47, _⟩ => ⟨S34816x1, .i1⟩
  | .hbm, ⟨48, _⟩ => ⟨S_, .i32⟩
  | .hbm, ⟨49, _⟩ => ⟨S34816x1, .i32⟩
  | .hbm, ⟨50, _⟩ => ⟨S34816x1, .i32⟩
  | .hbm, ⟨51, _⟩ => ⟨S34816x1, .i32⟩
  | .hbm, ⟨52, _⟩ => ⟨S_, .i32⟩
  | .hbm, ⟨53, _⟩ => ⟨S34816x1, .i32⟩
  | .hbm, ⟨54, _⟩ => ⟨S34816x1, .i1⟩
  | .hbm, ⟨55, _⟩ => ⟨S34816x32, .i1⟩
  | .hbm, ⟨56, _⟩ => ⟨S34816x32, .i1⟩
  | .hbm, ⟨57, _⟩ => ⟨S34816x32, .f32⟩
  | .hbm, ⟨58, _⟩ => ⟨S_, .f32⟩
  | .hbm, ⟨59, _⟩ => ⟨S_, .f32⟩
  | .hbm, ⟨60, _⟩ => ⟨S34816x32, .f32⟩
  | .hbm, ⟨61, _⟩ => ⟨S34816x32, .f32⟩
  | .hbm, ⟨62, _⟩ => ⟨S34816x1024, .f32⟩
  | .hbm, ⟨63, _⟩ => ⟨S32x1024x256, .f32⟩
  | .hbm, ⟨64, _⟩ => ⟨S34816x32x256, .f32⟩
  | .hbm, ⟨65, _⟩ => ⟨S32x1024x256, .f32⟩
  | .hbm, ⟨66, _⟩ => ⟨S34816x32x256, .f32⟩
  | .hbm, ⟨67, _⟩ => ⟨S34816x32x256, .f32⟩
  | .hbm, ⟨68, _⟩ => ⟨S34816x32x256, .f32⟩
  | .hbm, ⟨69, _⟩ => ⟨S_, .f32⟩
  | .hbm, ⟨70, _⟩ => ⟨S34816x32x256, .f32⟩
  | .hbm, ⟨71, _⟩ => ⟨S34816x32x256, .f32⟩
  | .hbm, ⟨72, _⟩ => ⟨S_, .f32⟩
  | .hbm, ⟨73, _⟩ => ⟨S34816x32x256, .f32⟩
  | .hbm, ⟨74, _⟩ => ⟨S34816x32x256, .f32⟩
  | .hbm, ⟨75, _⟩ => ⟨S34816x32x256, .f32⟩
  | .hbm, ⟨76, _⟩ => ⟨S34816x32x256, .f32⟩
  | .hbm, ⟨77, _⟩ => ⟨S34816x32x1, .f32⟩
  | .hbm, ⟨78, _⟩ => ⟨S34816x32x256, .f32⟩
  | .hbm, ⟨79, _⟩ => ⟨S34816x32x256, .f32⟩
  | .hbm, ⟨80, _⟩ => ⟨S4x2048x1024, .f32⟩
  | .hbm, ⟨81, _⟩ => ⟨S32x256x1024, .f32⟩
  | .hbm, ⟨82, _⟩ => ⟨S34816x1024, .f32⟩
  | _, _ => ⟨S68, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_c_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_c : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_0 : Ref sig .tc := ⟨.hbm, 48, rfl⟩
abbrev main_call1_v12 : Ref sig .tc := ⟨.hbm, 49, rfl⟩
abbrev main_call1_v13 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_cst : Ref sig .tc := ⟨.hbm, 58, rfl⟩
abbrev main_call2_v0 : Ref sig .tc := ⟨.hbm, 59, rfl⟩
abbrev main_call2_v1 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_call3_v0 : Ref sig .tc := ⟨.hbm, 67, rfl⟩
abbrev main_call3_v1 : Ref sig .tc := ⟨.hbm, 68, rfl⟩
abbrev main_call3_cst : Ref sig .tc := ⟨.hbm, 69, rfl⟩
abbrev main_call3_v2 : Ref sig .tc := ⟨.hbm, 70, rfl⟩
abbrev main_call3_v3 : Ref sig .tc := ⟨.hbm, 71, rfl⟩
abbrev main_call3_cst_0 : Ref sig .tc := ⟨.hbm, 72, rfl⟩
abbrev main_call3_v4 : Ref sig .tc := ⟨.hbm, 73, rfl⟩
abbrev main_call3_v5 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩

abbrev nD : Nat := 1
abbrev τ : Topo := Topo.v7x

variable {F : FTy → Type} [FloatOps F]
-- ==== Last.lean ====
abbrev S4x8192x1024 : Shape := ⟨3, ![4, 8192, 1024]⟩
abbrev S4x1x1024 : Shape := ⟨3, ![4, 1, 1024]⟩
abbrev S1x1024 : Shape := ⟨2, ![1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 9
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x1x1024, .f32⟩
  | .hbm, ⟨3, _⟩ => ⟨S1x1024, .f32⟩
  | .hbm, ⟨4, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1x512x1024, .f32⟩
  | .local _ .vmem, ⟨8, _⟩ => ⟨S1x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== LastReferenceIdeal.lean ====
abbrev S4x8192x1024 : Shape := ⟨3, ![4, 8192, 1024]⟩
abbrev S4x1x1024 : Shape := ⟨3, ![4, 1, 1024]⟩
abbrev S1x1024 : Shape := ⟨2, ![1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x1x1024, .f32⟩
  | .hbm, ⟨3, _⟩ => ⟨S1x1024, .f32⟩
  | .hbm, ⟨4, _⟩ => ⟨S4x8192x1024, .f32⟩
  | .hbm, ⟨5, _⟩ => ⟨S4x8192x1024, .f32⟩
  | .hbm, ⟨6, _⟩ => ⟨S4x8192x1024, .f32⟩
  | .hbm, ⟨7, _⟩ => ⟨S4x8192x1024, .f32⟩
  | .hbm, ⟨8, _⟩ => ⟨S_, .f32⟩
  | .hbm, ⟨9, _⟩ => ⟨S4x8192, .f32⟩
  | .hbm, ⟨10, _⟩ => ⟨S4x8192x1, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S_, .f32⟩
  | .hbm, ⟨15, _⟩ => ⟨S4x8192x1, .f32⟩
  | .hbm, ⟨16, _⟩ => ⟨S4x8192x1, .f32⟩
  | .hbm, ⟨17, _⟩ => ⟨S4x8192x1, .f32⟩
  | .hbm, ⟨18, _⟩ => ⟨S4x8192x1024, .f32⟩
  | .hbm, ⟨19, _⟩ => ⟨S4x8192x1024, .f32⟩
  | .hbm, ⟨20, _⟩ => ⟨S1x1x1024, .f32⟩
  | .hbm, ⟨21, _⟩ => ⟨S4x8192x1024, .f32⟩
  | .hbm, ⟨22, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Rows.lean ====
abbrev S4x8192x1024 : Shape := ⟨3, ![4, 8192, 1024]⟩
abbrev S4x1x1024 : Shape := ⟨3, ![4, 1, 1024]⟩
abbrev S1x1024 : Shape := ⟨2, ![1, 1024]⟩
abbrev S1024x2432 : Shape := ⟨2, ![1024, 2432]⟩
abbrev S1x384 : Shape := ⟨2, ![1, 384]⟩
abbrev S384x1024 : Shape := ⟨2, ![384, 1024]⟩
abbrev S1x256 : Shape := ⟨2, ![1, 256]⟩
abbrev S256x2048 : Shape := ⟨2, ![256, 2048]⟩
abbrev S1x128 : Shape := ⟨2, ![1, 128]⟩
abbrev S8192x128 : Shape := ⟨2, ![8192, 128]⟩
abbrev S512x512 : Shape := ⟨2, ![512, 512]⟩
abbrev S128x1024 : Shape := ⟨2, ![128, 1024]⟩
abbrev S512x128 : Shape := ⟨2, ![512, 128]⟩
abbrev S4x1x128 : Shape := ⟨3, ![4, 1, 128]⟩
abbrev S4x4x8192x256 : Shape := ⟨4, ![4, 4, 8192, 256]⟩
abbrev S4x4x8192x32 : Shape := ⟨4, ![4, 4, 8192, 32]⟩
abbrev S4x4x8192x512 : Shape := ⟨4, ![4, 4, 8192, 512]⟩
abbrev S4x4x8192x8 : Shape := ⟨4, ![4, 4, 8192, 8]⟩
abbrev S4x16x8192x128 : Shape := ⟨4, ![4, 16, 8192, 128]⟩
abbrev S4x16x8x128 : Shape := ⟨4, ![4, 16, 8, 128]⟩
abbrev S1x512x1024 : Shape := ⟨3, ![1, 512, 1024]⟩
abbrev S1x1x1024 : Shape := ⟨3, ![1, 1, 1024]⟩
abbrev S1x1x128 : Shape := ⟨3, ![1, 1, 128]⟩
abbrev S1x16x512x128 : Shape := ⟨4, ![1, 16, 512, 128]⟩
abbrev S1x1x512x256 : Shape := ⟨4, ![1, 1, 512, 256]⟩
abbrev S1x1x512x32 : Shape := ⟨4, ![1, 1, 512, 32]⟩
abbrev S1x1x512x512 : Shape := ⟨4, ![1, 1, 512, 512]⟩
abbrev S1x1x512x8 : Shape := ⟨4, ![1, 1, 512, 8]⟩
abbrev S1x1x8x128 : Shape := ⟨4, ![1, 1, 8, 128]⟩
abbrev S512x1024 : Shape := ⟨2, ![512, 1024]⟩
abbrev S512 : Shape := ⟨1, ![512]⟩
abbrev S512x1 : Shape := ⟨2, ![512, 1]⟩
abbrev S512x2432 : Shape := ⟨2, ![512, 2432]⟩
abbrev S512x384 : Shape := ⟨2, ![512, 384]⟩
abbrev S1x1x512x128 : Shape := ⟨4, ![1, 1, 512, 128]⟩
abbrev S512x256 : Shape := ⟨2, ![512, 256]⟩
abbrev S512x2048 : Shape := ⟨2, ![512, 2048]⟩
abbrev S512x32 : Shape := ⟨2, ![512, 32]⟩
abbrev S512x8 : Shape := ⟨2, ![512, 8]⟩
abbrev S128 : Shape := ⟨1, ![128]⟩
abbrev S8x128 : Shape := ⟨2, ![8, 128]⟩

abbrev nBuf : Space → Nat
  | .hbm => 31
  | .vmem => 42
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S1x1024, .f32⟩
  | .hbm, ⟨4, _⟩ => ⟨S1024x2432, .bf16⟩
  | .hbm, ⟨5, _⟩ => ⟨S1x384, .f32⟩
  | .hbm, ⟨6, _⟩ => ⟨S384x1024, .bf16⟩
  | .hbm, ⟨7, _⟩ => ⟨S1x256, .f32⟩
  | .hbm, ⟨8, _⟩ => ⟨S256x2048, .bf16⟩
  | .hbm, ⟨9, _⟩ => ⟨S1x128, .f32⟩
  | .hbm, ⟨10, _⟩ => ⟨S8192x128, .f32⟩
  | .hbm, ⟨11, _⟩ => ⟨S8192x128, .f32⟩
  | .hbm, ⟨12, _⟩ => ⟨S512x512, .bf16⟩
  | .hbm, ⟨13, _⟩ => ⟨S128x1024, .bf16⟩
  | .hbm, ⟨14, _⟩ => ⟨S128x1024, .bf16⟩
  | .hbm, ⟨15, _⟩ => ⟨S512x128, .bf16⟩
  | .hbm, ⟨16, _⟩ => ⟨S4x1x128, .f32⟩
  | .hbm, ⟨17, _⟩ => ⟨S4x4x8192x256, .f32⟩
  | .hbm, ⟨18, _⟩ => ⟨S4x4x8192x32, .f32⟩
  | .hbm, ⟨19, _⟩ => ⟨S4x4x8192x512, .f32⟩
  | .hbm, ⟨20, _⟩ => ⟨S4x4x8192x512, .f32⟩
  | .hbm, ⟨21, _⟩ => ⟨S4x4x8192x8, .f32⟩
  | .hbm, ⟨22, _⟩ => ⟨S4x16x8192x128, .bf16⟩
  | .hbm, ⟨23, _⟩ => ⟨S4x16x8192x128, .bf16⟩
  | .hbm, ⟨24, _⟩ => ⟨S4x16x8192x128, .bf16⟩
  | .hbm, ⟨25, _⟩ => ⟨S4x4x8192x256, .f32⟩
  | .hbm, ⟨26, _⟩ => ⟨S4x4x8192x32, .f32⟩
  | .hbm, ⟨27, _⟩ => ⟨S4x4x8192x512, .f32⟩
  | .hbm, ⟨28, _⟩ => ⟨S4x4x8192x512, .f32⟩
  | .hbm, ⟨29, _⟩ => ⟨S4x4x8192x8, .f32⟩
  | .hbm, ⟨30, _⟩ => ⟨S4x16x8x128, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x2432, .bf16⟩
  | .local _ .vmem, ⟨8, _⟩ => ⟨S1x384, .f32⟩
  | .local _ .vmem, ⟨9, _⟩ => ⟨S384x1024, .bf16⟩
  | .local _ .vmem, ⟨10, _⟩ => ⟨S1x256, .f32⟩
  | .local _ .vmem, ⟨11, _⟩ => ⟨S256x2048, .bf16⟩
  | .local _ .vmem, ⟨12, _⟩ => ⟨S1x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x512, .bf16⟩
  | .local _ .vmem, ⟨18, _⟩ => ⟨S128x1024, .bf16⟩
  | .local _ .vmem, ⟨19, _⟩ => ⟨S128x1024, .bf16⟩
  | .local _ .vmem, ⟨20, _⟩ => ⟨S512x128, .bf16⟩
  | .local _ .vmem, ⟨21, _⟩ => ⟨S1x1x128, .f32⟩
  | .local _ .vmem, ⟨22, _⟩ => ⟨S1x1x128, .f32⟩
  | .local _ .vmem, ⟨23, _⟩ => ⟨S1x16x512x128, .bf16⟩
  | .local _ .vmem, ⟨24, _⟩ => ⟨S1x16x512x128, .bf16⟩
  | .local _ .vmem, ⟨25, _⟩ => ⟨S1x16x512x128, .bf16⟩
  | .local _ .vmem, ⟨26, _⟩ => ⟨S1x16x512x128, .bf16⟩
  | .local _ .vmem, ⟨27, _⟩ => ⟨S1x16x512x128, .bf16⟩
  | .local _ .vmem, ⟨28, _⟩ => ⟨S1x16x512x128, .bf16⟩
  | .local _ .vmem, ⟨29, _⟩ => ⟨S1x1x512x256, .f32⟩
  | .local _ .vmem, ⟨30, _⟩ => ⟨S1x1x512x256, .f32⟩
  | .local _ .vmem, ⟨31, _⟩ => ⟨S1x1x512x32, .f32⟩
  | .local _ .vmem, ⟨32, _⟩ => ⟨S1x1x512x32, .f32⟩
  | .local _ .vmem, ⟨33, _⟩ => ⟨S1x1x512x512, .f32⟩
  | .local _ .vmem, ⟨34, _⟩ => ⟨S1x1x512x512, .f32⟩
  | .local _ .vmem, ⟨35, _⟩ => ⟨S1x1x512x512, .f32⟩
  | .local _ .vmem, ⟨36, _⟩ => ⟨S1x1x512x512, .f32⟩
  | .local _ .vmem, ⟨37, _⟩ => ⟨S1x1x512x8, .f32⟩
  | .local _ .vmem, ⟨38, _⟩ => ⟨S1x1x512x8, .f32⟩
  | .local _ .vmem, ⟨39, _⟩ => ⟨S1x1x8x128, .f32⟩
  | .local _ .vmem, ⟨40, _⟩ => ⟨S1x1x8x128, .f32⟩
  | .local _ .vmem, ⟨41, _⟩ => ⟨S1x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0_0 : Ref sig .tc := ⟨.hbm, 22, rfl⟩
abbrev main_v0_1 : Ref sig .tc := ⟨.hbm, 23, rfl⟩
abbrev main_v0_2 : Ref sig .tc := ⟨.hbm, 24, rfl⟩
abbrev main_v0_3 : Ref sig .tc := ⟨.hbm, 25, rfl⟩
abbrev main_v0_4 : Ref sig .tc := ⟨.hbm, 26, rfl⟩
abbrev main_v0_5 : Ref sig .tc := ⟨.hbm, 27, rfl⟩
abbrev main_v0_6 : Ref sig .tc := ⟨.hbm, 28, rfl⟩
abbrev main_v0_7 : Ref sig .tc := ⟨.hbm, 29, rfl⟩
abbrev main_v0_8 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc0_stg22_0 : Ref sig .tc := ⟨.vmem, 33, rfl⟩
abbrev cc0_stg22_1 : Ref sig .tc := ⟨.vmem, 34, rfl⟩
abbrev cc0_stg23_0 : Ref sig .tc := ⟨.vmem, 35, rfl⟩
abbrev cc0_stg23_1 : Ref sig .tc := ⟨.vmem, 36, rfl⟩
abbrev cc0_stg24_0 : Ref sig .tc := ⟨.vmem, 37, rfl⟩
abbrev cc0_stg24_1 : Ref sig .tc := ⟨.vmem, 38, rfl⟩
abbrev cc0_stg25_0 : Ref sig .tc := ⟨.vmem, 39, rfl⟩
abbrev cc0_stg25_1 : Ref sig .tc := ⟨.vmem, 40, rfl⟩
abbrev cc0_scratch0 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31
abbrev cc0_sem21_1 : DmaSem sig := 32
abbrev cc0_sem22_0 : DmaSem sig := 33
abbrev cc0_sem22_1 : DmaSem sig := 34
abbrev cc0_sem23_0 : DmaSem sig := 35
abbrev cc0_sem23_1 : DmaSem sig := 36
abbrev cc0_sem24_0 : DmaSem sig := 37
abbrev cc0_sem24_1 : DmaSem sig := 38
abbrev cc0_sem25_0 : DmaSem sig := 39
abbrev cc0_sem25_1 : DmaSem sig := 40

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_22 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_23 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_24 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_25 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_26 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_27 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_28 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_29 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_30 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2432 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S384x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 1 → Memref sig .tc .vmem S512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S128x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S128x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S512x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x1x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x16x512x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x16x512x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x16x512x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x1x512x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x1x512x32 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x1x512x512 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x1x512x512 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x1x512x8 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x1x8x128 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]
-- ==== RowsReferenceIdeal.lean ====
abbrev S4x8192x1024 : Shape := ⟨3, ![4, 8192, 1024]⟩
abbrev S4x1x1024 : Shape := ⟨3, ![4, 1, 1024]⟩
abbrev S1x1024 : Shape := ⟨2, ![1, 1024]⟩
abbrev S1024x2432 : Shape := ⟨2, ![1024, 2432]⟩
abbrev S1x384 : Shape := ⟨2, ![1, 384]⟩
abbrev S384x1024 : Shape := ⟨2, ![384, 1024]⟩
abbrev S1x256 : Shape := ⟨2, ![1, 256]⟩
abbrev S256x2048 : Shape := ⟨2, ![256, 2048]⟩
abbrev S1x128 : Shape := ⟨2, ![1, 128]⟩
abbrev S8192x128 : Shape := ⟨2, ![8192, 128]⟩
abbrev S512x512 : Shape := ⟨2, ![512, 512]⟩
abbrev S128x1024 : Shape := ⟨2, ![128, 1024]⟩
abbrev S512x128 : Shape := ⟨2, ![512, 128]⟩
abbrev S4x1x128 : Shape := ⟨3, ![4, 1, 128]⟩
abbrev S4x4x8192x256 : Shape := ⟨4, ![4, 4, 8192, 256]⟩
abbrev S4x4x8192x32 : Shape := ⟨4, ![4, 4, 8192, 32]⟩
abbrev S4x4x8192x512 : Shape := ⟨4, ![4, 4, 8192, 512]⟩
abbrev S4x4x8192x8 : Shape := ⟨4, ![4, 4, 8192, 8]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x2432 : Shape := ⟨3, ![4, 8192, 2432]⟩
abbrev S4x8192x256 : Shape := ⟨3, ![4, 8192, 256]⟩
abbrev S1x1x256 : Shape := ⟨3, ![1, 1, 256]⟩
abbrev S4x8192x32 : Shape := ⟨3, ![4, 8192, 32]⟩
abbrev S8192x32 : Shape := ⟨2, ![8192, 32]⟩
abbrev S1x8192x32 : Shape := ⟨3, ![1, 8192, 32]⟩
abbrev S4x8192x8 : Shape := ⟨3, ![4, 8192, 8]⟩
abbrev S1x8 : Shape := ⟨2, ![1, 8]⟩
abbrev S1x1x8 : Shape := ⟨3, ![1, 1, 8]⟩
abbrev S1x4x8192x256 : Shape := ⟨4, ![1, 4, 8192, 256]⟩
abbrev S3x4x8192x256 : Shape := ⟨4, ![3, 4, 8192, 256]⟩
abbrev S1x4x8192x32 : Shape := ⟨4, ![1, 4, 8192, 32]⟩
abbrev S3x4x8192x32 : Shape := ⟨4, ![3, 4, 8192, 32]⟩
abbrev S4x8192x512 : Shape := ⟨3, ![4, 8192, 512]⟩
abbrev S1x4x8192x512 : Shape := ⟨4, ![1, 4, 8192, 512]⟩
abbrev S3x4x8192x512 : Shape := ⟨4, ![3, 4, 8192, 512]⟩
abbrev S1x4x8192x8 : Shape := ⟨4, ![1, 4, 8192, 8]⟩
abbrev S3x4x8192x8 : Shape := ⟨4, ![3, 4, 8192, 8]⟩

abbrev nBuf : Space → Nat
  | .hbm => 113
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S1x1024, .f32⟩
  | .hbm, ⟨4, _⟩ => ⟨S1024x2432, .bf16⟩
  | .hbm, ⟨5, _⟩ => ⟨S1x384, .f32⟩
  | .hbm, ⟨6, _⟩ => ⟨S384x1024, .bf16⟩
  | .hbm, ⟨7, _⟩ => ⟨S1x256, .f32⟩
  | .hbm, ⟨8, _⟩ => ⟨S256x2048, .bf16⟩
  | .hbm, ⟨9, _⟩ => ⟨S1x128, .f32⟩
  | .hbm, ⟨10, _⟩ => ⟨S8192x128, .f32⟩
  | .hbm, ⟨11, _⟩ => ⟨S8192x128, .f32⟩
  | .hbm, ⟨12, _⟩ => ⟨S512x512, .bf16⟩
  | .hbm, ⟨13, _⟩ => ⟨S128x1024, .bf16⟩
  | .hbm, ⟨14, _⟩ => ⟨S128x1024, .bf16⟩
  | .hbm, ⟨15, _⟩ => ⟨S512x128, .bf16⟩
  | .hbm, ⟨16, _⟩ => ⟨S4x1x128, .f32⟩
  | .hbm, ⟨17, _⟩ => ⟨S4x4x8192x256, .f32⟩
  | .hbm, ⟨18, _⟩ => ⟨S4x4x8192x32, .f32⟩
  | .hbm, ⟨19, _⟩ => ⟨S4x4x8192x512, .f32⟩
  | .hbm, ⟨20, _⟩ => ⟨S4x4x8192x512, .f32⟩
  | .hbm, ⟨21, _⟩ => ⟨S4x4x8192x8, .f32⟩
  | .hbm, ⟨22, _⟩ => ⟨S4x8192x1024, .f32⟩
  | .hbm, ⟨23, _⟩ => ⟨S_, .f32⟩
  | .hbm, ⟨24, _⟩ => ⟨S4x8192, .f32⟩
  | .hbm, ⟨25, _⟩ => ⟨S4x8192x1, .f32⟩
  | .hbm, ⟨26, _⟩ => ⟨S_, .f32⟩
  | .hbm, ⟨27, _⟩ => ⟨S4x8192x1, .f32⟩
  | .hbm, ⟨28, _⟩ => ⟨S4x8192x1, .f32⟩
  | .hbm, ⟨29, _⟩ => ⟨S_, .f32⟩
  | .hbm, ⟨30, _⟩ => ⟨S4x8192x1, .f32⟩
  | .hbm, ⟨31, _⟩ => ⟨S4x8192x1, .f32⟩
  | .hbm, ⟨32, _⟩ => ⟨S4x8192x1, .f32⟩
  | .hbm, ⟨33, _⟩ => ⟨S4x8192x1024, .f32⟩
  | .hbm, ⟨34, _⟩ => ⟨S4x8192x1024, .f32⟩
  | .hbm, ⟨35, _⟩ => ⟨S1x1x1024, .f32⟩
  | .hbm, ⟨36, _⟩ => ⟨S4x8192x1024, .f32⟩
  | .hbm, ⟨37, _⟩ => ⟨S4x8192x1024, .f32⟩
  | .hbm, ⟨38, _⟩ => ⟨S_, .f32⟩
  | .hbm, ⟨39, _⟩ => ⟨S4x1x1024, .f32⟩
  | .hbm, ⟨40, _⟩ => ⟨S4x1x1024, .f32⟩
  | .hbm, ⟨41, _⟩ => ⟨S4x8192x1024, .f32⟩
  | .hbm, ⟨42, _⟩ => ⟨S4x8192x1024, .f32⟩
  | .hbm, ⟨43, _⟩ => ⟨S4x8192x1024, .f32⟩
  | .hbm, ⟨44, _⟩ => ⟨S4x8192x1024, .f32⟩
  | .hbm, ⟨45, _⟩ => ⟨S1024x2432, .f32⟩
  | .hbm, ⟨46, _⟩ => ⟨S4x8192x2432, .f32⟩
  | .hbm, ⟨47, _⟩ => ⟨S4x8192x256, .f32⟩
  | .hbm, ⟨48, _⟩ => ⟨S4x8192x256, .f32⟩
  | .hbm, ⟨49, _⟩ => ⟨S_, .f32⟩
  | .hbm, ⟨50, _⟩ => ⟨S4x8192, .f32⟩
  | .hbm, ⟨51, _⟩ => ⟨S4x8192x1, .f32⟩
  | .hbm, ⟨52, _⟩ => ⟨S_, .f32⟩
  | .hbm, ⟨53, _⟩ => ⟨S4x8192x1, .f32⟩
  | .hbm, ⟨54, _⟩ => ⟨S4x8192x1, .f32⟩
  | .hbm, ⟨55, _⟩ => ⟨S_, .f32⟩
  | .hbm, ⟨56, _⟩ => ⟨S4x8192x1, .f32⟩
  | .hbm, ⟨57, _⟩ => ⟨S4x8192x1, .f32⟩
  | .hbm, ⟨58, _⟩ => ⟨S4x8192x1, .f32⟩
  | .hbm, ⟨59, _⟩ => ⟨S4x8192x256, .f32⟩
  | .hbm, ⟨60, _⟩ => ⟨S4x8192x256, .f32⟩
  | .hbm, ⟨61, _⟩ => ⟨S1x1x256, .f32⟩
  | .hbm, ⟨62, _⟩ => ⟨S4x8192x256, .f32⟩
  | .hbm, ⟨63, _⟩ => ⟨S4x8192x256, .f32⟩
  | .hbm, ⟨64, _⟩ => ⟨S4x8192x32, .f32⟩
  | .hbm, ⟨65, _⟩ => ⟨S8192x32, .f32⟩
  | .hbm, ⟨66, _⟩ => ⟨S1x8192x32, .f32⟩
  | .hbm, ⟨67, _⟩ => ⟨S4x8192x32, .f32⟩
  | .hbm, ⟨68, _⟩ => ⟨S4x8192x32, .f32⟩
  | .hbm, ⟨69, _⟩ => ⟨S4x8192x32, .f32⟩
  | .hbm, ⟨70, _⟩ => ⟨S8192x32, .f32⟩
  | .hbm, ⟨71, _⟩ => ⟨S1x8192x32, .f32⟩
  | .hbm, ⟨72, _⟩ => ⟨S4x8192x32, .f32⟩
  | .hbm, ⟨73, _⟩ => ⟨S4x8192x32, .f32⟩
  | .hbm, ⟨74, _⟩ => ⟨S4x8192x32, .f32⟩
  | .hbm, ⟨75, _⟩ => ⟨S4x8192x8, .f32⟩
  | .hbm, ⟨76, _⟩ => ⟨S1x8, .f32⟩
  | .hbm, ⟨77, _⟩ => ⟨S1x1x8, .f32⟩
  | .hbm, ⟨78, _⟩ => ⟨S4x8192x8, .f32⟩
  | .hbm, ⟨79, _⟩ => ⟨S4x8192x8, .f32⟩
  | .hbm, ⟨80, _⟩ => ⟨S4x8192x8, .f32⟩
  | .hbm, ⟨81, _⟩ => ⟨S_, .f32⟩
  | .hbm, ⟨82, _⟩ => ⟨S4x8192x8, .f32⟩
  | .hbm, ⟨83, _⟩ => ⟨S4x8192x8, .f32⟩
  | .hbm, ⟨84, _⟩ => ⟨S4x8192x8, .f32⟩
  | .hbm, ⟨85, _⟩ => ⟨S4x8192x8, .f32⟩
  | .hbm, ⟨86, _⟩ => ⟨S4x8192x8, .i1⟩
  | .hbm, ⟨87, _⟩ => ⟨S4x8192x8, .f32⟩
  | .hbm, ⟨88, _⟩ => ⟨S4x8192x8, .f32⟩
  | .hbm, ⟨89, _⟩ => ⟨S4x8192x8, .f32⟩
  | .hbm, ⟨90, _⟩ => ⟨S4x8192x8, .f32⟩
  | .hbm, ⟨91, _⟩ => ⟨S4x8192x8, .f32⟩
  | .hbm, ⟨92, _⟩ => ⟨S4x8192x8, .f32⟩
  | .hbm, ⟨93, _⟩ => ⟨S4x8192x8, .f32⟩
  | .hbm, ⟨94, _⟩ => ⟨S4x8192x8, .f32⟩
  | .hbm, ⟨95, _⟩ => ⟨S4x8192x8, .f32⟩
  | .hbm, ⟨96, _⟩ => ⟨S1x4x8192x256, .f32⟩
  | .hbm, ⟨97, _⟩ => ⟨S3x4x8192x256, .f32⟩
  | .hbm, ⟨98, _⟩ => ⟨S4x4x8192x256, .f32⟩
  | .hbm, ⟨99, _⟩ => ⟨S1x4x8192x32, .f32⟩
  | .hbm, ⟨100, _⟩ => ⟨S3x4x8192x32, .f32⟩
  | .hbm, ⟨101, _⟩ => ⟨S4x4x8192x32, .f32⟩
  | .hbm, ⟨102, _⟩ => ⟨S4x8192x512, .f32⟩
  | .hbm, ⟨103, _⟩ => ⟨S1x4x8192x512, .f32⟩
  | .hbm, ⟨104, _⟩ => ⟨S3x4x8192x512, .f32⟩
  | .hbm, ⟨105, _⟩ => ⟨S4x4x8192x512, .f32⟩
  | .hbm, ⟨106, _⟩ => ⟨S4x8192x512, .f32⟩
  | .hbm, ⟨107, _⟩ => ⟨S1x4x8192x512, .f32⟩
  | .hbm, ⟨108, _⟩ => ⟨S3x4x8192x512, .f32⟩
  | .hbm, ⟨109, _⟩ => ⟨S4x4x8192x512, .f32⟩
  | .hbm, ⟨110, _⟩ => ⟨S1x4x8192x8, .f32⟩
  | .hbm, ⟨111, _⟩ => ⟨S3x4x8192x8, .f32⟩
  | .hbm, ⟨112, _⟩ => ⟨S4x4x8192x8, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_cst : Ref sig .tc := ⟨.hbm, 23, rfl⟩
abbrev main_v1 : Ref sig .tc := ⟨.hbm, 24, rfl⟩
abbrev main_v2 : Ref sig .tc := ⟨.hbm, 25, rfl⟩
abbrev main_cst_0 : Ref sig .tc := ⟨.hbm, 26, rfl⟩
abbrev main_v3 : Ref sig .tc := ⟨.hbm, 27, rfl⟩
abbrev main_v4 : Ref sig .tc := ⟨.hbm, 28, rfl⟩
abbrev main_cst_1 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_cst_2 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_cst_3 : Ref sig .tc := ⟨.hbm, 49, rfl⟩
abbrev main_v23 : Ref sig .tc := ⟨.hbm, 50, rfl⟩
abbrev main_v24 : Ref sig .tc := ⟨.hbm, 51, rfl⟩
abbrev main_cst_4 : Ref sig .tc := ⟨.hbm, 52, rfl⟩
abbrev main_v25 : Ref sig .tc := ⟨.hbm, 53, rfl⟩
abbrev main_v26 : Ref sig .tc := ⟨.hbm, 54, rfl⟩
abbrev main_cst_5 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_call0_v0 : Ref sig .tc := ⟨.hbm, 80, rfl⟩
abbrev main_call0_call0_cst : Ref sig .tc := ⟨.hbm, 81, rfl⟩
abbrev main_call0_call0_v0 : Ref sig .tc := ⟨.hbm, 82, rfl⟩
abbrev main_call0_call0_v1 : Ref sig .tc := ⟨.hbm, 83, rfl⟩
abbrev main_call0_call0_v2 : Ref sig .tc := ⟨.hbm, 84, rfl⟩
abbrev main_call0_call0_v3 : Ref sig .tc := ⟨.hbm, 85, rfl⟩
abbrev main_call0_call0_v4 : Ref sig .tc := ⟨.hbm, 86, rfl⟩
abbrev main_call0_call0_v5 : Ref sig .tc := ⟨.hbm, 87, rfl⟩
abbrev main_call0_call0_v6 : Ref sig .tc := ⟨.hbm, 88, rfl⟩
abbrev main_call0_call0_v7 : Ref sig .tc := ⟨.hbm, 89, rfl⟩
abbrev main_call0_call0_v8 : Ref sig .tc := ⟨.hbm, 90, rfl⟩
abbrev main_call0_call0_v9 : Ref sig .tc := ⟨.hbm, 91, rfl⟩
abbrev main_call0_call0_v10 : Ref sig .tc := ⟨.hbm, 92, rfl⟩
abbrev main_call0_call0_v11 : Ref sig .tc := ⟨.hbm, 93, rfl⟩
abbrev main_call0_v1 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩

abbrev nD : Nat := 1
abbrev τ : Topo := Topo.v7x

variable {F : FTy → Type} [FloatOps F]
-- ==== SampleLast.lean ====
abbrev S8x64x1024 : Shape := ⟨3, ![8, 64, 1024]⟩
abbrev S8x1x1024 : Shape := ⟨3, ![8, 1, 1024]⟩
abbrev S1x1024 : Shape := ⟨2, ![1, 1024]⟩
abbrev S1x64x1024 : Shape := ⟨3, ![1, 64, 1024]⟩
abbrev S1x1x1024 : Shape := ⟨3, ![1, 1, 1024]⟩
abbrev S64x1024 : Shape := ⟨2, ![64, 1024]⟩
abbrev S64 : Shape := ⟨1, ![64]⟩
abbrev S64x1 : Shape := ⟨2, ![64, 1]⟩

abbrev nBuf : Space → Nat
  | .hbm => 5
  | .vmem => 9
  | .smem => 0
  | _ => 0

abbrev bufTy : (tb : Table) → Fin (tcTables nBuf tb) → BufTy
  | .hbm, ⟨0, _⟩ => ⟨S8x64x1024, .f32⟩
  | .hbm, ⟨1, _⟩ => ⟨S8x64x1024, .f32⟩
  | .hbm, ⟨2, _⟩ => ⟨S8x1x1024, .f32⟩
  | .hbm, ⟨3, _⟩ => ⟨S1x1024, .f32⟩
  | .hbm, ⟨4, _⟩ => ⟨S8x64x1024, .f32⟩
  | .local _ .vmem, ⟨0, _⟩ => ⟨S1x64x1024, .f32⟩
  | .local _ .vmem, ⟨1, _⟩ => ⟨S1x64x1024, .f32⟩
  | .local _ .vmem, ⟨2, _⟩ => ⟨S1x64x1024, .f32⟩
  | .local _ .vmem, ⟨3, _⟩ => ⟨S1x64x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1x64x1024, .f32⟩
  | .local _ .vmem, ⟨8, _⟩ => ⟨S1x64x1024, .f32⟩
  | _, _ => ⟨S8x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SampleLastReferenceIdeal.lean ====
abbrev S8x64x1024 : Shape := ⟨3, ![8, 64, 1024]⟩
abbrev S8x1x1024 : Shape := ⟨3, ![8, 1, 1024]⟩
abbrev S1x1024 : Shape := ⟨2, ![1, 1024]⟩
abbrev S_ : Shape := ⟨0, ![]⟩
abbrev S8x64 : Shape := ⟨2, ![8, 64]⟩
abbrev S8x64x1 : Shape := ⟨3, ![8, 64, 1]⟩
abbrev S1x1x1024 : Shape := ⟨3, ![1, 1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8x64x1024, .f32⟩
  | .hbm, ⟨1, _⟩ => ⟨S8x64x1024, .f32⟩
  | .hbm, ⟨2, _⟩ => ⟨S8x1x1024, .f32⟩
  | .hbm, ⟨3, _⟩ => ⟨S1x1024, .f32⟩
  | .hbm, ⟨4, _⟩ => ⟨S8x64x1024, .f32⟩
  | .hbm, ⟨5, _⟩ => ⟨S8x64x1024, .f32⟩
  | .hbm, ⟨6, _⟩ => ⟨S8x64x1024, .f32⟩
  | .hbm, ⟨7, _⟩ => ⟨S8x64x1024, .f32⟩
  | .hbm, ⟨8, _⟩ => ⟨S_, .f32⟩
  | .hbm, ⟨9, _⟩ => ⟨S8x64, .f32⟩
  | .hbm, ⟨10, _⟩ => ⟨S8x64x1, .f32⟩
  | .hbm, ⟨11, _⟩ => ⟨S_, .f32⟩
  | .hbm, ⟨12, _⟩ => ⟨S8x64x1, .f32⟩
  | .hbm, ⟨13, _⟩ => ⟨S8x64x1, .f32⟩
  | .hbm, ⟨14, _⟩ => ⟨S_, .f32⟩
  | .hbm, ⟨15, _⟩ => ⟨S8x64x1, .f32⟩
  | .hbm, ⟨16, _⟩ => ⟨S8x64x1, .f32⟩
  | .hbm, ⟨17, _⟩ => ⟨S8x64x1, .f32⟩
  | .hbm, ⟨18, _⟩ => ⟨S8x64x1024, .f32⟩
  | .hbm, ⟨19, _⟩ => ⟨S8x64x1024, .f32⟩
  | .hbm, ⟨20, _⟩ => ⟨S1x1x1024, .f32⟩
  | .hbm, ⟨21, _⟩ => ⟨S8x64x1024, .f32⟩
  | .hbm, ⟨22, _⟩ => ⟨S8x64x1024, .f32⟩
  | _, _ => ⟨S8x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Proof.Starts.lean ====
/- What the two preconditions say of the table: the first key block of every query block lies between 0 and the
   diagonal. -/
module

public import proofs.«01_k».proof.Proof.Gen.Pre_starts
public import proofs.«01_k».proof.Proof.Gen.Pre_attends
public import Idealize.ShloMosaic.Lib.ReduceAll
public import Idealize.ShloMosaic.Lib.WordCmp

@[expose] public section

namespace Cert.Hand

open Idealize.ShloMosaic

/-- A first key block per grid point, none past its diagonal. -/
def Starts (t : Cert.Pre_starts.S256.Idx → BitVec 32) : Prop := ∀ j, (t j).toNat ≤ (j 0).val % 8

theorem word_le (x : BitVec 32) (n : Nat) (hn : n < 256)
    (h : IntOp.andi (IntOp.cmpi .sge x 0#32) (IntOp.cmpi .sle x (IntOp.andi (BitVec.ofNat 32 n) 7#32)) = 1#1) : x.toNat ≤ n % 8 := by
  have hm : (IntOp.andi (BitVec.ofNat 32 n) 7#32) = BitVec.ofNat 32 (n % 8) := by
    apply BitVec.eq_of_toNat_eq
    show (BitVec.ofNat 32 n &&& 7#32).toNat = _
    rw [BitVec.toNat_and, BitVec.toNat_ofNat, BitVec.toNat_ofNat, BitVec.toNat_ofNat, Nat.mod_eq_of_lt (by omega : n < 2 ^ 32),
      Nat.mod_eq_of_lt (by omega : n % 8 < 2 ^ 32)]
    exact Nat.and_two_pow_sub_one_eq_mod n 3
  rw [hm] at h
  have h1 := IntOp.andi_eq_one.1 h
  have h2 := IntOp.cmpi_sge.1 h1.1
  have h3 := IntOp.cmpi_sle.1 h1.2
  rw [BitVec.toInt_eq_toNat_cond] at h2 h3
  rw [BitVec.toInt_eq_toNat_cond, BitVec.toNat_ofNat] at h3
  rw [BitVec.toInt_eq_toNat_cond] at h2
  have h4 : n % 8 < 8 := Nat.mod_lt _ (by omega)
  have h5 : (0#32 : BitVec 32).toNat = 0 := rfl
  have h6 : x.toNat < 2 ^ 32 := x.isLt
  rw [h5] at h2
  rw [Nat.mod_eq_of_lt (by omega : n % 8 < 2 ^ 32)] at h3
  split at h3 <;> split at h3 <;> split at h2 <;> simp at h2 h3 <;> omega

variable {F : FTy → Type} [FloatOps F]

theorem starts_of_starts (t : IVec Cert.Pre_starts.S256 32) (q k v : FVec F Cert.Pre_starts.S4x16x8192x128 .bf16)
    (h : Cert.Pre_starts.fn (F := F) t q k v = fun _ => 1#1) : Starts t := fun j =>
  word_le (t j) (j 0).val (j 0).isLt (congrFun h j)

/-- The second precondition, its four conjuncts apart. -/
theorem attends_parts (t : IVec Cert.Pre_attends.S256 32) (q k v : FVec F Cert.Pre_attends.S4x16x8192x128 .bf16)
    (h : Cert.Pre_attends.fn (F := F) t q k v = fun _ => 1#1) :
    Starts t
    ∧ (∀ x, IntOp.andi (cmpf .olt (Host.absf (extf .f32 q (by decide))) (broadcastInDim Cert.Pre_attends.S4x16x8192x128 ![] Cert.Pre_attends.Facts.bcast_S_S4x16x8192x128 (constant Cert.Pre_attends.S_ .f32 0x7F800000#32)) x)
        (cmpf .olt (Host.absf (extf .f32 k (by decide))) (broadcastInDim Cert.Pre_attends.S4x16x8192x128 ![] Cert.Pre_attends.Facts.bcast_S_S4x16x8192x128 (constant Cert.Pre_attends.S_ .f32 0x7F800000#32)) x) = 1#1)
    ∧ (∀ x, cmpf .oeq (extf .f32 (shapeCast Cert.Pre_attends.S4x16x8192 (extractStridedSlice Cert.Pre_attends.S4x16x8192x1 ![0, 0, 0, 64] v Cert.Pre_attends.Facts.slices_S4x16x8192x128_S4x16x8192x1_0_0_0_64)
          Cert.Pre_attends.Facts.shapeCasts_S4x16x8192x1_S4x16x8192) (by decide))
        (broadcastInDim Cert.Pre_attends.S4x16x8192 ![] Cert.Pre_attends.Facts.bcast_S_S4x16x8192 (constant Cert.Pre_attends.S_ .f32 0x3F800000#32)) x = 1#1) := by
  have h0 := congrFun h (fun a => a.elim0)
  have h1 := IntOp.andi_eq_one.1 h0
  have h2 := IntOp.andi_eq_one.1 h1.1
  have h3 := IntOp.andi_eq_one.1 h2.2
  haveI : Subsingleton Cert.Pre_attends.S_.Idx := ⟨fun a b => funext fun i => i.elim0⟩
  refine ⟨fun j => word_le (t j) (j 0).val (j 0).isLt (Host.reduce_andi_all _ _ _ _ _ h2.1 j), fun x => ?_, fun x => ?_⟩
  · exact IntOp.andi_eq_one.2 ⟨Host.reduce_andi_all _ _ _ _ _ h3.1 x, Host.reduce_andi_all _ _ _ _ _ h3.2 x⟩
  · exact Host.reduce_andi_all _ _ _ _ _ h1.2 x

end Cert.Hand
-- ==== Proof.IdealSetup.lean ====
/- What a frame of the kernel's launch is stated over: the memory at the region's entry, the prefetched table, the
   windows' blocks, the staging and scratch memrefs, and the frame claim read off a run of the pipeline. -/
module

public import proofs.«01_k».proof.Proof.Gen.KernelIdeal.Launch
public import Idealize.ShloMosaic.Lib.Pipeline.FrameBody
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The prefetched table as the body is handed it. -/
abbrev tabM : Memref sig .tc .smem S256 .i32 := Memref.whole main_arg0
abbrev tabW : tabM.IsWhole := Memref.isWhole_whole _

/-- The table's buffer held for reading, at half the full share (the pipeline keeps the other half). -/
abbrev TabBuf (c : Dev nD) {S : Shape} {e : EltTy} (M : Memref sig .tc .smem S e) : Type := Buf (Elt F) (M.view.loc (c : Thread nD τ))
abbrev tabPt (c : Dev nD) {S : Shape} {e : EltTy} (M : Memref sig .tc .smem S e) (f : TabBuf (F := F) c M) : sProp 𝕄 :=
  M.view.loc (c : Thread nD τ) ↦{fullShare.right} f

/-- The table's word at point `i`, as the body reads it. -/
abbrev wordAt (c : Dev nD) (i : grid0.Coords) (xt : TabBuf (F := F) c tabM) : Elt F .i32 :=
  tabM.view.readAt (Elt F) (Rect.unit (s := S256) (k0_off1 i) S1.size (k0_off1_inb i)).toLoadRect xt (Shape.Idx.first (numel1_S1.symm ▸ Nat.one_pos))

variable (m : (ℓ : Loc nD τ sig) → Buf (Elt F) ℓ) (ρ : Dev nD → PrngReg)

/-- Core `c`'s buffers at the region's entry: as launched. -/
abbrev V (c : Dev nD) (b : Ref sig .tc) : Buf (Elt F) ((c : Thread nD τ).loc b) := m ((c : Thread nD τ).loc b)

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The table's contents (on the one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl

/-- The table as admissible contents: no window's index map reads it. -/
abbrev adm : (pcfg0 (F := F)).Adm := ⟨tbl m, trivial⟩
abbrev cfgM : Pipeline.Cfg sig Λ₀ := cfg0 (adm m)

theorem PhiT_eq (c : Dev nD) : (Pipeline.ΦT pre0 (tbl m) c : sProp 𝕄) = iprop(tabPt c tabM (tbl m 0)) := by
  unfold Pipeline.ΦT Pipeline.prefHeld
  rw [show (Finset.univ : Finset (Fin 1)) = {(0 : Fin 1)} from by decide, bigSep_singleton]
  rfl

/-- Window `w`'s block at point `t`, read off its array. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

theorem before_0 {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1 {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2 {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The frame claim's post off the pipeline's. -/
theorem frame_of (rdat : (c : Dev nD) → Pipeline.RDat τ (Elt F) Unit ℕ (UR sig nD τ) ℕ ((Pipeline.pin pcfgs fun _ => adm m) 0) c)
    (hA : ∀ c w, (rdat c).A w = V m c (Pipeline.arrRef spec0 w))
    {r : PUnit × MemSt nD τ sig (Elt F)}
    (h : Pipeline.RDat.FramePost ((Pipeline.pin pcfgs fun _ => adm m) 0) rdat (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(h c).2 main_arg0 (by decide : main_arg0 ∈ Pipeline.restRefs sig spec0),
      (Pipeline.RDat.FramePost.arr_in h c 0 rfl).trans (hA c 0),
      (Pipeline.RDat.FramePost.arr_in h c 1 rfl).trans (hA c 1),
      (Pipeline.RDat.FramePost.arr_in h c 2 rfl).trans (hA c 2)⟩

/-- The windows' current staging memrefs at point `t`. -/
abbrev ms0 (t : Fin (cfgM m).N) : Memref sig .tc .vmem S1x2x1024x128 .bf16 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S1x2x8192x128 .bf16 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S1x2x8192x128 .bf16 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S1x1024x128 .f32 := spec0_3.stage ((cfgM m).slots t 3)
abbrev hs3 (t : Fin (cfgM m).N) : (ms3 m t).IsWhole := hstage0_3 (((cfgM m).slots t 3).cast nbuf0_3)

/-- The body at point `t`, on what the pipeline calls it with. -/
abbrev bodyAt (t : Fin (cfgM m).N) : Prog (TpuEff nD τ sig (Elt F) Λ₀ .tc) PUnit :=
  cc0_attn (grid0.coords t) tabM tabW (ms0 m t) (hs0 m t) (ms1 m t) (hs1 m t) (ms2 m t) (hs2 m t) (ms3 m t) (hs3 m t)
    (Memref.whole cc0_scratch0) (Memref.isWhole_whole _) (Memref.whole cc0_scratch1) (Memref.isWhole_whole _) (Memref.whole cc0_scratch2) (Memref.isWhole_whole _)

/-- The body table's row at point `t`. -/
theorem defs_row (t : Fin (cfgM m).N) :
    defs₀ (F := F) .tc (cfgM m).body ((cfgM m).bodyArgs t ((cfgM m).slots t)) = bodyAt m t := by
  unfold defs₀; rw [Defs.onTc_tc]

abbrev sc0 : Memref sig .tc .vmem S2x1024x128 .f32 := Memref.whole cc0_scratch0
abbrev sc1 : Memref sig .tc .vmem S2x1024x128 .f32 := Memref.whole cc0_scratch1
abbrev sc2 : Memref sig .tc .vmem S2x2x1024x1024 .f32 := Memref.whole cc0_scratch2

theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

end Cert.KernelIdeal.Hand

end
-- ==== Proof.IdealRunForget.lean ====
/- The kernel's body as a triple that names nothing of what it leaves: the inputs and the table come back as they were,
   the output block and the scratch at some contents. -/
module

public import proofs.«01_k».proof.Proof.IdealSetup
public import proofs.«01_k».proof.Proof.Gen.KernelIdeal.Loops

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 4000000 in
theorem body_forget (c : Dev nD) (i : grid0.Coords) (arg4 : Memref sig .tc .vmem S1x2x1024x128 .bf16) (harg4 : arg4.IsWhole)
    (arg5 : Memref sig .tc .vmem S1x2x8192x128 .bf16) (harg5 : arg5.IsWhole) (arg6 : Memref sig .tc .vmem S1x2x8192x128 .bf16) (harg6 : arg6.IsWhole)
    (arg7 : Memref sig .tc .vmem S1x1024x128 .f32) (harg7 : arg7.IsWhole) (arg8 : Memref sig .tc .vmem S2x1024x128 .f32) (harg8 : arg8.IsWhole)
    (arg9 : Memref sig .tc .vmem S2x1024x128 .f32) (harg9 : arg9.IsWhole) (arg10 : Memref sig .tc .vmem S2x2x1024x1024 .f32) (harg10 : arg10.IsWhole)
    (x0 : Vec F S1x2x1024x128 .bf16) (x1 x2 : Vec F S1x2x8192x128 .bf16) (xt : TabBuf (F := F) c tabM) (k0_hw1 : k0_chk1 i (wordAt c i xt)) :
      ∀ (E : Set ℕ) (K : PUnit → sProp 𝕄),
        iprop(owns (c : Thread nD τ) arg4 fullShare x0 ∗ owns (c : Thread nD τ) arg5 fullShare x1 ∗ owns (c : Thread nD τ) arg6 fullShare x2
            ∗ (∃ d, owns (c : Thread nD τ) arg7 fullShare d) ∗ (∃ d, owns (c : Thread nD τ) arg8 fullShare d) ∗ (∃ d, owns (c : Thread nD τ) arg9 fullShare d)
            ∗ (∃ d, owns (c : Thread nD τ) arg10 fullShare d) ∗ tabPt c tabM xt
            ∗ (iprop(owns (c : Thread nD τ) arg4 fullShare x0 ∗ owns (c : Thread nD τ) arg5 fullShare x1 ∗ owns (c : Thread nD τ) arg6 fullShare x2
            ∗ (∃ d, owns (c : Thread nD τ) arg7 fullShare d) ∗ (∃ d, owns (c : Thread nD τ) arg8 fullShare d) ∗ (∃ d, owns (c : Thread nD τ) arg9 fullShare d)
            ∗ (∃ d, owns (c : Thread nD τ) arg10 fullShare d) ∗ tabPt c tabM xt) -∗ K ⟨⟩))
          ⊢ wp frame (wpE (defs₀ (F := F)) Variants.none c none) E (cc0_attn i tabM tabW arg4 harg4 arg5 harg5 arg6 harg6 arg7 harg7 arg8 harg8 arg9 harg9 arg10 harg10) K := by
    intro E K
    simp only [cc0_attn_eq_skeleton]; unfold cc0_attn_skel
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, HT, Hk⟩
    obtain rfl := harg4.eq_unread hf0; obtain rfl := harg5.eq_unread hf1; obtain rfl := harg6.eq_unread hf2
    by_cases hodd : k0_cond2 i (wordAt c i xt) = 1#1 <;> sl_exec (disch := first | sl_exact k0_hw1 | sl_exact hodd) <;> sl_step
    all_goals
      iapply Hk
      isplitl [H0]
      · iexists _; isplitr; · ipureintro; exact harg4.read_unread _
        iexact H0
      isplitl [H1]
      · iexists _; isplitr; · ipureintro; exact harg5.read_unread _
        iexact H1
      isplitl [H2]
      · iexists _; isplitr; · ipureintro; exact harg6.read_unread _
        iexact H2
      isplitl [H3]
      · iexists _, _; isplitr; swap; · iexact H3
        ipureintro; rfl
      isplitl [HS0]
      · iexists _, _; isplitr; swap; · iexact HS0
        ipureintro; rfl
      isplitl [HS1]
      · iexists _, _; isplitr; swap; · iexact HS1
        ipureintro; rfl
      isplitl [HS2]
      · iexists _, _; isplitr; swap; · iexact HS2
        ipureintro; rfl
      iexact HT

end Cert.KernelIdeal.Hand

end
-- ==== Proof.IdealFrameForget.lean ====
/- The kernel's frame: from any launch memory whose table words pass the body's checks the program runs to the end, leaves
   its arguments as they were and every semaphore at zero. Nothing is said of the output. -/
module

public import proofs.«01_k».proof.Proof.IdealRunForget
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Nothing is said of the output window. -/
def forgets : Fin 4 → Bool := fun w => w.val == 3

/-- The table's words pass the body's checks at every point. -/
def Words : Prop := ∀ (c : Dev nD) (i : grid0.Coords), k0_chk1 i (wordAt c i (tbl m 0))

def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := (cfgM m)) ⟨3, h⟩ t
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]
theorem after_0 (c : Dev nD) (t : Fin (cfgM m).N) : (dats m 0 c).after 0 t = iblk m c 0 t := by dsimp only [dats]; try rfl
theorem after_1 (c : Dev nD) (t : Fin (cfgM m).N) : (dats m 0 c).after 1 t = iblk m c 1 t := by dsimp only [dats]; try rfl
theorem after_2 (c : Dev nD) (t : Fin (cfgM m).N) : (dats m 0 c).after 2 t = iblk m c 2 t := by dsimp only [dats]; try rfl
theorem bef_0 (c : Dev nD) (t : Fin (cfgM m).N) (d) : (dats m 0 c).before 0 t d = iblk m c 0 t :=
  before_0 m (dats m 0 c) (A_eq m c 0) (after_0 m c) t d
theorem bef_1 (c : Dev nD) (t : Fin (cfgM m).N) (d) : (dats m 0 c).before 1 t d = iblk m c 1 t :=
  before_1 m (dats m 0 c) (A_eq m c 1) (after_1 m c) t d
theorem bef_2 (c : Dev nD) (t : Fin (cfgM m).N) (d) : (dats m 0 c).before 2 t d = iblk m c 2 t :=
  before_2 m (dats m 0 c) (A_eq m c 2) (after_2 m c) t d

/-- What the body is called with at point `t`, -/
def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare d))

/-- and what it returns. -/
def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t)
    ∗ (∃ d, owns (c : Thread nD τ) (ms3 m t) fullShare d))

theorem sound_body (hW : Words m) (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [bef_0, bef_1, bef_2]
  rw [show (dats m 0 c).Φ t.succ = (dats m 0 c).Φ t.castSucc from rfl,
    show (dats m 0 c).owesAt () t.succ = (dats m 0 c).owesAt () t.castSucc from rfl,
    after_0, after_1, after_2]
  rw [show (dats m 0 c).Φ t.castSucc = iprop(Pipeline.ΦA spec0 c ∗ Pipeline.ΦT pre0 (tbl m) c) from rfl, PhiT_eq, PhiA_eq]
  iintro ⟨⟨⟨⟨HS0, HS1, HS2⟩, Hg⟩, HT⟩, Ho, ⟨%d0, H0⟩, ⟨%d1, H1⟩, ⟨%d2, H2⟩, ⟨%d3, H3⟩⟩
  iapply ((body_forget c (grid0.coords t) _ _ _ _ _ _ _ _ _ _ _ _ _ _ (iblk m c 0 t) (iblk m c 1 t) (iblk m c 2 t) (tbl m 0) (hW c _)) Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  isplitl [HT]; · iexact HT
  iintro ⟨H0, H1, H2, H3, HS0, HS1, HS2, HT⟩
  isplitl [HS0 HS1 HS2 Hg HT]
  · isplitl [HS0 HS1 HS2 Hg]
    · isplitl [HS0 HS1 HS2]
      · isplitl [HS0]; · iexact HS0
        isplitl [HS1]; · iexact HS1
        iexact HS2
      iexact Hg
    iexact HT
  isplitl [Ho]; · iexact Ho
  isplitl [H0]; · iexact H0
  isplitl [H1]; · iexact H1
  isplitl [H2]; · iexact H2
  iexact H3

theorem body_obligation (hW : Words m) (c : Dev nD) : BodyObligation (dats (F := F) m 0 c) (defs₀ (F := F)) Variants.none () Set.univ forgets := fun t => by
  rw [bigSep_W0, bigSep_W0, defs_row m]
  exact triple_restated (sound_body m hW c t) rfl .rfl fun _ => .rfl

set_option backward.isDefEq.respectTransparency.types false in
theorem run_main (hW : Words m) : θ_run defs (onTc (τ := τ) (main (F := F))) ⟨m, fun _ => 0, ρ⟩ (fun r => (Pipeline.RDat.FramePost ((Pipeline.pin pcfgs fun _ => adm m) 0) (fun c => (dats m 0 c).toRForget forgets) (V m)) r ∧ r.2.sem = fun _ => 0) :=
  Pipeline.θ_run_frameP_forget (Q' := _) pcfgs (fun _ => adm m) (dats m) (0 : Fin 1) launch0 defs₀ Variants.none forgets m ρ main
    (hbody := fun c => (body_obligation m hW c).loose) (hshare := fun c => (dats m 0 c).share_full fun _ => rfl)
    (howed := fun _ _ => rfl) (V := V m) (hmain := hmain m Variants.none) (hA := A_eq m) (hpf := V_pre m) (hΦ := fun _ _ => rfl)

theorem frame (hW : Words m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨frame_of m (fun c => (dats m 0 c).toRForget forgets) (A_eq m) h.1, h.2⟩) (run_main m ρ hW)

end Cert.KernelIdeal.Hand

end
-- ==== Proof.IdealWord.lean ====
/- The kernel's control at one grid point, decided: what the point's table word has to satisfy for every check the body
   makes of it, and how often the pair loop runs. Everything depends on the point through its query block `i 2` alone. -/
module

public import proofs.«01_k».proof.Proof.IdealSetup
public import proofs.«01_k».proof.Proof.Starts

@[expose] public section

namespace Cert.KernelIdeal.Hand

open Idealize.ShloMosaic
open Cert.KernelIdeal

/-- A grid point of query block `n` (its batch and head pair are immaterial here). -/
def pt (n : Fin 8) : grid0.Coords := fun | 0 => (0 : Fin 4) | 1 => (0 : Fin 8) | 2 => n

/-- Every check of a table word in range. -/
theorem chk_table : ∀ n w : Fin 8, w ≤ n → k0_chk1 (pt n) (BitVec.ofNat 32 w.val) := by decide +kernel

/-- The checks read the point's query block alone. -/
theorem chk_pt (i : grid0.Coords) (w : BitVec 32) : k0_chk1 i w = k0_chk1 (pt (i 2)) w := rfl

theorem chk_of (i : grid0.Coords) (w : Fin 8) (h : w ≤ (i 2 : Fin 8)) : k0_chk1 i (BitVec.ofNat 32 w.val) := by
  rw [chk_pt]; exact chk_table _ _ h

/-- A grid point from its three coordinates. -/
def pt3 (b : Fin 4) (h n : Fin 8) : grid0.Coords := fun | 0 => b | 1 => h | 2 => n

/-- Where the table holds a point's word: row-major in batch, head pair and query block. -/
theorem off_table : ∀ (b : Fin 4) (h n : Fin 8), k0_off1 (pt3 b h n) 0 = (b.val * 8 + h.val) * 8 + n.val := by decide +kernel

theorem off_eq (i : grid0.Coords) : k0_off1 i 0 = ((i 0).val * 8 + (i 1).val) * 8 + (i 2).val :=
  off_table (i 0) (i 1) (i 2)

/-- Point `i`'s index in the table. -/
def tix (i : grid0.Coords) : S256.Idx := fun
  | 0 => ⟨((i 0).val * 8 + (i 1).val) * 8 + (i 2).val, by
      have h0 : (i 0).val < 4 := (i 0).isLt
      have h1 : (i 1).val < 8 := (i 1).isLt
      have h2 : (i 2).val < 8 := (i 2).isLt
      show _ < 256
      omega⟩

variable {F : FTy → Type} [FloatOps F] [Named F]

/-- The word the body reads at point `i` is the table's at that index. -/
theorem wordAt_eq (c : Dev nD) (i : grid0.Coords) (xt : TabBuf (F := F) c tabM) : wordAt c i xt = xt (tix i) := by
  show xt _ = xt _
  congr 1
  funext a
  match a with
  | 0 =>
    apply Fin.ext
    have h := off_eq i
    show k0_off1 i 0 + _ = _
    rw [h]
    rfl

/-- In a table of admissible first blocks, the word at point `i` is a block number up to the point's query block. -/
theorem word_of (t : S256.Idx → BitVec 32) (ht : Cert.Hand.Starts t) (i : grid0.Coords) :
    ∃ w : Fin 8, w ≤ (i 2 : Fin 8) ∧ t (tix i) = BitVec.ofNat 32 w.val := by
  have h2 : (i 2).val < 8 := (i 2).isLt
  have h : (t (tix i)).toNat ≤ (((i 0).val * 8 + (i 1).val) * 8 + (i 2).val) % 8 := ht (tix i)
  have hle : (t (tix i)).toNat ≤ (i 2).val := by omega
  refine ⟨⟨(t (tix i)).toNat, by omega⟩, hle, ?_⟩
  apply BitVec.eq_of_toNat_eq
  rw [BitVec.toNat_ofNat, Nat.mod_eq_of_lt (by show (t (tix i)).toNat < _; omega)]

/-- So every check of it passes. -/
theorem chk_starts (c : Dev nD) (xt : TabBuf (F := F) c tabM) (ht : Cert.Hand.Starts xt) (i : grid0.Coords) : k0_chk1 i (wordAt c i xt) := by
  obtain ⟨w, hw, e⟩ := word_of xt ht i
  rw [wordAt_eq, e]
  exact chk_of i w hw

end Cert.KernelIdeal.Hand
-- ==== Proof.Frames.lean ====
/- The frame claims of the three programs, and what the ideal program's named constant stands for. -/
module

public import proofs.«01_k».proof.Defs
public import proofs.«01_k».proof.Proof.KernelFrame
public import proofs.«01_k».proof.Proof.KernelWord
public import proofs.«01_k».proof.Proof.IdealFrameForget
public import proofs.«01_k».proof.Proof.IdealWord
public import proofs.«01_k».proof.Proof.Starts
public import proofs.«01_k».proof.Proof.Gen.ReferenceIdeal.Run
public import Idealize.ShloMosaic.Lib.Claim

@[expose] public section

noncomputable section

namespace Cert.Hand

open Idealize.ShloMosaic Idealize.SL.Sem

theorem kernel_frame : Cert.quiescent_Kernel := fun m g h =>
  Cert.Kernel.Hand.frame m g fun c i => Cert.Kernel.Hand.chk_starts c _ (starts_of_starts _ _ _ _ (h 0)) i

theorem ideal_frame : Cert.quiescent_KernelIdeal := fun m g h =>
  Cert.KernelIdeal.Hand.frame m g fun c i => Cert.KernelIdeal.Hand.chk_starts c _ (starts_of_starts _ _ _ _ (h 0)) i

theorem reference_frame : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem ideal_frame_attends : Cert.quiescent_KernelIdeal_pre_attends := fun m g h =>
  Cert.KernelIdeal.Hand.frame m g fun c i => Cert.KernelIdeal.Hand.chk_starts c _ (attends_parts _ _ _ _ (h 0)).1 i

theorem reference_frame_attends : Cert.quiescent_ReferenceIdeal_pre_attends := fun m g _ =>
  (θ_run Cert.ReferenceIdeal.defs _ _).mono (fun r h => ⟨fun c => (h c).2, sem_eq_zero_of_no_sems (by decide) r.2⟩)
    (Cert.ReferenceIdeal.Value.run (F := Ideal) m g)

/-- The mask's constant is named, and at the ideal values it is minus infinity. -/
theorem mask_named : Cert.preserves_Kernel_KernelIdeal :=
  IdealRules.named_const.statement Cert.KernelIdeal.κ "mask" .f32 0xF149F2CA#32 ⊥ rfl

end Cert.Hand

end
-- ==== Proof.IdealControl.lean ====
/- Where the body reads its key and value blocks: every offset in closed form, how often the pair loop runs, and which
   of the two ends the body takes. Everything is decided over the point's query block and its table word. -/
module

public import proofs.«01_k».proof.Proof.IdealWord

@[expose] public section

namespace Cert.KernelIdeal.Hand

open Idealize.ShloMosaic
open Cert.KernelIdeal

/-- A block number as the table's word. -/
abbrev bw (w : Fin 8) : BitVec 32 := BitVec.ofNat 32 w.val

/-- The query block's number as the body computes it (a division rounded down). -/
def qNo (i : grid0.Coords) : BitVec 32 :=
  let v1 : BitVec 32 := Scalar.addi 0#32 (Scalar.muli (BitVec.ofNat 32 (i 2).val) 1024#32)
  Scalar.select (Scalar.andi (Scalar.cmpi .ne (Scalar.subi (Scalar.extui (Scalar.cmpi .sgt v1 0#32)) (Scalar.extui (Scalar.cmpi .slt v1 0#32)))
      (Scalar.subi (Scalar.extui (Scalar.cmpi .sgt 1024#32 0#32)) (Scalar.extui (Scalar.cmpi .slt 1024#32 0#32))))
    (Scalar.cmpi .ne (Scalar.remsi v1 1024#32) 0#32)) (Scalar.subi (Scalar.divsi v1 1024#32) 1#32) (Scalar.divsi v1 1024#32)

/-- Whether the number of blocks before the diagonal is even, as the body computes it. -/
def evn (i : grid0.Coords) (w : BitVec 32) : BitVec 1 :=
  let d : BitVec 32 := Scalar.select (Scalar.cmpi .eq 2#32 0#32) 1#32 2#32
  let r : BitVec 32 := Scalar.remsi (Scalar.subi (qNo i) w) d
  Scalar.cmpi .ne (Scalar.extui (Scalar.cmpi .eq (Scalar.select (Scalar.andi (Scalar.xori (Scalar.cmpi .slt r 0#32) (Scalar.cmpi .slt d 0#32)) (Scalar.cmpi .ne r 0#32))
    (Scalar.addi r d) r) 0#32) : BitVec 32) 0#32

theorem evn_table : ∀ n w : Fin 8, w ≤ n → (evn (pt n) (bw w) = 1#1 ↔ (n.val - w.val) % 2 = 0) := by decide +kernel
theorem trips_table : ∀ n w : Fin 8, w ≤ n → (k0_t1_loop (pt n) (bw w)).trips = (n.val - w.val) / 2 := by decide +kernel
theorem trips2_table : ∀ n w : Fin 8, w ≤ n → (k0_t2_loop (pt n) (bw w)).trips = 0 := by decide +kernel
theorem cond_table : ∀ n w : Fin 8, w ≤ n → (k0_cond2 (pt n) (bw w) = 1#1 ↔ (n.val - w.val) % 2 = 1) := by decide +kernel
theorem off2_table : ∀ w : Fin 8, k0_off2 (bw w) = ![0, 0, 1024 * w.val, 0] := by decide +kernel
theorem off3_table : ∀ w : Fin 8, k0_off3 (bw w) = ![0, 1, 1024 * w.val, 0] := by decide +kernel
theorem off4_table : ∀ n w : Fin 8, w ≤ n → ∀ t : Fin (k0_t1_loop (pt n) (bw w)).trips,
    k0_off4 (pt n) (bw w) t 1#32 = ![0, 0, 1024 * (w.val + 2 * t.val + 1), 0] ∧ k0_off4 (pt n) (bw w) t 2#32 = ![0, 0, 1024 * (w.val + 2 * t.val + 2), 0] := by decide +kernel
theorem off5_table : ∀ n w : Fin 8, w ≤ n → ∀ t : Fin (k0_t1_loop (pt n) (bw w)).trips,
    k0_off5 (pt n) (bw w) t 1#32 = ![0, 1, 1024 * (w.val + 2 * t.val + 1), 0] ∧ k0_off5 (pt n) (bw w) t 2#32 = ![0, 1, 1024 * (w.val + 2 * t.val + 2), 0] := by decide +kernel
theorem off6_table : ∀ n w : Fin 8, w ≤ n → ∀ t : Fin (k0_t1_loop (pt n) (bw w)).trips,
    k0_off6 (pt n) (bw w) t = ![0, 0, 1024 * (w.val + 2 * t.val), 0] ∧ k0_off7 (pt n) (bw w) t = ![0, 1, 1024 * (w.val + 2 * t.val), 0] := by decide +kernel
theorem off12_table : ∀ n : Fin 8, k0_off12 (pt n) = ![0, 0, 1024 * n.val, 0] ∧ k0_off13 (pt n) = ![0, 1, 1024 * n.val, 0]
    ∧ k0_off14 (pt n) = ![0, 0, 1024 * n.val, 0] ∧ k0_off15 (pt n) = ![0, 1, 1024 * n.val, 0]
    ∧ (0 < n.val → k0_off16 (pt n) = ![0, 0, 1024 * (n.val - 1), 0] ∧ k0_off17 (pt n) = ![0, 1, 1024 * (n.val - 1), 0]) := by decide +kernel

variable (i : grid0.Coords) (w : Fin 8) (hw : w ≤ (i 2 : Fin 8))
include hw

theorem trips_eq : (k0_t1_loop i (bw w)).trips = ((i 2).val - w.val) / 2 := trips_table (i 2) w hw
theorem trips2_eq : (k0_t2_loop i (bw w)).trips = 0 := trips2_table (i 2) w hw
theorem cond_eq : k0_cond2 i (bw w) = 1#1 ↔ ((i 2).val - w.val) % 2 = 1 := cond_table (i 2) w hw
theorem evn_eq : evn i (bw w) = 1#1 ↔ ((i 2).val - w.val) % 2 = 0 := evn_table (i 2) w hw
theorem off4_eq (t : Fin (k0_t1_loop i (bw w)).trips) :
    k0_off4 i (bw w) t 1#32 = ![0, 0, 1024 * (w.val + 2 * t.val + 1), 0] ∧ k0_off4 i (bw w) t 2#32 = ![0, 0, 1024 * (w.val + 2 * t.val + 2), 0] := off4_table (i 2) w hw t
theorem off5_eq (t : Fin (k0_t1_loop i (bw w)).trips) :
    k0_off5 i (bw w) t 1#32 = ![0, 1, 1024 * (w.val + 2 * t.val + 1), 0] ∧ k0_off5 i (bw w) t 2#32 = ![0, 1, 1024 * (w.val + 2 * t.val + 2), 0] := off5_table (i 2) w hw t
theorem off6_eq (t : Fin (k0_t1_loop i (bw w)).trips) :
    k0_off6 i (bw w) t = ![0, 0, 1024 * (w.val + 2 * t.val), 0] ∧ k0_off7 i (bw w) t = ![0, 1, 1024 * (w.val + 2 * t.val), 0] := off6_table (i 2) w hw t
omit hw
theorem off12_eq : k0_off12 i = ![0, 0, 1024 * (i 2).val, 0] ∧ k0_off13 i = ![0, 1, 1024 * (i 2).val, 0]
    ∧ k0_off14 i = ![0, 0, 1024 * (i 2).val, 0] ∧ k0_off15 i = ![0, 1, 1024 * (i 2).val, 0]
    ∧ (0 < (i 2).val → k0_off16 i = ![0, 0, 1024 * ((i 2).val - 1), 0] ∧ k0_off17 i = ![0, 1, 1024 * ((i 2).val - 1), 0]) := off12_table (i 2)

end Cert.KernelIdeal.Hand
-- ==== Proof.IdealSpec.lean ====
/- What the body computes, written as functions of the blocks it loads: the scores of a key block, the running maximum and
   accumulator of one head through the key blocks, the diagonal's mask, and the block written at the end. -/
module

public import proofs.«01_k».proof.Proof.IdealControl
public import proofs.«01_k».proof.Proof.Gen.KernelIdeal.Skeleton
public import Idealize.ShloMosaic.Lib.VecWindow
public import Idealize.ShloMosaic.Lib.WritesUnit
public import Idealize.ShloMosaic.Lib.WholeRead

@[expose] public section

noncomputable section

namespace Cert.KernelIdeal.Hand

open Cert.KernelIdeal Cert.KernelIdeal.Gen
open Idealize.ShloMosaic Idealize.ShloMosaic.TcCoe

variable {F : FTy → Type} [FloatOps F] [Named F]

/-- Where key block `j` of head `h` of the pair lies in the keys (and in the values). -/
abbrev kOff (h j : ℕ) : Fin 4 → ℕ := ![0, h, 1024 * j, 0]
theorem kOff_inb (h : Fin 2) (j : Fin 8) : ∀ a, kOff h.val j.val a + S1x1x1024x128.size a ≤ S1x2x8192x128.size a := by
  have := h.isLt; have := j.isLt
  intro a; fin_cases a <;> simp [kOff, S1x1x1024x128, S1x2x8192x128] <;> omega
theorem qOff_inb (h : Fin 2) : ∀ a, (![0, h.val, 0, 0] : Fin 4 → ℕ) a + S1x1x1024x128.size a ≤ S1x2x1024x128.size a := by
  have := h.isLt
  intro a; fin_cases a <;> simp [S1x1x1024x128, S1x2x1024x128] <;> omega

/-- A number as a block number. -/
abbrev blkNo (j : ℕ) : Fin 8 := ⟨j % 8, Nat.mod_lt _ (by omega)⟩

/-- Key (or value) block `j` of head `h`. -/
def kBlk (x : Vec F S1x2x8192x128 .bf16) (h : Fin 2) (j : ℕ) : Vec F S1x1x1024x128 .bf16 :=
  VecWindow.window x (kOff h.val (blkNo j).val) S1x1x1024x128.size (kOff_inb h (blkNo j))
/-- The queries of head `h`. -/
def qBlk (x : Vec F S1x2x1024x128 .bf16) (h : Fin 2) : Vec F S1x1x1024x128 .bf16 :=
  VecWindow.window x ![0, h.val, 0, 0] S1x1x1024x128.size (qOff_inb h)

/-- The scores of a query block against a key block. -/
def scr (q k : Vec F S1x1x1024x128 .bf16) : FVec F S1x1x1024x1024 .f32 :=
  shapeCast S1x1x1024x1024 (matmul dot_S1024x128_S1024x128_S1024x1024_1_1_0_0_n_n none
    (shapeCast S1024x128 q shapeCasts_S1x1x1024x128_S1024x128) (shapeCast S1024x128 k shapeCasts_S1x1x1024x128_S1024x128)
    (constant S1024x1024 .f32 0x00000000#32)) shapeCasts_S1024x1024_S1x1x1024x1024

def flat (s : Vec F S1x1x1024x1024 .f32) : FVec F S1024x1024 .f32 := shapeCast S1024x1024 s shapeCasts_S1x1x1024x1024_S1024x1024

/-- The new running maximum. -/
def nmx2 (s : FVec F S1024x1024 .f32) (m : Vec F S1x1024x128 .f32) : FVec F S1024x128 .f32 :=
  maximumf (shapeCast S1024x128 m shapeCasts_S1x1024x128_S1024x128)
    (broadcastTo S1024x128 (shapeCast S1024x1 (multiReduction .maximumf [1] S1024
      (maximumf (maximumf (maximumf (maximumf (maximumf (maximumf (maximumf
        (extractStridedSlice S1024x128 ![0, 0] s slices_S1024x1024_o0_0_S1024x128)
        (extractStridedSlice S1024x128 ![0, 128] s slices_S1024x1024_o0_128_S1024x128))
        (extractStridedSlice S1024x128 ![0, 256] s slices_S1024x1024_o0_256_S1024x128))
        (extractStridedSlice S1024x128 ![0, 384] s slices_S1024x1024_o0_384_S1024x128))
        (extractStridedSlice S1024x128 ![0, 512] s slices_S1024x1024_o0_512_S1024x128))
        (extractStridedSlice S1024x128 ![0, 640] s slices_S1024x1024_o0_640_S1024x128))
        (extractStridedSlice S1024x128 ![0, 768] s slices_S1024x1024_o0_768_S1024x128))
        (extractStridedSlice S1024x128 ![0, 896] s slices_S1024x1024_o0_896_S1024x128))
      0xFF800000#32 reduces_S1024x128_S1024 (.inl rfl) rfl) shapeCasts_S1024_S1024x1) broadcasts_S1024x1_S1024x128)
def nmx (s : FVec F S1024x1024 .f32) (m : Vec F S1x1024x128 .f32) : FVec F S1x1024x128 .f32 :=
  shapeCast S1x1024x128 (nmx2 s m) shapeCasts_S1024x128_S1x1024x128

/-- One chunk of 128 scores, exponentiated over the maximum `n`. -/
abbrev chunk (c n : FVec F S1024x128 .f32) : FVec F S1024x128 .bf16 := truncf .bf16 (exp (subf c n)) bitsLt_bf16_f32

/-- The exponentiated scores over the maximum `n`. -/
def wts (s : FVec F S1024x1024 .f32) (n : FVec F S1024x128 .f32) : FVec F S1024x1024 .bf16 :=
  concatenate S1024x1024 1 [⟨S1024x128, chunk (extractStridedSlice S1024x128 ![0, 0] s slices_S1024x1024_o0_0_S1024x128) n⟩,
    ⟨S1024x128, chunk (extractStridedSlice S1024x128 ![0, 128] s slices_S1024x1024_o0_128_S1024x128) n⟩,
    ⟨S1024x128, chunk (extractStridedSlice S1024x128 ![0, 256] s slices_S1024x1024_o0_256_S1024x128) n⟩,
    ⟨S1024x128, chunk (extractStridedSlice S1024x128 ![0, 384] s slices_S1024x1024_o0_384_S1024x128) n⟩,
    ⟨S1024x128, chunk (extractStridedSlice S1024x128 ![0, 512] s slices_S1024x1024_o0_512_S1024x128) n⟩,
    ⟨S1024x128, chunk (extractStridedSlice S1024x128 ![0, 640] s slices_S1024x1024_o0_640_S1024x128) n⟩,
    ⟨S1024x128, chunk (extractStridedSlice S1024x128 ![0, 768] s slices_S1024x1024_o0_768_S1024x128) n⟩,
    ⟨S1024x128, chunk (extractStridedSlice S1024x128 ![0, 896] s slices_S1024x1024_o0_896_S1024x128) n⟩] concatenates_S1024x128_S1024x128_S1024x128_S1024x128_S1024x128_S1024x128_S1024x128_S1024x128_S1024x1024_d1

/-- The new accumulator. -/
def nac (s : FVec F S1024x1024 .f32) (m a : Vec F S1x1024x128 .f32) (v : Vec F S1x1x1024x128 .bf16) : FVec F S1x1024x128 .f32 :=
  shapeCast S1x1024x128 (addf (mulf (exp (subf (shapeCast S1024x128 m shapeCasts_S1x1024x128_S1024x128) (nmx2 s m)))
      (shapeCast S1024x128 a shapeCasts_S1x1024x128_S1024x128))
    (matmul dot_S1024x1024_S1024x128_S1024x128_1_0_0_1_n_n none (wts s (nmx2 s m)) (shapeCast S1024x128 v shapeCasts_S1x1x1024x128_S1024x128)
      (constant S1024x128 .f32 0x00000000#32))) shapeCasts_S1024x128_S1x1024x128

/-- One head's running maximum and accumulator after its first `j` key blocks, from block `w` on. -/
def st (x0 : Vec F S1x2x1024x128 .bf16) (x1 x2 : Vec F S1x2x8192x128 .bf16) (h : Fin 2) (w : ℕ) : ℕ → Vec F S1x1024x128 .f32 × Vec F S1x1024x128 .f32
  | 0 => (fun _ => Named.named κ "mask" 0xF149F2CA#32, fun _ => Scalar.ofBits .f32 0x00000000#32)
  | j + 1 => (nmx (flat (scr (qBlk x0 h) (kBlk x1 h (w + j)))) (st x0 x1 x2 h w j).1,
      nac (flat (scr (qBlk x0 h) (kBlk x1 h (w + j)))) (st x0 x1 x2 h w j).1 (st x0 x1 x2 h w j).2 (kBlk x2 h (w + j)))

/-- Which scores of the diagonal block count: those whose key's chunk does not lie past the query's. -/
def msk (i : grid0.Coords) : IVec S1024x1024 1 :=
  let v1 : BitVec 32 := Scalar.addi 0#32 (Scalar.muli (BitVec.ofNat 32 (i 2).val) 1024#32)
  let v11 : BitVec 32 := Scalar.select (Scalar.cmpi .slt (BitVec.ofNat 32 (i 1).val) 4#32) 6#32 0#32
  cmpi .sle (shrsi (addi (broadcast S1024x1024 (Scalar.addi v1 0#32)) (iota .tc S1024x1024 32 [1] iota_S1024x1024_d1_w32)) (broadcast S1024x1024 v11))
    (shrsi (addi (broadcast S1024x1024 v1) (iota .tc S1024x1024 32 [0] iota_S1024x1024_d0_w32)) (broadcast S1024x1024 v11))

/-- The scores of the diagonal block, masked. -/
def dgn (i : grid0.Coords) (s : FVec F S1024x1024 .f32) : FVec F S1024x1024 .f32 :=
  select (msk i) s (broadcast S1024x1024 (Named.named κ "mask" 0xF149F2CA#32))

/-- One head's accumulator at the end: the blocks before the diagonal, then the diagonal. -/
def fin (i : grid0.Coords) (x0 : Vec F S1x2x1024x128 .bf16) (x1 x2 : Vec F S1x2x8192x128 .bf16) (h : Fin 2) (w : ℕ) : Vec F S1x1024x128 .f32 :=
  nac (dgn i (flat (scr (qBlk x0 h) (kBlk x1 h (i 2).val)))) (st x0 x1 x2 h w ((i 2).val - w)).1 (st x0 x1 x2 h w ((i 2).val - w)).2 (kBlk x2 h (i 2).val)

/-- One head's accumulator over its own lane 64. -/
def nrm (a : Vec F S1x1024x128 .f32) : FVec F S1024x128 .f32 :=
  divf (shapeCast S1024x128 a shapeCasts_S1x1024x128_S1024x128)
    (broadcastTo S1024x128 (extractStridedSlice S1024x1 ![0, 64] (shapeCast S1024x128 a shapeCasts_S1x1024x128_S1024x128) slices_S1024x128_o0_64_S1024x1) broadcasts_S1024x1_S1024x128)

/-- The block written: the first head's lanes below 64, the second's behind them. -/
def outBlk (a0 a1 : Vec F S1x1024x128 .f32) : FVec F S1x1024x128 .f32 :=
  shapeCast S1x1024x128 (select (cmpi .slt (iota .tc S1024x128 32 [1] iota_S1024x128_d1_w32) (broadcast S1024x128 64#32)) (nrm a0)
    (dynamicRotate 1 64#32 none (nrm a1) rotates_S1024x128_d1)) shapeCasts_S1024x128_S1x1024x128

/-! ### Loads -/

section Loads
variable {sig' : RefSig} {κ' : Kind} {sp : Space} {s : Shape} {e : EltTy}

/-- A load of the newest piece's own box reads its payload. -/
theorem rd_same (v : View sig' κ' sp s e) (f : v.ty.Contents (Elt F)) {off size : Fin s.rank → ℕ} (inb inb' : ∀ a, off a + size a ≤ s.size a)
    (w : (Rect.unit off size inb').shape.Idx → Elt F e) (L : List (View.Piece (Elt F) s e)) :
    v.readAt (Elt F) (Rect.unit off size inb).toLoadRect (v.writes (Elt F) f (⟨Rect.unit off size inb', w⟩ :: L)) = w :=
  funext fun x => View.read_writes_cons_emb v f (Rect.unit off size inb') w L x

/-- A load of a box clear of the newest piece reads what was there before. -/
theorem rd_skip (v : View sig' κ' sp s e) (f : v.ty.Contents (Elt F)) {off size off' size' : Fin s.rank → ℕ} (inb : ∀ a, off a + size a ≤ s.size a)
    (inb' : ∀ a, off' a + size' a ≤ s.size a)
    (w : (Rect.unit off' size' inb').shape.Idx → Elt F e) (L : List (View.Piece (Elt F) s e))
    (h : ∃ a, off a + size a ≤ off' a ∨ off' a + size' a ≤ off a) :
    v.readAt (Elt F) (Rect.unit off size inb).toLoadRect (v.writes (Elt F) f (⟨Rect.unit off' size' inb', w⟩ :: L))
      = v.readAt (Elt F) (Rect.unit off size inb).toLoadRect (v.writes (Elt F) f L) := by
  obtain ⟨a, ha⟩ := h
  funext x
  refine View.read_writes_cons_unit_of_not_mem v f inb' w L _ rfl a ?_
  show off a + 1 * (x a).val < off' a ∨ off' a + size' a ≤ off a + 1 * (x a).val
  have : (x a).val < size a := (x a).isLt
  omega

end Loads

theorem ld_k {M : Memref sig .tc .vmem S1x2x8192x128 .bf16} (hM : M.IsWhole) (x : Vec F S1x2x8192x128 .bf16) (off : Fin 4 → ℕ)
    (inb : ∀ a, off a + S1x1x1024x128.size a ≤ S1x2x8192x128.size a) (h : Fin 2) (j : ℕ) (hj : j < 8) (e : off = ![0, h.val, 1024 * j, 0]) :
    M.view.readAt (Elt F) (Rect.unit (s := S1x2x8192x128) off S1x1x1024x128.size inb).toLoadRect (hM.unread x) = kBlk x h j := by
  rw [View.readAt_unit M.view _ inb (off' := kOff h.val (blkNo j).val) (by rw [e, show (blkNo j).val = j from Nat.mod_eq_of_lt hj]) (kOff_inb h (blkNo j)), hM.read_unread]
  rfl

theorem ld_q {M : Memref sig .tc .vmem S1x2x1024x128 .bf16} (hM : M.IsWhole) (x : Vec F S1x2x1024x128 .bf16) (off : Fin 4 → ℕ)
    (inb : ∀ a, off a + S1x1x1024x128.size a ≤ S1x2x1024x128.size a) (h : Fin 2) (e : off = ![0, h.val, 0, 0]) :
    M.view.readAt (Elt F) (Rect.unit (s := S1x2x1024x128) off S1x1x1024x128.size inb).toLoadRect (hM.unread x) = qBlk x h := by
  rw [View.readAt_unit M.view _ inb e (qOff_inb h), hM.read_unread]
  rfl

/-- The state before the pair loop's trip `k`, from block `w` on: both heads' maximum and accumulator after `2k` blocks, and
    in the first slot both heads' scores of the next block. -/
structure Good (x0 : Vec F S1x2x1024x128 .bf16) (x1 x2 : Vec F S1x2x8192x128 .bf16) (w k : ℕ)
    {M8 M9 : Memref sig .tc .vmem S2x1024x128 .f32} {M10 : Memref sig .tc .vmem S2x2x1024x1024 .f32}
    (f8 : BufTy.Contents (Elt F) M8.view.ty) (f9 : BufTy.Contents (Elt F) M9.view.ty) (f10 : BufTy.Contents (Elt F) M10.view.ty) : Prop where
  m0 : M8.view.readAt (Elt F) (Rect.unit (s := S2x1024x128) ![0, 0, 0] S1x1024x128.size inb_S2x1024x128_S1x1024x128_0_0_0).toLoadRect f8 = (st x0 x1 x2 0 w (2 * k)).1
  m1 : M8.view.readAt (Elt F) (Rect.unit (s := S2x1024x128) ![1, 0, 0] S1x1024x128.size inb_S2x1024x128_S1x1024x128_1_0_0).toLoadRect f8 = (st x0 x1 x2 1 w (2 * k)).1
  a0 : M9.view.readAt (Elt F) (Rect.unit (s := S2x1024x128) ![0, 0, 0] S1x1024x128.size inb_S2x1024x128_S1x1024x128_0_0_0).toLoadRect f9 = (st x0 x1 x2 0 w (2 * k)).2
  a1 : M9.view.readAt (Elt F) (Rect.unit (s := S2x1024x128) ![1, 0, 0] S1x1024x128.size inb_S2x1024x128_S1x1024x128_1_0_0).toLoadRect f9 = (st x0 x1 x2 1 w (2 * k)).2
  s0 : M10.view.readAt (Elt F) (Rect.unit (s := S2x2x1024x1024) ![0, 0, 0, 0] S1x1x1024x1024.size inb_S2x2x1024x1024_S1x1x1024x1024_0_0_0_0).toLoadRect f10 = scr (qBlk x0 0) (kBlk x1 0 (w + 2 * k))
  s1 : M10.view.readAt (Elt F) (Rect.unit (s := S2x2x1024x1024) ![0, 1, 0, 0] S1x1x1024x1024.size inb_S2x2x1024x1024_S1x1x1024x1024_0_1_0_0).toLoadRect f10 = scr (qBlk x0 1) (kBlk x1 1 (w + 2 * k))

end Cert.KernelIdeal.Hand

end
-- ==== Proof.IdealLoop.lean ====
/- One trip of the pair loop: from the state before trip `k` to the state before trip `k + 1`. -/
module

public import proofs.«01_k».proof.Proof.IdealSpec
public import proofs.«01_k».proof.Proof.Gen.KernelIdeal.Skeleton
public import Idealize.ShloMosaic.Lib.LoopRemainder

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- Two blocks of the score buffer are disjoint unless they are one. -/
theorem rd10_skip {M : Memref sig .tc .vmem S2x2x1024x1024 .f32} (f : M.view.ty.Contents (Elt F)) {a b a' b' : ℕ} (inb inb') (w L)
    (h : a ≠ a' ∨ b ≠ b') :
    M.view.readAt (Elt F) (Rect.unit (s := S2x2x1024x1024) ![a, b, 0, 0] S1x1x1024x1024.size inb).toLoadRect
      (M.view.writes (Elt F) f (⟨Rect.unit (s := S2x2x1024x1024) ![a', b', 0, 0] S1x1x1024x1024.size inb', w⟩ :: L))
      = M.view.readAt (Elt F) (Rect.unit (s := S2x2x1024x1024) ![a, b, 0, 0] S1x1x1024x1024.size inb).toLoadRect (M.view.writes (Elt F) f L) :=
  rd_skip M.view f _ _ w L (by
    rcases h with h | h
    · refine ⟨0, ?_⟩; show a + 1 ≤ a' ∨ a' + 1 ≤ a; omega
    · refine ⟨1, ?_⟩; show b + 1 ≤ b' ∨ b' + 1 ≤ b; omega)

/-- Equal pieces concatenate to equal wholes. -/
theorem cc8 {a0 a1 a2 a3 a4 a5 a6 a7 b0 b1 b2 b3 b4 b5 b6 b7 : FVec F S1024x128 .bf16} (h0 : a0 = b0) (h1 : a1 = b1) (h2 : a2 = b2) (h3 : a3 = b3) (h4 : a4 = b4) (h5 : a5 = b5) (h6 : a6 = b6) (h7 : a7 = b7) :
    concatenate S1024x1024 1 [⟨S1024x128, a0⟩, ⟨S1024x128, a1⟩, ⟨S1024x128, a2⟩, ⟨S1024x128, a3⟩, ⟨S1024x128, a4⟩, ⟨S1024x128, a5⟩, ⟨S1024x128, a6⟩, ⟨S1024x128, a7⟩] concatenates_S1024x128_S1024x128_S1024x128_S1024x128_S1024x128_S1024x128_S1024x128_S1024x128_S1024x1024_d1
      = concatenate S1024x1024 1 [⟨S1024x128, b0⟩, ⟨S1024x128, b1⟩, ⟨S1024x128, b2⟩, ⟨S1024x128, b3⟩, ⟨S1024x128, b4⟩, ⟨S1024x128, b5⟩, ⟨S1024x128, b6⟩, ⟨S1024x128, b7⟩] concatenates_S1024x128_S1024x128_S1024x128_S1024x128_S1024x128_S1024x128_S1024x128_S1024x128_S1024x1024_d1 := by
  subst h0 h1 h2 h3 h4 h5 h6 h7; rfl

attribute [local congr] cc8

set_option maxHeartbeats 4000000 in
/-- One trip takes both heads through two more key blocks and leaves the next block's scores in the first slot. -/
theorem trip (c : Dev nD) (i : grid0.Coords) (arg3 : Memref sig .tc .smem S256 .i32) (harg3 : arg3.IsWhole)  (arg4 : Memref sig .tc .vmem S1x2x1024x128 .bf16) (harg4 : arg4.IsWhole)
    (arg5 : Memref sig .tc .vmem S1x2x8192x128 .bf16) (harg5 : arg5.IsWhole) (arg6 : Memref sig .tc .vmem S1x2x8192x128 .bf16) (harg6 : arg6.IsWhole)
    (arg7 : Memref sig .tc .vmem S1x1024x128 .f32) (harg7 : arg7.IsWhole) (arg8 : Memref sig .tc .vmem S2x1024x128 .f32) (harg8 : arg8.IsWhole)
    (arg9 : Memref sig .tc .vmem S2x1024x128 .f32) (harg9 : arg9.IsWhole) (arg10 : Memref sig .tc .vmem S2x2x1024x1024 .f32) (harg10 : arg10.IsWhole)
    (v1 : BitVec 32) (v11 : BitVec 32) (v12 : IVec S1024x1024 32) (v13 : IVec S1024x1024 32) (v30 : BitVec 32) (v36 : Elt F .i32) (k0_hw1 : k0_chk1 i v36) (v37 : BitVec 32) (c2_i32 : BitVec 32) (v60 : BitVec 32) (v61 : BitVec 1)
    (x0 : Vec F S1x2x1024x128 .bf16) (x1 x2 : Vec F S1x2x8192x128 .bf16) (k : Fin (k0_t1_loop i v36).trips)
    (f8 : BufTy.Contents (Elt F) arg8.view.ty) (f9 : BufTy.Contents (Elt F) arg9.view.ty) (f10 : BufTy.Contents (Elt F) arg10.view.ty) (E : Set ℕ)
    (w : Fin 8) (hw : w ≤ (i 2 : Fin 8)) (hv : v36 = bw w) (hG : Good x0 x1 x2 w.val k.val (M8 := arg8) (M9 := arg9) (M10 := arg10) f8 f9 f10) :
  (iprop((arg4.view.loc (c : Thread nD τ) ↦[arg4.view.set]{fullShare} harg4.unread x0) ∗ (arg5.view.loc (c : Thread nD τ) ↦[arg5.view.set]{fullShare} harg5.unread x1) ∗ (arg6.view.loc (c : Thread nD τ) ↦[arg6.view.set]{fullShare} harg6.unread x2) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10)) : sProp 𝕄)
      ⊢ wp frame (wpE (defs₀ (F := F)) Variants.none (c : Thread nD τ) none) E (k0_t1_body (F := F) i arg3 harg3 arg4 harg4 arg5 harg5 arg6 harg6 arg7 harg7 arg8 harg8 arg9 harg9 arg10 harg10 v1 v11 v12 v13 v30 v36 k0_hw1 v37 c2_i32 v60 v61 k PUnit.unit)
          (fun _ => iprop((arg4.view.loc (c : Thread nD τ) ↦[arg4.view.set]{fullShare} harg4.unread x0) ∗ (arg5.view.loc (c : Thread nD τ) ↦[arg5.view.set]{fullShare} harg5.unread x1) ∗ (arg6.view.loc (c : Thread nD τ) ↦[arg6.view.set]{fullShare} harg6.unread x2)
            ∗ ∃ g8 g9 g10, (arg8.view.loc (c : Thread nD τ) ↦[arg8.view.set]{fullShare} g8) ∗ (arg9.view.loc (c : Thread nD τ) ↦[arg9.view.set]{fullShare} g9) ∗ (arg10.view.loc (c : Thread nD τ) ↦[arg10.view.set]{fullShare} g10)
              ∗ ⌜Good x0 x1 x2 w.val (k.val + 1) (M8 := arg8) (M9 := arg9) (M10 := arg10) g8 g9 g10⌝)) := by
    unfold k0_t1_body
    iintro ⟨HR_arg4, HR_arg5, HR_arg6, HW_arg8, HW_arg9, HW_arg10⟩
    sl_exec
    sl_step
    isplitl [HR_arg4]; · iexact HR_arg4
    isplitl [HR_arg5]; · iexact HR_arg5
    isplitl [HR_arg6]; · iexact HR_arg6
    iexists _, _, _
    isplitl [HW_arg8]; · iexact HW_arg8
    isplitl [HW_arg9]; · iexact HW_arg9
    isplitl [HW_arg10]; · iexact HW_arg10
    ipureintro
    subst hv
    have hk : k.val < ((i 2).val - w.val) / 2 := lt_of_lt_of_eq k.isLt (trips_eq i w hw)
    have h2 : (i 2).val < 8 := (i 2).isLt
    have q0 := ld_q (F := F) harg4 x0 ![0, 0, 0, 0] inb_S1x2x1024x128_S1x1x1024x128_0_0_0_0 0 rfl
    have q1 := ld_q (F := F) harg4 x0 ![0, 1, 0, 0] inb_S1x2x1024x128_S1x1x1024x128_0_1_0_0 1 rfl
    have k41 := ld_k (F := F) harg5 x1 (k0_off4 i (bw w) k 1#32) (k0_off4_inb i (bw w) k0_hw1 k 0) 0 (w.val + 2 * k.val + 1) (by omega) (off4_eq i w hw k).1
    have k42 := ld_k (F := F) harg5 x1 (k0_off4 i (bw w) k 2#32) (k0_off4_inb i (bw w) k0_hw1 k 1) 0 (w.val + 2 * k.val + 2) (by omega) (off4_eq i w hw k).2
    have k51 := ld_k (F := F) harg5 x1 (k0_off5 i (bw w) k 1#32) (k0_off5_inb i (bw w) k0_hw1 k 0) 1 (w.val + 2 * k.val + 1) (by omega) (off5_eq i w hw k).1
    have k52 := ld_k (F := F) harg5 x1 (k0_off5 i (bw w) k 2#32) (k0_off5_inb i (bw w) k0_hw1 k 1) 1 (w.val + 2 * k.val + 2) (by omega) (off5_eq i w hw k).2
    have v6 := ld_k (F := F) harg6 x2 _ (k0_off6_inb i (bw w) k0_hw1 k) 0 (w.val + 2 * k.val) (by omega) (off6_eq i w hw k).1
    have v7 := ld_k (F := F) harg6 x2 _ (k0_off7_inb i (bw w) k0_hw1 k) 1 (w.val + 2 * k.val) (by omega) (off6_eq i w hw k).2
    have v41 := ld_k (F := F) harg6 x2 (k0_off4 i (bw w) k 1#32) (k0_off4_inb i (bw w) k0_hw1 k 0) 0 (w.val + 2 * k.val + 1) (by omega) (off4_eq i w hw k).1
    have v51 := ld_k (F := F) harg6 x2 (k0_off5 i (bw w) k 1#32) (k0_off5_inb i (bw w) k0_hw1 k 0) 1 (w.val + 2 * k.val + 1) (by omega) (off5_eq i w hw k).1
    obtain ⟨gm0, gm1, ga0, ga1, gs0, gs1⟩ := hG
    have gm0' : arg8.view.readAt (Elt F) (Rect.unit (s := S2x1024x128) ![0, 0, 0] ![1, 1024, 128] inb_S2x1024x128_S1x1024x128_0_0_0).toLoadRect f8 = (st x0 x1 x2 0 w (2 * k)).1 := gm0
    have gm1' : arg8.view.readAt (Elt F) (Rect.unit (s := S2x1024x128) ![1, 0, 0] ![1, 1024, 128] inb_S2x1024x128_S1x1024x128_1_0_0).toLoadRect f8 = (st x0 x1 x2 1 w (2 * k)).1 := gm1
    have ga0' : arg9.view.readAt (Elt F) (Rect.unit (s := S2x1024x128) ![0, 0, 0] ![1, 1024, 128] inb_S2x1024x128_S1x1024x128_0_0_0).toLoadRect f9 = (st x0 x1 x2 0 w (2 * k)).2 := ga0
    have ga1' : arg9.view.readAt (Elt F) (Rect.unit (s := S2x1024x128) ![1, 0, 0] ![1, 1024, 128] inb_S2x1024x128_S1x1024x128_1_0_0).toLoadRect f9 = (st x0 x1 x2 1 w (2 * k)).2 := ga1
    have gs0' : arg10.view.readAt (Elt F) (Rect.unit (s := S2x2x1024x1024) ![0, 0, 0, 0] ![1, 1, 1024, 1024] inb_S2x2x1024x1024_S1x1x1024x1024_0_0_0_0).toLoadRect f10 = scr (qBlk x0 0) (kBlk x1 0 (w + 2 * k)) := gs0
    have gs1' : arg10.view.readAt (Elt F) (Rect.unit (s := S2x2x1024x1024) ![0, 1, 0, 0] ![1, 1, 1024, 1024] inb_S2x2x1024x1024_S1x1x1024x1024_0_1_0_0).toLoadRect f10 = scr (qBlk x0 1) (kBlk x1 1 (w + 2 * k)) := gs1
    refine ⟨?_, ?_, ?_, ?_, ?_, ?_⟩
    all_goals delta trip.sl.HW_arg10_4 trip.sl.HW_arg8_2 trip.sl.HW_arg8_3 trip.sl.HW_arg9_2 trip.sl.HW_arg9_3 trip.sl.arg11 trip.sl.cst_112 trip.sl.cst_119 trip.sl.cst_86 trip.sl.r trip.sl.v126 trip.sl.v127 trip.sl.v128 trip.sl.v129 trip.sl.v132 trip.sl.v133 trip.sl.v135 trip.sl.v136 trip.sl.v138 trip.sl.v139 trip.sl.v143 trip.sl.v146 trip.sl.v147 trip.sl.v148 trip.sl.v149 trip.sl.v150 trip.sl.v151 trip.sl.v152 trip.sl.v153 trip.sl.v155 trip.sl.v156 trip.sl.v157 trip.sl.v158 trip.sl.v159 trip.sl.v160 trip.sl.v161 trip.sl.v162 trip.sl.v163 trip.sl.v164 trip.sl.v165 trip.sl.v166 trip.sl.v167 trip.sl.v168 trip.sl.v169 trip.sl.v171 trip.sl.v172 trip.sl.v173 trip.sl.v174 trip.sl.v175 trip.sl.v176 trip.sl.v177 trip.sl.v178 trip.sl.v179 trip.sl.v180 trip.sl.v181 trip.sl.v182 trip.sl.v183 trip.sl.v184 trip.sl.v185 trip.sl.v186 trip.sl.v187 trip.sl.v188 trip.sl.v189 trip.sl.v190 trip.sl.v191 trip.sl.v192 trip.sl.v193 trip.sl.v194 trip.sl.v195 trip.sl.v196 trip.sl.v197 trip.sl.v198 trip.sl.v199 trip.sl.v200 trip.sl.v201 trip.sl.v203 trip.sl.v204 trip.sl.v205 trip.sl.v207 trip.sl.v208 trip.sl.v209 trip.sl.v210 trip.sl.v213 trip.sl.v216 trip.sl.v217 trip.sl.v218 trip.sl.v221 trip.sl.v222 trip.sl.v223 trip.sl.v224 trip.sl.v225 trip.sl.v226 trip.sl.v227 trip.sl.v228 trip.sl.v229 trip.sl.v230 trip.sl.v231 trip.sl.v232 trip.sl.v233 trip.sl.v234 trip.sl.v235 trip.sl.v236 trip.sl.v237 trip.sl.v238 trip.sl.v239 trip.sl.v240 trip.sl.v241 trip.sl.v242 trip.sl.v243 trip.sl.v244 trip.sl.v245 trip.sl.v246 trip.sl.v247 trip.sl.v248 trip.sl.v249 trip.sl.v250 trip.sl.v251 trip.sl.v252 trip.sl.v253 trip.sl.v254 trip.sl.v255 trip.sl.v256 trip.sl.v257 trip.sl.v258 trip.sl.v259 trip.sl.v260 trip.sl.v261 trip.sl.v262 trip.sl.v263 trip.sl.v264 trip.sl.v265 trip.sl.v266 trip.sl.v269 trip.sl.v270 trip.sl.v271 trip.sl.v272 trip.sl.v273 trip.sl.v274 trip.sl.v275 trip.sl.v276 trip.sl.v279 trip.sl.v282 trip.sl.v283 trip.sl.v284 trip.sl.v288 trip.sl.v290 trip.sl.v291 trip.sl.v294 trip.sl.v301 trip.sl.v302 trip.sl.v305 trip.sl.v307 trip.sl.v308 trip.sl.v311 trip.sl.v312 trip.sl.v313 trip.sl.v314 trip.sl.v315 trip.sl.v316 trip.sl.v317 trip.sl.v318 trip.sl.v319 trip.sl.v320 trip.sl.v321 trip.sl.v322 trip.sl.v323 trip.sl.v324 trip.sl.v325 trip.sl.v326 trip.sl.v327 trip.sl.v328 trip.sl.v329 trip.sl.v330 trip.sl.v331 trip.sl.v332 trip.sl.v333 trip.sl.v334 trip.sl.v335 trip.sl.v336 trip.sl.v337 trip.sl.v338 trip.sl.v339 trip.sl.v340 trip.sl.v341 trip.sl.v342 trip.sl.v343 trip.sl.v344 trip.sl.v345 trip.sl.v346 trip.sl.v347 trip.sl.v348 trip.sl.v349 trip.sl.v350 trip.sl.v351 trip.sl.v352 trip.sl.v353 trip.sl.v354 trip.sl.v355 trip.sl.v356 trip.sl.v359 trip.sl.v360 trip.sl.v361 trip.sl.v362 trip.sl.v363 trip.sl.v364 trip.sl.v365 trip.sl.v366 trip.sl.v369 trip.sl.v372 trip.sl.v373 trip.sl.v374 trip.sl.v377 trip.sl.v378 trip.sl.v379 trip.sl.v380 trip.sl.v381 trip.sl.v382 trip.sl.v383 trip.sl.v384 trip.sl.v385 trip.sl.v386 trip.sl.v387 trip.sl.v388 trip.sl.v389 trip.sl.v390 trip.sl.v391 trip.sl.v392 trip.sl.v393 trip.sl.v394 trip.sl.v395 trip.sl.v396 trip.sl.v397 trip.sl.v398 trip.sl.v399 trip.sl.v400 trip.sl.v401 trip.sl.v402 trip.sl.v403 trip.sl.v428
    all_goals simp (disch := decide) only [View.readCov, rd_same, rd_skip, View.writes_nil, q0, q1, k41, k42, k51, k52, v6, v7, v41, v51, gm0, gm1, ga0, ga1, gs0, gs1, gm0', gm1', ga0', ga1', gs0', gs1']
    all_goals first | rfl | exact (rd10_skip (a := 0) (b := 0) (a' := 0) (b' := 1) _ _ _ _ _ (Or.inr (by decide))).trans (rd_same _ _ _ _ _ _)

end Cert.KernelIdeal.Hand
end
-- ==== Proof.IdealRun.lean ====
/- The kernel's body as a triple that names what it writes: with the point's table word a block number up to the point's
   query block, the output block is the normalised accumulators of the two heads. -/
module

public import proofs.«01_k».proof.Proof.IdealLoop

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

attribute [local congr] cc8

/-- After a fill of the whole buffer every load reads the fill. -/
theorem rd_fill {sig' : RefSig} {κ' : Kind} {sp : Space} {s : Shape} {e : EltTy} (v : View sig' κ' sp s e) (f : v.ty.Contents (Elt F))
    {off size off' size' : Fin s.rank → ℕ} (inb : ∀ a, off a + size a ≤ s.size a) (inb' : ∀ a, off' a + size' a ≤ s.size a)
    (h0 : ∀ a, off' a = 0) (hs : size' = s.size) (w : (Rect.unit off' size' inb').shape.Idx → Elt F e) (k : Elt F e) (hw : ∀ x, w x = k)
    (L : List (View.Piece (Elt F) s e)) :
    v.readAt (Elt F) (Rect.unit off size inb).toLoadRect (v.writes (Elt F) f (⟨Rect.unit off' size' inb', w⟩ :: L)) = fun _ => k := by
  subst hs
  obtain rfl : off' = fun _ => 0 := funext h0
  funext x
  have hx : ∀ a, off a + 1 * (x a).val < s.size a := fun a => by
    have := (x a).isLt; have := inb a
    have h : (x a).val < size a := (x a).isLt
    omega
  have h := View.read_writes_cons_emb v f (Rect.unit (fun _ => 0) s.size inb') w L (fun a => ⟨off a + 1 * (x a).val, hx a⟩)
  rw [hw] at h
  rw [← h]
  show v.read (Elt F) _ _ = v.read (Elt F) _ _
  congr 1
  funext a
  apply Fin.ext
  show off a + 1 * (x a).val = 0 + 1 * (off a + 1 * (x a).val)
  omega

/-- A store of the whole buffer is what is read back. -/
theorem rd_whole {sig' : RefSig} {κ' : Kind} {sp : Space} {s : Shape} {e : EltTy} (v : View sig' κ' sp s e) (f : v.ty.Contents (Elt F))
    {off' : Fin s.rank → ℕ} (inb' : ∀ a, off' a + s.size a ≤ s.size a) (h0 : ∀ a, off' a = 0)
    {w : s.Idx → Elt F e} {w' : (Rect.unit off' s.size inb').shape.Idx → Elt F e} (hw : w' = w) (L : List (View.Piece (Elt F) s e)) :
    v.read (Elt F) (v.writes (Elt F) f (⟨Rect.unit off' s.size inb', w'⟩ :: L)) = w := by
  subst hw
  obtain rfl : off' = fun _ => 0 := funext h0
  funext x
  refine Eq.trans ?_ (View.read_writes_cons_emb v f (Rect.unit (fun _ => 0) s.size inb') w' L x)
  show v.read (Elt F) _ _ = v.read (Elt F) _ _
  congr 1
  funext a
  apply Fin.ext
  show (x a).val = 0 + 1 * (x a).val
  omega

theorem msk_eq (i : grid0.Coords) :
    k0_pay124 (Scalar.addi 0#32 (Scalar.muli (BitVec.ofNat 32 (i 2).val) 1024#32)) (Scalar.select (Scalar.cmpi .slt (BitVec.ofNat 32 (i 1).val) 4#32) 6#32 0#32)
      (iota .tc S1024x1024 32 [0] iota_S1024x1024_d0_w32) (iota .tc S1024x1024 32 [1] iota_S1024x1024_d1_w32) = msk i := rfl
theorem dgn_eq125 (i : grid0.Coords) (s : Vec F S1x1x1024x1024 .f32) :
    k0_pay125 (Scalar.addi 0#32 (Scalar.muli (BitVec.ofNat 32 (i 2).val) 1024#32)) (Scalar.select (Scalar.cmpi .slt (BitVec.ofNat 32 (i 1).val) 4#32) 6#32 0#32)
      (iota .tc S1024x1024 32 [0] iota_S1024x1024_d0_w32) (iota .tc S1024x1024 32 [1] iota_S1024x1024_d1_w32) s = dgn i (flat s) := rfl
theorem dgn_eq142 (i : grid0.Coords) (s : Vec F S1x1x1024x1024 .f32) : k0_pay142 (msk i) s = dgn i (flat s) := rfl

/-- With an odd number of blocks before the diagonal the last of them is taken alone. -/
theorem fin_odd (i : grid0.Coords) (x0 : Vec F S1x2x1024x128 .bf16) (x1 x2 : Vec F S1x2x8192x128 .bf16) (h : Fin 2) (w p n : ℕ)
    (hp : (i 2).val - w = p + 1) (hn : w + p = n) : fin i x0 x1 x2 h w
      = nac (dgn i (flat (scr (qBlk x0 h) (kBlk x1 h (i 2).val)))) (nmx (flat (scr (qBlk x0 h) (kBlk x1 h n))) (st x0 x1 x2 h w p).1)
          (nac (flat (scr (qBlk x0 h) (kBlk x1 h n))) (st x0 x1 x2 h w p).1 (st x0 x1 x2 h w p).2 (kBlk x2 h n)) (kBlk x2 h (i 2).val) := by
  subst hn
  unfold fin
  rw [hp]
  rfl

set_option maxHeartbeats 4000000 in
theorem body_exact (c : Dev nD) (i : grid0.Coords) (arg4 : Memref sig .tc .vmem S1x2x1024x128 .bf16) (harg4 : arg4.IsWhole)
    (arg5 : Memref sig .tc .vmem S1x2x8192x128 .bf16) (harg5 : arg5.IsWhole) (arg6 : Memref sig .tc .vmem S1x2x8192x128 .bf16) (harg6 : arg6.IsWhole)
    (arg7 : Memref sig .tc .vmem S1x1024x128 .f32) (harg7 : arg7.IsWhole) (arg8 : Memref sig .tc .vmem S2x1024x128 .f32) (harg8 : arg8.IsWhole)
    (arg9 : Memref sig .tc .vmem S2x1024x128 .f32) (harg9 : arg9.IsWhole) (arg10 : Memref sig .tc .vmem S2x2x1024x1024 .f32) (harg10 : arg10.IsWhole)
    (x0 : Vec F S1x2x1024x128 .bf16) (x1 x2 : Vec F S1x2x8192x128 .bf16) (xt : TabBuf (F := F) c tabM)
    (w : Fin 8) (hw : w ≤ (i 2 : Fin 8)) (hv : wordAt c i xt = bw w) (k0_hw1 : k0_chk1 i (wordAt c i xt))
    (htr : (k0_t2_loop i (wordAt c i xt)).trips = 0) :
      ∀ (E : Set ℕ) (K : PUnit → sProp 𝕄),
        iprop(owns (c : Thread nD τ) arg4 fullShare x0 ∗ owns (c : Thread nD τ) arg5 fullShare x1 ∗ owns (c : Thread nD τ) arg6 fullShare x2
            ∗ (∃ d, owns (c : Thread nD τ) arg7 fullShare d) ∗ (∃ d, owns (c : Thread nD τ) arg8 fullShare d) ∗ (∃ d, owns (c : Thread nD τ) arg9 fullShare d)
            ∗ (∃ d, owns (c : Thread nD τ) arg10 fullShare d) ∗ tabPt c tabM xt
            ∗ (iprop(owns (c : Thread nD τ) arg4 fullShare x0 ∗ owns (c : Thread nD τ) arg5 fullShare x1 ∗ owns (c : Thread nD τ) arg6 fullShare x2
            ∗ owns (c : Thread nD τ) arg7 fullShare (outBlk (fin i x0 x1 x2 0 w.val) (fin i x0 x1 x2 1 w.val))
            ∗ (∃ d, owns (c : Thread nD τ) arg8 fullShare d) ∗ (∃ d, owns (c : Thread nD τ) arg9 fullShare d)
            ∗ (∃ d, owns (c : Thread nD τ) arg10 fullShare d) ∗ tabPt c tabM xt) -∗ K ⟨⟩))
          ⊢ wp frame (wpE (defs₀ (F := F)) Variants.none c none) E (cc0_attn i tabM tabW arg4 harg4 arg5 harg5 arg6 harg6 arg7 harg7 arg8 harg8 arg9 harg9 arg10 harg10) K := by
    intro E K
    have h2 : (i 2).val < 8 := (i 2).isLt
    have hwn : w.val ≤ (i 2).val := hw
    have hwi : w.val < 8 := w.isLt
    simp only [cc0_attn_eq_skeleton]; unfold cc0_attn_skel
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, HT, Hk⟩
    obtain rfl := harg4.eq_unread hf0; obtain rfl := harg5.eq_unread hf1; obtain rfl := harg6.eq_unread hf2
    sl_exec (disch := first | sl_exact k0_hw1)
    sl_for (fun (k : ℕ) (_ : PUnit) => iprop((arg4.view.loc (c : Thread nD τ) ↦[arg4.view.set]{fullShare} harg4.unread x0) ∗ (arg5.view.loc (c : Thread nD τ) ↦[arg5.view.set]{fullShare} harg5.unread x1)
        ∗ (arg6.view.loc (c : Thread nD τ) ↦[arg6.view.set]{fullShare} harg6.unread x2)
        ∗ ∃ g8 g9 g10, (arg8.view.loc (c : Thread nD τ) ↦[arg8.view.set]{fullShare} g8) ∗ (arg9.view.loc (c : Thread nD τ) ↦[arg9.view.set]{fullShare} g9) ∗ (arg10.view.loc (c : Thread nD τ) ↦[arg10.view.set]{fullShare} g10)
          ∗ ⌜Good x0 x1 x2 w.val k (M8 := arg8) (M9 := arg9) (M10 := arg10) g8 g9 g10⌝)) $$ [H0 H1 H2 HS0 HS1 HS2]
    · intro k acc
      iintro ⟨H0, H1, H2, %g8, %g9, %g10, HS0, HS1, HS2, %hG⟩
      iapply (trip c i tabM tabW arg4 harg4 arg5 harg5 arg6 harg6 arg7 harg7 arg8 harg8 arg9 harg9 arg10 harg10 _ _ _ _ _ (wordAt c i xt) k0_hw1 _ _ _ _ x0 x1 x2 k g8 g9 g10 E w hw hv hG)
      isplitl [H0]; · iexact H0
      isplitl [H1]; · iexact H1
      isplitl [H2]; · iexact H2
      isplitl [HS0]; · iexact HS0
      isplitl [HS1]; · iexact HS1
      iexact HS2
    · isplitl [H0]; · iexact H0
      isplitl [H1]; · iexact H1
      isplitl [H2]; · iexact H2
      iexists _, _, _
      isplitl [HS0]; · iexact HS0
      isplitl [HS1]; · iexact HS1
      isplitl [HS2]; · iexact HS2
      ipureintro
      have q0 := ld_q (F := F) harg4 x0 ![0, 0, 0, 0] inb_S1x2x1024x128_S1x1x1024x128_0_0_0_0 0 rfl
      have q1 := ld_q (F := F) harg4 x0 ![0, 1, 0, 0] inb_S1x2x1024x128_S1x1x1024x128_0_1_0_0 1 rfl
      have e2 := off2_table w
      have e3 := off3_table w
      rw [← hv] at e2 e3
      have k2 := fun inb => ld_k (F := F) harg5 x1 (k0_off2 (wordAt c i xt)) inb 0 w.val w.isLt e2
      have k3 := fun inb => ld_k (F := F) harg5 x1 (k0_off3 (wordAt c i xt)) inb 1 w.val w.isLt e3
      refine ⟨?_, ?_, ?_, ?_, ?_, ?_⟩
      all_goals sl_unfold_run_names
      · exact rd_fill _ _ _ _ (by decide) rfl _ _ (fun _ => rfl) _
      · exact rd_fill _ _ _ _ (by decide) rfl _ _ (fun _ => rfl) _
      · exact rd_fill _ _ _ _ (by decide) rfl _ _ (fun _ => rfl) _
      · exact rd_fill _ _ _ _ (by decide) rfl _ _ (fun _ => rfl) _
      all_goals simp (disch := decide) only [View.readCov, rd_same, rd_skip, View.writes_nil, q0, q1, k2, k3]
      all_goals rfl
    · iintro %acc ⟨H0, H1, H2, %g8, %g9, %g10, HS0, HS1, HS2, %hG⟩
      have htr1 : (k0_t1_loop i (wordAt c i xt)).trips = ((i 2).val - w.val) / 2 := by rw [hv]; exact trips_eq i w hw
      have hG' : Good x0 x1 x2 w.val (((i 2).val - w.val) / 2) (M8 := arg8) (M9 := arg9) (M10 := arg10) g8 g9 g10 := htr1 ▸ hG
      clear hG
      have hc : k0_cond2 i (wordAt c i xt) = 1#1 ↔ ((i 2).val - w.val) % 2 = 1 := by rw [hv]; exact cond_eq i w hw
      have hc1 : evn i (wordAt c i xt) = 1#1 ↔ ((i 2).val - w.val) % 2 = 0 := by rw [hv]; exact evn_eq i w hw
      have o := off12_eq i
      by_cases hodd : k0_cond2 i (wordAt c i xt) = 1#1
      · have hev : ¬ evn i (wordAt c i xt) = 1#1 := by
          have ho : ((i 2).val - w.val) % 2 = 1 := hc.1 hodd
          rw [hc1]; omega
        sl_exec (disch := first | sl_exact k0_hw1 | sl_exact hev | sl_exact hodd | sl_exact htr)
        sl_step
        iapply Hk
        isplitl [H0]
        · iexists _; isplitr; · ipureintro; exact harg4.read_unread _
          iexact H0
        isplitl [H1]
        · iexists _; isplitr; · ipureintro; exact harg5.read_unread _
          iexact H1
        isplitl [H2]
        · iexists _; isplitr; · ipureintro; exact harg6.read_unread _
          iexact H2
        isplitl [H3]
        · iexists _; isplitr; swap; · iexact H3
          ipureintro
          have ho : ((i 2).val - w.val) % 2 = 1 := hc.1 hodd
          have ej : 2 * (((i 2).val - w.val) / 2) = (i 2).val - w.val - 1 := by omega
          have el : w.val + ((i 2).val - w.val - 1) = (i 2).val - 1 := by omega
          obtain ⟨gm0, gm1, ga0, ga1, gs0, gs1⟩ := hG'
          rw [ej] at gm0 gm1 ga0 ga1 gs0 gs1
          rw [el] at gs0 gs1
          have gm0' : arg8.view.readAt (Elt F) (Rect.unit (s := S2x1024x128) ![0, 0, 0] ![1, 1024, 128] inb_S2x1024x128_S1x1024x128_0_0_0).toLoadRect g8 = (st x0 x1 x2 0 w ((i 2).val - w.val - 1)).1 := gm0
          have gm1' : arg8.view.readAt (Elt F) (Rect.unit (s := S2x1024x128) ![1, 0, 0] ![1, 1024, 128] inb_S2x1024x128_S1x1024x128_1_0_0).toLoadRect g8 = (st x0 x1 x2 1 w ((i 2).val - w.val - 1)).1 := gm1
          have ga0' : arg9.view.readAt (Elt F) (Rect.unit (s := S2x1024x128) ![0, 0, 0] ![1, 1024, 128] inb_S2x1024x128_S1x1024x128_0_0_0).toLoadRect g9 = (st x0 x1 x2 0 w ((i 2).val - w.val - 1)).2 := ga0
          have ga1' : arg9.view.readAt (Elt F) (Rect.unit (s := S2x1024x128) ![1, 0, 0] ![1, 1024, 128] inb_S2x1024x128_S1x1024x128_1_0_0).toLoadRect g9 = (st x0 x1 x2 1 w ((i 2).val - w.val - 1)).2 := ga1
          have gs0' : arg10.view.readAt (Elt F) (Rect.unit (s := S2x2x1024x1024) ![0, 0, 0, 0] ![1, 1, 1024, 1024] inb_S2x2x1024x1024_S1x1x1024x1024_0_0_0_0).toLoadRect g10 = scr (qBlk x0 0) (kBlk x1 0 ((i 2).val - 1)) := gs0
          have gs1' : arg10.view.readAt (Elt F) (Rect.unit (s := S2x2x1024x1024) ![0, 1, 0, 0] ![1, 1, 1024, 1024] inb_S2x2x1024x1024_S1x1x1024x1024_0_1_0_0).toLoadRect g10 = scr (qBlk x0 1) (kBlk x1 1 ((i 2).val - 1)) := gs1
          have q0 := ld_q (F := F) harg4 x0 ![0, 0, 0, 0] inb_S1x2x1024x128_S1x1x1024x128_0_0_0_0 0 rfl
          have q1 := ld_q (F := F) harg4 x0 ![0, 1, 0, 0] inb_S1x2x1024x128_S1x1x1024x128_0_1_0_0 1 rfl
          have hpos : 0 < (i 2).val := by omega
          have o12 := fun inb => ld_k (F := F) harg6 x2 (k0_off12 i) inb 0 (i 2).val h2 o.1
          have o13 := fun inb => ld_k (F := F) harg6 x2 (k0_off13 i) inb 1 (i 2).val h2 o.2.1
          have o14 := fun inb => ld_k (F := F) harg5 x1 (k0_off14 i) inb 0 (i 2).val h2 o.2.2.1
          have o15 := fun inb => ld_k (F := F) harg5 x1 (k0_off15 i) inb 1 (i 2).val h2 o.2.2.2.1
          have o14' := fun inb => ld_k (F := F) harg6 x2 (k0_off14 i) inb 0 (i 2).val h2 o.2.2.1
          have o15' := fun inb => ld_k (F := F) harg6 x2 (k0_off15 i) inb 1 (i 2).val h2 o.2.2.2.1
          have o16 := fun inb => ld_k (F := F) harg6 x2 (k0_off16 i) inb 0 ((i 2).val - 1) (by omega) (o.2.2.2.2 hpos).1
          have o17 := fun inb => ld_k (F := F) harg6 x2 (k0_off17 i) inb 1 ((i 2).val - 1) (by omega) (o.2.2.2.2 hpos).2
          refine (rd_whole _ _ _ (by decide) rfl _).trans ((congrArg₂ (fun a b => k0_pay3 a b) ?_ ?_).trans
            (show k0_pay3 (fin i x0 x1 x2 0 w.val) (fin i x0 x1 x2 1 w.val) = _ from rfl))
          all_goals rw [fin_odd i x0 x1 x2 _ w.val ((i 2).val - w.val - 1) ((i 2).val - 1) (by omega) (by omega)]
          all_goals sl_unfold_run_names
          all_goals simp (disch := decide) only [View.readCov, rd_same, rd_skip, View.writes_nil, q0, q1, o12, o13, o14, o15, o14', o15', o16, o17, msk_eq, gm0, gm1, ga0, ga1, gs0, gs1, gm0', gm1', ga0', ga1', gs0', gs1']
          · rfl
          · rfl
        isplitl [HS0]
        · iexists _, _; isplitr; swap; · iexact HS0
          ipureintro; rfl
        isplitl [HS1]
        · iexists _, _; isplitr; swap; · iexact HS1
          ipureintro; rfl
        isplitl [HS2]
        · iexists _, _; isplitr; swap; · iexact HS2
          ipureintro; rfl
        iexact HT
      · have hev : evn i (wordAt c i xt) = 1#1 := by
          have hne : ¬ ((i 2).val - w.val) % 2 = 1 := fun h => hodd (hc.2 h)
          rw [hc1]; omega
        sl_exec (disch := first | sl_exact k0_hw1 | sl_exact hev | sl_exact hodd | sl_exact htr)
        sl_step
        iapply Hk
        isplitl [H0]
        · iexists _; isplitr; · ipureintro; exact harg4.read_unread _
          iexact H0
        isplitl [H1]
        · iexists _; isplitr; · ipureintro; exact harg5.read_unread _
          iexact H1
        isplitl [H2]
        · iexists _; isplitr; · ipureintro; exact harg6.read_unread _
          iexact H2
        isplitl [H3]
        · iexists _; isplitr; swap; · iexact H3
          ipureintro
          have ej : 2 * (((i 2).val - w.val) / 2) = (i 2).val - w.val := by
            have hne : ¬ ((i 2).val - w.val) % 2 = 1 := fun h => hodd (hc.2 h)
            omega
          have el : w.val + ((i 2).val - w.val) = (i 2).val := by omega
          obtain ⟨gm0, gm1, ga0, ga1, gs0, gs1⟩ := hG'
          rw [ej] at gm0 gm1 ga0 ga1 gs0 gs1
          rw [el] at gs0 gs1
          have gm0' : arg8.view.readAt (Elt F) (Rect.unit (s := S2x1024x128) ![0, 0, 0] ![1, 1024, 128] inb_S2x1024x128_S1x1024x128_0_0_0).toLoadRect g8 = (st x0 x1 x2 0 w ((i 2).val - w.val)).1 := gm0
          have gm1' : arg8.view.readAt (Elt F) (Rect.unit (s := S2x1024x128) ![1, 0, 0] ![1, 1024, 128] inb_S2x1024x128_S1x1024x128_1_0_0).toLoadRect g8 = (st x0 x1 x2 1 w ((i 2).val - w.val)).1 := gm1
          have ga0' : arg9.view.readAt (Elt F) (Rect.unit (s := S2x1024x128) ![0, 0, 0] ![1, 1024, 128] inb_S2x1024x128_S1x1024x128_0_0_0).toLoadRect g9 = (st x0 x1 x2 0 w ((i 2).val - w.val)).2 := ga0
          have ga1' : arg9.view.readAt (Elt F) (Rect.unit (s := S2x1024x128) ![1, 0, 0] ![1, 1024, 128] inb_S2x1024x128_S1x1024x128_1_0_0).toLoadRect g9 = (st x0 x1 x2 1 w ((i 2).val - w.val)).2 := ga1
          have gs0' : arg10.view.readAt (Elt F) (Rect.unit (s := S2x2x1024x1024) ![0, 0, 0, 0] ![1, 1, 1024, 1024] inb_S2x2x1024x1024_S1x1x1024x1024_0_0_0_0).toLoadRect g10 = scr (qBlk x0 0) (kBlk x1 0 (i 2).val) := gs0
          have gs1' : arg10.view.readAt (Elt F) (Rect.unit (s := S2x2x1024x1024) ![0, 1, 0, 0] ![1, 1, 1024, 1024] inb_S2x2x1024x1024_S1x1x1024x1024_0_1_0_0).toLoadRect g10 = scr (qBlk x0 1) (kBlk x1 1 (i 2).val) := gs1
          have o12 := fun inb => ld_k (F := F) harg6 x2 (k0_off12 i) inb 0 (i 2).val h2 o.1
          have o13 := fun inb => ld_k (F := F) harg6 x2 (k0_off13 i) inb 1 (i 2).val h2 o.2.1
          refine (rd_whole _ _ _ (by decide) rfl _).trans ((congrArg₂ (fun a b => k0_pay3 a b) ?_ ?_).trans
            (show k0_pay3 (fin i x0 x1 x2 0 w.val) (fin i x0 x1 x2 1 w.val) = _ from rfl))
          all_goals sl_unfold_run_names
          all_goals simp (disch := decide) only [View.readCov, rd_same, rd_skip, View.writes_nil, o12, o13, msk_eq, dgn_eq125, dgn_eq142, gm0, gm1, ga0, ga1, gs0, gs1, gm0', gm1', ga0', ga1', gs0', gs1']
          · rfl
          · rfl
        isplitl [HS0]
        · iexists _, _; isplitr; swap; · iexact HS0
          ipureintro; rfl
        isplitl [HS1]
        · iexists _, _; isplitr; swap; · iexact HS1
          ipureintro; rfl
        isplitl [HS2]
        · iexists _, _; isplitr; swap; · iexact HS2
          ipureintro; rfl
        iexact HT

end Cert.KernelIdeal.Hand

end
-- ==== Proof.IdealLaunch.lean ====
/- The kernel's run, exactly: from any launch memory whose table holds admissible first blocks the program runs to the end with the
   output array at what the write-backs of the named blocks leave, the arguments as they were and every semaphore at zero. -/
module

public import proofs.«01_k».proof.Proof.IdealRun
public import proofs.«01_k».proof.Proof.IdealWord
public import Idealize.ShloMosaic.Lib.Claim

@[expose] public section

set_option maxRecDepth 16384

noncomputable section

namespace Cert.KernelIdeal.Hand.Exact

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The table holds admissible first blocks. -/
abbrev Words : Prop := Cert.Hand.Starts (tbl m 0)

/-- Point `t`'s first block. -/
def wd (t : Fin (cfgM m).N) : ℕ := (tbl m 0 (tix (grid0.coords t)) : BitVec 32).toNat

/-- The block the body leaves at point `t`. -/
def oblk (c : Dev nD) (t : Fin (cfgM m).N) : FVec F S1x1024x128 .f32 :=
  outBlk (fin (grid0.coords t) (iblk m c 0 t) (iblk m c 1 t) (iblk m c 2 t) 0 (wd m t)) (fin (grid0.coords t) (iblk m c 0 t) (iblk m c 1 t) (iblk m c 2 t) 1 (wd m t))

def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => oblk m c t
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]
theorem after_0 (c : Dev nD) (t : Fin (cfgM m).N) : (dats m 0 c).after 0 t = iblk m c 0 t := by dsimp only [dats]; try rfl
theorem after_1 (c : Dev nD) (t : Fin (cfgM m).N) : (dats m 0 c).after 1 t = iblk m c 1 t := by dsimp only [dats]; try rfl
theorem after_2 (c : Dev nD) (t : Fin (cfgM m).N) : (dats m 0 c).after 2 t = iblk m c 2 t := by dsimp only [dats]; try rfl
theorem after_3 (c : Dev nD) (t : Fin (cfgM m).N) : (dats m 0 c).after 3 t = oblk m c t := by dsimp only [dats]; try rfl
theorem bef_0 (c : Dev nD) (t : Fin (cfgM m).N) (d) : (dats m 0 c).before 0 t d = iblk m c 0 t :=
  before_0 m (dats m 0 c) (A_eq m c 0) (after_0 m c) t d
theorem bef_1 (c : Dev nD) (t : Fin (cfgM m).N) (d) : (dats m 0 c).before 1 t d = iblk m c 1 t :=
  before_1 m (dats m 0 c) (A_eq m c 1) (after_1 m c) t d
theorem bef_2 (c : Dev nD) (t : Fin (cfgM m).N) (d) : (dats m 0 c).before 2 t d = iblk m c 2 t :=
  before_2 m (dats m 0 c) (A_eq m c 2) (after_2 m c) t d

/-- What the body is called with at point `t`, -/
def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d)))

/-- and what it returns. -/
def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t)
    ∗ owns (c : Thread nD τ) (ms3 m t) fullShare ((dats m 0 c).after 3 t))

theorem sound_body (hW : Words m) (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [bef_0, bef_1, bef_2]
  rw [show (dats m 0 c).Φ t.succ = (dats m 0 c).Φ t.castSucc from rfl,
    show (dats m 0 c).owesAt () t.succ = (dats m 0 c).owesAt () t.castSucc from rfl,
    after_0, after_1, after_2, after_3]
  rw [show (dats m 0 c).Φ t.castSucc = iprop(Pipeline.ΦA spec0 c ∗ Pipeline.ΦT pre0 (tbl m) c) from rfl, PhiT_eq, PhiA_eq]
  obtain ⟨w, hw, ew⟩ := word_of (tbl m 0) hW (grid0.coords t)
  have hv : wordAt c (grid0.coords t) (tbl m 0) = bw w := (wordAt_eq c _ _).trans ew
  have hd : wd m t = w.val := by
    unfold wd; rw [ew, BitVec.toNat_ofNat, Nat.mod_eq_of_lt (by have := w.isLt; omega)]
  unfold oblk; rw [hd]
  iintro ⟨⟨⟨⟨HS0, HS1, HS2⟩, Hg⟩, HT⟩, Ho, ⟨%d0, H0⟩, ⟨%d1, H1⟩, ⟨%d2, H2⟩, ⟨%d3, H3⟩⟩
  iapply ((body_exact c (grid0.coords t) _ _ _ _ _ _ _ _ _ _ _ _ _ _ (iblk m c 0 t) (iblk m c 1 t) (iblk m c 2 t) (tbl m 0) w hw hv (chk_starts c _ hW _)
    (by rw [hv]; exact trips2_eq _ w hw)) Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  isplitl [HT]; · iexact HT
  iintro ⟨H0, H1, H2, H3, HS0, HS1, HS2, HT⟩
  isplitl [HS0 HS1 HS2 Hg HT]
  · isplitl [HS0 HS1 HS2 Hg]
    · isplitl [HS0 HS1 HS2]
      · isplitl [HS0]; · iexact HS0
        isplitl [HS1]; · iexact HS1
        iexact HS2
      iexact Hg
    iexact HT
  isplitl [Ho]; · iexact Ho
  isplitl [H0]; · iexact H0
  isplitl [H1]; · iexact H1
  isplitl [H2]; · iexact H2
  iexact H3

theorem body_obligation (hW : Words m) (c : Dev nD) : BodyObligation (dats (F := F) m 0 c) (defs₀ (F := F)) Variants.none () Set.univ := fun t => by
  rw [bigSep_W0, bigSep_W0, defs_row m]
  exact triple_restated (sound_body m hW c t) rfl .rfl fun _ => .rfl

set_option backward.isDefEq.respectTransparency.types false in
theorem run_main (hW : Words m) : θ_run defs (onTc (τ := τ) (main (F := F))) ⟨m, fun _ => 0, ρ⟩ (fun r => Pipeline.FramePost (Pipeline.pin pcfgs fun _ => adm m) (dats m) 0 (V m) r ∧ r.2.sem = fun _ => 0) :=
  Pipeline.θ_run_frameP (Q' := _) pcfgs (fun _ => adm m) (dats m) (0 : Fin 1) launch0 defs₀ Variants.none m ρ main
    (hbody := fun c => (body_obligation m hW c).loose) (hshare := fun c => (dats m 0 c).share_full fun _ => rfl)
    (howed := fun _ _ => rfl) (V := V m) (hmain := hmain m Variants.none) (hA := A_eq m) (hpf := V_pre m) (hΦ := fun _ _ => rfl)

theorem run (hW : Words m) : θ_run defs (onTc (τ := τ) (main (F := F))) ⟨m, fun _ => 0, ρ⟩ (fun r => ∀ c : Dev nD,
      r.2.mem ((c.tc : Thread nD τ).loc main_v0) = (dats m 0 c).arrAt 3 (cfgM m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h.1 c).1 3, (h.1 c).2 main_arg0 (by decide : main_arg0 ∈ Pipeline.restRefs sig spec0),
    (((h.1 c).1 0).trans ((dats m 0 c).arrAt_in 0 rfl _)).trans (A_eq m c 0),
    (((h.1 c).1 1).trans ((dats m 0 c).arrAt_in 1 rfl _)).trans (A_eq m c 1),
    (((h.1 c).1 2).trans ((dats m 0 c).arrAt_in 2 rfl _)).trans (A_eq m c 2)⟩) (run_main m ρ hW)

end Cert.KernelIdeal.Hand.Exact

end
-- ==== Proof.IdealBlocks.lean ====
/- The launch's blocks at coordinates: each input block read at an index is its array at the block's place, the output block lands at
   its place, and the output blocks cover the result. -/
module

public import proofs.«01_k».proof.Proof.IdealLaunch
public import Idealize.ShloMosaic.Lib.Pointwise
public import Idealize.ShloMosaic.Lib.Pipeline.ValueKit
@[expose] public section

noncomputable section

namespace Cert.KernelIdeal.Hand.Exact

open Cert.KernelIdeal Cert.KernelIdeal.Gen Cert.KernelIdeal.Hand
open Idealize.ShloMosaic Idealize.ShloMosaic.TcCoe
variable (m : (ℓ : Loc nD τ sig) → Buf (Elt Ideal) ℓ)

theorem word_val (n : ℕ) (h : n < 8192) : (BitVec.ofNat 32 n).toNat = n := by
  rw [BitVec.toNat_ofNat, Nat.mod_eq_of_lt (by omega)]

/-- A point's batch, head pair and query block. -/
def pb (t : Fin (cfgM m).N) : Fin 4 := grid0.coords t 0
def pp (t : Fin (cfgM m).N) : Fin 8 := grid0.coords t 1
def pn (t : Fin (cfgM m).N) : Fin 8 := grid0.coords t 2

/-- A head of the point's pair. -/
def hd (t : Fin (cfgM m).N) (h : Fin 2) : Fin 16 := ⟨2 * (pp m t).val + h.val, by have := (pp m t).isLt; omega⟩
/-- A position of the point's query block. -/
def ps (t : Fin (cfgM m).N) (r : Fin 1024) : Fin 8192 := ⟨1024 * (pn m t).val + r.val, by have := (pn m t).isLt; omega⟩

theorem q_at (c : Dev nD) (t : Fin (cfgM m).N) (h : Fin 2) (r : Fin 1024) (l : Fin 128) :
    iblk m c 0 t (ix4 (0 : Fin 1) h r l) = m ((c.tc : Thread nD τ).loc main_arg1) (ix4 (pb m t) (hd m t h) (ps m t r) l) := by
  have hb := (pb m t).isLt
  have hp := (pp m t).isLt
  have hn := (pn m t).isLt
  refine congrArg (m ((c.tc : Thread nD τ).loc main_arg1)) (funext fun a => Fin.ext ?_)
  match a with
  | ⟨0, _⟩ => show (BitVec.ofNat 32 (pb m t).val).toNat * 1 + 1 * 0 = (pb m t).val; rw [word_val _ (by omega)]; omega
  | ⟨1, _⟩ => show (BitVec.ofNat 32 (pp m t).val).toNat * 2 + 1 * h.val = 2 * (pp m t).val + h.val; rw [word_val _ (by omega)]; omega
  | ⟨2, _⟩ => show (BitVec.ofNat 32 (pn m t).val).toNat * 1024 + 1 * r.val = 1024 * (pn m t).val + r.val; rw [word_val _ (by omega)]; omega
  | ⟨3, _⟩ => show (0#32 : BitVec 32).toNat * 128 + 1 * l.val = l.val; rw [show (0#32 : BitVec 32).toNat = 0 from rfl]; omega

theorem k_at (c : Dev nD) (t : Fin (cfgM m).N) (h : Fin 2) (r : Fin 8192) (l : Fin 128) :
    iblk m c 1 t (ix4 (0 : Fin 1) h r l) = m ((c.tc : Thread nD τ).loc main_arg2) (ix4 (pb m t) (hd m t h) r l) := by
  have hb := (pb m t).isLt
  have hp := (pp m t).isLt
  refine congrArg (m ((c.tc : Thread nD τ).loc main_arg2)) (funext fun a => Fin.ext ?_)
  match a with
  | ⟨0, _⟩ => show (BitVec.ofNat 32 (pb m t).val).toNat * 1 + 1 * 0 = (pb m t).val; rw [word_val _ (by omega)]; omega
  | ⟨1, _⟩ => show (BitVec.ofNat 32 (pp m t).val).toNat * 2 + 1 * h.val = 2 * (pp m t).val + h.val; rw [word_val _ (by omega)]; omega
  | ⟨2, _⟩ => show (0#32 : BitVec 32).toNat * 8192 + 1 * r.val = r.val; rw [show (0#32 : BitVec 32).toNat = 0 from rfl]; omega
  | ⟨3, _⟩ => show (0#32 : BitVec 32).toNat * 128 + 1 * l.val = l.val; rw [show (0#32 : BitVec 32).toNat = 0 from rfl]; omega

theorem v_at (c : Dev nD) (t : Fin (cfgM m).N) (h : Fin 2) (r : Fin 8192) (l : Fin 128) :
    iblk m c 2 t (ix4 (0 : Fin 1) h r l) = m ((c.tc : Thread nD τ).loc main_arg3) (ix4 (pb m t) (hd m t h) r l) := by
  have hb := (pb m t).isLt
  have hp := (pp m t).isLt
  refine congrArg (m ((c.tc : Thread nD τ).loc main_arg3)) (funext fun a => Fin.ext ?_)
  match a with
  | ⟨0, _⟩ => show (BitVec.ofNat 32 (pb m t).val).toNat * 1 + 1 * 0 = (pb m t).val; rw [word_val _ (by omega)]; omega
  | ⟨1, _⟩ => show (BitVec.ofNat 32 (pp m t).val).toNat * 2 + 1 * h.val = 2 * (pp m t).val + h.val; rw [word_val _ (by omega)]; omega
  | ⟨2, _⟩ => show (0#32 : BitVec 32).toNat * 8192 + 1 * r.val = r.val; rw [show (0#32 : BitVec 32).toNat = 0 from rfl]; omega
  | ⟨3, _⟩ => show (0#32 : BitVec 32).toNat * 128 + 1 * l.val = l.val; rw [show (0#32 : BitVec 32).toNat = 0 from rfl]; omega

/-- Where the output block's row `r`, lane `l` lands. -/
def ol (t : Fin (cfgM m).N) (l : Fin 128) : Fin 1024 := ⟨128 * (pp m t).val + l.val, by have := (pp m t).isLt; omega⟩

theorem out_emb (t : Fin (cfgM m).N) (r : Fin 1024) (l : Fin 128) :
    (((cfgM m).win 3).blk t).view.emb (ix3 (0 : Fin 1) r l) = ix3 (pb m t) (ps m t r) (ol m t l) := by
  have hb := (pb m t).isLt
  have hp := (pp m t).isLt
  have hn := (pn m t).isLt
  funext a
  apply Fin.ext
  match a with
  | ⟨0, _⟩ => show (BitVec.ofNat 32 (pb m t).val).toNat * 1 + 1 * 0 = (pb m t).val; rw [word_val _ (by omega)]; omega
  | ⟨1, _⟩ => show (BitVec.ofNat 32 (pn m t).val).toNat * 1024 + 1 * r.val = 1024 * (pn m t).val + r.val; rw [word_val _ (by omega)]; omega
  | ⟨2, _⟩ => show (BitVec.ofNat 32 (pp m t).val).toNat * 128 + 1 * l.val = 128 * (pp m t).val + l.val; rw [word_val _ (by omega)]; omega

/-- The output's blocks cover it; no window depends on the table, so a table of zeros decides it. -/
theorem covers_zero : ((cfg0 (F := Ideal) ⟨fun | 0 => fun _ => (0#32 : BitVec 32), trivial⟩).win 3).Covers := by decide +kernel
theorem covers : ((cfgM m).win 3).Covers := covers_zero

theorem row_lane (y : S1x1024x128.Idx) : ∃ (r : Fin 1024) (l : Fin 128), y = ix3 (0 : Fin 1) r l := ⟨y 1, y 2, funext fun a => by
  match a with
  | ⟨0, _⟩ => exact Fin.ext (by have : (y 0).val < 1 := (y 0).isLt; show (y 0).val = 0; omega)
  | ⟨1, _⟩ => rfl
  | ⟨2, _⟩ => rfl⟩

/-- The result array, from what the body leaves at every row and lane. -/
theorem arr_eq (c : Dev nD) (G : S4x8192x1024.Idx → EReal)
    (h : ∀ (t : Fin (cfgM m).N) (r : Fin 1024) (l : Fin 128), oblk m c t (ix3 (0 : Fin 1) r l) = G (ix3 (pb m t) (ps m t r) (ol m t l))) :
    (dats m 0 c).arrAt 3 (cfgM m).N = G := by
  refine (dats m 0 c).arrAt_eq_of_covers 3 _ (covers m) fun t _ y => ?_
  show oblk m c t y = _
  obtain ⟨r, l, rfl⟩ := row_lane y
  exact (h t r l).trans (congrArg G (out_emb m t r l)).symm

end Cert.KernelIdeal.Hand.Exact
end
-- ==== Proof.Softmax.lean ====
/- A softmax-weighted sum taken block by block: the running maximum and the running accumulator over the first keys, their step by a
   block, and the quotient at the end against the plain softmax. Of no program: extended reals and numbered keys alone. -/
module

public import Idealize.ShloMosaic.PureOps.Ideal

@[expose] public section

noncomputable section

namespace Cert.Hand.Softmax

open Idealize.ShloMosaic

/-- The largest of the first `N` scores. -/
def top (z : ℕ → EReal) (N : ℕ) : EReal := (Finset.range N).sup z

/-- The first `N` values, weighted by their exponentiated scores over `m`. -/
def acc (z V : ℕ → EReal) (N : ℕ) (m : EReal) : EReal := ∑ k ∈ Finset.range N, Ideal.exp (z k - m) * V k

theorem exp_nonneg (x : EReal) : 0 ≤ Ideal.exp x := by
  induction x with
  | bot => rw [Ideal.exp_bot]
  | top => rw [Ideal.exp_top]; exact le_top
  | coe r => rw [Ideal.exp_coe]; exact_mod_cast (Real.exp_pos r).le

theorem exp_ne_top {x : EReal} (h : x ≠ ⊤) : Ideal.exp x ≠ ⊤ := by
  induction x with
  | bot => rw [Ideal.exp_bot]; exact EReal.zero_ne_top
  | top => exact absurd rfl h
  | coe r => rw [Ideal.exp_coe]; exact EReal.coe_ne_top _

/-- Exponentials over two maxima, multiplied. -/
theorem exp_mul_exp {z a b : EReal} (h1 : z ≤ a) (h2 : a ≤ b) (h3 : b ≠ ⊤) : Ideal.exp (a - b) * Ideal.exp (z - a) = Ideal.exp (z - b) := by
  induction z with
  | top => exact absurd (top_le_iff.1 (h1.trans h2)) h3
  | bot => rw [EReal.bot_sub, EReal.bot_sub, Ideal.exp_bot, mul_zero]
  | coe r =>
    induction a with
    | top => exact absurd (top_le_iff.1 h2) h3
    | bot => exact absurd (le_bot_iff.1 h1) (EReal.coe_ne_bot _)
    | coe s =>
      induction b with
      | top => exact absurd rfl h3
      | bot => exact absurd (le_bot_iff.1 h2) (EReal.coe_ne_bot _)
      | coe t =>
        rw [← EReal.coe_sub, ← EReal.coe_sub, ← EReal.coe_sub, Ideal.exp_coe, Ideal.exp_coe, Ideal.exp_coe, ← EReal.coe_mul, ← Real.exp_add]
        congr 2; ring

/-- A nonnegative real factor goes into a sum. -/
theorem mul_sum {ι : Type} (s : Finset ι) (c : EReal) (h0 : 0 ≤ c) (ht : c ≠ ⊤) (f : ι → EReal) : c * ∑ k ∈ s, f k = ∑ k ∈ s, c * f k := by
  classical
  induction s using Finset.induction_on with
  | empty => simp
  | insert a s ha ih => rw [Finset.sum_insert ha, Finset.sum_insert ha, EReal.left_distrib_of_nonneg_of_ne_top h0 ht, ih]

variable (z V : ℕ → EReal)

theorem top_mono {N M : ℕ} (h : N ≤ M) : top z N ≤ top z M := Finset.sup_mono (Finset.range_mono h)
theorem le_top_of_lt {k N : ℕ} (h : k < N) : z k ≤ top z N := Finset.le_sup (Finset.mem_range.2 h)
theorem top_ne_top (hz : ∀ k, z k ≠ ⊤) (N : ℕ) : top z N ≠ ⊤ :=
  ((Finset.sup_lt_iff (bot_lt_top)).2 fun k _ => lt_top_iff_ne_top.2 (hz k)).ne

theorem top_add (N B : ℕ) : top z (N + B) = max (top z N) ((Finset.range B).sup fun x => z (N + x)) := by
  apply eq_of_forall_ge_iff
  intro c
  unfold top
  rw [max_le_iff]
  simp only [Finset.sup_le_iff, Finset.mem_range]
  constructor
  · exact fun h => ⟨fun k hk => h k (by omega), fun k hk => h _ (by omega)⟩
  · intro h k hk
    by_cases hkN : k < N
    · exact h.1 k hkN
    · have := h.2 (k - N) (by omega)
      rwa [show N + (k - N) = k by omega] at this

/-- The accumulator's step by a block of `B` keys. -/
theorem acc_add (hz : ∀ k, z k ≠ ⊤) (N B : ℕ) :
    Ideal.exp (top z N - top z (N + B)) * acc z V N (top z N) + ∑ x ∈ Finset.range B, Ideal.exp (z (N + x) - top z (N + B)) * V (N + x)
      = acc z V (N + B) (top z (N + B)) := by
  have hle := top_mono z (Nat.le_add_right N B)
  have ht := top_ne_top z hz (N + B)
  have hne : top z N - top z (N + B) ≠ ⊤ := by
    intro h
    have hN := top_ne_top z hz N
    generalize top z N = a at *
    generalize top z (N + B) = b at *
    induction a with
    | top => exact hN rfl
    | bot => rw [EReal.bot_sub] at h; exact absurd h bot_ne_top
    | coe r =>
      induction b with
      | top => exact ht rfl
      | bot => exact absurd (le_bot_iff.1 hle) (EReal.coe_ne_bot _)
      | coe s => rw [← EReal.coe_sub] at h; exact EReal.coe_ne_top _ h
  unfold acc
  rw [Finset.sum_range_add, mul_sum _ _ (exp_nonneg _) (exp_ne_top hne)]
  congr 1
  refine Finset.sum_congr rfl fun k hk => ?_
  rw [← mul_assoc, exp_mul_exp (le_top_of_lt z (Finset.mem_range.1 hk)) hle ht]

/-- Scores at the bottom from `N` on add nothing: to the maximum, -/
theorem top_extend {N M : ℕ} (h : N ≤ M) (hb : ∀ k, N ≤ k → z k = ⊥) : top z M = top z N := by
  refine le_antisymm (Finset.sup_le fun k _ => ?_) (top_mono z h)
  by_cases hk : k < N
  · exact le_top_of_lt z hk
  · rw [hb k (by omega)]; exact bot_le

/-- nor to the accumulator. -/
theorem acc_extend {N M : ℕ} (h : N ≤ M) (hb : ∀ k, N ≤ k → z k = ⊥) (m : EReal) : acc z V M m = acc z V N m := by
  unfold acc
  symm
  refine Finset.sum_subset (Finset.range_mono h) fun k _ hk => ?_
  rw [hb k (by simpa using hk), EReal.bot_sub, Ideal.exp_bot, zero_mul]

/-- Before the first score above the bottom there is nothing. -/
theorem top_bot {N : ℕ} (hb : ∀ k, k < N → z k = ⊥) : top z N = ⊥ :=
  (Finset.sup_eq_bot_iff _ _).2 fun k hk => hb k (Finset.mem_range.1 hk)
theorem acc_bot {N : ℕ} (hb : ∀ k, k < N → z k = ⊥) (m : EReal) : acc z V N m = 0 :=
  Finset.sum_eq_zero fun k hk => by rw [hb k (Finset.mem_range.1 hk), EReal.bot_sub, Ideal.exp_bot, zero_mul]

/-- The quotient of two accumulators is the plain softmax's weighted sum, where some score is real and the second's values are 1. -/
theorem quotient (hz : ∀ k, z k ≠ ⊤) {N k0 : ℕ} (hk : k0 < N) (h0 : z k0 ≠ ⊥) (U : ℕ → EReal) (hU : ∀ k, k < N → U k = 1) :
    Ideal.div (acc z V N (top z N)) (acc z U N (top z N))
      = ∑ k ∈ Finset.range N, V k * Ideal.div (Ideal.exp (z k - top z N)) (∑ j ∈ Finset.range N, Ideal.exp (z j - top z N)) := by
  have hl : acc z U N (top z N) = ∑ j ∈ Finset.range N, Ideal.exp (z j - top z N) :=
    Finset.sum_congr rfl fun k hk => by rw [hU k (Finset.mem_range.1 hk), mul_one]
  rw [hl]
  have hT := top_ne_top z hz N
  have hB : top z N ≠ ⊥ := fun h => h0 (le_bot_iff.1 (h ▸ le_top_of_lt z hk))
  have hreal : ∀ k, ∃ r : ℝ, Ideal.exp (z k - top z N) = (r : EReal) ∧ 0 ≤ r ∧ (z k ≠ ⊥ → 0 < r) := by
    intro k
    have hzk := hz k
    generalize top z N = a at *
    generalize z k = x at *
    induction a with
    | top => exact absurd rfl hT
    | bot => exact absurd rfl hB
    | coe s =>
      induction x with
      | top => exact absurd rfl hzk
      | bot => exact ⟨0, by rw [EReal.bot_sub, Ideal.exp_bot]; rfl, le_rfl, fun h => absurd rfl h⟩
      | coe r => exact ⟨Real.exp (r - s), by rw [← EReal.coe_sub, Ideal.exp_coe], (Real.exp_pos _).le, fun _ => Real.exp_pos _⟩
  choose e he hp hq using hreal
  have hs : ∑ j ∈ Finset.range N, Ideal.exp (z j - top z N) = ((∑ j ∈ Finset.range N, e j : ℝ) : EReal) := by
    rw [Finset.sum_congr rfl fun k _ => he k]
    induction Finset.range N using Finset.induction_on with
    | empty => simp
    | insert a s ha ih => rw [Finset.sum_insert ha, Finset.sum_insert ha, ih, EReal.coe_add]
  have hpos : 0 < ∑ j ∈ Finset.range N, e j := Finset.sum_pos' (fun k _ => hp k) ⟨k0, Finset.mem_range.2 hk, hq k0 h0⟩
  rw [hs]
  simp only [Ideal.div_coe hpos.ne']
  unfold acc
  rw [mul_comm, mul_sum _ _ (by exact_mod_cast (one_div_pos.2 hpos).le) (EReal.coe_ne_top _)]
  refine Finset.sum_congr rfl fun k _ => ?_
  rw [mul_comm, mul_comm (Ideal.exp _) (V k), mul_assoc]

end Cert.Hand.Softmax

end
-- ==== Proof.IdealRead.lean ====
/- What the body computes, read at one row: its running maximum and accumulator are those of the row's masked scores taken block by
   block (`Softmax.lean`), at every lane; and what it writes is the quotient of two accumulators. At the ideal values. -/
module

public import proofs.«01_k».proof.Proof.IdealSpec
public import proofs.«01_k».proof.Proof.Softmax
public import Idealize.ShloMosaic.Lib.Pointwise

@[expose] public section

noncomputable section

namespace Cert.KernelIdeal.Hand

open Cert.KernelIdeal Cert.KernelIdeal.Gen
open Idealize.ShloMosaic Idealize.ShloMosaic.TcCoe
open Cert.Hand (Softmax.top Softmax.acc)
open Cert.Hand

theorem kBlk_at (x : Vec Ideal S1x2x8192x128 .bf16) (h : Fin 2) (j : ℕ) (hj : j < 8) (r : Fin 1024) (l : Fin 128) :
    kBlk x h j (ix4 (0 : Fin 1) (0 : Fin 1) r l) = x (ix4 (0 : Fin 1) h ⟨1024 * j + r.val, by omega⟩ l) := by
  unfold kBlk VecWindow.window
  refine congrArg x (funext fun a => Fin.ext ?_)
  have e : (blkNo j).val = j := Nat.mod_eq_of_lt hj
  match a with
  | ⟨0, _⟩ => rfl
  | ⟨1, _⟩ => show h.val + 1 * 0 = h.val; omega
  | ⟨2, _⟩ => show 1024 * (blkNo j).val + 1 * r.val = 1024 * j + r.val; omega
  | ⟨3, _⟩ => show 0 + 1 * l.val = l.val; omega

theorem qBlk_at (x : Vec Ideal S1x2x1024x128 .bf16) (h : Fin 2) (r : Fin 1024) (l : Fin 128) :
    qBlk x h (ix4 (0 : Fin 1) (0 : Fin 1) r l) = x (ix4 (0 : Fin 1) h r l) := by
  unfold qBlk VecWindow.window
  refine congrArg x (funext fun a => Fin.ext ?_)
  match a with
  | ⟨0, _⟩ => rfl
  | ⟨1, _⟩ => show h.val + 1 * 0 = h.val; omega
  | ⟨2, _⟩ => show 0 + 1 * r.val = r.val; omega
  | ⟨3, _⟩ => show 0 + 1 * l.val = l.val; omega

theorem scr_at (q k : Vec Ideal S1x1x1024x128 .bf16) (r c : Fin 1024) :
    flat (scr q k) (ix2 r c) = ∑ x : Fin 128, q (ix4 (0 : Fin 1) (0 : Fin 1) r x) * k (ix4 (0 : Fin 1) (0 : Fin 1) c x) := by
  unfold flat scr
  pointwise

/-- The reductions' start is the bottom. -/
theorem lowest : Ideal.ofBits .f32 0xFF800000#32 = ⊥ := by
  simp [Ideal.ofBits, Ideal.ieee]

section Step
variable (z : ℕ → EReal) (V : Fin 128 → ℕ → EReal) (N : ℕ)
  (s : FVec Ideal S1024x1024 .f32) (m a : Vec Ideal S1x1024x128 .f32) (v : Vec Ideal S1x1x1024x128 .bf16) (r : Fin 1024)
  (hs : ∀ c : Fin 1024, s (ix2 r c) = z (N + c.val)) (hm : ∀ l : Fin 128, m (ix3 (0 : Fin 1) r l) = Softmax.top z N)

include hs hm in
/-- A block's step of the maximum. -/
theorem nmx2_at (l : Fin 128) : nmx2 s m (ix2 r l) = Softmax.top z (N + 1024) := by
  unfold nmx2
  pointwise
  simp only [hs, hm]
  rw [Softmax.top_add, lowest]
  congr 1
  apply eq_of_forall_ge_iff
  intro b
  rw [Finset.fold_max_le, Finset.sup_le_iff]
  simp only [max_le_iff, Finset.mem_univ, true_implies, bot_le, true_and, Finset.mem_range]
  constructor
  · intro h k hk
    have hl : k % 128 < 128 := by omega
    obtain ⟨⟨⟨⟨⟨⟨⟨h0, h1⟩, h2⟩, h3⟩, h4⟩, h5⟩, h6⟩, h7⟩ := h ⟨k % 128, hl⟩
    have hq : k / 128 < 8 := by omega
    have hkq : k = 128 * (k / 128) + k % 128 := by omega
    generalize k / 128 = q at *
    interval_cases q
    · rwa [show k = k % 128 by omega]
    · rwa [show k = 128 + k % 128 by omega]
    · rwa [show k = 256 + k % 128 by omega]
    · rwa [show k = 384 + k % 128 by omega]
    · rwa [show k = 512 + k % 128 by omega]
    · rwa [show k = 640 + k % 128 by omega]
    · rwa [show k = 768 + k % 128 by omega]
    · rwa [show k = 896 + k % 128 by omega]
  · intro h x
    have := x.isLt
    exact ⟨⟨⟨⟨⟨⟨⟨h _ (by omega), h _ (by omega)⟩, h _ (by omega)⟩, h _ (by omega)⟩, h _ (by omega)⟩, h _ (by omega)⟩, h _ (by omega)⟩, h _ (by omega)⟩

include hs hm in
/-- A block's step of the accumulator. -/
theorem nac_at (hz : ∀ k, z k ≠ ⊤) (l : Fin 128) (ha : a (ix3 (0 : Fin 1) r l) = Softmax.acc z (V l) N (Softmax.top z N))
    (hv : ∀ c : Fin 1024, v (ix4 (0 : Fin 1) (0 : Fin 1) c l) = V l (N + c.val)) :
    nac s m a v (ix3 (0 : Fin 1) r l) = Softmax.acc z (V l) (N + 1024) (Softmax.top z (N + 1024)) := by
  have hn := fun l => nmx2_at z N s m r hs hm l
  unfold nac wts
  pointwise
  simp only [hn, hm, ha, hs, hv]
  rw [← Softmax.acc_add z (V l) hz, Finset.sum_range]
  congr 1

end Step

/-! ### The diagonal's mask -/

theorem base_table : ∀ n : Fin 8, Scalar.addi (Scalar.addi 0#32 (Scalar.muli (BitVec.ofNat 32 n.val) 1024#32)) 0#32 = BitVec.ofNat 32 (1024 * n.val)
    ∧ Scalar.addi 0#32 (Scalar.muli (BitVec.ofNat 32 n.val) 1024#32) = BitVec.ofNat 32 (1024 * n.val) := by decide +kernel
theorem shift_table : ∀ h : Fin 8, Scalar.select (Scalar.cmpi .slt (BitVec.ofNat 32 h.val) 4#32) 6#32 0#32 = if h.val < 4 then 6#32 else 0#32 := by decide +kernel
theorem shr6 : ∀ k : Fin 8192, IntOp.shrsi .vector (BitVec.ofNat 32 k.val) 6#32 = BitVec.ofNat 32 (k.val / 64) := by decide +kernel
theorem shr0 : ∀ k : Fin 8192, IntOp.shrsi .vector (BitVec.ofNat 32 k.val) 0#32 = BitVec.ofNat 32 k.val := by decide +kernel

theorem sle_nat (a b : ℕ) (ha : a < 8192) (hb : b < 8192) : IntOp.cmpi .sle (BitVec.ofNat 32 a) (BitVec.ofNat 32 b) = 1#1 ↔ a ≤ b := by
  rw [IntOp.cmpi_sle, BitVec.toInt_eq_toNat_of_lt (by rw [BitVec.toNat_ofNat]; omega), BitVec.toInt_eq_toNat_of_lt (by rw [BitVec.toNat_ofNat]; omega),
    BitVec.toNat_ofNat, BitVec.toNat_ofNat, Nat.mod_eq_of_lt (by omega), Nat.mod_eq_of_lt (by omega)]
  omega

theorem msk_at (i : grid0.Coords) (r c : Fin 1024) : msk i (ix2 r c) = 1#1
    ↔ if (i 1).val < 4 then (1024 * (i 2).val + c.val) / 64 ≤ (1024 * (i 2).val + r.val) / 64 else c.val ≤ r.val := by
  have h2 : (i 2).val < 8 := (i 2).isLt
  have hr := r.isLt
  have hc := c.isLt
  unfold msk
  pointwise
  rw [(base_table (i 2)).1, (base_table (i 2)).2, shift_table (i 1)]
  have ea : ∀ k : Fin 1024, IntOp.addi (BitVec.ofNat 32 (1024 * (i 2).val)) (BitVec.ofNat 32 k.val) = BitVec.ofNat 32 (1024 * (i 2).val + k.val) := fun k =>
    (BitVec.ofNat_add _ _).symm
  rw [ea, ea]
  split_ifs with h
  · rw [shr6 ⟨1024 * (i 2).val + c.val, by omega⟩, shr6 ⟨1024 * (i 2).val + r.val, by omega⟩, sle_nat _ _ (by dsimp only; omega) (by dsimp only; omega)]
  · rw [shr0 ⟨1024 * (i 2).val + c.val, by omega⟩, shr0 ⟨1024 * (i 2).val + r.val, by omega⟩, sle_nat _ _ (by dsimp only; omega) (by dsimp only; omega)]
    dsimp only
    omega

theorem dgn_at (i : grid0.Coords) (s : FVec Ideal S1024x1024 .f32) (r c : Fin 1024) :
    dgn i s (ix2 r c) = if msk i (ix2 r c) = 1#1 then s (ix2 r c) else ⊥ := by
  show Scalar.select (msk i (ix2 r c)) (s (ix2 r c)) ⊥ = _
  unfold Scalar.select
  rfl

/-! ### All blocks -/

section Run
variable (i : grid0.Coords) (x0 : Vec Ideal S1x2x1024x128 .bf16) (x1 x2 : Vec Ideal S1x2x8192x128 .bf16) (h : Fin 2) (w : ℕ) (r : Fin 1024)
  (z : ℕ → EReal) (V : Fin 128 → ℕ → EReal) (hw : w ≤ (i 2).val)
  (hz : ∀ k, z k ≠ ⊤) (hlow : ∀ k, k < 1024 * w → z k = ⊥)
  (hfull : ∀ k : Fin 8192, 1024 * w ≤ k.val → k.val < 1024 * (i 2).val → z k.val = ∑ x : Fin 128, x0 (ix4 (0 : Fin 1) h r x) * x1 (ix4 (0 : Fin 1) h k x))
  (hdiag : ∀ (c : Fin 1024) (k : Fin 8192), k.val = 1024 * (i 2).val + c.val →
    z k.val = if msk i (ix2 r c) = 1#1 then ∑ x : Fin 128, x0 (ix4 (0 : Fin 1) h r x) * x1 (ix4 (0 : Fin 1) h k x) else ⊥)
  (hV : ∀ (l : Fin 128) (k : Fin 8192), V l k.val = x2 (ix4 (0 : Fin 1) h k l))

include hw hz hlow hfull hV in
theorem st_at (j : ℕ) (hj : w + j ≤ (i 2).val) (l : Fin 128) :
    (st x0 x1 x2 h w j).1 (ix3 (0 : Fin 1) r l) = Softmax.top z (1024 * (w + j))
    ∧ (st x0 x1 x2 h w j).2 (ix3 (0 : Fin 1) r l) = Softmax.acc z (V l) (1024 * (w + j)) (Softmax.top z (1024 * (w + j))) := by
  have h2 : (i 2).val < 8 := (i 2).isLt
  induction j generalizing l with
  | zero =>
    refine ⟨?_, ?_⟩
    · exact (Softmax.top_bot z hlow).symm
    · refine Eq.trans ?_ (Softmax.acc_bot z (V l) hlow _).symm
      show Ideal.ofBits .f32 0x00000000#32 = 0
      exact Ideal.ofBits_zero_f32
  | succ j ih =>
    have e : 1024 * (w + (j + 1)) = 1024 * (w + j) + 1024 := by ring
    have hs : ∀ c : Fin 1024, flat (scr (qBlk x0 h) (kBlk x1 h (w + j))) (ix2 r c) = z (1024 * (w + j) + c.val) := by
      intro c
      have hc := c.isLt
      have hf := hfull ⟨1024 * (w + j) + c.val, by omega⟩ (by dsimp only; omega) (by dsimp only; omega)
      dsimp only at hf
      rw [scr_at, hf]
      exact Finset.sum_congr rfl fun x _ => by rw [qBlk_at, kBlk_at _ _ _ (by omega)]
    have hm := fun l => (ih (by omega) l).1
    rw [e]
    refine ⟨?_, ?_⟩
    · refine Eq.trans ?_ (nmx2_at z (1024 * (w + j)) _ (st x0 x1 x2 h w j).1 r hs hm l)
      show nmx _ _ _ = _
      unfold nmx
      pointwise
    · refine nac_at z V (1024 * (w + j)) _ (st x0 x1 x2 h w j).1 _ _ r hs hm hz l (ih (by omega) l).2 fun c => ?_
      rw [kBlk_at _ _ _ (by omega)]
      exact (hV l ⟨1024 * (w + j) + c.val, by omega⟩).symm

include hw hz hlow hfull hdiag hV in
theorem fin_at (l : Fin 128) : fin i x0 x1 x2 h w (ix3 (0 : Fin 1) r l)
    = Softmax.acc z (V l) (1024 * (i 2).val + 1024) (Softmax.top z (1024 * (i 2).val + 1024)) := by
  have h2 : (i 2).val < 8 := (i 2).isLt
  have hst := st_at i x0 x1 x2 h w r z V hw hz hlow hfull hV ((i 2).val - w) (by omega)
  rw [show w + ((i 2).val - w) = (i 2).val by omega] at hst
  unfold fin
  refine nac_at z V (1024 * (i 2).val) _ _ _ _ r (fun c => ?_) (fun l => (hst l).1) hz l (hst l).2 fun c => ?_
  · rw [dgn_at, hdiag c ⟨1024 * (i 2).val + c.val, by omega⟩ rfl, scr_at]
    congr 1
    exact Finset.sum_congr rfl fun x _ => by rw [qBlk_at, kBlk_at _ _ _ h2]
  · rw [kBlk_at _ _ _ h2]
    exact (hV l ⟨1024 * (i 2).val + c.val, by omega⟩).symm

end Run

/-- The block written, at a row and lane. -/
theorem out_at (a0 a1 : Vec Ideal S1x1024x128 .f32) (r : Fin 1024) (l : Fin 128) : outBlk a0 a1 (ix3 (0 : Fin 1) r l)
    = if l.val < 64 then Ideal.div (a0 (ix3 (0 : Fin 1) r l)) (a0 (ix3 (0 : Fin 1) r 64))
      else Ideal.div (a1 (ix3 (0 : Fin 1) r ⟨l.val % 64, by omega⟩)) (a1 (ix3 (0 : Fin 1) r 64)) := by
  have ht : ∀ l : Fin 128, IntOp.cmpi .slt (BitVec.ofNat 32 l.val) 64#32 = if l.val < 64 then 1#1 else 0#1 := by decide +kernel
  unfold outBlk nrm
  pointwise
  rw [ht l]
  by_cases hl : l.val < 64
  · rw [if_pos hl, if_pos hl]; rfl
  · rw [if_neg hl, if_neg hl]
    have e : (⟨(l.val + 128 - 64) % 128, by omega⟩ : Fin 128) = ⟨l.val % 64, by omega⟩ := Fin.ext (by have := l.isLt; dsimp only; omega)
    rw [← e]; rfl

end Cert.KernelIdeal.Hand

end
-- ==== Proof.RefRead.lean ====
/- The reference at one element: a masked softmax over all keys of its head, written with numbered keys. -/
module

public import proofs.«01_k».proof.Proof.Gen.ReferenceIdeal.Run
public import Idealize.ShloMosaic.Lib.Pointwise

@[expose] public section

noncomputable section

namespace Cert.ReferenceIdeal.Hand

open Cert.ReferenceIdeal Cert.ReferenceIdeal.Gen
open Idealize.ShloMosaic Idealize.ShloMosaic.TcCoe

/-! ### The reference's value in stages, each as the program prints it -/

/-- The keys' chunks of 64, -/
def keyChunkV : IVec S1x8192 32 :=
  select (andi (cmpi .ne (signi (broadcastInDim S1x8192 ![1] bcast_S8192_S1x8192_1 (iotaInDim S8192 32 0))) (broadcastInDim S1x8192 ![] bcast_S_S1x8192 (signi (id (constantI S_ 32 64#32))))) (cmpi .ne (Host.remsi (broadcastInDim S1x8192 ![1] bcast_S8192_S1x8192_1 (iotaInDim S8192 32 0)) (broadcastInDim S1x8192 ![] bcast_S_S1x8192 (id (constantI S_ 32 64#32)))) (broadcastInDim S1x8192 ![] bcast_S_S1x8192 (constantI S_ 32 0#32)))) (subi (Host.divsi (broadcastInDim S1x8192 ![1] bcast_S8192_S1x8192_1 (iotaInDim S8192 32 0)) (broadcastInDim S1x8192 ![] bcast_S_S1x8192 (id (constantI S_ 32 64#32)))) (broadcastInDim S1x8192 ![] bcast_S_S1x8192 (constantI S_ 32 1#32))) (Host.divsi (broadcastInDim S1x8192 ![1] bcast_S8192_S1x8192_1 (iotaInDim S8192 32 0)) (broadcastInDim S1x8192 ![] bcast_S_S1x8192 (id (constantI S_ 32 64#32))))
/-- the queries' -/
def queryChunkV : IVec S8192x1 32 :=
  select (andi (cmpi .ne (signi (broadcastInDim S8192x1 ![0] bcast_S8192_S8192x1_0 (iotaInDim S8192 32 0))) (broadcastInDim S8192x1 ![] bcast_S_S8192x1 (signi (id (constantI S_ 32 64#32))))) (cmpi .ne (Host.remsi (broadcastInDim S8192x1 ![0] bcast_S8192_S8192x1_0 (iotaInDim S8192 32 0)) (broadcastInDim S8192x1 ![] bcast_S_S8192x1 (id (constantI S_ 32 64#32)))) (broadcastInDim S8192x1 ![] bcast_S_S8192x1 (constantI S_ 32 0#32)))) (subi (Host.divsi (broadcastInDim S8192x1 ![0] bcast_S8192_S8192x1_0 (iotaInDim S8192 32 0)) (broadcastInDim S8192x1 ![] bcast_S_S8192x1 (id (constantI S_ 32 64#32)))) (broadcastInDim S8192x1 ![] bcast_S_S8192x1 (constantI S_ 32 1#32))) (Host.divsi (broadcastInDim S8192x1 ![0] bcast_S8192_S8192x1_0 (iotaInDim S8192 32 0)) (broadcastInDim S8192x1 ![] bcast_S_S8192x1 (id (constantI S_ 32 64#32))))
/-- Which keys a head lets each query see. -/
def allowV : IVec S16x8192x8192 1 :=
  select (broadcastInDim S16x8192x8192 ![0, 1, 2] bcast_S16x1x1_S16x8192x8192_0_1_2 (broadcastInDim S16x1x1 ![0] bcast_S16_S16x1x1_0 (cmpi .slt (iotaInDim S16 32 0) (broadcastInDim S16 ![] bcast_S_S16 (constantI S_ 32 8#32))))) (broadcastInDim S16x8192x8192 ![0, 1, 2] bcast_S1x8192x8192_S16x8192x8192_0_1_2 (broadcastInDim S1x8192x8192 ![1, 2] bcast_S8192x8192_S1x8192x8192_1_2 (cmpi .sle (broadcastInDim S8192x8192 ![0, 1] bcast_S1x8192_S8192x8192_0_1 keyChunkV) (broadcastInDim S8192x8192 ![0, 1] bcast_S8192x1_S8192x8192_0_1 queryChunkV)))) (broadcastInDim S16x8192x8192 ![0, 1, 2] bcast_S1x8192x8192_S16x8192x8192_0_1_2 (broadcastInDim S1x8192x8192 ![1, 2] bcast_S8192x8192_S1x8192x8192_1_2 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))))
/-- Which keys lie from the query block's first key block on. -/
def seenV (T : IVec S256 32) : IVec S4x16x8192x8192 1 :=
  cmpi .sge (broadcastInDim S4x16x8192x8192 ![0, 1, 2, 3] bcast_S1x1x1x8192_S4x16x8192x8192_0_1_2_3 (broadcastInDim S1x1x1x8192 ![3] bcast_S8192_S1x1x1x8192_3 (iotaInDim S8192 32 0))) (broadcastInDim S4x16x8192x8192 ![0, 1, 2, 3] bcast_S4x16x8192x1_S4x16x8192x8192_0_1_2_3 (broadcastInDim S4x16x8192x1 ![0, 1, 2] bcast_S4x16x8192_S4x16x8192x1_0_1_2 (shapeCast S4x16x8192 (broadcastInDim S4x16x8x1024 ![0, 1, 2] bcast_S4x16x8_S4x16x8x1024_0_1_2 (shapeCast S4x16x8 (broadcastInDim S4x8x2x8 ![0, 1, 3] bcast_S4x8x8_S4x8x2x8_0_1_3 (muli (shapeCast S4x8x8 T shapeCasts_S256_S4x8x8) (broadcastInDim S4x8x8 ![] bcast_S_S4x8x8 (constantI S_ 32 1024#32)))) shapeCasts_S4x8x2x8_S4x16x8)) shapeCasts_S4x16x8x1024_S4x16x8192)))
/-- The masked scores, -/
def scoreV (T : IVec S256 32) (Q K : FVec Ideal S4x16x8192x128 .bf16) : FVec Ideal S4x16x8192x8192 .f32 :=
  select (andi (broadcastInDim S4x16x8192x8192 ![0, 1, 2, 3] bcast_S1x16x8192x8192_S4x16x8192x8192_0_1_2_3 (broadcastInDim S1x16x8192x8192 ![1, 2, 3] bcast_S16x8192x8192_S1x16x8192x8192_1_2_3 allowV)) (seenV T)) (Host.dotGeneral dot_S4x16x8192x128_S4x16x8192x128_S4x16x8192x8192_3_3_2_2_01_01 none (extf .f32 Q bitsLt_bf16_f32) (extf .f32 K bitsLt_bf16_f32)) (broadcastInDim S4x16x8192x8192 ![] bcast_S_S4x16x8192x8192 (id (constant S_ .f32 0xFF800000#32)))
/-- exponentiated over each row's largest. -/
def expV (T : IVec S256 32) (Q K : FVec Ideal S4x16x8192x128 .bf16) : FVec Ideal S4x16x8192x8192 .f32 :=
  Host.exp (subf (scoreV T Q K) (broadcastInDim S4x16x8192x8192 ![0, 1, 2, 3] bcast_S4x16x8192x1_S4x16x8192x8192_0_1_2_3 (broadcastInDim S4x16x8192x1 ![0, 1, 2] bcast_S4x16x8192_S4x16x8192x1_0_1_2 (maximumf (broadcastInDim S4x16x8192 ![] bcast_S_S4x16x8192 (constant S_ .f32 0xFF800000#32)) (Host.reduce FloatOps.maximumf (scoreV T Q K) (constant S_ .f32 0xFF800000#32) reducesTo_S4x16x8192x8192_S4x16x8192_d3 h_S_)))))
/-- The result. -/
def refV (T : IVec S256 32) (Q K V : FVec Ideal S4x16x8192x128 .bf16) : FVec Ideal S4x8192x1024 .f32 :=
  shapeCast S4x8192x1024 (transpose S4x8192x16x64 [0, 3, 1, 2] (Host.dotGeneral dot_S4x16x8192x64_S4x16x8192x8192_S4x16x64x8192_2_3_3_2_01_01 none (extf .f32 (extractStridedSlice S4x16x8192x64 ![0, 0, 0, 0] V slices_S4x16x8192x128_S4x16x8192x64_0_0_0_0) bitsLt_bf16_f32) (Host.divf (expV T Q K) (broadcastInDim S4x16x8192x8192 ![0, 1, 2, 3] bcast_S4x16x8192x1_S4x16x8192x8192_0_1_2_3 (broadcastInDim S4x16x8192x1 ![0, 1, 2] bcast_S4x16x8192_S4x16x8192x1_0_1_2 (Host.reduceAdd (expV T Q K) (constant S_ .f32 0x00000000#32) reducesTo_S4x16x8192x8192_S4x16x8192_d3 h_S_))))) transposes_S4x16x64x8192_S4x8192x16x64_0_3_1_2) shapeCasts_S4x8192x16x64_S4x8192x1024

theorem ref_eq (m : (ℓ : Loc nD τ sig) → Buf (Elt Ideal) ℓ) (c : Dev nD) :
    Cert.ReferenceIdeal.Value.res_main_v55 m c
      = refV (m ((c.tc : Thread nD τ).loc main_arg0)) (m ((c.tc : Thread nD τ).loc main_arg1)) (m ((c.tc : Thread nD τ).loc main_arg2)) (m ((c.tc : Thread nD τ).loc main_arg3)) := rfl

/-! ### Each at an element -/

/-- A position's chunk of 64, as the reference divides. -/
def chunkOf (x : BitVec 32) : BitVec 32 :=
  Scalar.select
    (IntOp.andi (IntOp.cmpi .ne (if x = 0 then 0 else if x.msb = true then -1 else 1 : BitVec 32) (if (64#32 : BitVec 32) = 0 then 0 else if (64#32 : BitVec 32).msb = true then -1 else 1 : BitVec 32))
      (IntOp.cmpi .ne (IntOp.remsi .host x 64#32) 0#32))
    (IntOp.subi (IntOp.divsi .host x 64#32) 1#32) (IntOp.divsi .host x 64#32)

/-- Whether key `k` counts for query `t` of head `h`, whose first block is `w`. -/
def allow (w : BitVec 32) (h t k : ℕ) : BitVec 1 :=
  IntOp.andi (Scalar.select (IntOp.cmpi .slt (BitVec.ofNat 32 h) 8#32) (IntOp.cmpi .sle (chunkOf (BitVec.ofNat 32 k)) (chunkOf (BitVec.ofNat 32 t)))
      (IntOp.cmpi .sle (BitVec.ofNat 32 k) (BitVec.ofNat 32 t)))
    (IntOp.cmpi .sge (BitVec.ofNat 32 k) (IntOp.muli w 1024#32))

variable (T : IVec S256 32) (Q K V : Vec Ideal S4x16x8192x128 .bf16)

/-- The table's entry for a batch, a head and a query. -/
def entry (b : Fin 4) (h : Fin 16) (t : Fin 8192) : S256.Idx :=
  ix1 ⟨b.val * 64 + h.val / 2 * 8 + t.val / 1024, by have := b.isLt; have := h.isLt; have := t.isLt; omega⟩

/-- The masked score of key `k`. -/
def score (b : Fin 4) (h : Fin 16) (t k : Fin 8192) : EReal :=
  Scalar.select (allow (T (entry b h t)) h.val t.val k.val) (∑ x : Fin 128, Q (ix4 b h t x) * K (ix4 b h k x)) (Ideal.ofBits .f32 0xFF800000#32)

/-- The largest masked score. -/
def most (b : Fin 4) (h : Fin 16) (t : Fin 8192) : EReal :=
  max (Ideal.ofBits .f32 0xFF800000#32) (Finset.fold max (Ideal.ofBits .f32 0xFF800000#32) (score T Q K b h t) Finset.univ)

/-- The head and the value lane of result lane `l`. -/
def headOf (l : Fin 1024) : Fin 16 := ⟨l.val / 64, by have := l.isLt; omega⟩
def laneOf (l : Fin 1024) : Fin 128 := ⟨l.val % 64, by omega⟩

theorem keyChunk_at (k : Fin 8192) : keyChunkV (ix2 (0 : Fin 1) k) = chunkOf (BitVec.ofNat 32 k.val) := by
  unfold keyChunkV
  pointwise
  rfl
theorem queryChunk_at (t : Fin 8192) : queryChunkV (ix2 t (0 : Fin 1)) = chunkOf (BitVec.ofNat 32 t.val) := by
  unfold queryChunkV
  pointwise
  rfl
theorem allow_at (h : Fin 16) (t k : Fin 8192) : allowV (ix3 h t k)
    = Scalar.select (IntOp.cmpi .slt (BitVec.ofNat 32 h.val) 8#32) (IntOp.cmpi .sle (chunkOf (BitVec.ofNat 32 k.val)) (chunkOf (BitVec.ofNat 32 t.val)))
      (IntOp.cmpi .sle (BitVec.ofNat 32 k.val) (BitVec.ofNat 32 t.val)) := by
  unfold allowV
  pointwise
  rw [keyChunk_at, queryChunk_at]
theorem seen_at (b : Fin 4) (h : Fin 16) (t k : Fin 8192) : seenV T (ix4 b h t k) = IntOp.cmpi .sge (BitVec.ofNat 32 k.val) (IntOp.muli (T (entry b h t)) 1024#32) := by
  unfold seenV
  pointwise
  rfl
theorem score_at (b : Fin 4) (h : Fin 16) (t k : Fin 8192) : scoreV T Q K (ix4 b h t k) = score T Q K b h t k := by
  unfold scoreV
  pointwise
  rw [allow_at, seen_at]
  rfl
/-- The largest entry along the last axis, at any extents. -/
theorem largest_at {n0 n1 n2 n3 : ℕ} {u : Shape} (x : FVec Ideal (⟨4, ![n0, n1, n2, n3]⟩ : Shape) .f32) (init : u.Idx → Ideal .f32)
    (h : (⟨4, ![n0, n1, n2, n3]⟩ : Shape).ReducesTo [3] (⟨3, ![n0, n1, n2]⟩ : Shape)) (hu : 0 < u.numel) (a : Fin n0) (b : Fin n1) (c : Fin n2) :
    Host.reduce FloatOps.maximumf x init h hu (ix3 a b c) = Finset.fold max (init (Shape.Idx.first hu)) (fun k : Fin n3 => x (ix4 a b c k)) Finset.univ :=
  (Host.reduce_eq_fold _ x init h hu (ix3 a b c)).trans (h.fold_fiber_r4_a3 (ix3 a b c) _ _ _)
theorem most_at (b : Fin 4) (h : Fin 16) (t : Fin 8192) :
    Host.reduce FloatOps.maximumf (scoreV T Q K) (constant S_ .f32 0xFF800000#32) reducesTo_S4x16x8192x8192_S4x16x8192_d3 h_S_ (ix3 b h t)
      = Finset.fold max (Ideal.ofBits .f32 0xFF800000#32) (score T Q K b h t) Finset.univ := by
  refine (largest_at (scoreV T Q K) _ _ _ b h t).trans ?_
  simp only [score_at]
  rfl
theorem exp_over (S : FVec Ideal S4x16x8192x8192 .f32) (M : FVec Ideal S4x16x8192 .f32) (b : Fin 4) (h : Fin 16) (t k : Fin 8192) :
    Host.exp (subf S (broadcastInDim S4x16x8192x8192 ![0, 1, 2, 3] bcast_S4x16x8192x1_S4x16x8192x8192_0_1_2_3 (broadcastInDim S4x16x8192x1 ![0, 1, 2] bcast_S4x16x8192_S4x16x8192x1_0_1_2 (maximumf (broadcastInDim S4x16x8192 ![] bcast_S_S4x16x8192 (constant S_ .f32 0xFF800000#32)) M)))) (ix4 b h t k)
      = Ideal.exp (S (ix4 b h t k) - max (Ideal.ofBits .f32 0xFF800000#32) (M (ix3 b h t))) := by
  pointwise
theorem exp_at (b : Fin 4) (h : Fin 16) (t k : Fin 8192) : expV T Q K (ix4 b h t k) = Ideal.exp (score T Q K b h t k - most T Q K b h t) := by
  unfold expV most
  exact (exp_over _ _ b h t k).trans (congrArg₂ (fun x y => Ideal.exp (x - max (Ideal.ofBits .f32 0xFF800000#32) y)) (score_at T Q K b h t k) (most_at T Q K b h t))
theorem ref_at (b : Fin 4) (t : Fin 8192) (l : Fin 1024) :
    refV T Q K V (ix3 b t l)
      = ∑ k : Fin 8192, V (ix4 b (headOf l) k (laneOf l)) * Ideal.div (Ideal.exp (score T Q K b (headOf l) t k - most T Q K b (headOf l) t))
          (∑ j : Fin 8192, Ideal.exp (score T Q K b (headOf l) t j - most T Q K b (headOf l) t)) := by
  unfold refV
  pointwise
  simp only [exp_at]
  rfl

end Cert.ReferenceIdeal.Hand

end
-- ==== Proof.RefRow.lean ====
/- One row of the reference's result as the quotient of two accumulators over the row's masked scores, which is the form the kernel
   computes it in: where the queries and keys are finite and the values' lane 64 holds 1. -/
module

public import proofs.«01_k».proof.Proof.RefRead
public import proofs.«01_k».proof.Proof.Softmax
public import Idealize.ShloMosaic.Lib.WordCmp

@[expose] public section

noncomputable section

namespace Cert.ReferenceIdeal.Hand

open Cert.ReferenceIdeal
open Idealize.ShloMosaic Idealize.ShloMosaic.TcCoe
open Cert.Hand
open Cert.Hand (Softmax.top Softmax.acc)

theorem chunk_table : ∀ k : Fin 8192, chunkOf (BitVec.ofNat 32 k.val) = BitVec.ofNat 32 (k.val / 64) := by decide +kernel
theorem first_table : ∀ w : Fin 8, IntOp.muli (BitVec.ofNat 32 w.val) 1024#32 = BitVec.ofNat 32 (1024 * w.val) := by decide +kernel
theorem head_table : ∀ h : Fin 16, IntOp.cmpi .slt (BitVec.ofNat 32 h.val) 8#32 = if h.val < 8 then 1#1 else 0#1 := by decide +kernel

theorem le_word (a b : ℕ) (ha : a < 8192) (hb : b < 8192) : IntOp.cmpi .sle (BitVec.ofNat 32 a) (BitVec.ofNat 32 b) = 1#1 ↔ a ≤ b := by
  rw [IntOp.cmpi_sle, BitVec.toInt_eq_toNat_of_lt (by rw [BitVec.toNat_ofNat]; omega), BitVec.toInt_eq_toNat_of_lt (by rw [BitVec.toNat_ofNat]; omega),
    BitVec.toNat_ofNat, BitVec.toNat_ofNat, Nat.mod_eq_of_lt (by omega), Nat.mod_eq_of_lt (by omega)]
  omega
theorem ge_word (a b : ℕ) (ha : a < 8192) (hb : b < 8192) : IntOp.cmpi .sge (BitVec.ofNat 32 a) (BitVec.ofNat 32 b) = 1#1 ↔ b ≤ a :=
  le_word b a hb ha

/-- The mask in numbers: the first eight heads see whole chunks of 64, the others every key up to the query, all from the first block on. -/
theorem allow_iff (w : Fin 8) (h : Fin 16) (t k : Fin 8192) : allow (BitVec.ofNat 32 w.val) h.val t.val k.val = 1#1
    ↔ (if h.val < 8 then k.val / 64 ≤ t.val / 64 else k.val ≤ t.val) ∧ 1024 * w.val ≤ k.val := by
  have hk := k.isLt
  have ht := t.isLt
  have hw := w.isLt
  unfold allow
  rw [IntOp.andi_eq_one, first_table w, ge_word _ _ hk (by omega), head_table h, chunk_table k, chunk_table t]
  by_cases h8 : h.val < 8
  · rw [if_pos h8, if_pos h8]
    exact and_congr_left fun _ => le_word _ _ (by omega) (by omega)
  · rw [if_neg h8, if_neg h8]
    exact and_congr_left fun _ => le_word _ _ hk ht

theorem lowest : Ideal.ofBits .f32 0xFF800000#32 = ⊥ := by
  simp [Ideal.ofBits, Ideal.ieee]

variable (T : IVec S256 32) (Q K V : Vec Ideal S4x16x8192x128 .bf16)

/-- A row's masked scores by key position, and the values' lanes. -/
def zs (b : Fin 4) (h : Fin 16) (t : Fin 8192) (k : ℕ) : EReal := if hk : k < 8192 then score T Q K b h t ⟨k, hk⟩ else ⊥
def vs (b : Fin 4) (h : Fin 16) (l : Fin 128) (k : ℕ) : EReal := if hk : k < 8192 then V (ix4 b h ⟨k, hk⟩ l) else 0

theorem zs_at (b : Fin 4) (h : Fin 16) (t k : Fin 8192) : zs T Q K b h t k.val = score T Q K b h t k := by
  unfold zs; rw [dif_pos k.isLt]
theorem vs_at (b : Fin 4) (h : Fin 16) (l : Fin 128) (k : Fin 8192) : vs V b h l k.val = V (ix4 b h k l) := by
  unfold vs; rw [dif_pos k.isLt]

/-- The score as a case distinction. -/
theorem score_if (b : Fin 4) (h : Fin 16) (t k : Fin 8192) (w : Fin 8) (hT : T (entry b h t) = BitVec.ofNat 32 w.val) : score T Q K b h t k
    = if (if h.val < 8 then k.val / 64 ≤ t.val / 64 else k.val ≤ t.val) ∧ 1024 * w.val ≤ k.val then ∑ x : Fin 128, Q (ix4 b h t x) * K (ix4 b h k x) else ⊥ := by
  unfold score Scalar.select
  rw [hT, lowest]
  exact if_congr (allow_iff w h t k) rfl rfl

theorem most_eq (b : Fin 4) (h : Fin 16) (t : Fin 8192) : most T Q K b h t = Softmax.top (zs T Q K b h t) 8192 := by
  unfold most
  rw [lowest]
  apply eq_of_forall_ge_iff
  intro c
  rw [max_le_iff, Finset.fold_max_le]
  unfold Softmax.top
  rw [Finset.sup_le_iff]
  simp only [bot_le, true_and, Finset.mem_univ, true_implies, Finset.mem_range]
  constructor
  · intro hc k hk
    have := hc ⟨k, hk⟩
    rwa [← zs_at] at this
  · intro hc k
    rw [← zs_at]; exact hc _ k.isLt

/-- The reference's result over key positions. -/
theorem ref_sum (b : Fin 4) (t : Fin 8192) (l : Fin 1024) : refV T Q K V (ix3 b t l)
    = ∑ k ∈ Finset.range 8192, vs V b (headOf l) (laneOf l) k
        * Ideal.div (Ideal.exp (zs T Q K b (headOf l) t k - Softmax.top (zs T Q K b (headOf l) t) 8192))
          (∑ j ∈ Finset.range 8192, Ideal.exp (zs T Q K b (headOf l) t j - Softmax.top (zs T Q K b (headOf l) t) 8192)) := by
  rw [ref_at, Finset.sum_range, Finset.sum_range]
  simp only [zs_at, vs_at, most_eq]

/-- Every entry real. -/
def Fine (x : Vec Ideal S4x16x8192x128 .bf16) : Prop := ∀ i, ∃ r : ℝ, x i = (r : EReal)

theorem sum_real (f : Fin 128 → EReal) (hf : ∀ x, ∃ r : ℝ, f x = (r : EReal)) : ∃ r : ℝ, ∑ x : Fin 128, f x = (r : EReal) := by
  classical
  suffices h : ∀ s : Finset (Fin 128), ∃ r : ℝ, ∑ x ∈ s, f x = (r : EReal) from h _
  intro s
  induction s using Finset.induction_on with
  | empty => exact ⟨0, by simp⟩
  | insert a s ha ih =>
    obtain ⟨r, hr⟩ := ih
    obtain ⟨q, hq⟩ := hf a
    exact ⟨q + r, by rw [Finset.sum_insert ha, hr, hq]; exact (EReal.coe_add q r).symm⟩

variable (hQ : Fine Q) (hK : Fine K)

include hQ hK in
theorem dot_real (b : Fin 4) (h : Fin 16) (t k : Fin 8192) : ∃ r : ℝ, ∑ x : Fin 128, Q (ix4 b h t x) * K (ix4 b h k x) = (r : EReal) := by
  apply sum_real
  intro x
  obtain ⟨q, hq⟩ := hQ (ix4 b h t x)
  obtain ⟨p, hp⟩ := hK (ix4 b h k x)
  exact ⟨q * p, by rw [hq, hp]; exact (EReal.coe_mul q p).symm⟩

include hQ hK in
theorem zs_ne_top (b : Fin 4) (h : Fin 16) (t : Fin 8192) (w : Fin 8) (hT : T (entry b h t) = BitVec.ofNat 32 w.val) (k : ℕ) : zs T Q K b h t k ≠ ⊤ := by
  unfold zs
  split_ifs with hk
  · obtain ⟨r, hr⟩ := dot_real Q K hQ hK b h t ⟨k, hk⟩
    rw [score_if T Q K b h t _ w hT, hr]
    split_ifs <;> first | exact EReal.coe_ne_top r | exact (bot_lt_top (α := EReal)).ne
  · exact (bot_lt_top (α := EReal)).ne

/-- Nothing counts before the first block, -/
theorem zs_low (b : Fin 4) (h : Fin 16) (t : Fin 8192) (w : Fin 8) (hT : T (entry b h t) = BitVec.ofNat 32 w.val) (k : ℕ) (hk : k < 1024 * w.val) :
    zs T Q K b h t k = ⊥ := by
  have hw := w.isLt
  unfold zs
  rw [dif_pos (by omega), score_if T Q K b h t _ w hT, if_neg]
  rintro ⟨_, h2⟩
  dsimp only at h2
  omega

/-- nor past the query's block of 1024. -/
theorem zs_high (b : Fin 4) (h : Fin 16) (t : Fin 8192) (w : Fin 8) (hT : T (entry b h t) = BitVec.ofNat 32 w.val) (k : ℕ) (hk : 1024 * (t.val / 1024) + 1024 ≤ k) :
    zs T Q K b h t k = ⊥ := by
  unfold zs
  split_ifs with h8
  · rw [score_if T Q K b h t _ w hT, if_neg]
    rintro ⟨h1, _⟩
    dsimp only at h1
    split_ifs at h1 <;> omega
  · rfl

variable (hV : ∀ (b : Fin 4) (h : Fin 16) (k : Fin 8192), V (ix4 b h k 64) = 1)

include hQ hK hV in
/-- The result as a quotient of accumulators that stop at the query's block. -/
theorem ref_quotient (b : Fin 4) (t : Fin 8192) (l : Fin 1024) (w : Fin 8) (hT : T (entry b (headOf l) t) = BitVec.ofNat 32 w.val) (hw : w.val ≤ t.val / 1024) (N : ℕ)
    (hN : N = 1024 * (t.val / 1024) + 1024) : refV T Q K V (ix3 b t l)
    = Ideal.div (Softmax.acc (zs T Q K b (headOf l) t) (vs V b (headOf l) (laneOf l)) N (Softmax.top (zs T Q K b (headOf l) t) N))
        (Softmax.acc (zs T Q K b (headOf l) t) (vs V b (headOf l) 64) N (Softmax.top (zs T Q K b (headOf l) t) N)) := by
  subst hN
  have ht := t.isLt
  have hle : 1024 * (t.val / 1024) + 1024 ≤ 8192 := by omega
  have hh := zs_high T Q K b (headOf l) t w hT
  rw [ref_sum, ← Softmax.quotient (zs T Q K b (headOf l) t) _ (zs_ne_top T Q K hQ hK b (headOf l) t w hT) ht ?_ (vs V b (headOf l) 64) ?_,
    Softmax.top_extend _ hle hh, Softmax.acc_extend _ _ hle hh, Softmax.acc_extend _ _ hle hh]
  · rw [zs_at, score_if T Q K b (headOf l) t t w hT, if_pos ⟨by split_ifs <;> omega, by omega⟩]
    obtain ⟨r, hr⟩ := dot_real Q K hQ hK b (headOf l) t t
    rw [hr]; exact EReal.coe_ne_bot r
  · intro k hk
    unfold vs; rw [dif_pos hk, hV]

end Cert.ReferenceIdeal.Hand

end
-- ==== Proof.IdealValue.lean ====
/- The value claim: at the ideal values the kernel's result is the reference's. -/
module

public import proofs.«01_k».proof.Proof.IdealBlocks
public import proofs.«01_k».proof.Proof.IdealRead
public import proofs.«01_k».proof.Proof.RefRow
public import proofs.«01_k».proof.Defs

@[expose] public section

noncomputable section

namespace Cert.KernelIdeal.Hand.Exact

open Cert.KernelIdeal Cert.KernelIdeal.Gen Cert.KernelIdeal.Hand
open Idealize.ShloMosaic Idealize.ShloMosaic.TcCoe Idealize.SL.Sem
open Cert.ReferenceIdeal.Hand (refV zs vs zs_at vs_at zs_low zs_ne_top score_if entry headOf laneOf Fine ref_quotient)
open Cert.Hand
open Cert.Hand (Softmax.top Softmax.acc)

variable (m : (ℓ : Loc nD τ sig) → Buf (Elt Ideal) ℓ) (c : Dev nD)

/-- The four arguments. -/
abbrev aT : IVec Cert.ReferenceIdeal.S256 32 := m ((c.tc : Thread nD τ).loc main_arg0)
abbrev aQ : Vec Ideal Cert.ReferenceIdeal.S4x16x8192x128 .bf16 := m ((c.tc : Thread nD τ).loc main_arg1)
abbrev aK : Vec Ideal Cert.ReferenceIdeal.S4x16x8192x128 .bf16 := m ((c.tc : Thread nD τ).loc main_arg2)
abbrev aV : Vec Ideal Cert.ReferenceIdeal.S4x16x8192x128 .bf16 := m ((c.tc : Thread nD τ).loc main_arg3)

/-- The reference's table entry for a row of a point's block is the word the kernel reads there. -/
theorem entry_eq (t : Fin (cfgM m).N) (h : Fin 2) (r : Fin 1024) : entry (pb m t) (hd m t h) (ps m t r) = tix (grid0.coords t) := by
  have hh := h.isLt
  have hr := r.isLt
  funext a
  match a with
  | ⟨0, _⟩ =>
    apply Fin.ext
    show (pb m t).val * 64 + (2 * (pp m t).val + h.val) / 2 * 8 + (1024 * (pn m t).val + r.val) / 1024 = ((pb m t).val * 8 + (pp m t).val) * 8 + (pn m t).val
    omega

variable (hW : Words m) (hQ : Fine (aQ m c)) (hK : Fine (aK m c))

theorem table_eq (t : Fin (cfgM m).N) (h : Fin 2) (r : Fin 1024) (w : Fin 8) (ew : (tbl m 0 (tix (grid0.coords t)) : BitVec 32) = BitVec.ofNat 32 w.val) :
    aT m c (entry (pb m t) (hd m t h) (ps m t r)) = BitVec.ofNat 32 w.val := by
  rw [entry_eq]
  obtain rfl : c = 0 := Subsingleton.elim _ _
  exact ew

include hQ hK in
/-- A head's accumulator after the point's last block, at a row and lane. -/
theorem fin_row (t : Fin (cfgM m).N) (h : Fin 2) (r : Fin 1024) (l : Fin 128) (w : Fin 8) (hw : w.val ≤ (pn m t).val)
    (ew : (tbl m 0 (tix (grid0.coords t)) : BitVec 32) = BitVec.ofNat 32 w.val) :
    fin (grid0.coords t) (iblk m c 0 t) (iblk m c 1 t) (iblk m c 2 t) h w.val (ix3 (0 : Fin 1) r l)
      = Softmax.acc (zs (aT m c) (aQ m c) (aK m c) (pb m t) (hd m t h) (ps m t r)) (vs (aV m c) (pb m t) (hd m t h) l) (1024 * (pn m t).val + 1024)
          (Softmax.top (zs (aT m c) (aQ m c) (aK m c) (pb m t) (hd m t h) (ps m t r)) (1024 * (pn m t).val + 1024)) := by
  have hT := table_eq m c t h r w ew
  have hr := r.isLt
  have hn := (pn m t).isLt
  have hp := (pp m t).isLt
  have hh := h.isLt
  refine fin_at (grid0.coords t) _ _ _ h w.val r (zs (aT m c) (aQ m c) (aK m c) (pb m t) (hd m t h) (ps m t r)) (vs (aV m c) (pb m t) (hd m t h)) hw
    (zs_ne_top _ _ _ hQ hK _ _ _ w hT) (zs_low _ _ _ _ _ _ w hT) (fun k h1 h2 => ?_) (fun x k hk => ?_) (fun l k => ?_) l
  · have h3 : k.val < 1024 * (pn m t).val := h2
    have hc : if (hd m t h).val < 8 then k.val / 64 ≤ (ps m t r).val / 64 else k.val ≤ (ps m t r).val := by
      show if (hd m t h).val < 8 then k.val / 64 ≤ (1024 * (pn m t).val + r.val) / 64 else k.val ≤ 1024 * (pn m t).val + r.val
      split_ifs <;> omega
    rw [zs_at, score_if _ _ _ _ _ _ _ w hT, if_pos ⟨hc, h1⟩]
    exact Finset.sum_congr rfl fun x _ => by rw [q_at, k_at]
  · have h3 : k.val = 1024 * (pn m t).val + x.val := hk
    rw [zs_at, score_if _ _ _ _ _ _ _ w hT]
    refine if_congr ?_ (Finset.sum_congr rfl fun x _ => by rw [q_at, k_at]) rfl
    rw [msk_at]
    show (if 2 * (pp m t).val + h.val < 8 then k.val / 64 ≤ (1024 * (pn m t).val + r.val) / 64 else k.val ≤ 1024 * (pn m t).val + r.val) ∧ 1024 * w.val ≤ k.val
      ↔ if (pp m t).val < 4 then (1024 * (pn m t).val + x.val) / 64 ≤ (1024 * (pn m t).val + r.val) / 64 else x.val ≤ r.val
    rw [h3]
    by_cases h8 : (pp m t).val < 4
    · rw [if_pos h8, if_pos (by omega)]
      exact and_iff_left (by omega)
    · rw [if_neg h8, if_neg (by omega)]
      constructor
      · rintro ⟨h1, _⟩; omega
      · intro h1; exact ⟨by omega, by omega⟩
  · rw [vs_at, v_at]

variable (hV : ∀ (b : Fin 4) (h : Fin 16) (k : Fin 8192), aV m c (ix4 b h k 64) = 1)

include hQ hK hV in
/-- A head's quotient is the reference's result. -/
theorem head_row (t : Fin (cfgM m).N) (h : Fin 2) (r : Fin 1024) (l : Fin 128) (w : Fin 8) (hw : w.val ≤ (pn m t).val)
    (ew : (tbl m 0 (tix (grid0.coords t)) : BitVec 32) = BitVec.ofNat 32 w.val) (o : Fin 1024) (ho : headOf o = hd m t h) (hl : laneOf o = l) :
    Ideal.div (fin (grid0.coords t) (iblk m c 0 t) (iblk m c 1 t) (iblk m c 2 t) h w.val (ix3 (0 : Fin 1) r l))
        (fin (grid0.coords t) (iblk m c 0 t) (iblk m c 1 t) (iblk m c 2 t) h w.val (ix3 (0 : Fin 1) r 64))
      = refV (aT m c) (aQ m c) (aK m c) (aV m c) (ix3 (pb m t) (ps m t r) o) := by
  have hr := r.isLt
  have e : (ps m t r).val / 1024 = (pn m t).val := by show (1024 * (pn m t).val + r.val) / 1024 = _; omega
  rw [fin_row m c hQ hK t h r l w hw ew, fin_row m c hQ hK t h r 64 w hw ew,
    ref_quotient _ _ _ _ hQ hK hV (pb m t) (ps m t r) o w (by rw [ho]; exact table_eq m c t h r w ew) (by rw [e]; exact hw) (1024 * (pn m t).val + 1024) (by rw [e]), ho, hl]

include hW hQ hK hV in
/-- The result array is the reference's. -/
theorem result_eq : (dats m 0 c).arrAt 3 (cfgM m).N = refV (aT m c) (aQ m c) (aK m c) (aV m c) := by
  refine arr_eq m c (refV (aT m c) (aQ m c) (aK m c) (aV m c)) fun t r l => ?_
  obtain ⟨w, hw, ew⟩ := word_of (tbl m 0) hW (grid0.coords t)
  have hd' : wd m t = w.val := by
    unfold wd; rw [ew, BitVec.toNat_ofNat, Nat.mod_eq_of_lt (by have := w.isLt; omega)]
  have hl := l.isLt
  have hp := (pp m t).isLt
  unfold oblk
  rw [hd', out_at]
  split_ifs with h64
  · exact head_row m c hQ hK hV t 0 r l w hw ew _ (Fin.ext (by show (128 * (pp m t).val + l.val) / 64 = 2 * (pp m t).val + 0; omega))
      (Fin.ext (by show (128 * (pp m t).val + l.val) % 64 = l.val; omega))
  · exact head_row m c hQ hK hV t 1 r ⟨l.val % 64, by omega⟩ w hw ew _ (Fin.ext (by show (128 * (pp m t).val + l.val) / 64 = 2 * (pp m t).val + 1; omega))
      (Fin.ext (by show (128 * (pp m t).val + l.val) % 64 = l.val % 64; omega))

end Cert.KernelIdeal.Hand.Exact

namespace Cert.Hand

open Idealize.ShloMosaic Idealize.SL.Sem
open Cert.ReferenceIdeal.Hand (Fine)

theorem infinity : Ideal.ofBits .f32 0x7F800000#32 = ⊤ := by
  simp [Ideal.ofBits, Ideal.ieee]

theorem cmp_one (p : Bool) : BitVec.ofBool p = 1#1 ↔ p = true := by cases p <;> decide

/-- Below infinity in absolute value is real. -/
theorem real_of (x : EReal) (h : Ideal.cmp .olt (max x (-x)) (Ideal.ofBits .f32 0x7F800000#32) = 1#1) : ∃ r : ℝ, x = (r : EReal) := by
  rw [infinity] at h
  have h1 : max x (-x) < ⊤ := of_decide_eq_true ((cmp_one _).1 h)
  induction x with
  | bot => simp at h1
  | top => simp at h1
  | coe r => exact ⟨r, rfl⟩

/-- What the second precondition says at the ideal values. -/
theorem attends_ideal (t : IVec Cert.Pre_attends.S256 32) (q k v : FVec Ideal Cert.Pre_attends.S4x16x8192x128 .bf16)
    (h : Cert.Pre_attends.fn (F := Ideal) t q k v = fun _ => 1#1) :
    Starts t ∧ Fine q ∧ Fine k ∧ ∀ (b : Fin 4) (hh : Fin 16) (s : Fin 8192), v (ix4 b hh s 64) = 1 := by
  obtain ⟨h1, h2, h3⟩ := attends_parts t q k v h
  refine ⟨h1, fun x => real_of _ (IntOp.andi_eq_one.1 (h2 x)).1, fun x => real_of _ (IntOp.andi_eq_one.1 (h2 x)).2, fun b hh s => ?_⟩
  have h4 := h3 (ix3 b hh s)
  revert h4
  pointwise
  intro h4
  exact of_decide_eq_true ((cmp_one _).1 h4)

theorem algebraic : Cert.algebraic_KernelIdeal_ReferenceIdeal_pre_attends := by
  intro m g m' g' hpre hargs
  have hp := attends_ideal _ _ _ _ (hpre 0)
  refine ⟨fun c => Cert.ReferenceIdeal.Hand.refV (Cert.KernelIdeal.Hand.Exact.aT m c) (Cert.KernelIdeal.Hand.Exact.aQ m c) (Cert.KernelIdeal.Hand.Exact.aK m c) (Cert.KernelIdeal.Hand.Exact.aV m c), ?_, ?_⟩
  · refine (θ_run Cert.KernelIdeal.defs _ _).mono (fun r h c => ⟨(h c).1.trans ?_, (h c).2⟩) (Cert.KernelIdeal.Hand.Exact.run (F := Ideal) m g hp.1)
    obtain rfl : c = 0 := Subsingleton.elim _ _
    exact Cert.KernelIdeal.Hand.Exact.result_eq m 0 hp.1 hp.2.1 hp.2.2.1 hp.2.2.2
  · refine (θ_run Cert.ReferenceIdeal.defs _ _).mono (fun r h c => ⟨(h c).1.trans ?_, (h c).2⟩) (Cert.ReferenceIdeal.Value.run (F := Ideal) m' g')
    obtain ⟨e0, e1, e2, e3⟩ := hargs c
    rw [Cert.ReferenceIdeal.Hand.ref_eq, e0, e1, e2, e3]

end Cert.Hand

end
-- ==== Proof.Routes.lean ====
/- What the experts' precondition says of its two tables: every tile's group is one of the four, and at least one tile is used. -/
module

public import proofs.«01_k».proof.Proof.Gen.Pre_routes
public import Idealize.ShloMosaic.Lib.ReduceAll
public import Idealize.ShloMosaic.Lib.WordCmp

@[expose] public section

namespace Cert.Hand

open Idealize.ShloMosaic

/-- A group per tile, and a positive number of used tiles. -/
def Routes (tg : Cert.Pre_routes.S68.Idx → BitVec 32) (nu : Cert.Pre_routes.S1.Idx → BitVec 32) : Prop :=
  (∀ j, (tg j).toNat ≤ 3) ∧ ∀ j, 1 ≤ (nu j).toNat ∧ (nu j).toNat < 2 ^ 31

theorem group_le (x : BitVec 32) (h : IntOp.andi (IntOp.cmpi .sge x 0#32) (IntOp.cmpi .sle x 3#32) = 1#1) : x.toNat ≤ 3 := by
  have h1 := IntOp.andi_eq_one.1 h
  have h2 := IntOp.cmpi_sge.1 h1.1
  have h3 := IntOp.cmpi_sle.1 h1.2
  rw [BitVec.toInt_eq_toNat_cond] at h2 h3
  rw [BitVec.toInt_eq_toNat_cond] at h2 h3
  have h5 : (0#32 : BitVec 32).toNat = 0 := rfl
  have h7 : (3#32 : BitVec 32).toNat = 3 := rfl
  have h6 : x.toNat < 2 ^ 32 := x.isLt
  rw [h5] at h2
  rw [h7] at h3
  split at h3 <;> split at h3 <;> split at h2 <;> simp at h2 h3 <;> omega

theorem used_ge (x : BitVec 32) (h : IntOp.cmpi .sge x 1#32 = 1#1) : 1 ≤ x.toNat ∧ x.toNat < 2 ^ 31 := by
  have h2 := IntOp.cmpi_sge.1 h
  have h5 : (1#32 : BitVec 32).toNat = 1 := rfl
  have h6 : x.toNat < 2 ^ 32 := x.isLt
  rw [BitVec.toInt_eq_toNat_cond, BitVec.toInt_eq_toNat_cond, h5] at h2
  split at h2 <;> split at h2 <;> simp at h2 <;> omega

variable {F : FTy → Type} [FloatOps F]

theorem routes_parts (tg : IVec Cert.Pre_routes.S68 32) (nu : IVec Cert.Pre_routes.S1 32) (x : FVec F Cert.Pre_routes.S34816x1152 .f32)
    (wg wu : FVec F Cert.Pre_routes.S32x1024x256 .bf16) (wd : FVec F Cert.Pre_routes.S4x2048x1024 .bf16)
    (h : Cert.Pre_routes.fn (F := F) tg nu x wg wu wd = fun _ => 1#1) : Routes tg nu := by
  have h1 := IntOp.andi_eq_one.1 (congrFun h (fun a => a.elim0))
  haveI : Subsingleton Cert.Pre_routes.S_.Idx := ⟨fun a b => funext fun i => i.elim0⟩
  exact ⟨fun j => group_le _ (Host.reduce_andi_all _ _ _ _ _ h1.1 j), fun j => used_ge _ (Host.reduce_andi_all _ _ _ _ _ h1.2 j)⟩

end Cert.Hand
-- ==== Proof.ExpertsSetup.lean ====
/- What the experts' launch is stated over: the two prefetched tables and what they have to hold for every block to lie inside its
   array, the windows' blocks, the staging and scratch memrefs, and the branch the body takes at a tile. -/
module

public import proofs.«01_k».proof.Proof.Gen.ExpertsIdeal.Launch
public import proofs.«01_k».proof.Proof.Routes
public import Idealize.ShloMosaic.Lib.Pipeline.FrameBody
public import Idealize.ShloMosaic.Lib.Affine
public import Idealize.ShloMosaic.Lib.Tactic

@[expose] public section

set_option maxRecDepth 16384

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The prefetched tables as the body is handed them: the tiles' groups and the number of used tiles. -/
abbrev tgM : Memref sig .tc .smem S68 .i32 := Memref.whole main_arg0
abbrev tgW : tgM.IsWhole := Memref.isWhole_whole _
abbrev nuM : Memref sig .tc .smem S1 .i32 := Memref.whole main_arg1
abbrev nuW : nuM.IsWhole := Memref.isWhole_whole _

/-- A table's buffer held for reading, at half the full share (the pipeline keeps the other half). -/
abbrev TabBuf (c : Dev nD) {S : Shape} {e : EltTy} (M : Memref sig .tc .smem S e) : Type := Buf (Elt F) (M.view.loc (c : Thread nD τ))
abbrev tabPt (c : Dev nD) {S : Shape} {e : EltTy} (M : Memref sig .tc .smem S e) (f : TabBuf (F := F) c M) : sProp 𝕄 :=
  M.view.loc (c : Thread nD τ) ↦{fullShare.right} f

/-- The tables' words at point `i`, as the body reads them. -/
abbrev tgAt (c : Dev nD) (i : grid0.Coords) (xt : TabBuf (F := F) c tgM) : Elt F .i32 :=
  tgM.view.readAt (Elt F) (Rect.unit (s := S68) (k0_off2 i) S1.size (k0_off2_inb i)).toLoadRect xt (Shape.Idx.first (numel1_S1.symm ▸ Nat.one_pos))
abbrev nuAt (c : Dev nD) (xn : TabBuf (F := F) c nuM) : Elt F .i32 :=
  nuM.view.readAt (Elt F) (Rect.unit (s := S1) ![0] S1.size inb_S1_S1_0).toLoadRect xn (Shape.Idx.first (numel1_S1.symm ▸ Nat.one_pos))

/-- Tile `i`'s place in the table of groups, and the only place of the other table. -/
def tix (i : grid0.Coords) : S68.Idx := fun | 0 => ⟨(i 0).val, (i 0).isLt⟩
def nix : S1.Idx := fun | 0 => ⟨0, by decide⟩

theorem off2_table : ∀ n : Fin 68, k0_off2 (fun | 0 => n) 0 = n.val := by decide +kernel
theorem off2_eq (i : grid0.Coords) : k0_off2 i 0 = (i 0).val := off2_table (i 0)

theorem tgAt_eq (c : Dev nD) (i : grid0.Coords) (xt : TabBuf (F := F) c tgM) : tgAt c i xt = xt (tix i) := by
  show xt _ = xt _
  congr 1
  funext a
  match a with
  | 0 =>
    apply Fin.ext
    have h := off2_eq i
    show k0_off2 i 0 + _ = _
    rw [h]
    rfl
theorem nuAt_eq (c : Dev nD) (xn : TabBuf (F := F) c nuM) : nuAt c xn = xn nix := by
  show xn _ = xn _
  congr 1
  funext a
  match a with
  | 0 => rfl

/-! ## The branch a tile takes -/

theorem word_val (n : ℕ) (h : n < 68) : (BitVec.ofNat 32 n).toNat = n := by
  rw [BitVec.toNat_ofNat, Nat.mod_eq_of_lt (by omega)]

theorem coord_lt (i : grid0.Coords) : (i 0).val < 68 := (i 0).isLt

theorem bit_word (p : Prop) [Decidable p] (b : BitVec 1) (h : b = if p then 1#1 else 0#1) :
    Scalar.cmpi .ne (Scalar.extui b : BitVec 32) 0#32 = if p then 1#1 else 0#1 := by
  subst h
  by_cases hp : p
  · simp only [if_pos hp]; decide
  · simp only [if_neg hp]; decide

theorem small_toInt (x : BitVec 32) (h : x.toNat < 2 ^ 31) : x.toInt = x.toNat := by
  rw [BitVec.toInt_eq_toNat_cond, if_pos (by omega)]

theorem cond1_eq (i : grid0.Coords) (x : BitVec 32) (h : x.toNat < 2 ^ 31) : k0_cond1 i x = if (i 0).val < x.toNat then 1#1 else 0#1 := by
  have hi := coord_lt i
  refine bit_word _ _ ?_
  have e : (Scalar.cmpi .slt (BitVec.ofNat 32 (i 0).val) x : BitVec 1) = IntOp.cmpi .slt (BitVec.ofNat 32 (i 0).val) x := rfl
  rw [e]
  split
  · rename_i hp
    rw [IntOp.cmpi_slt, small_toInt x h, small_toInt _ (by rw [word_val _ hi]; omega), word_val _ hi]
    exact_mod_cast hp
  · rename_i hp
    have hn : ¬ IntOp.cmpi .slt (BitVec.ofNat 32 (i 0).val) x = 1#1 := by
      rw [IntOp.cmpi_slt, small_toInt x h, small_toInt _ (by rw [word_val _ hi]; omega), word_val _ hi]
      exact_mod_cast hp
    generalize IntOp.cmpi .slt (BitVec.ofNat 32 (i 0).val) x = b at hn
    revert hn; revert b; decide

theorem cond2_eq (i : grid0.Coords) (x : BitVec 32) (h : x.toNat < 2 ^ 31) : k0_cond2 i x = if (i 0).val < x.toNat then 0#1 else 1#1 := by
  have hi := coord_lt i
  have e : (if (i 0).val < x.toNat then (0#1 : BitVec 1) else 1#1) = if ¬ (i 0).val < x.toNat then 1#1 else 0#1 := by split <;> simp_all
  rw [e]
  refine bit_word _ _ ?_
  have e : (Scalar.cmpi .sge (BitVec.ofNat 32 (i 0).val) x : BitVec 1) = IntOp.cmpi .sge (BitVec.ofNat 32 (i 0).val) x := rfl
  rw [e]
  split
  · rename_i hp
    rw [IntOp.cmpi_sge, small_toInt x h, small_toInt _ (by rw [word_val _ hi]; omega), word_val _ hi]
    omega
  · rename_i hp
    have hn : ¬ IntOp.cmpi .sge (BitVec.ofNat 32 (i 0).val) x = 1#1 := by
      rw [IntOp.cmpi_sge, small_toInt x h, small_toInt _ (by rw [word_val _ hi]; omega), word_val _ hi]
      omega
    generalize IntOp.cmpi .sge (BitVec.ofNat 32 (i 0).val) x = b at hn
    revert hn; revert b; decide

/-! ## The blocks lie inside their arrays -/

/-- The tile whose rows are read at point `i`: its own, or the last used one past it. -/
theorem last_toNat (n : ℕ) (hn : n < 68) (x : BitVec 32) (h1 : 1 ≤ x.toNat) (h : x.toNat < 2 ^ 31) :
    (Scalar.minsi (BitVec.ofNat 32 n) (Scalar.subi x 1#32) : BitVec 32).toNat = min n (x.toNat - 1) := by
  have hs : (Scalar.subi x 1#32 : BitVec 32).toNat = x.toNat - 1 := by
    show (x - 1#32).toNat = _
    rw [BitVec.toNat_sub]
    have h5 : (1#32 : BitVec 32).toNat = 1 := rfl
    rw [h5]; omega
  have hi : (Scalar.subi x 1#32 : BitVec 32).toInt = ((x.toNat - 1 : ℕ) : ℤ) := by rw [small_toInt _ (by omega), hs]
  have hj : (BitVec.ofNat 32 n).toInt = (n : ℤ) := by rw [small_toInt _ (by rw [word_val _ hn]; omega), word_val _ hn]
  show (IntOp.minsi _ _ : BitVec 32).toNat = _
  unfold IntOp.minsi
  simp only [BitVec.slt, hi, hj, decide_eq_true_eq]
  split
  · rw [word_val _ hn]; omega
  · rw [hs]; omega

variable {pf : pre0.Contents (Elt F)}

theorem tf0_0 (h : Cert.Hand.Routes (pf 0) (pf 1)) (i : grid0.Coords) :
    cc0_transform_0 inb_S1_S1_0 numel1_S1 pf i 0 = min (i 0).val ((pf 1 nix : BitVec 32).toNat - 1) := by
  have e : (pf.at 1 (Rect.unit (s := S1) ![0] S1.size inb_S1_S1_0) numel1_S1 : BitVec 32) = pf 1 nix := by
    refine congrArg (pf 1) (funext fun (a : Fin 1) => ?_)
    match a with
    | 0 => rfl
  show (Scalar.minsi (BitVec.ofNat 32 (i 0).val) (Scalar.subi (pf.at 1 (Rect.unit (s := S1) ![0] S1.size inb_S1_S1_0) numel1_S1 : BitVec 32) 1#32) : BitVec 32).toNat = _
  rw [e]
  exact last_toNat _ (coord_lt i) _ (h.2 nix).1 (h.2 nix).2
theorem tf0_1 (i : grid0.Coords) : cc0_transform_0 inb_S1_S1_0 numel1_S1 pf i 1 = 0 := rfl

theorem tg_at (i : grid0.Coords) : (pf.at 0 (Rect.unit (s := S68) ![(Scalar.indexCast (BitVec.ofNat 32 (i 0).val) : Index).toNat] S1.size (k0_off1_inb i)) numel1_S1 : BitVec 32) = pf 0 (tix i) := by
  refine congrArg (pf 0) (funext fun (a : Fin 1) => ?_)
  match a with
  | 0 =>
    apply Fin.ext
    have h := off2_eq i
    show k0_off2 i 0 + _ = _
    rw [h]
    rfl

theorem tf1_0 (i : grid0.Coords) : cc0_transform_1 k0_off1_inb numel1_S1 pf i 0 = (pf 0 (tix i) : BitVec 32).toNat := congrArg BitVec.toNat (tg_at i)
theorem tf2_0 (i : grid0.Coords) : cc0_transform_2 k0_off1_inb numel1_S1 pf i 0 = (pf 0 (tix i) : BitVec 32).toNat := congrArg BitVec.toNat (tg_at i)
theorem tf3_0 (i : grid0.Coords) : cc0_transform_3 k0_off1_inb numel1_S1 pf i 0 = (pf 0 (tix i) : BitVec 32).toNat := congrArg BitVec.toNat (tg_at i)

theorem ok_of (h : Cert.Hand.Routes (pf 0) (pf 1)) : ok0 pf := by
  refine ⟨fun i => ⟨fun a => ?_, .inl rfl⟩, fun i => ⟨fun a => ?_, .inr (Affine.block_words_dvd (s := S32x1024x256) (p := EltTy.packing .bf16) (by decide) (by decide))⟩,
    fun i => ⟨fun a => ?_, .inr (Affine.block_words_dvd (s := S32x1024x256) (p := EltTy.packing .bf16) (by decide) (by decide))⟩,
    fun i => ⟨fun a => ?_, .inr (Affine.block_words_dvd (s := S4x2048x1024) (p := EltTy.packing .bf16) (by decide) (by decide))⟩⟩
  · have hi := coord_lt i
    match a with
    | 0 => rw [tf0_0 h i]; show (_ + 1) * 512 ≤ 34816; omega
    | 1 => show (0 + 1) * 1152 ≤ 1152; omega
  · have ht := h.1 (tix i)
    match a with
    | 0 => rw [tf1_0 i]; show (_ + 1) * 8 ≤ 32; omega
    | 1 => show (0 + 1) * 1024 ≤ 1024; omega
    | 2 => show (0 + 1) * 256 ≤ 256; omega
  · have ht := h.1 (tix i)
    match a with
    | 0 => rw [tf2_0 i]; show (_ + 1) * 8 ≤ 32; omega
    | 1 => show (0 + 1) * 1024 ≤ 1024; omega
    | 2 => show (0 + 1) * 256 ≤ 256; omega
  · have ht := h.1 (tix i)
    match a with
    | 0 => rw [tf3_0 i]; show (_ + 1) * 1 ≤ 4; omega
    | 1 => show (0 + 1) * 2048 ≤ 2048; omega
    | 2 => show (0 + 1) * 1024 ≤ 1024; omega

theorem idle4 (h : Cert.Hand.Routes (pf 0) (pf 1)) (i : grid0.Coords) : idle0 pf 4 i = false := by
  have e : (pf.atD 1 ![0] : BitVec 32) = pf 1 nix := by
    unfold Pipeline.Prefetch.Contents.atD
    rw [dif_pos (by decide)]
    refine congrArg (pf 1) (funext fun (a : Fin 1) => ?_)
    match a with
    | 0 => rfl
  show (!(k0_cond1 i (pf.atD 1 ![0]) == 1#1) && !(k0_cond2 i (pf.atD 1 ![0]) == 1#1)) = false
  rw [e, cond1_eq i _ (h.2 nix).2, cond2_eq i _ (h.2 nix).2]
  split <;> rfl

/-! ## The launch's parts -/

variable (m : (ℓ : Loc nD τ sig) → Buf (Elt F) ℓ) (ρ : Dev nD → PrngReg)

/-- Core `c`'s buffers at the region's entry: as launched. -/
abbrev V (c : Dev nD) (b : Ref sig .tc) : Buf (Elt F) ((c : Thread nD τ).loc b) := m ((c : Thread nD τ).loc b)

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The tables' contents (on the one device). -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl

/-- The tables hold groups and a positive number of used tiles. -/
abbrev Words : Prop := Cert.Hand.Routes (tbl m 0) (tbl m 1)

variable (hW : Words m)

/-- The tables as admissible contents. -/
abbrev adm : (pcfg0 (F := F)).Adm := ⟨tbl m, ok_of hW⟩
abbrev cfgM : Pipeline.Cfg sig Λ₀ := cfg0 (adm m hW)

theorem PhiT_eq (c : Dev nD) : (Pipeline.ΦT pre0 (tbl m) c : sProp 𝕄) = iprop(tabPt c tgM (tbl m 0) ∗ tabPt c nuM (tbl m 1)) := by
  unfold Pipeline.ΦT Pipeline.prefHeld
  rw [show (Finset.univ : Finset (Fin 2)) = insert (0 : Fin 2) {(1 : Fin 2)} from by decide,
    bigSep_insert (by decide), bigSep_singleton]
  rfl

/-- Window `w`'s block at point `t`, read off its array. -/
def iblk (c : Dev nD) (w : Fin (cfgM m hW).W) (t : Fin (cfgM m hW).N) : (((cfgM m hW).win w).xblock ((cfgM m hW).grid.coords t)).Idx → Elt F ((cfgM m hW).win w).elt :=
  (((cfgM m hW).win w).blk t).view.read (Elt F) (V m c (Pipeline.arrRef spec0 w))

theorem before_0 {c : Dev nD} (dat : Dat τ (Elt F) Unit ℕ (UR sig nD τ) ℕ (cfgM m hW) c) (hA : dat.A 0 = V m c (Pipeline.arrRef spec0 0))
    (hafter : ∀ t, dat.after 0 t = iblk m hW c 0 t) (t : Fin (cfgM m hW).N) (d) : dat.before 0 t d = iblk m hW c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1 {c : Dev nD} (dat : Dat τ (Elt F) Unit ℕ (UR sig nD τ) ℕ (cfgM m hW) c) (hA : dat.A 1 = V m c (Pipeline.arrRef spec0 1))
    (hafter : ∀ t, dat.after 1 t = iblk m hW c 1 t) (t : Fin (cfgM m hW).N) (d) : dat.before 1 t d = iblk m hW c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2 {c : Dev nD} (dat : Dat τ (Elt F) Unit ℕ (UR sig nD τ) ℕ (cfgM m hW) c) (hA : dat.A 2 = V m c (Pipeline.arrRef spec0 2))
    (hafter : ∀ t, dat.after 2 t = iblk m hW c 2 t) (t : Fin (cfgM m hW).N) (d) : dat.before 2 t d = iblk m hW c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3 {c : Dev nD} (dat : Dat τ (Elt F) Unit ℕ (UR sig nD τ) ℕ (cfgM m hW) c) (hA : dat.A 3 = V m c (Pipeline.arrRef spec0 3))
    (hafter : ∀ t, dat.after 3 t = iblk m hW c 3 t) (t : Fin (cfgM m hW).N) (d) : dat.before 3 t d = iblk m hW c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The windows' current staging memrefs at point `t`. -/
abbrev ms0 (t : Fin (cfgM m hW).N) : Memref sig .tc .vmem S512x1152 .f32 := spec0_0.stage ((cfgM m hW).slots t 0)
abbrev hs0 (t : Fin (cfgM m hW).N) : (ms0 m hW t).IsWhole := hstage0_0 (((cfgM m hW).slots t 0).cast nbuf0_0)
abbrev ms1 (t : Fin (cfgM m hW).N) : Memref sig .tc .vmem S8x1024x256 .bf16 := spec0_1.stage ((cfgM m hW).slots t 1)
abbrev hs1 (t : Fin (cfgM m hW).N) : (ms1 m hW t).IsWhole := hstage0_1 (((cfgM m hW).slots t 1).cast nbuf0_1)
abbrev ms2 (t : Fin (cfgM m hW).N) : Memref sig .tc .vmem S8x1024x256 .bf16 := spec0_2.stage ((cfgM m hW).slots t 2)
abbrev hs2 (t : Fin (cfgM m hW).N) : (ms2 m hW t).IsWhole := hstage0_2 (((cfgM m hW).slots t 2).cast nbuf0_2)
abbrev ms3 (t : Fin (cfgM m hW).N) : Memref sig .tc .vmem S1x2048x1024 .bf16 := spec0_3.stage ((cfgM m hW).slots t 3)
abbrev hs3 (t : Fin (cfgM m hW).N) : (ms3 m hW t).IsWhole := hstage0_3 (((cfgM m hW).slots t 3).cast nbuf0_3)
abbrev ms4 (t : Fin (cfgM m hW).N) : Memref sig .tc .vmem S512x1024 .f32 := spec0_4.stage ((cfgM m hW).slots t 4)
abbrev hs4 (t : Fin (cfgM m hW).N) : (ms4 m hW t).IsWhole := hstage0_4 (((cfgM m hW).slots t 4).cast nbuf0_4)

abbrev sc0 : Memref sig .tc .vmem S512x2048 .bf16 := Memref.whole cc0_scratch0

/-- The body at point `t`, on what the pipeline calls it with. -/
abbrev bodyAt (t : Fin (cfgM m hW).N) : Prog (TpuEff nD τ sig (Elt F) Λ₀ .tc) PUnit :=
  cc0_moe (grid0.coords t) tgM tgW nuM nuW (ms0 m hW t) (hs0 m hW t) (ms1 m hW t) (hs1 m hW t) (ms2 m hW t) (hs2 m hW t) (ms3 m hW t) (hs3 m hW t) (ms4 m hW t) (hs4 m hW t)
    sc0 (Memref.isWhole_whole _)

/-- The body table's row at point `t`. -/
theorem defs_row (t : Fin (cfgM m hW).N) :
    defs₀ (F := F) .tc (cfgM m hW).body ((cfgM m hW).bodyArgs t ((cfgM m hW).slots t)) = bodyAt m hW t := by
  unfold defs₀; rw [Defs.onTc_tc]

theorem PhiA_eq (c : Dev nD) :
    (Pipeline.ΦA spec0 c : sProp 𝕄) = iprop((∃ d, owns (c : Thread nD τ) sc0 fullShare d) ∗ (∃ r, prngReg c r)) := by
  unfold Pipeline.ΦA; rw [scopedRest0_eq]; simp only [sc0, owns_whole]; try rfl

end Cert.ExpertsIdeal.Hand

end
-- ==== Proof.ExpertsRun.lean ====
/- What the experts' body leaves at a tile, exactly. A used tile: each of the group's eight experts fills its 256 columns of the
   activations, which then go through the group's second weights. A tile past the used ones: zeros. -/
module

public import proofs.«01_k».proof.Proof.ExpertsSetup
public import proofs.«01_k».proof.Proof.Gen.ExpertsIdeal.Skeleton
public import Idealize.ShloMosaic.Lib.Writes
public import Idealize.ShloMosaic.Lib.Ring
public import Idealize.ShloMosaic.Lib.VecWindow
public import Idealize.ShloMosaic.Lib.Exec

@[expose] public section

set_option maxRecDepth 16384

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## What the body computes -/

/-- Expert `e` of the group's weights. -/
theorem wOff_inb (e : Fin 8) : ∀ a, (![e.val, 0, 0] : Fin 3 → ℕ) a + S1x1024x256.size a ≤ S8x1024x256.size a := by
  have := e.isLt
  intro a; fin_cases a <;> simp [S1x1024x256, S8x1024x256] <;> omega
def wOf (w : Vec F S8x1024x256 .bf16) (e : Fin 8) : Vec F S1x1024x256 .bf16 := VecWindow.window w ![e.val, 0, 0] S1x1024x256.size (wOff_inb e)

/-- A tile's rows, and their gates. -/
def rowsOf (x : Vec F S512x1152 .f32) : Vec F S512x1024 .f32 := VecWindow.window x ![0, 0] S512x1024.size inb_S512x1152_S512x1024_0_0
def gatesOf (x : Vec F S512x1152 .f32) : Vec F S512x128 .f32 := VecWindow.window x ![0, 1024] S512x128.size inb_S512x1152_S512x128_0_1024

/-- The rows through one expert's weights. -/
def proj (h : Vec F S512x1024 .f32) (w : Vec F S1x1024x256 .bf16) : FVec F S512x256 .f32 :=
  matmul dot_S512x1024_S1024x256_S512x256_1_0_0_1_n_n none (truncf .bf16 h bitsLt_bf16_f32) (shapeCast S1024x256 w shapeCasts_S1x1024x256_S1024x256)
    (constant S512x256 .f32 0x00000000#32)

/-- The gate of lane `8 g + e` at every row, the others left out. -/
def gateOf (g e : BitVec 32) (x : Vec F S512x128 .f32) : FVec F S512x1 .f32 :=
  shapeCast S512x1 (multiReduction .add [1] S512 (select (cmpi .eq (iota .tc S512x128 32 [1] iota_S512x128_d1_w32)
    (broadcast S512x128 (Scalar.addi (Scalar.muli g 8#32) e))) x (broadcast S512x128 (Scalar.ofBits .f32 0x00000000#32))) 0x00000000#32 reduces_S512x128_S512 (.inl rfl) rfl)
    shapeCasts_S512_S512x1

/-- One expert's gated activations. -/
def pieceOf (g e : BitVec 32) (h : Vec F S512x1024 .f32) (x : Vec F S512x128 .f32) (w u : Vec F S1x1024x256 .bf16) : FVec F S512x256 .bf16 :=
  shapeCast S512x256 (truncf .bf16 (mulf (mulf (mulf (proj h w) (logistic (proj h w))) (proj h u))
    (broadcastTo S512x256 (gateOf g e x) broadcasts_S512x1_S512x256)) bitsLt_bf16_f32) shapeCasts_S512x256_S512x256

def piece (g : BitVec 32) (x0 : Vec F S512x1152 .f32) (x1 x2 : Vec F S8x1024x256 .bf16) (e : Fin 8) : FVec F S512x256 .bf16 :=
  pieceOf g (BitVec.ofNat 32 e.val) (rowsOf x0) (gatesOf x0) (wOf x1 e) (wOf x2 e)

/-- The column's expert, and its place among the expert's columns. -/
def colE (k : Fin 2048) : Fin 8 := ⟨k.val / 256, by have := k.isLt; omega⟩
def colF (k : Fin 2048) : Fin 256 := ⟨k.val % 256, Nat.mod_lt _ (by omega)⟩

/-- An index of a piece. -/
def at2 (r : Fin 512) (f : Fin 256) : S512x256.Idx := fun
  | 0 => r
  | 1 => f

/-- The tile's activations, the eight experts side by side. -/
def actOf (g : BitVec 32) (x0 : Vec F S512x1152 .f32) (x1 x2 : Vec F S8x1024x256 .bf16) : FVec F S512x2048 .bf16 :=
  fun y => piece g x0 x1 x2 (colE (y 1)) (at2 (y 0) (colF (y 1)))

/-- What a used tile leaves. -/
def usedOut (g : BitVec 32) (x0 : Vec F S512x1152 .f32) (x1 x2 : Vec F S8x1024x256 .bf16) (x3 : Vec F S1x2048x1024 .bf16) : FVec F S512x1024 .f32 :=
  k0_pay2 (actOf g x0 x1 x2) x3

/-- The block the body leaves at point `i`. -/
def outOf (i : grid0.Coords) (g n : BitVec 32) (x0 : Vec F S512x1152 .f32) (x1 x2 : Vec F S8x1024x256 .bf16) (x3 : Vec F S1x2048x1024 .bf16) : FVec F S512x1024 .f32 :=
  if (i 0).val < n.toNat then usedOut g x0 x1 x2 x3 else k0_pay3

/-! ## Reading the buffers -/

theorem ld_w {M : Memref sig .tc .vmem S8x1024x256 .bf16} (hM : M.IsWhole) (x : Vec F S8x1024x256 .bf16) (e : Fin 8) (off : Fin 3 → ℕ)
    (inb : ∀ a, off a + S1x1024x256.size a ≤ S8x1024x256.size a) (h : off = ![e.val, 0, 0]) :
    M.view.readAt (Elt F) (Rect.unit (s := S8x1024x256) off S1x1024x256.size inb).toLoadRect (hM.unread x) = wOf x e := by
  rw [View.readAt_unit M.view _ inb h (wOff_inb e), hM.read_unread]
  rfl
theorem ld_rows {M : Memref sig .tc .vmem S512x1152 .f32} (hM : M.IsWhole) (x : Vec F S512x1152 .f32)
    (inb : ∀ a, (![0, 0] : Fin 2 → ℕ) a + S512x1024.size a ≤ S512x1152.size a) :
    M.view.readAt (Elt F) (Rect.unit (s := S512x1152) ![0, 0] S512x1024.size inb).toLoadRect (hM.unread x) = rowsOf x := by
  rw [View.readAt_unit M.view _ inb rfl inb_S512x1152_S512x1024_0_0, hM.read_unread]
  rfl
theorem ld_gates {M : Memref sig .tc .vmem S512x1152 .f32} (hM : M.IsWhole) (x : Vec F S512x1152 .f32)
    (inb : ∀ a, (![0, 1024] : Fin 2 → ℕ) a + S512x128.size a ≤ S512x1152.size a) :
    M.view.readAt (Elt F) (Rect.unit (s := S512x1152) ![0, 1024] S512x128.size inb).toLoadRect (hM.unread x) = gatesOf x := by
  rw [View.readAt_unit M.view _ inb rfl inb_S512x1152_S512x128_0_1024, hM.read_unread]
  rfl
theorem ld_down {M : Memref sig .tc .vmem S1x2048x1024 .bf16} (hM : M.IsWhole) (x : Vec F S1x2048x1024 .bf16)
    (inb : ∀ a, (![0, 0, 0] : Fin 3 → ℕ) a + S1x2048x1024.size a ≤ S1x2048x1024.size a) :
    M.view.readAt (Elt F) (Rect.unit (s := S1x2048x1024) ![0, 0, 0] S1x2048x1024.size inb).toLoadRect (hM.unread x) = x := by
  rw [View.readAt_unit M.view _ inb rfl inb_S1x2048x1024_S1x2048x1024_0_0_0, hM.read_unread]
  funext y
  refine congrArg x (funext fun a => ?_)
  match a with
  | 0 => exact Fin.ext (show 0 + 1 * (y 0).val = (y 0).val by omega)
  | 1 => exact Fin.ext (show 0 + 1 * (y 1).val = (y 1).val by omega)
  | 2 => exact Fin.ext (show 0 + 1 * (y 2).val = (y 2).val by omega)

/-- A store of the whole buffer is what is read back. -/
theorem rd_whole {sig' : RefSig} {κ' : Kind} {sp : Space} {s : Shape} {e : EltTy} (v : View sig' κ' sp s e) (f : v.ty.Contents (Elt F))
    {off' : Fin s.rank → ℕ} (inb' : ∀ a, off' a + s.size a ≤ s.size a) (h0 : ∀ a, off' a = 0)
    (w : s.Idx → Elt F e) (L : List (View.Piece (Elt F) s e)) :
    v.read (Elt F) (v.writes (Elt F) f (⟨Rect.unit off' s.size inb', w⟩ :: L)) = w := by
  obtain rfl : off' = fun _ => 0 := funext h0
  funext x
  refine Eq.trans ?_ (View.read_writes_cons_emb v f (Rect.unit (fun _ => 0) s.size inb') w L x)
  show v.read (Elt F) _ _ = v.read (Elt F) _ _
  congr 1
  funext a
  apply Fin.ext
  show (x a).val = 0 + 1 * (x a).val
  omega

/-- A box of 256 columns, from column `256 e`. -/
theorem cOff_inb (e : Fin 8) : ∀ a, (![0, 256 * e.val] : Fin 2 → ℕ) a + S512x256.size a ≤ S512x2048.size a := by
  have := e.isLt
  intro a; fin_cases a <;> simp [S512x256, S512x2048] <;> omega

theorem act_at (g : BitVec 32) (x0 : Vec F S512x1152 .f32) (x1 x2 : Vec F S8x1024x256 .bf16) (e : Fin 8) (o : ℕ) (ho : o = 256 * e.val)
    (inb : ∀ a, (![0, o] : Fin 2 → ℕ) a + S512x256.size a ≤ S512x2048.size a) (y : S512x256.Idx) :
    piece g x0 x1 x2 e y = actOf g x0 x1 x2 ((Rect.unit (s := S512x2048) ![0, o] S512x256.size inb).emb y) := by
  subst ho
  have hy : (y 1).val < 256 := (y 1).isLt
  have he := e.isLt
  unfold actOf
  have e1 : colE ((Rect.unit (s := S512x2048) ![0, 256 * e.val] S512x256.size inb).emb y 1) = e := by
    apply Fin.ext
    show (256 * e.val + 1 * (y 1).val) / 256 = e.val
    omega
  have e2 : at2 ((Rect.unit (s := S512x2048) ![0, 256 * e.val] S512x256.size inb).emb y 0)
      (colF ((Rect.unit (s := S512x2048) ![0, 256 * e.val] S512x256.size inb).emb y 1)) = y := by
    funext a
    match a with
    | 0 => exact Fin.ext (show 0 + 1 * (y 0).val = (y 0).val by omega)
    | 1 => exact Fin.ext (show (256 * e.val + 1 * (y 1).val) % 256 = (y 1).val by omega)
  rw [e1]
  exact congrArg (piece g x0 x1 x2 e) e2.symm

/-- Eight pieces stored side by side are read back as the whole. -/
theorem rd_act {sig' : RefSig} {κ' : Kind} {sp : Space} (v : View sig' κ' sp S512x2048 .bf16) (f : v.ty.Contents (Elt F)) (g : BitVec 32)
    (x0 : Vec F S512x1152 .f32) (x1 x2 : Vec F S8x1024x256 .bf16)
    {i0 i1 i2 i3 i4 i5 i6 i7} (inb : ∀ a, (![0, 0] : Fin 2 → ℕ) a + S512x2048.size a ≤ S512x2048.size a) :
    v.readAt (Elt F) (Rect.unit (s := S512x2048) ![0, 0] S512x2048.size inb).toLoadRect (v.writes (Elt F) f
      [⟨Rect.unit (s := S512x2048) ![0, 1792] S512x256.size i7, pieceOf g 7#32 (rowsOf x0) (gatesOf x0) (wOf x1 7) (wOf x2 7)⟩, ⟨Rect.unit (s := S512x2048) ![0, 1536] S512x256.size i6, pieceOf g 6#32 (rowsOf x0) (gatesOf x0) (wOf x1 6) (wOf x2 6)⟩,
       ⟨Rect.unit (s := S512x2048) ![0, 1280] S512x256.size i5, pieceOf g 5#32 (rowsOf x0) (gatesOf x0) (wOf x1 5) (wOf x2 5)⟩, ⟨Rect.unit (s := S512x2048) ![0, 1024] S512x256.size i4, pieceOf g 4#32 (rowsOf x0) (gatesOf x0) (wOf x1 4) (wOf x2 4)⟩,
       ⟨Rect.unit (s := S512x2048) ![0, 768] S512x256.size i3, pieceOf g 3#32 (rowsOf x0) (gatesOf x0) (wOf x1 3) (wOf x2 3)⟩, ⟨Rect.unit (s := S512x2048) ![0, 512] S512x256.size i2, pieceOf g 2#32 (rowsOf x0) (gatesOf x0) (wOf x1 2) (wOf x2 2)⟩,
       ⟨Rect.unit (s := S512x2048) ![0, 256] S512x256.size i1, pieceOf g 1#32 (rowsOf x0) (gatesOf x0) (wOf x1 1) (wOf x2 1)⟩, ⟨Rect.unit (s := S512x2048) ![0, 0] S512x256.size i0, pieceOf g 0#32 (rowsOf x0) (gatesOf x0) (wOf x1 0) (wOf x2 0)⟩])
      = actOf g x0 x1 x2 := by
  funext y
  have hyy : (Rect.unit (s := S512x2048) ![0, 0] S512x2048.size inb).toLoadRect.idx y = y := by
    funext a
    match a with
    | ⟨0, _⟩ => exact Fin.ext (show 0 + 1 * (y 0).val = (y 0).val by omega)
    | ⟨1, _⟩ => exact Fin.ext (show 0 + 1 * (y 1).val = (y 1).val by omega)
  refine Eq.trans (congrArg (v.read (Elt F) _) hyy) (View.read_writes_apply_of_pieces v f (actOf g x0 x1 x2) _ ?_ y
    (View.cover_of_tiledL (s := S512x2048) (e := .bf16) _ (fun | 0 => 512 | 1 => 256) (by sl_kernel_rfl) y))
  intro p hp
  simp only [List.mem_cons, List.not_mem_nil, or_false] at hp
  rcases hp with rfl | rfl | rfl | rfl | rfl | rfl | rfl | rfl
  · exact act_at g x0 x1 x2 7 _ rfl i7
  · exact act_at g x0 x1 x2 6 _ rfl i6
  · exact act_at g x0 x1 x2 5 _ rfl i5
  · exact act_at g x0 x1 x2 4 _ rfl i4
  · exact act_at g x0 x1 x2 3 _ rfl i3
  · exact act_at g x0 x1 x2 2 _ rfl i2
  · exact act_at g x0 x1 x2 1 _ rfl i1
  · exact act_at g x0 x1 x2 0 _ rfl i0

/-! ## The eight stored values -/

theorem pay5_eq (g : BitVec 32) (h : Vec F S512x1024 .f32) (x : Vec F S512x128 .f32) (w u : Vec F S1x1024x256 .bf16) :
    k0_pay5 g h x w u = pieceOf g 0#32 h x w u := rfl
theorem pay8_eq (g : BitVec 32) (h : Vec F S512x1024 .f32) (x : Vec F S512x128 .f32) (w u : Vec F S1x1024x256 .bf16) :
    k0_pay8 g (k0_pay4 h) x (iota .tc S512x128 32 [1] iota_S512x128_d1_w32) (k0_pay6 h w) (k0_pay7 u) = pieceOf g 1#32 h x w u := rfl
theorem pay10_eq (g : BitVec 32) (h : Vec F S512x1024 .f32) (x : Vec F S512x128 .f32) (w u : Vec F S1x1024x256 .bf16) :
    k0_pay10 (k0_pay9 g (k0_pay4 h) x (iota .tc S512x128 32 [1] iota_S512x128_d1_w32) w u) = pieceOf g 2#32 h x w u := rfl
theorem pay11_eq (g : BitVec 32) (h : Vec F S512x1024 .f32) (x : Vec F S512x128 .f32) (w u : Vec F S1x1024x256 .bf16) :
    k0_pay11 g (k0_pay4 h) x (iota .tc S512x128 32 [1] iota_S512x128_d1_w32) w u = pieceOf g 3#32 h x w u := rfl
theorem pay14_eq (g : BitVec 32) (h : Vec F S512x1024 .f32) (x : Vec F S512x128 .f32) (w u : Vec F S1x1024x256 .bf16) :
    k0_pay14 x (iota .tc S512x128 32 [1] iota_S512x128_d1_w32) (k0_pay12 (k0_pay4 h) w) (k0_pay13 (k0_pay4 h) u) (Scalar.addi (Scalar.muli g 8#32) 4#32)
      = pieceOf g 4#32 h x w u := rfl
theorem pay15_eq (g : BitVec 32) (h : Vec F S512x1024 .f32) (x : Vec F S512x128 .f32) (w u : Vec F S1x1024x256 .bf16) :
    k0_pay15 g (k0_pay4 h) x (iota .tc S512x128 32 [1] iota_S512x128_d1_w32) w u = pieceOf g 5#32 h x w u := rfl
theorem pay16_eq (g : BitVec 32) (h : Vec F S512x1024 .f32) (x : Vec F S512x128 .f32) (w u : Vec F S1x1024x256 .bf16) :
    k0_pay16 g (k0_pay4 h) x (iota .tc S512x128 32 [1] iota_S512x128_d1_w32) w u = pieceOf g 6#32 h x w u := rfl
theorem pay1_eq (g : BitVec 32) (h : Vec F S512x1024 .f32) (x : Vec F S512x128 .f32) (w u : Vec F S1x1024x256 .bf16) :
    k0_pay1 (k0_pay17 (k0_pay4 h) w) (k0_pay18 (k0_pay4 h) u) (k0_pay19 g x (iota .tc S512x128 32 [1] iota_S512x128_d1_w32)) = pieceOf g 7#32 h x w u := rfl

set_option maxHeartbeats 4000000 in
theorem body_exact (c : Dev nD) (i : grid0.Coords) (arg3 : Memref sig .tc .vmem S512x1152 .f32) (harg3 : arg3.IsWhole)
    (arg4 : Memref sig .tc .vmem S8x1024x256 .bf16) (harg4 : arg4.IsWhole) (arg5 : Memref sig .tc .vmem S8x1024x256 .bf16) (harg5 : arg5.IsWhole)
    (arg6 : Memref sig .tc .vmem S1x2048x1024 .bf16) (harg6 : arg6.IsWhole) (arg7 : Memref sig .tc .vmem S512x1024 .f32) (harg7 : arg7.IsWhole)
    (arg8 : Memref sig .tc .vmem S512x2048 .bf16) (harg8 : arg8.IsWhole)
    (x0 : Vec F S512x1152 .f32) (x1 x2 : Vec F S8x1024x256 .bf16) (x3 : Vec F S1x2048x1024 .bf16) (xt : TabBuf (F := F) c tgM) (xn : TabBuf (F := F) c nuM)
    (hn : (nuAt c xn : BitVec 32).toNat < 2 ^ 31) :
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ (∃ d, owns (c : Thread nD τ) arg7 fullShare d) ∗ (∃ d, owns (c : Thread nD τ) arg8 fullShare d)
            ∗ tabPt c tgM xt ∗ tabPt c nuM xn
            ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (outOf i (tgAt c i xt) (nuAt c xn) x0 x1 x2 x3)
            ∗ (∃ d, owns (c : Thread nD τ) arg8 fullShare d) ∗ tabPt c tgM xt ∗ tabPt c nuM xn) -∗ K ⟨⟩))
          ⊢ wp frame (wpE (defs₀ (F := F)) Variants.none c none) E (cc0_moe i tgM tgW nuM nuW arg3 harg3 arg4 harg4 arg5 harg5 arg6 harg6 arg7 harg7 arg8 harg8) K := by
    intro E K
    simp only [cc0_moe_eq_skeleton]; unfold cc0_moe_skel
    unfold owns
    iintro ⟨⟨%f0, %hf0, H0⟩, ⟨%f1, %hf1, H1⟩, ⟨%f2, %hf2, H2⟩, ⟨%f3, %hf3, H3⟩, ⟨%d4, %f4, -, H4⟩, ⟨%ds, %fs, -, HS⟩, HT, HN, Hk⟩
    obtain rfl := harg3.eq_unread hf0; obtain rfl := harg4.eq_unread hf1; obtain rfl := harg5.eq_unread hf2; obtain rfl := harg6.eq_unread hf3
    by_cases hu : (i 0).val < (nuAt c xn : BitVec 32).toNat
    · have h1 : k0_cond1 i (nuAt c xn) = 1#1 := by rw [cond1_eq i _ hn, if_pos hu]
      have h2 : ¬ k0_cond2 i (nuAt c xn) = 1#1 := by rw [cond2_eq i _ hn, if_pos hu]; decide
      sl_exec (disch := first | sl_exact h1 | sl_exact h2)
      sl_step
      iapply Hk
      isplitl [H0]
      · iexists _; isplitr; · ipureintro; exact harg3.read_unread _
        iexact H0
      isplitl [H1]
      · iexists _; isplitr; · ipureintro; exact harg4.read_unread _
        iexact H1
      isplitl [H2]
      · iexists _; isplitr; · ipureintro; exact harg5.read_unread _
        iexact H2
      isplitl [H3]
      · iexists _; isplitr; · ipureintro; exact harg6.read_unread _
        iexact H3
      isplitl [H4]
      · iexists _; isplitr; swap; · iexact H4
        ipureintro
        rw [show outOf i (tgAt c i xt) (nuAt c xn) x0 x1 x2 x3 = usedOut (tgAt c i xt) x0 x1 x2 x3 from if_pos hu]
        refine (rd_whole _ _ _ (by decide) _ _).trans (congrArg₂ (fun a b => k0_pay2 a b) ?_ ?_)
        all_goals sl_unfold_run_names
        · rw [ld_rows harg3 x0, ld_gates harg3 x0,
            ld_w harg4 x1 0 ![0, 0, 0] _ rfl, ld_w harg4 x1 1 ![1, 0, 0] _ rfl, ld_w harg4 x1 2 ![2, 0, 0] _ rfl, ld_w harg4 x1 3 ![3, 0, 0] _ rfl,
            ld_w harg4 x1 4 ![4, 0, 0] _ rfl, ld_w harg4 x1 5 ![5, 0, 0] _ rfl, ld_w harg4 x1 6 ![6, 0, 0] _ rfl, ld_w harg4 x1 7 ![7, 0, 0] _ rfl,
            ld_w harg5 x2 0 ![0, 0, 0] _ rfl, ld_w harg5 x2 1 ![1, 0, 0] _ rfl, ld_w harg5 x2 2 ![2, 0, 0] _ rfl, ld_w harg5 x2 3 ![3, 0, 0] _ rfl,
            ld_w harg5 x2 4 ![4, 0, 0] _ rfl, ld_w harg5 x2 5 ![5, 0, 0] _ rfl, ld_w harg5 x2 6 ![6, 0, 0] _ rfl, ld_w harg5 x2 7 ![7, 0, 0] _ rfl]
          rw [pay5_eq, pay8_eq, pay10_eq, pay11_eq, pay14_eq, pay15_eq, pay16_eq, pay1_eq]
          unfold tgAt View.readCov
          exact rd_act arg8.view _ _ x0 x1 x2 _
        · rw [ld_down harg6 x3]
      isplitl [HS]
      · iexists _, _; isplitr; swap; · iexact HS
        ipureintro; rfl
      isplitl [HT]; · iexact HT
      iexact HN
    · have h1 : ¬ k0_cond1 i (nuAt c xn) = 1#1 := by rw [cond1_eq i _ hn, if_neg hu]; decide
      have h2 : k0_cond2 i (nuAt c xn) = 1#1 := by rw [cond2_eq i _ hn, if_neg hu]
      sl_exec (disch := first | sl_exact h1 | sl_exact h2)
      sl_step
      iapply Hk
      isplitl [H0]
      · iexists _; isplitr; · ipureintro; exact harg3.read_unread _
        iexact H0
      isplitl [H1]
      · iexists _; isplitr; · ipureintro; exact harg4.read_unread _
        iexact H1
      isplitl [H2]
      · iexists _; isplitr; · ipureintro; exact harg5.read_unread _
        iexact H2
      isplitl [H3]
      · iexists _; isplitr; · ipureintro; exact harg6.read_unread _
        iexact H3
      isplitl [H4]
      · iexists _; isplitr; swap; · iexact H4
        ipureintro
        rw [show outOf i (tgAt c i xt) (nuAt c xn) x0 x1 x2 x3 = k0_pay3 from if_neg hu]
        exact rd_whole _ _ _ (by decide) _ _
      isplitl [HS]
      · iexists _, _; isplitr; swap; · iexact HS
        ipureintro; rfl
      isplitl [HT]; · iexact HT
      iexact HN

end Cert.ExpertsIdeal.Hand

end
-- ==== Proof.ExpertsLaunch.lean ====
/- The experts' run, exactly: from any launch memory whose tables hold groups and a positive number of used tiles the program runs
   to the end with the output array at what the write-backs of the named blocks leave, the arguments as they were and every
   semaphore at zero. -/
module

public import proofs.«01_k».proof.Proof.ExpertsRun
public import Idealize.ShloMosaic.Lib.Claim

@[expose] public section

set_option maxRecDepth 16384

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (hW : Words m)

/-- The block the body leaves at point `t`. -/
def oblk (c : Dev nD) (t : Fin (cfgM m hW).N) : FVec F S512x1024 .f32 :=
  outOf (grid0.coords t) (tbl m 0 (tix (grid0.coords t))) (tbl m 1 nix) (iblk m hW c 0 t) (iblk m hW c 1 t) (iblk m hW c 2 t) (iblk m hW c 3 t)

def dats (_ : Fin 1) (c : Dev nD) : Dat τ (Elt F) Unit ℕ (UR sig nD τ) ℕ (cfgM m hW) c where
  A w := V m c (Pipeline.arrRef spec0 w)
  after w t := match w with
    | ⟨0, _⟩ => iblk m hW c 0 t
    | ⟨1, _⟩ => iblk m hW c 1 t
    | ⟨2, _⟩ => iblk m hW c 2 t
    | ⟨3, _⟩ => iblk m hW c 3 t
    | ⟨4, _⟩ => oblk m hW c t
  Φ _ := iprop(Pipeline.ΦA spec0 c ∗ Pipeline.ΦT pre0 (tbl m) c)
  q _ := fullShare
  owed _ := 0

theorem A_eq (c : Dev nD) (w : Fin (cfgM m hW).W) : (dats m hW 0 c).A w = V m c (Pipeline.arrRef spec0 w) := by
  dsimp only [dats]
theorem after_0 (c : Dev nD) (t : Fin (cfgM m hW).N) : (dats m hW 0 c).after 0 t = iblk m hW c 0 t := by dsimp only [dats]; try rfl
theorem after_1 (c : Dev nD) (t : Fin (cfgM m hW).N) : (dats m hW 0 c).after 1 t = iblk m hW c 1 t := by dsimp only [dats]; try rfl
theorem after_2 (c : Dev nD) (t : Fin (cfgM m hW).N) : (dats m hW 0 c).after 2 t = iblk m hW c 2 t := by dsimp only [dats]; try rfl
theorem after_3 (c : Dev nD) (t : Fin (cfgM m hW).N) : (dats m hW 0 c).after 3 t = iblk m hW c 3 t := by dsimp only [dats]; try rfl
theorem after_4 (c : Dev nD) (t : Fin (cfgM m hW).N) : (dats m hW 0 c).after 4 t = oblk m hW c t := by dsimp only [dats]; try rfl
theorem bef_0 (c : Dev nD) (t : Fin (cfgM m hW).N) (d) : (dats m hW 0 c).before 0 t d = iblk m hW c 0 t :=
  before_0 m hW (dats m hW 0 c) (A_eq m hW c 0) (after_0 m hW c) t d
theorem bef_1 (c : Dev nD) (t : Fin (cfgM m hW).N) (d) : (dats m hW 0 c).before 1 t d = iblk m hW c 1 t :=
  before_1 m hW (dats m hW 0 c) (A_eq m hW c 1) (after_1 m hW c) t d
theorem bef_2 (c : Dev nD) (t : Fin (cfgM m hW).N) (d) : (dats m hW 0 c).before 2 t d = iblk m hW c 2 t :=
  before_2 m hW (dats m hW 0 c) (A_eq m hW c 2) (after_2 m hW c) t d
theorem bef_3 (c : Dev nD) (t : Fin (cfgM m hW).N) (d) : (dats m hW 0 c).before 3 t d = iblk m hW c 3 t :=
  before_3 m hW (dats m hW 0 c) (A_eq m hW c 3) (after_3 m hW c) t d

/-- What the body is called with at point `t`, -/
def bodyPre (c : Dev nD) (t : Fin (cfgM m hW).N) : sProp 𝕄 :=
  iprop((dats m hW 0 c).Φ t.castSucc ∗ (dats m hW 0 c).owesAt () t.castSucc
    ∗ (∃ d, owns (c : Thread nD τ) (ms0 m hW t) fullShare ((dats m hW 0 c).before 0 t d))
    ∗ (∃ d, owns (c : Thread nD τ) (ms1 m hW t) fullShare ((dats m hW 0 c).before 1 t d))
    ∗ (∃ d, owns (c : Thread nD τ) (ms2 m hW t) fullShare ((dats m hW 0 c).before 2 t d))
    ∗ (∃ d, owns (c : Thread nD τ) (ms3 m hW t) fullShare ((dats m hW 0 c).before 3 t d))
    ∗ (∃ d, owns (c : Thread nD τ) (ms4 m hW t) fullShare ((dats m hW 0 c).before 4 t d)))

/-- and what it returns. -/
def bodyPost (c : Dev nD) (t : Fin (cfgM m hW).N) : sProp 𝕄 :=
  iprop((dats m hW 0 c).Φ t.succ ∗ (dats m hW 0 c).owesAt () t.succ
    ∗ owns (c : Thread nD τ) (ms0 m hW t) fullShare ((dats m hW 0 c).after 0 t)
    ∗ owns (c : Thread nD τ) (ms1 m hW t) fullShare ((dats m hW 0 c).after 1 t)
    ∗ owns (c : Thread nD τ) (ms2 m hW t) fullShare ((dats m hW 0 c).after 2 t)
    ∗ owns (c : Thread nD τ) (ms3 m hW t) fullShare ((dats m hW 0 c).after 3 t)
    ∗ owns (c : Thread nD τ) (ms4 m hW t) fullShare ((dats m hW 0 c).after 4 t))

theorem sound_body (c : Dev nD) (t : Fin (cfgM m hW).N) :
    bodyPre m hW c t ⊢ wp frame (wpE (defs₀ (F := F)) Variants.none c none) Set.univ (bodyAt m hW t) (fun _ => bodyPost m hW c t) := by
  unfold bodyPre bodyPost bodyAt
  simp only [bef_0, bef_1, bef_2, bef_3]
  rw [show (dats m hW 0 c).Φ t.succ = (dats m hW 0 c).Φ t.castSucc from rfl,
    show (dats m hW 0 c).owesAt () t.succ = (dats m hW 0 c).owesAt () t.castSucc from rfl,
    after_0, after_1, after_2, after_3, after_4]
  rw [show (dats m hW 0 c).Φ t.castSucc = iprop(Pipeline.ΦA spec0 c ∗ Pipeline.ΦT pre0 (tbl m) c) from rfl, PhiT_eq, PhiA_eq]
  unfold oblk
  have ht := tgAt_eq c (grid0.coords t) (tbl m 0)
  have hn := nuAt_eq c (tbl m 1)
  rw [← ht, ← hn]
  iintro ⟨⟨⟨HS, Hg⟩, HT, HN⟩, Ho, ⟨%d0, H0⟩, ⟨%d1, H1⟩, ⟨%d2, H2⟩, ⟨%d3, H3⟩, ⟨%d4, H4⟩⟩
  iapply ((body_exact c (grid0.coords t) _ _ _ _ _ _ _ _ _ _ _ _ (iblk m hW c 0 t) (iblk m hW c 1 t) (iblk m hW c 2 t) (iblk m hW c 3 t) (tbl m 0) (tbl m 1)
    (by rw [hn]; exact (hW.2 nix).2)) Set.univ _)
  isplitl [H0]; · iexact H0
  isplitl [H1]; · iexact H1
  isplitl [H2]; · iexact H2
  isplitl [H3]; · iexact H3
  isplitl [H4]; · iexists _; iexact H4
  isplitl [HS]; · iexact HS
  isplitl [HT]; · iexact HT
  isplitl [HN]; · iexact HN
  iintro ⟨H0, H1, H2, H3, H4, HS, HT, HN⟩
  isplitl [HS Hg HT HN]
  · isplitl [HS Hg]
    · isplitl [HS]; · iexact HS
      iexact Hg
    isplitl [HT]; · iexact HT
    iexact HN
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m hW 0 c) (defs₀ (F := F)) Variants.none () Set.univ := fun t => by
  have h4 : idle0 (tbl m) 4 ((pcfg0.gridAt (tbl m)).coords t) = false := idle4 hW _
  rw [bigSep_W0, bigSep_W0, defs_row m hW]
  refine triple_restated (sound_body m hW c t) rfl .rfl fun _ => ?_
  have e : bodyPost m hW c t ⊢ bodyPost m hW c t := .rfl
  refine e.trans ?_
  unfold bodyPost
  refine sep_mono .rfl (sep_mono .rfl (sep_mono .rfl (sep_mono .rfl (sep_mono .rfl (sep_mono .rfl ?_)))))
  dsimp only
  generalize hb : idle0 (tbl m) 4 ((pcfg0.gridAt (tbl m)).coords t) = b at h4 ⊢
  subst h4
  exact .rfl

set_option backward.isDefEq.respectTransparency.types false in
theorem run_main : θ_run defs (onTc (τ := τ) (main (F := F))) ⟨m, fun _ => 0, ρ⟩ (fun r => Pipeline.FramePost (Pipeline.pin pcfgs fun _ => adm m hW) (dats m hW) 0 (V m) r ∧ r.2.sem = fun _ => 0) :=
  Pipeline.θ_run_frameP (Q' := _) pcfgs (fun _ => adm m hW) (dats m hW) (0 : Fin 1) launch0 defs₀ Variants.none m ρ main
    (hbody := fun c => (body_obligation m hW c).loose) (hshare := fun c => (dats m hW 0 c).share_full fun _ => rfl)
    (howed := fun _ _ => rfl) (V := V m) (hmain := hmain m Variants.none) (hA := A_eq m hW) (hpf := V_pre m) (hΦ := fun _ _ => rfl)

theorem run : θ_run defs (onTc (τ := τ) (main (F := F))) ⟨m, fun _ => 0, ρ⟩ (fun r => ∀ c : Dev nD,
      r.2.mem ((c.tc : Thread nD τ).loc main_v0) = (dats m hW 0 c).arrAt 4 (cfgM m hW).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h.1 c).1 4, (h.1 c).2 main_arg0 (by decide : main_arg0 ∈ Pipeline.restRefs sig spec0),
    (h.1 c).2 main_arg1 (by decide : main_arg1 ∈ Pipeline.restRefs sig spec0),
    (((h.1 c).1 0).trans ((dats m hW 0 c).arrAt_in 0 rfl _)).trans (A_eq m hW c 0),
    (((h.1 c).1 1).trans ((dats m hW 0 c).arrAt_in 1 rfl _)).trans (A_eq m hW c 1),
    (((h.1 c).1 2).trans ((dats m hW 0 c).arrAt_in 2 rfl _)).trans (A_eq m hW c 2),
    (((h.1 c).1 3).trans ((dats m hW 0 c).arrAt_in 3 rfl _)).trans (A_eq m hW c 3)⟩) (run_main m ρ hW)

include hW in
/-- The arguments unchanged and every semaphore at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun r h => ⟨fun c => ⟨(h.1 c).2 main_arg0 (by decide : main_arg0 ∈ Pipeline.restRefs sig spec0),
    (h.1 c).2 main_arg1 (by decide : main_arg1 ∈ Pipeline.restRefs sig spec0),
    (((h.1 c).1 0).trans ((dats m hW 0 c).arrAt_in 0 rfl _)).trans (A_eq m hW c 0),
    (((h.1 c).1 1).trans ((dats m hW 0 c).arrAt_in 1 rfl _)).trans (A_eq m hW c 1),
    (((h.1 c).1 2).trans ((dats m hW 0 c).arrAt_in 2 rfl _)).trans (A_eq m hW c 2),
    (((h.1 c).1 3).trans ((dats m hW 0 c).arrAt_in 3 rfl _)).trans (A_eq m hW c 3)⟩, h.2⟩) (run_main m ρ hW)

end Cert.ExpertsIdeal.Hand

end
-- ==== Proof.ExpertsFrames.lean ====
/- The frame claims of the experts' three programs. The ideal program's text is the program's own. -/
module

public import proofs.«01_k».proof.Defs
public import proofs.«01_k».proof.Proof.PlainExpertsLaunch
public import proofs.«01_k».proof.Proof.ExpertsLaunch
public import proofs.«01_k».proof.Proof.Routes
public import proofs.«01_k».proof.Proof.Gen.ExpertsReferenceIdeal.Run
public import Idealize.ShloMosaic.Lib.Claim

@[expose] public section

noncomputable section

namespace Cert.Hand

open Idealize.ShloMosaic Idealize.SL.Sem

theorem experts_frame : Cert.quiescent_Experts := fun m g h =>
  Cert.Experts.Hand.run_frame m g (routes_parts _ _ _ _ _ _ (h 0))

theorem experts_ideal_frame : Cert.quiescent_ExpertsIdeal := fun m g h =>
  Cert.ExpertsIdeal.Hand.run_frame m g (routes_parts _ _ _ _ _ _ (h 0))

theorem experts_reference_frame : Cert.quiescent_ExpertsReferenceIdeal := fun m g _ =>
  (θ_run Cert.ExpertsReferenceIdeal.defs _ _).mono (fun r h => ⟨fun c => (h c).2, sem_eq_zero_of_no_sems (by decide) r.2⟩)
    (Cert.ExpertsReferenceIdeal.Value.run (F := Ideal) m g)

theorem experts_reference_frame_routes : Cert.quiescent_ExpertsReferenceIdeal_pre_routes := fun m g _ =>
  (θ_run Cert.ExpertsReferenceIdeal.defs _ _).mono (fun r h => ⟨fun c => (h c).2, sem_eq_zero_of_no_sems (by decide) r.2⟩)
    (Cert.ExpertsReferenceIdeal.Value.run (F := Ideal) m g)

/-- Nothing is rewritten between the program and its ideal reading. -/
theorem experts_preserved : Cert.preserves_Experts_ExpertsIdeal := trivial

end Cert.Hand

end
-- ==== Proof.ExpertsBlocks.lean ====
/- The experts' blocks at coordinates: each input block read at an index is its array at the block's place, the output block lands at
   its place, and the output blocks cover the result. -/
module

public import proofs.«01_k».proof.Proof.ExpertsLaunch
public import Idealize.ShloMosaic.Lib.Pointwise
public import Idealize.ShloMosaic.Lib.Pipeline.ValueKit
@[expose] public section

noncomputable section

namespace Cert.ExpertsIdeal.Hand

open Cert.ExpertsIdeal Cert.ExpertsIdeal.Gen
open Idealize.ShloMosaic Idealize.ShloMosaic.TcCoe
variable (m : (ℓ : Loc nD τ sig) → Buf (Elt Ideal) ℓ) (hW : Words m)

/-- A point's tile. -/
def pt (t : Fin (cfgM m hW).N) : Fin 68 := grid0.coords t 0
/-- A tile's row among all rows. -/
def prow (p : Fin 68) (r : Fin 512) : Fin 34816 := ⟨512 * p.val + r.val, by have := p.isLt; omega⟩
/-- A tile's group, and its expert `e`. -/
def grp (p : Fin 68) : Fin 4 := ⟨(tbl m 0 (ix1 p) : BitVec 32).toNat, by have := hW.1 (ix1 p); omega⟩
def gexp (g : Fin 4) (e : Fin 8) : Fin 32 := ⟨8 * g.val + e.val, by have := g.isLt; have := e.isLt; omega⟩
/-- How many tiles are used. -/
def used : ℕ := (tbl m 1 nix : BitVec 32).toNat

theorem tix_eq (t : Fin (cfgM m hW).N) : tix (grid0.coords t) = ix1 (pt m hW t) := by
  funext a
  match a with
  | ⟨0, _⟩ => rfl

theorem x_at (c : Dev nD) (t : Fin (cfgM m hW).N) (hu : (pt m hW t).val < used m) (r : Fin 512) (l : Fin 1152) :
    iblk m hW c 0 t (ix2 r l) = m ((c.tc : Thread nD τ).loc main_arg2) (ix2 (prow (pt m hW t) r) l) := by
  have h0 := tf0_0 (pf := tbl m) hW (grid0.coords t)
  have hp : (grid0.coords t 0).val < (tbl m 1 nix : BitVec 32).toNat := hu
  refine congrArg (m ((c.tc : Thread nD τ).loc main_arg2)) (funext fun a => Fin.ext ?_)
  match a with
  | ⟨0, _⟩ =>
    refine (congrArg (fun n => n * 512 + 1 * r.val) h0).trans ?_
    show min (grid0.coords t 0).val _ * 512 + 1 * r.val = 512 * (grid0.coords t 0).val + r.val
    rw [Nat.min_eq_left (by omega)]; omega
  | ⟨1, _⟩ => show (0#32 : BitVec 32).toNat * 1152 + 1 * l.val = l.val; rw [show (0#32 : BitVec 32).toNat = 0 from rfl]; omega

theorem wg_at (c : Dev nD) (t : Fin (cfgM m hW).N) (e : Fin 8) (k : Fin 1024) (f : Fin 256) :
    iblk m hW c 1 t (ix3 e k f) = m ((c.tc : Thread nD τ).loc main_arg3) (ix3 (gexp (grp m hW (pt m hW t)) e) k f) := by
  have h0 := tf1_0 (pf := tbl m) (grid0.coords t)
  rw [tix_eq] at h0
  refine congrArg (m ((c.tc : Thread nD τ).loc main_arg3)) (funext fun a => Fin.ext ?_)
  match a with
  | ⟨0, _⟩ =>
    refine (congrArg (fun n => n * 8 + 1 * e.val) h0).trans ?_
    show _ * 8 + 1 * e.val = 8 * (tbl m 0 (ix1 (pt m hW t)) : BitVec 32).toNat + e.val
    omega
  | ⟨1, _⟩ => show (0#32 : BitVec 32).toNat * 1024 + 1 * k.val = k.val; rw [show (0#32 : BitVec 32).toNat = 0 from rfl]; omega
  | ⟨2, _⟩ => show (0#32 : BitVec 32).toNat * 256 + 1 * f.val = f.val; rw [show (0#32 : BitVec 32).toNat = 0 from rfl]; omega

theorem wu_at (c : Dev nD) (t : Fin (cfgM m hW).N) (e : Fin 8) (k : Fin 1024) (f : Fin 256) :
    iblk m hW c 2 t (ix3 e k f) = m ((c.tc : Thread nD τ).loc main_arg4) (ix3 (gexp (grp m hW (pt m hW t)) e) k f) := by
  have h0 := tf2_0 (pf := tbl m) (grid0.coords t)
  rw [tix_eq] at h0
  refine congrArg (m ((c.tc : Thread nD τ).loc main_arg4)) (funext fun a => Fin.ext ?_)
  match a with
  | ⟨0, _⟩ =>
    refine (congrArg (fun n => n * 8 + 1 * e.val) h0).trans ?_
    show _ * 8 + 1 * e.val = 8 * (tbl m 0 (ix1 (pt m hW t)) : BitVec 32).toNat + e.val
    omega
  | ⟨1, _⟩ => show (0#32 : BitVec 32).toNat * 1024 + 1 * k.val = k.val; rw [show (0#32 : BitVec 32).toNat = 0 from rfl]; omega
  | ⟨2, _⟩ => show (0#32 : BitVec 32).toNat * 256 + 1 * f.val = f.val; rw [show (0#32 : BitVec 32).toNat = 0 from rfl]; omega

theorem wd_at (c : Dev nD) (t : Fin (cfgM m hW).N) (k : Fin 2048) (d : Fin 1024) :
    iblk m hW c 3 t (ix3 (0 : Fin 1) k d) = m ((c.tc : Thread nD τ).loc main_arg5) (ix3 (grp m hW (pt m hW t)) k d) := by
  have h0 := tf3_0 (pf := tbl m) (grid0.coords t)
  rw [tix_eq] at h0
  refine congrArg (m ((c.tc : Thread nD τ).loc main_arg5)) (funext fun a => Fin.ext ?_)
  match a with
  | ⟨0, _⟩ =>
    refine (congrArg (fun n => n * 1 + 1 * 0) h0).trans ?_
    show _ * 1 + 1 * 0 = (tbl m 0 (ix1 (pt m hW t)) : BitVec 32).toNat
    omega
  | ⟨1, _⟩ => show (0#32 : BitVec 32).toNat * 2048 + 1 * k.val = k.val; rw [show (0#32 : BitVec 32).toNat = 0 from rfl]; omega
  | ⟨2, _⟩ => show (0#32 : BitVec 32).toNat * 1024 + 1 * d.val = d.val; rw [show (0#32 : BitVec 32).toNat = 0 from rfl]; omega

theorem out_emb (t : Fin (cfgM m hW).N) (r : Fin 512) (d : Fin 1024) :
    (((cfgM m hW).win 4).blk t).view.emb (ix2 r d) = ix2 (prow (pt m hW t) r) d := by
  have hp := (pt m hW t).isLt
  funext a
  apply Fin.ext
  match a with
  | ⟨0, _⟩ => show (BitVec.ofNat 32 (pt m hW t).val).toNat * 512 + 1 * r.val = 512 * (pt m hW t).val + r.val; rw [word_val _ (by omega)]; omega
  | ⟨1, _⟩ => show (0#32 : BitVec 32).toNat * 1024 + 1 * d.val = d.val; rw [show (0#32 : BitVec 32).toNat = 0 from rfl]; omega

/-- The output's blocks cover it; where they lie does not depend on the tables, so plain tables decide it. -/
def plainTbl : pre0.Contents (Elt Ideal) := fun
  | 0 => fun _ => (0#32 : BitVec 32)
  | 1 => fun _ => (1#32 : BitVec 32)
theorem plain_ok : ok0 plainTbl := ok_of ⟨fun _ => show (0#32 : BitVec 32).toNat ≤ 3 by decide, fun _ => show 1 ≤ (1#32 : BitVec 32).toNat ∧ (1#32 : BitVec 32).toNat < 2 ^ 31 by decide⟩
theorem covers_plain : ((cfg0 (F := Ideal) ⟨plainTbl, plain_ok⟩).win 4).Covers := by decide +kernel
theorem covers : ((cfgM m hW).win 4).Covers := covers_plain

theorem row_lane (y : S512x1024.Idx) : ∃ (r : Fin 512) (d : Fin 1024), y = ix2 r d := ⟨y 0, y 1, funext fun a => by
  match a with
  | ⟨0, _⟩ => rfl
  | ⟨1, _⟩ => rfl⟩

/-- The result array, from what the body leaves at every row and lane. -/
theorem arr_eq (c : Dev nD) (G : S34816x1024.Idx → EReal)
    (h : ∀ (t : Fin (cfgM m hW).N) (r : Fin 512) (d : Fin 1024), oblk m hW c t (ix2 r d) = G (ix2 (prow (pt m hW t) r) d)) :
    (dats m hW 0 c).arrAt 4 (cfgM m hW).N = G := by
  refine (dats m hW 0 c).arrAt_eq_of_covers 4 _ (covers m hW) fun t _ y => ?_
  show oblk m hW c t y = _
  obtain ⟨r, d, rfl⟩ := row_lane y
  exact (h t r d).trans (congrArg G (out_emb m hW t r d)).symm

end Cert.ExpertsIdeal.Hand
end
-- ==== Proof.ExpertsRead.lean ====
/- The experts' body at coordinates, at the ideal values. -/
module

public import proofs.«01_k».proof.Proof.ExpertsRun
public import Idealize.ShloMosaic.Lib.Pointwise
@[expose] public section

noncomputable section

namespace Cert.ExpertsIdeal.Hand

open Cert.ExpertsIdeal Cert.ExpertsIdeal.Gen
open Idealize.ShloMosaic Idealize.ShloMosaic.TcCoe

theorem rowsOf_at (x : Vec Ideal S512x1152 .f32) (r : Fin 512) (k : Fin 1024) : rowsOf x (ix2 r k) = x (ix2 r ⟨k.val, by omega⟩) := by
  unfold rowsOf VecWindow.window
  refine congrArg x (funext fun a => Fin.ext ?_)
  match a with
  | ⟨0, _⟩ => show 0 + 1 * r.val = r.val; omega
  | ⟨1, _⟩ => show 0 + 1 * k.val = k.val; omega
theorem gatesOf_at (x : Vec Ideal S512x1152 .f32) (r : Fin 512) (l : Fin 128) : gatesOf x (ix2 r l) = x (ix2 r ⟨1024 + l.val, by omega⟩) := by
  unfold gatesOf VecWindow.window
  refine congrArg x (funext fun a => Fin.ext ?_)
  match a with
  | ⟨0, _⟩ => show 0 + 1 * r.val = r.val; omega
  | ⟨1, _⟩ => show 1024 + 1 * l.val = 1024 + l.val; omega
theorem wOf_at (w : Vec Ideal S8x1024x256 .bf16) (e : Fin 8) (k : Fin 1024) (f : Fin 256) : wOf w e (ix3 (0 : Fin 1) k f) = w (ix3 e k f) := by
  unfold wOf VecWindow.window
  refine congrArg w (funext fun a => Fin.ext ?_)
  match a with
  | ⟨0, _⟩ => show e.val + 1 * 0 = e.val; omega
  | ⟨1, _⟩ => show 0 + 1 * k.val = k.val; omega
  | ⟨2, _⟩ => show 0 + 1 * f.val = f.val; omega

theorem proj_at (h : Vec Ideal S512x1024 .f32) (w : Vec Ideal S1x1024x256 .bf16) (r : Fin 512) (f : Fin 256) :
    proj h w (ix2 r f) = ∑ k : Fin 1024, h (ix2 r k) * w (ix3 (0 : Fin 1) k f) := by
  unfold proj
  pointwise

theorem lane_table : ∀ (g : Fin 4) (e : Fin 8) (l : Fin 128),
    IntOp.cmpi .eq (BitVec.ofNat 32 l.val) (Scalar.addi (Scalar.muli (BitVec.ofNat 32 g.val) 8#32) (BitVec.ofNat 32 e.val)) = if l.val = 8 * g.val + e.val then 1#1 else 0#1 := by
  decide +kernel

theorem gateOf_at (g : Fin 4) (e : Fin 8) (x : Vec Ideal S512x128 .f32) (r : Fin 512) :
    gateOf (BitVec.ofNat 32 g.val) (BitVec.ofNat 32 e.val) x (ix2 r (0 : Fin 1)) = x (ix2 r ⟨8 * g.val + e.val, by omega⟩) := by
  unfold gateOf
  pointwise
  have he := e.isLt
  have hg := g.isLt
  refine (Finset.sum_congr rfl fun l _ => ?_).trans (Finset.sum_ite_eq' Finset.univ (⟨8 * g.val + e.val, by omega⟩ : Fin 128) fun l => x (ix2 r l)) |>.trans (if_pos (Finset.mem_univ _))
  rw [lane_table g e l]
  by_cases hl : l.val = 8 * g.val + e.val
  · rw [if_pos hl, if_pos (Fin.ext hl)]; rfl
  · rw [if_neg hl, if_neg fun h => hl (congrArg Fin.val h)]; rfl

theorem pieceOf_at (g e : BitVec 32) (h : Vec Ideal S512x1024 .f32) (x : Vec Ideal S512x128 .f32) (w u : Vec Ideal S1x1024x256 .bf16) (r : Fin 512) (f : Fin 256) :
    pieceOf g e h x w u (ix2 r f) = proj h w (ix2 r f) * Ideal.logistic (proj h w (ix2 r f)) * proj h u (ix2 r f) * gateOf g e x (ix2 r (0 : Fin 1)) := by
  unfold pieceOf
  pointwise

theorem pay2_at (a : FVec Ideal S512x2048 .bf16) (w : Vec Ideal S1x2048x1024 .bf16) (r : Fin 512) (d : Fin 1024) :
    k0_pay2 (F := Ideal) a w (ix2 r d) = ∑ k : Fin 2048, a (ix2 r k) * w (ix3 (0 : Fin 1) k d) := by
  unfold k0_pay2
  pointwise

theorem pay3_at (r : Fin 512) (d : Fin 1024) : k0_pay3 (F := Ideal) (ix2 r d) = 0 := by
  unfold k0_pay3
  pointwise

end Cert.ExpertsIdeal.Hand
end
-- ==== Proof.ExpertsRefRead.lean ====
/- The experts' reference at one element: all 32 experts, each gated by the row's group. -/
module

public import proofs.«01_k».proof.Proof.Gen.ExpertsReferenceIdeal.Run
public import Idealize.ShloMosaic.Lib.Pointwise

@[expose] public section

noncomputable section

namespace Cert.ExpertsReferenceIdeal.Hand

open Cert.ExpertsReferenceIdeal Cert.ExpertsReferenceIdeal.Gen
open Idealize.ShloMosaic Idealize.ShloMosaic.TcCoe Idealize.SL.Sem

/-! ### The reference's value in stages, each as the program prints it -/

/-- The experts' groups, -/
def expGrpV : IVec S1x32 32 :=
  select (andi (cmpi .ne (signi (broadcastInDim S1x32 ![1] bcast_S32_S1x32_1 (iotaInDim S32 32 0))) (broadcastInDim S1x32 ![] bcast_S_S1x32 (signi (id (constantI S_ 32 8#32))))) (cmpi .ne (Host.remsi (broadcastInDim S1x32 ![1] bcast_S32_S1x32_1 (iotaInDim S32 32 0)) (broadcastInDim S1x32 ![] bcast_S_S1x32 (id (constantI S_ 32 8#32)))) (broadcastInDim S1x32 ![] bcast_S_S1x32 (constantI S_ 32 0#32)))) (subi (Host.divsi (broadcastInDim S1x32 ![1] bcast_S32_S1x32_1 (iotaInDim S32 32 0)) (broadcastInDim S1x32 ![] bcast_S_S1x32 (id (constantI S_ 32 8#32)))) (broadcastInDim S1x32 ![] bcast_S_S1x32 (constantI S_ 32 1#32))) (Host.divsi (broadcastInDim S1x32 ![1] bcast_S32_S1x32_1 (iotaInDim S32 32 0)) (broadcastInDim S1x32 ![] bcast_S_S1x32 (id (constantI S_ 32 8#32))))
/-- the rows' tiles, -/
def rowTileV : IVec S34816x1 32 :=
  select (andi (cmpi .ne (signi (broadcastInDim S34816x1 ![0] bcast_S34816_S34816x1_0 (iotaInDim S34816 32 0))) (broadcastInDim S34816x1 ![] bcast_S_S34816x1 (signi (id (constantI S_ 32 512#32))))) (cmpi .ne (Host.remsi (broadcastInDim S34816x1 ![0] bcast_S34816_S34816x1_0 (iotaInDim S34816 32 0)) (broadcastInDim S34816x1 ![] bcast_S_S34816x1 (id (constantI S_ 32 512#32)))) (broadcastInDim S34816x1 ![] bcast_S_S34816x1 (constantI S_ 32 0#32)))) (subi (Host.divsi (broadcastInDim S34816x1 ![0] bcast_S34816_S34816x1_0 (iotaInDim S34816 32 0)) (broadcastInDim S34816x1 ![] bcast_S_S34816x1 (id (constantI S_ 32 512#32)))) (broadcastInDim S34816x1 ![] bcast_S_S34816x1 (constantI S_ 32 1#32))) (Host.divsi (broadcastInDim S34816x1 ![0] bcast_S34816_S34816x1_0 (iotaInDim S34816 32 0)) (broadcastInDim S34816x1 ![] bcast_S_S34816x1 (id (constantI S_ 32 512#32))))
/-- the gates of the experts a row is routed to, -/
def gateV (T : IVec S68 32) (N : IVec S1 32) (X : FVec Ideal S34816x1152 .f32) : FVec Ideal S34816x32 .f32 :=
  select (andi (cmpi .eq (broadcastInDim S34816x32 ![0, 1] bcast_S1x32_S34816x32_0_1 expGrpV) (broadcastInDim S34816x32 ![0, 1] bcast_S34816x1_S34816x32_0_1 (broadcastInDim S34816x1 ![0] bcast_S34816_S34816x1_0 (shapeCast S34816 (broadcastInDim S68x512 ![0] bcast_S68_S68x512_0 T) shapeCasts_S68x512_S34816)))) (broadcastInDim S34816x32 ![0, 1] bcast_S34816x1_S34816x32_0_1 (cmpi .slt rowTileV (broadcastInDim S34816x1 ![] bcast_S_S34816x1 (shapeCast S_ N shapeCasts_S1_S_))))) (extractStridedSlice S34816x32 ![0, 1024] X slices_S34816x1152_S34816x32_0_1024) (broadcastInDim S34816x32 ![] bcast_S_S34816x32 (id (constant S_ .f32 0x00000000#32)))
/-- the rows through every expert's weights, -/
def projV (X : FVec Ideal S34816x1152 .f32) (G : FVec Ideal S32x1024x256 .bf16) : FVec Ideal S34816x32x256 .f32 :=
  Host.dotGeneral dot_S34816x1024_S32x1024x256_S34816x32x256_1_1_0_02_n_n none (extractStridedSlice S34816x1024 ![0, 0] X slices_S34816x1152_S34816x1024_0_0) (extf .f32 G bitsLt_bf16_f32)
/-- the gated activations, -/
def actV (T : IVec S68 32) (N : IVec S1 32) (X : FVec Ideal S34816x1152 .f32) (G U : FVec Ideal S32x1024x256 .bf16) : FVec Ideal S34816x32x256 .f32 :=
  mulf (mulf (mulf (projV X G) (Host.divf (broadcastInDim S34816x32x256 ![] bcast_S_S34816x32x256 (constant S_ .f32 0x3F800000#32)) (addf (broadcastInDim S34816x32x256 ![] bcast_S_S34816x32x256 (constant S_ .f32 0x3F800000#32)) (Host.exp (Host.negf (projV X G)))))) (projV X U)) (broadcastInDim S34816x32x256 ![0, 1, 2] bcast_S34816x32x1_S34816x32x256_0_1_2 (broadcastInDim S34816x32x1 ![0, 1] bcast_S34816x32_S34816x32x1_0_1 (gateV T N X)))
/-- and the result. -/
def refV (T : IVec S68 32) (N : IVec S1 32) (X : FVec Ideal S34816x1152 .f32) (G U : FVec Ideal S32x1024x256 .bf16) (D : FVec Ideal S4x2048x1024 .bf16) : FVec Ideal S34816x1024 .f32 :=
  Host.dotGeneral dot_S34816x32x256_S32x256x1024_S34816x1024_12_01_0_2_n_n none (actV T N X G U) (shapeCast S32x256x1024 (extf .f32 D bitsLt_bf16_f32) shapeCasts_S4x2048x1024_S32x256x1024)

/-- The result is the run's. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v31) = refV (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Cert.ExpertsReferenceIdeal.Value.run (F := Ideal) m ρ

/-! ### Each at an element -/

/-- The floor of the quotient, as the reference divides. -/
def floorDiv (x d : BitVec 32) : BitVec 32 :=
  Scalar.select
    (IntOp.andi (IntOp.cmpi .ne (if x = 0 then 0 else if x.msb = true then -1 else 1 : BitVec 32) (if d = 0 then 0 else if d.msb = true then -1 else 1 : BitVec 32))
      (IntOp.cmpi .ne (IntOp.remsi .host x d) 0#32))
    (IntOp.subi (IntOp.divsi .host x d) 1#32) (IntOp.divsi .host x d)

theorem expGrp_at (e : Fin 32) : expGrpV (ix2 (0 : Fin 1) e) = floorDiv (BitVec.ofNat 32 e.val) 8#32 := by
  unfold expGrpV
  pointwise
  rfl
theorem rowTile_at (n : Fin 34816) : rowTileV (ix2 n (0 : Fin 1)) = floorDiv (BitVec.ofNat 32 n.val) 512#32 := by
  unfold rowTileV
  pointwise
  rfl

variable (T : IVec S68 32) (N : IVec S1 32) (X : Vec Ideal S34816x1152 .f32) (G U : Vec Ideal S32x1024x256 .bf16) (D : Vec Ideal S4x2048x1024 .bf16)

theorem gate_at (n : Fin 34816) (e : Fin 32) : gateV T N X (ix2 n e)
    = Scalar.select (IntOp.andi (IntOp.cmpi .eq (floorDiv (BitVec.ofNat 32 e.val) 8#32) (T (ix1 ⟨n.val / 512, by have := n.isLt; omega⟩)))
        (IntOp.cmpi .slt (floorDiv (BitVec.ofNat 32 n.val) 512#32) (N (ix1 (0 : Fin 1))))) (X (ix2 n ⟨1024 + e.val, by omega⟩)) 0 := by
  unfold gateV
  pointwise
  rw [expGrp_at, rowTile_at]
  exact congrArg (Scalar.select _ _) Ideal.ofBits_zero_f32
theorem proj_at (n : Fin 34816) (e : Fin 32) (f : Fin 256) : projV X G (ix3 n e f) = ∑ k : Fin 1024, X (ix2 n ⟨k.val, by omega⟩) * G (ix3 e k f) := by
  unfold projV
  pointwise
theorem act_at (n : Fin 34816) (e : Fin 32) (f : Fin 256) : actV T N X G U (ix3 n e f)
    = projV X G (ix3 n e f) * Ideal.logistic (projV X G (ix3 n e f)) * projV X U (ix3 n e f) * gateV T N X (ix2 n e) := by
  unfold actV
  pointwise
  rfl
theorem ref_at (n : Fin 34816) (d : Fin 1024) : refV T N X G U D (ix2 n d)
    = ∑ e : Fin 32, ∑ f : Fin 256, actV T N X G U (ix3 n e f) * D (ix3 (⟨e.val / 8, by omega⟩ : Fin 4) (⟨e.val % 8 * 256 + f.val, by omega⟩ : Fin 2048) d) := by
  unfold refV
  pointwise

end Cert.ExpertsReferenceIdeal.Hand

end
-- ==== Proof.ExpertsTables.lean ====
/- The reference's floor divisions, tabulated: an expert's group and a row's tile. -/
module

public import proofs.«01_k».proof.Proof.ExpertsRefRead

@[expose] public section

noncomputable section

namespace Cert.ExpertsReferenceIdeal.Hand

theorem expGrp_table : ∀ e : Fin 32, floorDiv (BitVec.ofNat 32 e.val) 8#32 = BitVec.ofNat 32 (e.val / 8) := by decide +kernel

theorem rowTile_table : ∀ (p : Fin 68) (r : Fin 512), floorDiv (BitVec.ofNat 32 (512 * p.val + r.val)) 512#32 = BitVec.ofNat 32 p.val := by decide +kernel

end Cert.ExpertsReferenceIdeal.Hand

end
-- ==== Proof.ExpertsValue.lean ====
/- The experts' value claim: at the ideal values the kernel's result is the reference's. A row's gate is zero at every expert outside
   its tile's group, so the reference's sum over 32 experts is the group's eight; past the used tiles every gate is zero. -/
module

public import proofs.«01_k».proof.Proof.ExpertsBlocks
public import proofs.«01_k».proof.Proof.ExpertsRead
public import proofs.«01_k».proof.Proof.ExpertsTables
public import proofs.«01_k».proof.Defs

@[expose] public section

noncomputable section

namespace Cert.ExpertsIdeal.Hand

open Cert.ExpertsIdeal Cert.ExpertsIdeal.Gen
open Idealize.ShloMosaic Idealize.ShloMosaic.TcCoe Idealize.SL.Sem
open Cert.ExpertsReferenceIdeal.Hand (refV actV gateV projV floorDiv gate_at ref_at expGrp_table rowTile_table)

variable (m : (ℓ : Loc nD τ sig) → Buf (Elt Ideal) ℓ) (hW : Words m)

/-- The six arguments. -/
abbrev aT : IVec Cert.ExpertsReferenceIdeal.S68 32 := m (((0 : Dev nD).tc : Thread nD τ).loc main_arg0)
abbrev aN : IVec Cert.ExpertsReferenceIdeal.S1 32 := m (((0 : Dev nD).tc : Thread nD τ).loc main_arg1)
abbrev aX : Vec Ideal Cert.ExpertsReferenceIdeal.S34816x1152 .f32 := m (((0 : Dev nD).tc : Thread nD τ).loc main_arg2)
abbrev aG : Vec Ideal Cert.ExpertsReferenceIdeal.S32x1024x256 .bf16 := m (((0 : Dev nD).tc : Thread nD τ).loc main_arg3)
abbrev aU : Vec Ideal Cert.ExpertsReferenceIdeal.S32x1024x256 .bf16 := m (((0 : Dev nD).tc : Thread nD τ).loc main_arg4)
abbrev aD : Vec Ideal Cert.ExpertsReferenceIdeal.S4x2048x1024 .bf16 := m (((0 : Dev nD).tc : Thread nD τ).loc main_arg5)

/-! ### A row's gates -/

theorem sel_if {α : Type} (P : Prop) [Decidable P] (b : BitVec 1) (h : b = 1#1 ↔ P) (x y : α) : Scalar.select b x y = if P then x else y := by
  by_cases hp : P
  · rw [if_pos hp]
    exact if_pos (h.2 hp)
  · rw [if_neg hp]
    exact if_neg fun hb => hp (h.1 hb)

theorem word_grp (p : Fin 68) : (tbl m 0 (ix1 p) : BitVec 32) = BitVec.ofNat 32 (grp m hW p).val := by
  apply BitVec.eq_of_toNat_eq
  have := (grp m hW p).isLt
  rw [BitVec.toNat_ofNat, Nat.mod_eq_of_lt (by omega)]
  rfl

theorem eq_word (a b : ℕ) (ha : a < 2 ^ 32) (hb : b < 2 ^ 32) : IntOp.cmpi .eq (BitVec.ofNat 32 a) (BitVec.ofNat 32 b) = 1#1 ↔ a = b := by
  rw [IntOp.cmpi_eq]
  refine ⟨fun h => ?_, fun h => by rw [h]⟩
  have := congrArg BitVec.toNat h
  rwa [BitVec.toNat_ofNat, BitVec.toNat_ofNat, Nat.mod_eq_of_lt ha, Nat.mod_eq_of_lt hb] at this

theorem slt_word (a : ℕ) (w : BitVec 32) (ha : a < 2 ^ 31) (hw : w.toNat < 2 ^ 31) : IntOp.cmpi .slt (BitVec.ofNat 32 a) w = 1#1 ↔ a < w.toNat := by
  have hv : (BitVec.ofNat 32 a).toNat = a := by rw [BitVec.toNat_ofNat]; exact Nat.mod_eq_of_lt (by omega)
  rw [IntOp.cmpi_slt, small_toInt w hw, small_toInt _ (by rw [hv]; exact ha), hv]
  exact Nat.cast_lt

theorem gate_if (p : Fin 68) (r : Fin 512) (e : Fin 32) : gateV (aT m) (aN m) (aX m) (ix2 (prow p r) e)
    = if e.val / 8 = (grp m hW p).val ∧ p.val < used m then aX m (ix2 (prow p r) ⟨1024 + e.val, by have := e.isLt; omega⟩) else 0 := by
  have hp := p.isLt
  have hr := r.isLt
  have he := e.isLt
  have hg := (grp m hW p).isLt
  rw [gate_at]
  refine sel_if _ _ ?_ _ _
  rw [IntOp.andi_eq_one]
  refine and_congr ?_ ?_
  · rw [expGrp_table]
    have e1 : aT m (ix1 ⟨(prow p r).val / 512, by have := (prow p r).isLt; omega⟩) = BitVec.ofNat 32 (grp m hW p).val := by
      refine Eq.trans (congrArg (fun q => aT m (ix1 q)) (Fin.ext ?_)) (word_grp m hW p)
      show (512 * p.val + r.val) / 512 = p.val
      omega
    rw [e1]
    exact eq_word _ _ (by omega) (by omega)
  · rw [show (prow p r).val = 512 * p.val + r.val from rfl, rowTile_table]
    have e2 : aN m (ix1 (0 : Fin 1)) = tbl m 1 nix := congrArg (aN m) (funext fun a => by
      match a with
      | ⟨0, _⟩ => rfl)
    rw [e2]
    exact slt_word _ _ (by omega) (hW.2 nix).2

/-! ### A used tile -/

theorem proj_eq (p : Fin 68) (x : Vec Ideal S512x1152 .f32) (w : Vec Ideal S8x1024x256 .bf16) (A : Vec Ideal Cert.ExpertsReferenceIdeal.S32x1024x256 .bf16)
    (hx : ∀ r l, x (ix2 r l) = aX m (ix2 (prow p r) l)) (hw : ∀ e k f, w (ix3 e k f) = A (ix3 (gexp (grp m hW p) e) k f))
    (r : Fin 512) (e : Fin 8) (f : Fin 256) :
    proj (rowsOf x) (wOf w e) (ix2 r f) = projV (aX m) A (ix3 (prow p r) (gexp (grp m hW p) e) f) := by
  rw [proj_at, Cert.ExpertsReferenceIdeal.Hand.proj_at]
  refine Finset.sum_congr rfl fun k _ => ?_
  rw [rowsOf_at, wOf_at, hx, hw]

theorem piece_eq (p : Fin 68) (x : Vec Ideal S512x1152 .f32) (w u : Vec Ideal S8x1024x256 .bf16) (hx : ∀ r l, x (ix2 r l) = aX m (ix2 (prow p r) l))
    (hw : ∀ e k f, w (ix3 e k f) = aG m (ix3 (gexp (grp m hW p) e) k f)) (hu : ∀ e k f, u (ix3 e k f) = aU m (ix3 (gexp (grp m hW p) e) k f))
    (hp : p.val < used m) (r : Fin 512) (e : Fin 8) (f : Fin 256) :
    piece (BitVec.ofNat 32 (grp m hW p).val) x w u e (ix2 r f)
      = actV (aT m) (aN m) (aX m) (aG m) (aU m) (ix3 (prow p r) (gexp (grp m hW p) e) f) := by
  have hg := (grp m hW p).isLt
  have he := e.isLt
  unfold piece
  rw [pieceOf_at, Cert.ExpertsReferenceIdeal.Hand.act_at, gateOf_at, gatesOf_at, proj_eq m hW p x w _ hx hw r e f, proj_eq m hW p x u _ hx hu r e f, hx,
    gate_if m hW, if_pos ⟨by show (8 * (grp m hW p).val + e.val) / 8 = _; omega, hp⟩]
  rfl

/-- A sum over numbered pairs. -/
theorem sum_pairs (a b : ℕ) (F : Fin (a * b) → EReal) : ∑ k, F k = ∑ i : Fin a, ∑ j : Fin b, F (finProdFinEquiv (i, j)) := by
  rw [← Fintype.sum_prod_type']
  exact (Fintype.sum_equiv finProdFinEquiv _ _ fun _ => rfl).symm

theorem pair_val {a b : ℕ} (i : Fin a) (j : Fin b) : (finProdFinEquiv (i, j)).val = j.val + b * i.val := rfl

/-- One expert's share of a result. -/
def share (p : Fin 68) (r : Fin 512) (d : Fin 1024) (e : Fin 32) : EReal :=
  ∑ f : Fin 256, actV (aT m) (aN m) (aX m) (aG m) (aU m) (ix3 (prow p r) e f)
    * aD m (ix3 (⟨e.val / 8, by have := e.isLt; omega⟩ : Fin 4) (⟨e.val % 8 * 256 + f.val, by have := f.isLt; omega⟩ : Fin 2048) d)

theorem share_zero (p : Fin 68) (r : Fin 512) (d : Fin 1024) (e : Fin 32) (h : ¬ (e.val / 8 = (grp m hW p).val ∧ p.val < used m)) : share m p r d e = 0 := by
  unfold share
  refine Finset.sum_eq_zero fun f _ => ?_
  rw [Cert.ExpertsReferenceIdeal.Hand.act_at, gate_if m hW, if_neg h, mul_zero, zero_mul]

theorem ref_shares (p : Fin 68) (r : Fin 512) (d : Fin 1024) :
    refV (aT m) (aN m) (aX m) (aG m) (aU m) (aD m) (ix2 (prow p r) d) = ∑ g : Fin 4, ∑ e : Fin 8, share m p r d (gexp g e) := by
  rw [ref_at]
  refine (sum_pairs 4 8 (share m p r d)).trans ?_
  refine Finset.sum_congr rfl fun g _ => Finset.sum_congr rfl fun e _ => congrArg (share m p r d) (Fin.ext ?_)
  rw [pair_val]
  show e.val + 8 * g.val = 8 * g.val + e.val
  omega

theorem used_eq (p : Fin 68) (x0 : Vec Ideal S512x1152 .f32) (x1 x2 : Vec Ideal S8x1024x256 .bf16) (x3 : Vec Ideal S1x2048x1024 .bf16)
    (h0 : ∀ r l, x0 (ix2 r l) = aX m (ix2 (prow p r) l)) (h1 : ∀ e k f, x1 (ix3 e k f) = aG m (ix3 (gexp (grp m hW p) e) k f))
    (h2 : ∀ e k f, x2 (ix3 e k f) = aU m (ix3 (gexp (grp m hW p) e) k f)) (h3 : ∀ k d, x3 (ix3 (0 : Fin 1) k d) = aD m (ix3 (grp m hW p) k d))
    (hu : p.val < used m) (r : Fin 512) (d : Fin 1024) :
    usedOut (BitVec.ofNat 32 (grp m hW p).val) x0 x1 x2 x3 (ix2 r d) = refV (aT m) (aN m) (aX m) (aG m) (aU m) (aD m) (ix2 (prow p r) d) := by
  rw [ref_shares, Finset.sum_eq_single (grp m hW p)
    (fun g _ hg => Finset.sum_eq_zero fun e _ => share_zero m hW _ _ _ _ fun h => hg (Fin.ext (by
      have h1 : (8 * g.val + e.val) / 8 = _ := h.1
      have := e.isLt
      omega))) (fun h => absurd (Finset.mem_univ _) h)]
  unfold usedOut
  rw [pay2_at]
  refine (sum_pairs 8 256 _).trans (Finset.sum_congr rfl fun e _ => ?_)
  unfold share
  refine Finset.sum_congr rfl fun f _ => ?_
  have he := e.isLt
  have hf := f.isLt
  have hg := (grp m hW p).isLt
  have kv : (finProdFinEquiv (e, f)).val = f.val + 256 * e.val := pair_val e f
  refine congrArg₂ (· * ·) ?_ ?_
  · unfold actOf
    refine Eq.trans ?_ (piece_eq m hW p x0 x1 x2 h0 h1 h2 hu r e f)
    have e1 : colE (finProdFinEquiv (e, f) : Fin (8 * 256)) = e := Fin.ext (by
      show (finProdFinEquiv (e, f)).val / 256 = e.val
      rw [kv]; omega)
    have e2 : colF (finProdFinEquiv (e, f) : Fin (8 * 256)) = f := Fin.ext (by
      show (finProdFinEquiv (e, f)).val % 256 = f.val
      rw [kv]; omega)
    show piece _ _ _ _ (colE (finProdFinEquiv (e, f) : Fin (8 * 256))) (at2 r (colF (finProdFinEquiv (e, f) : Fin (8 * 256)))) = _
    rw [e1, e2]
    refine congrArg _ (funext fun a => ?_)
    match a with
    | 0 => rfl
    | 1 => rfl
  · refine (h3 _ d).trans (congrArg₂ (fun a b => aD m (ix3 a b d)) (Fin.ext ?_) (Fin.ext ?_))
    · show (grp m hW p).val = (8 * (grp m hW p).val + e.val) / 8
      omega
    · show (finProdFinEquiv (e, f)).val = (8 * (grp m hW p).val + e.val) % 8 * 256 + f.val
      rw [kv]; omega

variable (t : Fin (cfgM m hW).N)

theorem block_eq (r : Fin 512) (d : Fin 1024) :
    oblk m hW 0 t (ix2 r d) = refV (aT m) (aN m) (aX m) (aG m) (aU m) (aD m) (ix2 (prow (pt m hW t) r) d) := by
  unfold oblk outOf
  by_cases hu : (pt m hW t).val < used m
  · rw [if_pos (show (grid0.coords t 0).val < (tbl m 1 nix : BitVec 32).toNat from hu)]
    have e0 : (tbl m 0 (tix (grid0.coords t)) : BitVec 32) = BitVec.ofNat 32 (grp m hW (pt m hW t)).val := by
      rw [tix_eq]
      exact word_grp m hW _
    rw [e0]
    exact used_eq m hW (pt m hW t) _ _ _ _ (x_at m hW 0 t hu) (wg_at m hW 0 t) (wu_at m hW 0 t) (wd_at m hW 0 t) hu r d
  · rw [if_neg (show ¬ (grid0.coords t 0).val < (tbl m 1 nix : BitVec 32).toNat from hu), pay3_at, ref_shares]
    exact (Finset.sum_eq_zero fun g _ => Finset.sum_eq_zero fun e _ => share_zero m hW _ _ _ _ fun h => hu h.2).symm

theorem result_eq : (dats m hW 0 0).arrAt 4 (cfgM m hW).N = refV (aT m) (aN m) (aX m) (aG m) (aU m) (aD m) :=
  arr_eq m hW 0 _ fun t r d => block_eq m hW t r d

end Cert.ExpertsIdeal.Hand

namespace Cert.Hand

open Idealize.ShloMosaic Idealize.SL.Sem

theorem experts_algebraic : Cert.algebraic_ExpertsIdeal_ExpertsReferenceIdeal := by
  intro m g m' g' hpre hargs
  have hW : Cert.ExpertsIdeal.Hand.Words m := routes_parts _ _ _ _ _ _ (hpre 0)
  refine ⟨fun _ => Cert.ExpertsReferenceIdeal.Hand.refV (Cert.ExpertsIdeal.Hand.aT m) (Cert.ExpertsIdeal.Hand.aN m) (Cert.ExpertsIdeal.Hand.aX m)
    (Cert.ExpertsIdeal.Hand.aG m) (Cert.ExpertsIdeal.Hand.aU m) (Cert.ExpertsIdeal.Hand.aD m), ?_, ?_⟩
  · refine (θ_run Cert.ExpertsIdeal.defs _ _).mono (fun r h c => ⟨(h c).1.trans ?_, (h c).2⟩) (Cert.ExpertsIdeal.Hand.run (F := Ideal) m g hW)
    obtain rfl : c = 0 := Subsingleton.elim _ _
    exact Cert.ExpertsIdeal.Hand.result_eq m hW
  · refine (θ_run Cert.ExpertsReferenceIdeal.defs _ _).mono (fun r h c => ⟨(h c).1.trans ?_, (h c).2⟩) (Cert.ExpertsReferenceIdeal.Hand.ref_run m' g')
    obtain rfl : c = 0 := Subsingleton.elim _ _
    obtain ⟨e0, e1, e2, e3, e4, e5⟩ := hargs 0
    rw [e0, e1, e2, e3, e4, e5]

end Cert.Hand

end
-- ==== Proof.LastLaunch.lean ====
/- The last norm's run, exactly: the body at a point writes one function of its four blocks, and the program runs to the end with the
   output array at what the write-backs of those blocks leave, the arguments as they were and every semaphore at zero. -/
module

public import proofs.«01_k».proof.Proof.Gen.LastIdeal.Launch
public import proofs.«01_k».proof.Proof.Gen.LastIdeal.Skeleton
public import Idealize.ShloMosaic.Lib.Pipeline.FrameBody
public import Idealize.ShloMosaic.Lib.Pipeline.Value
public import Idealize.ShloMosaic.Lib.Claim
public import Idealize.ShloMosaic.Lib.Exec
public import Idealize.ShloMosaic.Lib.Tactic

@[expose] public section

noncomputable section

namespace Cert.LastIdeal.Hand

open Cert.LastIdeal Cert.LastIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body -/

abbrev rTok : Rect S1x512x1024 := Rect.unit (s := S1x512x1024) ![0, 0, 0] S1x512x1024.size inb_S1x512x1024_S1x512x1024_0_0_0
abbrev rGate : Rect S1x1x1024 := Rect.unit (s := S1x1x1024) ![0, 0, 0] S1x1x1024.size inb_S1x1x1024_S1x1x1024_0_0_0
abbrev rNorm : Rect S1x1024 := Rect.unit (s := S1x1024) ![0, 0] S1x1024.size inb_S1x1024_S1x1024_0_0

theorem zero3 : (![0, 0, 0] : Fin 3 → ℕ) = fun _ => 0 := funext fun a => by fin_cases a <;> rfl
theorem zero2 : (![0, 0] : Fin 2 → ℕ) = fun _ => 0 := funext fun a => by fin_cases a <;> rfl

/-- The output block, from the residual's, the experts' output's, the gate's and the norm weights' blocks. -/
def outOf (x y : Vec F S1x512x1024 .f32) (g : Vec F S1x1x1024 .f32) (w : Vec F S1x1024 .f32) : Vec F S1x512x1024 .f32 := k0_pay1 x g y w

/-- The same, as the one store leaves it. -/
def leftBy (x y : Vec F S1x512x1024 .f32) (g : Vec F S1x1x1024 .f32) (w : Vec F S1x1024 .f32) : Vec F S1x512x1024 .f32 :=
  View.canon [⟨rTok, k0_pay1 (View.ld x rTok) (View.ld g rGate) (View.ld y rTok) (View.ld w rNorm)⟩]

theorem leftBy_eq (x y : Vec F S1x512x1024 .f32) (g : Vec F S1x1x1024 .f32) (w : Vec F S1x1024 .f32) : leftBy x y g w = outOf x y g w := by
  unfold leftBy outOf
  rw [View.canon_unit_zero zero3, View.ld_unit_zero zero3, View.ld_unit_zero zero3, View.ld_unit_zero zero3, View.ld_unit_zero zero2]

theorem store_covers (p : Vec F S1x512x1024 .f32) (i : S1x512x1024.Idx) : ∃ pc ∈ ([⟨rTok, p⟩] : List (View.Piece (Elt F) S1x512x1024 .f32)), i ∈ pc.1.set :=
  View.cover_of_tiled [⟨rTok, p⟩] S1x512x1024.size (by rfl) i

theorem body_exact (c : Dev nD) (E : Set ℕ) (i : grid0.Coords) (arg2 : Memref sig .tc .vmem S1x512x1024 .f32) (harg2 : arg2.IsWhole)
    (arg3 : Memref sig .tc .vmem S1x512x1024 .f32) (harg3 : arg3.IsWhole) (arg4 : Memref sig .tc .vmem S1x1x1024 .f32) (harg4 : arg4.IsWhole)
    (arg5 : Memref sig .tc .vmem S1x1024 .f32) (harg5 : arg5.IsWhole) (arg6 : Memref sig .tc .vmem S1x512x1024 .f32) (harg6 : arg6.IsWhole)
    (x y : Vec F S1x512x1024 .f32) (g : Vec F S1x1x1024 .f32) (w : Vec F S1x1024 .f32) (K : PUnit → sProp 𝕄) :
    iprop(owns (c : Thread nD τ) arg2 fullShare x ∗ owns (c : Thread nD τ) arg3 fullShare y ∗ owns (c : Thread nD τ) arg4 fullShare g
        ∗ owns (c : Thread nD τ) arg5 fullShare w ∗ (∃ d, owns (c : Thread nD τ) arg6 fullShare d)
        ∗ (iprop(owns (c : Thread nD τ) arg2 fullShare x ∗ owns (c : Thread nD τ) arg3 fullShare y ∗ owns (c : Thread nD τ) arg4 fullShare g
        ∗ owns (c : Thread nD τ) arg5 fullShare w ∗ owns (c : Thread nD τ) arg6 fullShare (outOf x y g w)) -∗ K ⟨⟩))
      ⊢ wp frame (wpE (defs₀ (F := F)) Variants.none c none) E (cc0_final_norm i arg2 harg2 arg3 harg3 arg4 harg4 arg5 harg5 arg6 harg6) K := by
  rw [← leftBy_eq]
  simp only [cc0_final_norm_eq_skeleton]; unfold cc0_final_norm_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (store_covers _)

/-! ## The launch -/

variable (m : (ℓ : Loc nD τ sig) → Buf (Elt F) ℓ) (ρ : Dev nD → PrngReg)

/-- Core `c`'s buffers at the region's entry: as launched. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The block the body leaves at point `t`. -/
def oblk (c : Dev nD) (t : Fin cfg0.N) : Vec F S1x512x1024 .f32 := outOf (iblk m c 0 t) (iblk m c 1 t) (iblk m c 2 t) (iblk m c 3 t)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => oblk m c t
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = oblk m c t := by dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-- The windows' current staging memrefs at point `t`. -/
abbrev ms0 (t : Fin cfg0.N) : Memref sig .tc .vmem S1x512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x512x1024 .f32 := win0_4.stage (cfg0.slots t 4)
abbrev hs4 (t : Fin cfg0.N) : (ms4 t).IsWhole := hstage0_4 ((cfg0.slots t 4).cast nbuf0_4)

/-- The body at point `t`, on what the pipeline calls it with. -/
abbrev bodyAt (t : Fin cfg0.N) : Prog (TpuEff nD τ sig (Elt F) Λ₀ .tc) PUnit :=
  cc0_final_norm (grid0.coords t) (ms0 t) (hs0 t) (ms1 t) (hs1 t) (ms2 t) (hs2 t) (ms3 t) (hs3 t) (ms4 t) (hs4 t)

theorem defs_row (t : Fin cfg0.N) : defs₀ (F := F) .tc cfg0.body (cfg0.bodyArgs t (cfg0.slots t)) = bodyAt t := by
  unfold defs₀; rw [Defs.onTc_tc]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

theorem sound_body (c : Dev nD) (t : Fin cfg0.N) :
    bodyPre m c t ⊢ wp frame (wpE (defs₀ (F := F)) Variants.none c none) Set.univ (bodyAt t) (fun _ => bodyPost m c t) := by
  unfold bodyPre bodyPost bodyAt
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  unfold oblk
  iintro ⟨HΦ, Ho, ⟨%d0, H0⟩, ⟨%d1, H1⟩, ⟨%d2, H2⟩, ⟨%d3, H3⟩, ⟨%d4, H4⟩⟩
  iapply (body_exact c Set.univ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

set_option backward.isDefEq.respectTransparency.types false in
theorem run_main : θ_run defs (onTc (τ := τ) (main (F := F))) ⟨m, fun _ => 0, ρ⟩ (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The result and the arguments, -/
theorem run : θ_run defs (onTc (τ := τ) (main (F := F))) ⟨m, fun _ => 0, ρ⟩ (fun r => ∀ c : Dev nD,
      r.2.mem ((c.tc : Thread nD τ).loc main_v0) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h.1 c).1 4,
    (((h.1 c).1 0).trans ((dats m 0 c).arrAt_in 0 rfl _)).trans (A_eq m c 0),
    (((h.1 c).1 1).trans ((dats m 0 c).arrAt_in 1 rfl _)).trans (A_eq m c 1),
    (((h.1 c).1 2).trans ((dats m 0 c).arrAt_in 2 rfl _)).trans (A_eq m c 2),
    (((h.1 c).1 3).trans ((dats m 0 c).arrAt_in 3 rfl _)).trans (A_eq m c 3)⟩) (run_main m ρ)

/-- and the frame: the arguments unchanged and every semaphore at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => ⟨
    (((h.1 c).1 0).trans ((dats m 0 c).arrAt_in 0 rfl _)).trans (A_eq m c 0),
    (((h.1 c).1 1).trans ((dats m 0 c).arrAt_in 1 rfl _)).trans (A_eq m c 1),
    (((h.1 c).1 2).trans ((dats m 0 c).arrAt_in 2 rfl _)).trans (A_eq m c 2),
    (((h.1 c).1 3).trans ((dats m 0 c).arrAt_in 3 rfl _)).trans (A_eq m c 3)⟩, h.2⟩) (run_main m ρ)

end Cert.LastIdeal.Hand

end
-- ==== Proof.LastRead.lean ====
/- The last norm at a row and lane: the kernel's block and the plain reference's element are the same function of the row. -/
module

public import proofs.«01_k».proof.Proof.LastLaunch
public import proofs.«01_k».proof.Proof.Gen.LastReferenceIdeal.Run
public import Idealize.ShloMosaic.Lib.Pointwise
public import Idealize.ShloMosaic.Lib.Pipeline.ValueKit

@[expose] public section

noncomputable section

namespace Cert.LastIdeal.Hand

open Idealize.ShloMosaic Idealize.ShloMosaic.TcCoe Idealize.SL.Sem

/-- A row divided by its root mean square, times the weight, at lane `d`. -/
def normed (x : Fin 1024 → EReal) (w : EReal) (d : Fin 1024) : EReal :=
  x d * Ideal.rsqrt (Ideal.div (∑ k : Fin 1024, x k * x k) (Ideal.ofBits .f32 0x44800000#32) + Ideal.ofBits .f32 0x358637BD#32) * w

section Kernel
open Cert.LastIdeal Cert.LastIdeal.Gen

theorem outOf_at (x y : Vec Ideal S1x512x1024 .f32) (g : Vec Ideal S1x1x1024 .f32) (w : Vec Ideal S1x1024 .f32) (r : Fin 512) (d : Fin 1024) :
    outOf x y g w (ix3 (0 : Fin 1) r d)
      = normed (fun k => x (ix3 (0 : Fin 1) r k) + g (ix3 (0 : Fin 1) (0 : Fin 1) k) * y (ix3 (0 : Fin 1) r k)) (w (ix2 (0 : Fin 1) d)) d := by
  unfold outOf k0_pay1 normed
  pointwise

end Kernel

end Cert.LastIdeal.Hand

namespace Cert.LastReferenceIdeal.Hand

open Idealize.ShloMosaic Idealize.ShloMosaic.TcCoe Idealize.SL.Sem
open Cert.LastIdeal.Hand (normed)
open Cert.LastReferenceIdeal Cert.LastReferenceIdeal.Gen

/-- The residual sum, and the reference's result. -/
def sumV (x y : FVec Ideal S4x8192x1024 .f32) (g : FVec Ideal S4x1x1024 .f32) : FVec Ideal S4x8192x1024 .f32 :=
  addf x (mulf (broadcastInDim S4x8192x1024 ![0, 1, 2] bcast_S4x1x1024_S4x8192x1024_0_1_2 g) y)
def plainV (x y : FVec Ideal S4x8192x1024 .f32) (g : FVec Ideal S4x1x1024 .f32) (w : FVec Ideal S1x1024 .f32) : FVec Ideal S4x8192x1024 .f32 :=
  mulf (mulf (sumV x y g) (broadcastInDim S4x8192x1024 ![0, 1, 2] bcast_S4x8192x1_S4x8192x1024_0_1_2 (Host.rsqrt (addf (Host.divf
    (broadcastInDim S4x8192x1 ![0, 1] bcast_S4x8192_S4x8192x1_0_1 (Host.reduceAdd (mulf (sumV x y g) (sumV x y g)) (constant S_ .f32 0x00000000#32) reducesTo_S4x8192x1024_S4x8192_d2 h_S_))
    (broadcastInDim S4x8192x1 ![] bcast_S_S4x8192x1 (constant S_ .f32 0x44800000#32))) (broadcastInDim S4x8192x1 ![] bcast_S_S4x8192x1 (constant S_ .f32 0x358637BD#32))))))
    (broadcastInDim S4x8192x1024 ![0, 1, 2] bcast_S1x1x1024_S4x8192x1024_0_1_2 (broadcastInDim S1x1x1024 ![1, 2] bcast_S1x1024_S1x1x1024_1_2 w))

theorem sumV_at (x y : FVec Ideal S4x8192x1024 .f32) (g : FVec Ideal S4x1x1024 .f32) (b : Fin 4) (n : Fin 8192) (k : Fin 1024) :
    sumV x y g (ix3 b n k) = x (ix3 b n k) + g (ix3 b (0 : Fin 1) k) * y (ix3 b n k) := by
  unfold sumV
  pointwise

theorem plainV_at (x y : FVec Ideal S4x8192x1024 .f32) (g : FVec Ideal S4x1x1024 .f32) (w : FVec Ideal S1x1024 .f32) (b : Fin 4) (n : Fin 8192) (d : Fin 1024) :
    plainV x y g w (ix3 b n d) = normed (fun k => x (ix3 b n k) + g (ix3 b (0 : Fin 1) k) * y (ix3 b n k)) (w (ix2 (0 : Fin 1) d)) d := by
  simp only [← sumV_at]
  unfold plainV normed
  generalize sumV x y g = s
  pointwise

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v15) = plainV (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.LastReferenceIdeal.Value.run (F := Ideal) m ρ

end Cert.LastReferenceIdeal.Hand

end
-- ==== Proof.LastValue.lean ====
/- The last norm's value claim and frames: each block read at an index is its array at the block's place, the output blocks cover the
   result, and so the kernel's result is the plain reference's. -/
module

public import proofs.«01_k».proof.Defs
public import proofs.«01_k».proof.Proof.LastRead
public import proofs.«01_k».proof.Proof.PlainLastLaunch
public import proofs.«01_k».proof.Proof.Gen.LastReferenceIdeal.Run
public import Idealize.ShloMosaic.Lib.Claim

@[expose] public section

noncomputable section

namespace Cert.LastIdeal.Hand

open Cert.LastIdeal Cert.LastIdeal.Gen
open Idealize.ShloMosaic Idealize.ShloMosaic.TcCoe
open Cert.LastReferenceIdeal.Hand (plainV plainV_at)

variable (m : (ℓ : Loc nD τ sig) → Buf (Elt Ideal) ℓ)

/-- A point's batch, and row `r` of its block among the batch's rows. -/
def bat (t : Fin cfg0.N) : Fin 4 := grid0.coords t 0
def seg (t : Fin cfg0.N) : Fin 16 := grid0.coords t 1
def row (t : Fin cfg0.N) (r : Fin 512) : Fin 8192 := ⟨512 * (seg t).val + r.val, by have := (seg t).isLt; omega⟩

theorem word_of (n : ℕ) (h : n < 16) : (BitVec.ofNat 32 n).toNat = n := by
  rw [BitVec.toNat_ofNat, Nat.mod_eq_of_lt (by omega)]
theorem word_nil : (0#32 : BitVec 32).toNat = 0 := rfl

theorem x_at (c : Dev nD) (t : Fin cfg0.N) (r : Fin 512) (k : Fin 1024) :
    iblk m c 0 t (ix3 (0 : Fin 1) r k) = m ((c.tc : Thread nD τ).loc main_arg0) (ix3 (bat t) (row t r) k) := by
  have hb := (bat t).isLt
  have hs := (seg t).isLt
  refine congrArg (m ((c.tc : Thread nD τ).loc main_arg0)) (funext fun a => Fin.ext ?_)
  match a with
  | ⟨0, _⟩ => show (BitVec.ofNat 32 (bat t).val).toNat * 1 + 1 * 0 = (bat t).val; rw [word_of _ (by omega)]; omega
  | ⟨1, _⟩ => show (BitVec.ofNat 32 (seg t).val).toNat * 512 + 1 * r.val = 512 * (seg t).val + r.val; rw [word_of _ hs]; omega
  | ⟨2, _⟩ => show (0#32 : BitVec 32).toNat * 1024 + 1 * k.val = k.val; rw [word_nil]; omega

theorem y_at (c : Dev nD) (t : Fin cfg0.N) (r : Fin 512) (k : Fin 1024) :
    iblk m c 1 t (ix3 (0 : Fin 1) r k) = m ((c.tc : Thread nD τ).loc main_arg1) (ix3 (bat t) (row t r) k) := by
  have hb := (bat t).isLt
  have hs := (seg t).isLt
  refine congrArg (m ((c.tc : Thread nD τ).loc main_arg1)) (funext fun a => Fin.ext ?_)
  match a with
  | ⟨0, _⟩ => show (BitVec.ofNat 32 (bat t).val).toNat * 1 + 1 * 0 = (bat t).val; rw [word_of _ (by omega)]; omega
  | ⟨1, _⟩ => show (BitVec.ofNat 32 (seg t).val).toNat * 512 + 1 * r.val = 512 * (seg t).val + r.val; rw [word_of _ hs]; omega
  | ⟨2, _⟩ => show (0#32 : BitVec 32).toNat * 1024 + 1 * k.val = k.val; rw [word_nil]; omega

theorem g_at (c : Dev nD) (t : Fin cfg0.N) (k : Fin 1024) :
    iblk m c 2 t (ix3 (0 : Fin 1) (0 : Fin 1) k) = m ((c.tc : Thread nD τ).loc main_arg2) (ix3 (bat t) (0 : Fin 1) k) := by
  have hb := (bat t).isLt
  refine congrArg (m ((c.tc : Thread nD τ).loc main_arg2)) (funext fun a => Fin.ext ?_)
  match a with
  | ⟨0, _⟩ => show (BitVec.ofNat 32 (bat t).val).toNat * 1 + 1 * 0 = (bat t).val; rw [word_of _ (by omega)]; omega
  | ⟨1, _⟩ => show (0#32 : BitVec 32).toNat * 1 + 1 * 0 = 0; rw [word_nil]
  | ⟨2, _⟩ => show (0#32 : BitVec 32).toNat * 1024 + 1 * k.val = k.val; rw [word_nil]; omega

theorem w_at (c : Dev nD) (t : Fin cfg0.N) (k : Fin 1024) :
    iblk m c 3 t (ix2 (0 : Fin 1) k) = m ((c.tc : Thread nD τ).loc main_arg3) (ix2 (0 : Fin 1) k) := by
  refine congrArg (m ((c.tc : Thread nD τ).loc main_arg3)) (funext fun a => Fin.ext ?_)
  match a with
  | ⟨0, _⟩ => show (0#32 : BitVec 32).toNat * 1 + 1 * 0 = 0; rw [word_nil]
  | ⟨1, _⟩ => show (0#32 : BitVec 32).toNat * 1024 + 1 * k.val = k.val; rw [word_nil]; omega

theorem out_emb (t : Fin cfg0.N) (r : Fin 512) (k : Fin 1024) :
    ((cfg0.win 4).blk t).view.emb (ix3 (0 : Fin 1) r k) = ix3 (bat t) (row t r) k := by
  have hb := (bat t).isLt
  have hs := (seg t).isLt
  funext a
  apply Fin.ext
  match a with
  | ⟨0, _⟩ => show (BitVec.ofNat 32 (bat t).val).toNat * 1 + 1 * 0 = (bat t).val; rw [word_of _ (by omega)]; omega
  | ⟨1, _⟩ => show (BitVec.ofNat 32 (seg t).val).toNat * 512 + 1 * r.val = 512 * (seg t).val + r.val; rw [word_of _ hs]; omega
  | ⟨2, _⟩ => show (0#32 : BitVec 32).toNat * 1024 + 1 * k.val = k.val; rw [word_nil]; omega

theorem covers : (cfg0.win 4).Covers := by decide +kernel

theorem in_block (i : S1x512x1024.Idx) : ∃ (r : Fin 512) (k : Fin 1024), i = ix3 (0 : Fin 1) r k := ⟨i 1, i 2, funext fun a => by
  match a with
  | ⟨0, _⟩ => exact Subsingleton.elim (α := Fin 1) _ _
  | ⟨1, _⟩ => rfl
  | ⟨2, _⟩ => rfl⟩

/-- The body's function of blocks that are the arrays' at a place is the reference's element there. -/
theorem block_plain (X Y : FVec Ideal S4x8192x1024 .f32) (G : FVec Ideal S4x1x1024 .f32) (W : FVec Ideal S1x1024 .f32) (b : Fin 4) (n : Fin 512 → Fin 8192)
    (x y : Vec Ideal S1x512x1024 .f32) (g : Vec Ideal S1x1x1024 .f32) (w : Vec Ideal S1x1024 .f32)
    (hx : ∀ r k, x (ix3 (0 : Fin 1) r k) = X (ix3 b (n r) k)) (hy : ∀ r k, y (ix3 (0 : Fin 1) r k) = Y (ix3 b (n r) k))
    (hg : ∀ k, g (ix3 (0 : Fin 1) (0 : Fin 1) k) = G (ix3 b (0 : Fin 1) k)) (hw : ∀ k, w (ix2 (0 : Fin 1) k) = W (ix2 (0 : Fin 1) k))
    (r : Fin 512) (d : Fin 1024) : outOf x y g w (ix3 (0 : Fin 1) r d) = plainV X Y G W (ix3 b (n r) d) := by
  rw [outOf_at, plainV_at]
  simp only [hx, hy, hg, hw]

theorem result_eq (c : Dev nD) : (dats m 0 c).arrAt 4 cfg0.N = plainV (m ((c.tc : Thread nD τ).loc main_arg0)) (m ((c.tc : Thread nD τ).loc main_arg1))
    (m ((c.tc : Thread nD τ).loc main_arg2)) (m ((c.tc : Thread nD τ).loc main_arg3)) := by
  refine (dats m 0 c).arrAt_eq_of_covers 4 _ covers fun t _ i => ?_
  show oblk m c t i = _
  obtain ⟨r, d, rfl⟩ := in_block i
  refine Eq.trans ?_ (congrArg (plainV _ _ _ _) (out_emb t r d)).symm
  exact block_plain _ _ _ _ (bat t) (row t) _ _ _ _ (x_at m c t) (y_at m c t) (g_at m c t) (w_at m c t) r d

end Cert.LastIdeal.Hand

namespace Cert.Hand

open Idealize.ShloMosaic Idealize.SL.Sem

theorem last_frame : Cert.quiescent_Last := fun m g _ => Cert.Last.Hand.run_frame m g

theorem last_ideal_frame : Cert.quiescent_LastIdeal := fun m g _ => Cert.LastIdeal.Hand.run_frame m g

theorem last_reference_frame : Cert.quiescent_LastReferenceIdeal := fun m g _ =>
  (θ_run Cert.LastReferenceIdeal.defs _ _).mono (fun r h => ⟨fun c => (h c).2, sem_eq_zero_of_no_sems (by decide) r.2⟩)
    (Cert.LastReferenceIdeal.Value.run (F := Ideal) m g)

/-- Nothing is rewritten between the program and its ideal reading. -/
theorem last_preserved : Cert.preserves_Last_LastIdeal := trivial

theorem last_algebraic : Cert.algebraic_LastIdeal_LastReferenceIdeal := by
  intro m g m' g' _ hargs
  refine ⟨fun c => (Cert.LastIdeal.Hand.dats (F := Ideal) m 0 c).arrAt 4 Cert.LastIdeal.cfg0.N, Cert.LastIdeal.Hand.run (F := Ideal) m g, ?_⟩
  refine (θ_run Cert.LastReferenceIdeal.defs _ _).mono (fun r h c => ⟨(h c).1.trans ?_, (h c).2⟩) (Cert.LastReferenceIdeal.Hand.ref_run m' g')
  obtain ⟨e0, e1, e2, e3⟩ := hargs c
  rw [e0, e1, e2, e3]
  exact (Cert.LastIdeal.Hand.result_eq m c).symm

end Cert.Hand

end
-- ==== Proof.RowsRead.lean ====
/- The projection at a row and lane: each block the kernel stores and each element of the plain reference's results are the same functions
   of the row's hidden vector, the modulation and the weights' columns. -/
module

public import proofs.«01_k».proof.Proof.Gen.RowsIdeal.Skeleton
public import proofs.«01_k».proof.Proof.Gen.RowsReferenceIdeal.Run
public import Idealize.ShloMosaic.Lib.Pointwise

@[expose] public section

noncomputable section

namespace Cert.RowsIdeal.Hand

open Idealize.ShloMosaic Idealize.ShloMosaic.TcCoe Idealize.SL.Sem

/-- A row over its root mean square times the norm's weight, scaled and shifted by the modulation, -/
def modulated (x sh sc g : Fin 1024 → EReal) (k : Fin 1024) : EReal :=
  x k * Ideal.rsqrt (Ideal.div (∑ l : Fin 1024, x l * x l) (Ideal.ofBits .f32 0x44800000#32) + Ideal.ofBits .f32 0x358637BD#32) * g k
    * (Ideal.ofBits .f32 0x3F800000#32 + sc k) + sh k
/-- a column of its product with the projection's weights, -/
def proj (x sh sc g : Fin 1024 → EReal) (w : Fin 1024 → EReal) : EReal := ∑ k : Fin 1024, modulated x sh sc g k * w k
/-- the latent's element, its row over its root mean square times the weight, -/
def latent (p : Fin 256 → EReal) (w : EReal) (d : Fin 256) : EReal :=
  p d * Ideal.rsqrt (Ideal.div (∑ l : Fin 256, p l * p l) (Ideal.ofBits .f32 0x43800000#32) + Ideal.ofBits .f32 0x358637BD#32) * w
/-- and the logarithm of the sigmoid. -/
def logSigmoid (z : EReal) : EReal := min z 0 - Ideal.log1p (Ideal.exp (0 - max z (-z)))

theorem log1p_exp_ne_bot (y : EReal) : Ideal.log1p (Ideal.exp y) ≠ ⊥ := by
  induction y using EReal.rec with
  | bot =>
    show Ideal.log (1 + 0) ≠ ⊥
    rw [add_zero]
    show (if (1 : ℝ) ≤ 0 then (⊥ : EReal) else (Real.log 1 : EReal)) ≠ ⊥
    rw [if_neg (by norm_num)]
    exact EReal.coe_ne_bot _
  | top =>
    show Ideal.log (1 + ⊤) ≠ ⊥
    rw [EReal.add_top_of_ne_bot (by decide)]
    exact bot_ne_top.symm
  | coe r =>
    show Ideal.log (((1 : ℝ) : EReal) + ((Real.exp r : ℝ) : EReal)) ≠ ⊥
    rw [← EReal.coe_add]
    show (if 1 + Real.exp r ≤ 0 then (⊥ : EReal) else (Real.log (1 + Real.exp r) : EReal)) ≠ ⊥
    rw [if_neg (by have := Real.exp_pos r; linarith)]
    exact EReal.coe_ne_bot _

/-- The reference's form of it, minus the softplus of the negated argument. -/
theorem logSigmoid_eq (z : EReal) : -(max (-z) 0 + Ideal.log1p (Ideal.exp (-(max (-z - 0) (-(-z - 0)))))) = logSigmoid z := by
  unfold logSigmoid
  have hz : max (-z - 0) (-(-z - 0)) = max z (-z) := by rw [sub_zero, neg_neg, max_comm]
  have hm : -max (-z) 0 = min z 0 := by
    rcases le_total z 0 with h | h
    · rw [max_eq_left (EReal.neg_nonneg.2 h), min_eq_left h, neg_neg]
    · rw [max_eq_right (by rw [EReal.neg_le, neg_zero]; exact h : -z ≤ 0), min_eq_right h, neg_zero]
  rw [hz, zero_sub, EReal.neg_add (.inl (ne_of_gt (lt_of_lt_of_le EReal.bot_lt_zero (le_max_right _ _)))) (.inr (log1p_exp_ne_bot _)), hm]

section Kernel
open Cert.RowsIdeal Cert.RowsIdeal.Gen

variable (x : Vec Ideal S1x512x1024 .f32) (sh sc : Vec Ideal S1x1x1024 .f32) (g : Vec Ideal S1x1024 .f32) (w : Vec Ideal S1024x2432 .bf16)
  (v : FVec Ideal S512x2432 .f32)

theorem proj_at (r : Fin 512) (j : Fin 2432) : k0_pay3 (F := Ideal) x g sc sh w (ix2 r j)
    = proj (fun k => x (ix3 (0 : Fin 1) r k)) (fun k => sh (ix3 (0 : Fin 1) (0 : Fin 1) k)) (fun k => sc (ix3 (0 : Fin 1) (0 : Fin 1) k))
        (fun k => g (ix2 (0 : Fin 1) k)) (fun k => w (ix2 k j)) := by
  unfold k0_pay3 proj modulated
  pointwise

theorem kf_at (r : Fin 512) (d : Fin 512) : k0_pay45 (F := Ideal) v (ix4 (0 : Fin 1) (0 : Fin 1) r d) = v (ix2 r ⟨1152 + d.val, by omega⟩) := by
  unfold k0_pay45 k0_pay43
  pointwise

theorem vf_at (r : Fin 512) (d : Fin 512) : k0_pay46 (F := Ideal) v (ix4 (0 : Fin 1) (0 : Fin 1) r d) = v (ix2 r ⟨1664 + d.val, by omega⟩) := by
  unfold k0_pay46 k0_pay44
  pointwise

theorem ckv_at (n : Vec Ideal S1x256 .f32) (r : Fin 512) (d : Fin 256) :
    k0_pay19 (F := Ideal) (k0_pay16 v) n (k0_pay17 v) (ix4 (0 : Fin 1) (0 : Fin 1) r d)
      = latent (fun l => v (ix2 r ⟨384 + l.val, by omega⟩)) (n (ix2 (0 : Fin 1) d)) d := by
  unfold k0_pay19 k0_pay18 k0_pay17 k0_pay16 latent
  pointwise

theorem kr_at (co si : Vec Ideal S512x128 .f32) (r : Fin 512) (d : Fin 32) : k0_pay22 (F := Ideal) v co si (ix4 (0 : Fin 1) (0 : Fin 1) r d)
    = v (ix2 r ⟨2176 + d.val, by omega⟩) * co (ix2 r ⟨d.val, by omega⟩) + v (ix2 r ⟨2272 + d.val, by omega⟩) * si (ix2 r ⟨d.val, by omega⟩) := by
  unfold k0_pay22 k0_pay21
  pointwise
  have e : 2176 + (d.val + 128 - 32) % 128 = 2272 + d.val := by omega
  simp only [e]

theorem lf_at (b : Vec Ideal S1x128 .f32) (r : Fin 512) (d : Fin 8) : k0_pay48 (F := Ideal) v b (ix4 (0 : Fin 1) (0 : Fin 1) r d)
    = logSigmoid (v (ix2 r ⟨2304 + d.val, by omega⟩) + b (ix2 (0 : Fin 1) ⟨d.val, by omega⟩)) := by
  unfold k0_pay48 k0_pay47 logSigmoid
  pointwise
  rfl

end Kernel

end Cert.RowsIdeal.Hand

namespace Cert.RowsReferenceIdeal.Hand

open Idealize.ShloMosaic Idealize.ShloMosaic.TcCoe Idealize.SL.Sem
open Cert.RowsIdeal.Hand (modulated proj latent logSigmoid logSigmoid_eq)
open Cert.RowsReferenceIdeal Cert.RowsReferenceIdeal.Gen

variable (X : FVec Ideal S4x8192x1024 .f32) (SH SC : FVec Ideal S4x1x1024 .f32) (GN : FVec Ideal S1x1024 .f32) (W : FVec Ideal S1024x2432 .bf16)
  (P : FVec Ideal S4x8192x2432 .f32)

/-- The modulated modulated rows, -/
def hidV : FVec Ideal S4x8192x1024 .f32 :=
  addf (mulf (mulf (mulf X (broadcastInDim S4x8192x1024 ![0, 1, 2] bcast_S4x8192x1_S4x8192x1024_0_1_2 (Host.rsqrt (addf (Host.divf
    (broadcastInDim S4x8192x1 ![0, 1] bcast_S4x8192_S4x8192x1_0_1 (Host.reduceAdd (mulf X X) (constant S_ .f32 0x00000000#32) reducesTo_S4x8192x1024_S4x8192_d2 h_S_))
    (broadcastInDim S4x8192x1 ![] bcast_S_S4x8192x1 (constant S_ .f32 0x44800000#32))) (broadcastInDim S4x8192x1 ![] bcast_S_S4x8192x1 (constant S_ .f32 0x358637BD#32))))))
    (broadcastInDim S4x8192x1024 ![0, 1, 2] bcast_S1x1x1024_S4x8192x1024_0_1_2 (broadcastInDim S1x1x1024 ![1, 2] bcast_S1x1024_S1x1x1024_1_2 GN)))
    (broadcastInDim S4x8192x1024 ![0, 1, 2] bcast_S4x1x1024_S4x8192x1024_0_1_2 (addf (broadcastInDim S4x1x1024 ![] bcast_S_S4x1x1024 (constant S_ .f32 0x3F800000#32)) SC)))
    (broadcastInDim S4x8192x1024 ![0, 1, 2] bcast_S4x1x1024_S4x8192x1024_0_1_2 SH)
/-- their product with the weights, -/
def projV : FVec Ideal S4x8192x2432 .f32 :=
  Host.dotGeneral dot_S4x8192x1024_S1024x2432_S4x8192x2432_2_0_01_1_n_n none (hidV X SH SC GN) (extf .f32 W bitsLt_bf16_f32)
/-- its latent columns, -/
def latV : FVec Ideal S4x8192x256 .f32 := extractStridedSlice S4x8192x256 ![0, 0, 384] P slices_S4x8192x2432_S4x8192x256_0_0_384
/-- the forget gate's argument, negated, -/
def gateV (BF : FVec Ideal S1x128 .f32) : FVec Ideal S4x8192x8 .f32 :=
  Host.negf (addf (extractStridedSlice S4x8192x8 ![0, 0, 2304] P slices_S4x8192x2432_S4x8192x8_0_0_2304)
    (broadcastInDim S4x8192x8 ![0, 1, 2] bcast_S1x1x8_S4x8192x8_0_1_2 (broadcastInDim S1x1x8 ![1, 2] bcast_S1x8_S1x1x8_1_2 (extractStridedSlice S1x8 ![0, 0] BF slices_S1x128_S1x8_0_0))))
/-- and the five results' first layers, -/
def newCkv (KN : FVec Ideal S1x256 .f32) : FVec Ideal S4x8192x256 .f32 :=
  mulf (mulf (latV P) (broadcastInDim S4x8192x256 ![0, 1, 2] bcast_S4x8192x1_S4x8192x256_0_1_2 (Host.rsqrt (addf (Host.divf
    (broadcastInDim S4x8192x1 ![0, 1] bcast_S4x8192_S4x8192x1_0_1 (Host.reduceAdd (mulf (latV P) (latV P)) (constant S_ .f32 0x00000000#32) reducesTo_S4x8192x256_S4x8192_d2 h_S_))
    (broadcastInDim S4x8192x1 ![] bcast_S_S4x8192x1 (constant S_ .f32 0x43800000#32))) (broadcastInDim S4x8192x1 ![] bcast_S_S4x8192x1 (constant S_ .f32 0x358637BD#32))))))
    (broadcastInDim S4x8192x256 ![0, 1, 2] bcast_S1x1x256_S4x8192x256_0_1_2 (broadcastInDim S1x1x256 ![1, 2] bcast_S1x256_S1x1x256_1_2 KN))
def newKr (CO SI : FVec Ideal S8192x128 .f32) : FVec Ideal S4x8192x32 .f32 :=
  addf (mulf (extractStridedSlice S4x8192x32 ![0, 0, 2176] P slices_S4x8192x2432_S4x8192x32_0_0_2176)
      (broadcastInDim S4x8192x32 ![0, 1, 2] bcast_S1x8192x32_S4x8192x32_0_1_2 (broadcastInDim S1x8192x32 ![1, 2] bcast_S8192x32_S1x8192x32_1_2 (extractStridedSlice S8192x32 ![0, 0] CO slices_S8192x128_S8192x32_0_0))))
    (mulf (extractStridedSlice S4x8192x32 ![0, 0, 2272] P slices_S4x8192x2432_S4x8192x32_0_0_2272)
      (broadcastInDim S4x8192x32 ![0, 1, 2] bcast_S1x8192x32_S4x8192x32_0_1_2 (broadcastInDim S1x8192x32 ![1, 2] bcast_S8192x32_S1x8192x32_1_2 (extractStridedSlice S8192x32 ![0, 0] SI slices_S8192x128_S8192x32_0_0))))
def newKf : FVec Ideal S4x8192x512 .f32 := extractStridedSlice S4x8192x512 ![0, 0, 1152] P slices_S4x8192x2432_S4x8192x512_0_0_1152
def newVf : FVec Ideal S4x8192x512 .f32 := extractStridedSlice S4x8192x512 ![0, 0, 1664] P slices_S4x8192x2432_S4x8192x512_0_0_1664
def newLf (BF : FVec Ideal S1x128 .f32) : FVec Ideal S4x8192x8 .f32 :=
  Host.negf (select (cmpf .une (subf (gateV P BF) (broadcastInDim S4x8192x8 ![] bcast_S_S4x8192x8 (constant S_ .f32 0x00000000#32)))
      (subf (gateV P BF) (broadcastInDim S4x8192x8 ![] bcast_S_S4x8192x8 (constant S_ .f32 0x00000000#32))))
    (addf (gateV P BF) (broadcastInDim S4x8192x8 ![] bcast_S_S4x8192x8 (constant S_ .f32 0x00000000#32)))
    (addf (maximumf (gateV P BF) (broadcastInDim S4x8192x8 ![] bcast_S_S4x8192x8 (constant S_ .f32 0x00000000#32)))
      (Host.log1p (Host.exp (Host.negf (Host.absf (subf (gateV P BF) (broadcastInDim S4x8192x8 ![] bcast_S_S4x8192x8 (constant S_ .f32 0x00000000#32)))))))))
/-- each put before the given stack's other layers. -/
def ckvV (N : FVec Ideal S4x8192x256 .f32) (K : FVec Ideal S4x4x8192x256 .f32) : FVec Ideal S4x4x8192x256 .f32 :=
  concatenate S4x4x8192x256 0 [⟨S1x4x8192x256, broadcastInDim S1x4x8192x256 ![1, 2, 3] bcast_S4x8192x256_S1x4x8192x256_1_2_3 N⟩,
    ⟨S3x4x8192x256, extractStridedSlice S3x4x8192x256 ![1, 0, 0, 0] K slices_S4x4x8192x256_S3x4x8192x256_1_0_0_0⟩] concatenates_S1x4x8192x256_S3x4x8192x256_S4x4x8192x256_d0
def krV (N : FVec Ideal S4x8192x32 .f32) (K : FVec Ideal S4x4x8192x32 .f32) : FVec Ideal S4x4x8192x32 .f32 :=
  concatenate S4x4x8192x32 0 [⟨S1x4x8192x32, broadcastInDim S1x4x8192x32 ![1, 2, 3] bcast_S4x8192x32_S1x4x8192x32_1_2_3 N⟩,
    ⟨S3x4x8192x32, extractStridedSlice S3x4x8192x32 ![1, 0, 0, 0] K slices_S4x4x8192x32_S3x4x8192x32_1_0_0_0⟩] concatenates_S1x4x8192x32_S3x4x8192x32_S4x4x8192x32_d0
def foxV (N : FVec Ideal S4x8192x512 .f32) (K : FVec Ideal S4x4x8192x512 .f32) : FVec Ideal S4x4x8192x512 .f32 :=
  concatenate S4x4x8192x512 0 [⟨S1x4x8192x512, broadcastInDim S1x4x8192x512 ![1, 2, 3] bcast_S4x8192x512_S1x4x8192x512_1_2_3 N⟩,
    ⟨S3x4x8192x512, extractStridedSlice S3x4x8192x512 ![1, 0, 0, 0] K slices_S4x4x8192x512_S3x4x8192x512_1_0_0_0⟩] concatenates_S1x4x8192x512_S3x4x8192x512_S4x4x8192x512_d0
def lfV (N : FVec Ideal S4x8192x8 .f32) (K : FVec Ideal S4x4x8192x8 .f32) : FVec Ideal S4x4x8192x8 .f32 :=
  concatenate S4x4x8192x8 0 [⟨S1x4x8192x8, broadcastInDim S1x4x8192x8 ![1, 2, 3] bcast_S4x8192x8_S1x4x8192x8_1_2_3 N⟩,
    ⟨S3x4x8192x8, extractStridedSlice S3x4x8192x8 ![1, 0, 0, 0] K slices_S4x4x8192x8_S3x4x8192x8_1_0_0_0⟩] concatenates_S1x4x8192x8_S3x4x8192x8_S4x4x8192x8_d0

theorem hidV_at (b : Fin 4) (n : Fin 8192) (k : Fin 1024) : hidV X SH SC GN (ix3 b n k)
    = modulated (fun k => X (ix3 b n k)) (fun k => SH (ix3 b (0 : Fin 1) k)) (fun k => SC (ix3 b (0 : Fin 1) k)) (fun k => GN (ix2 (0 : Fin 1) k)) k := by
  unfold hidV modulated
  pointwise

theorem projV_at (b : Fin 4) (n : Fin 8192) (j : Fin 2432) : projV X SH SC GN W (ix3 b n j)
    = proj (fun k => X (ix3 b n k)) (fun k => SH (ix3 b (0 : Fin 1) k)) (fun k => SC (ix3 b (0 : Fin 1) k)) (fun k => GN (ix2 (0 : Fin 1) k)) (fun k => W (ix2 k j)) := by
  unfold proj
  simp only [← hidV_at]
  unfold projV
  pointwise

theorem latV_at (b : Fin 4) (n : Fin 8192) (d : Fin 256) : latV P (ix3 b n d) = P (ix3 b n ⟨384 + d.val, by omega⟩) := by
  unfold latV
  pointwise

theorem newCkv_at (KN : FVec Ideal S1x256 .f32) (b : Fin 4) (n : Fin 8192) (d : Fin 256) : newCkv P KN (ix3 b n d)
    = latent (fun l => P (ix3 b n ⟨384 + l.val, by omega⟩)) (KN (ix2 (0 : Fin 1) d)) d := by
  simp only [← latV_at]
  unfold newCkv latent
  generalize latV P = L
  pointwise

theorem newKr_at (CO SI : FVec Ideal S8192x128 .f32) (b : Fin 4) (n : Fin 8192) (d : Fin 32) : newKr P CO SI (ix3 b n d)
    = P (ix3 b n ⟨2176 + d.val, by omega⟩) * CO (ix2 n ⟨d.val, by omega⟩) + P (ix3 b n ⟨2272 + d.val, by omega⟩) * SI (ix2 n ⟨d.val, by omega⟩) := by
  unfold newKr
  pointwise

theorem newKf_at (b : Fin 4) (n : Fin 8192) (d : Fin 512) : newKf P (ix3 b n d) = P (ix3 b n ⟨1152 + d.val, by omega⟩) := by
  unfold newKf
  pointwise

theorem newVf_at (b : Fin 4) (n : Fin 8192) (d : Fin 512) : newVf P (ix3 b n d) = P (ix3 b n ⟨1664 + d.val, by omega⟩) := by
  unfold newVf
  pointwise

theorem gateV_at (BF : FVec Ideal S1x128 .f32) (b : Fin 4) (n : Fin 8192) (d : Fin 8) : gateV P BF (ix3 b n d)
    = -(P (ix3 b n ⟨2304 + d.val, by omega⟩) + BF (ix2 (0 : Fin 1) ⟨d.val, by omega⟩)) := by
  unfold gateV
  pointwise

theorem newLf_at (BF : FVec Ideal S1x128 .f32) (b : Fin 4) (n : Fin 8192) (d : Fin 8) : newLf P BF (ix3 b n d)
    = logSigmoid (P (ix3 b n ⟨2304 + d.val, by omega⟩) + BF (ix2 (0 : Fin 1) ⟨d.val, by omega⟩)) := by
  rw [← logSigmoid_eq]
  simp only [← gateV_at]
  unfold newLf
  generalize gateV P BF = G
  pointwise
  rw [if_neg (fun h => h rfl)]
  rfl

theorem ckvV_new (N : FVec Ideal S4x8192x256 .f32) (K : FVec Ideal S4x4x8192x256 .f32) (b : Fin 4) (n : Fin 8192) (d : Fin 256) :
    ckvV N K (ix4 (0 : Fin 4) b n d) = N (ix3 b n d) := by
  unfold ckvV
  pointwise

theorem ckvV_old (N : FVec Ideal S4x8192x256 .f32) (K : FVec Ideal S4x4x8192x256 .f32) (l : Fin 4) (h : l.val ≠ 0) (b : Fin 4) (n : Fin 8192) (d : Fin 256) :
    ckvV N K (ix4 l b n d) = K (ix4 l b n d) := by
  unfold ckvV
  pointwise
  rw [dif_neg (by omega)]
  exact congrArg (fun l' => K (ix4 l' b n d)) (Fin.ext (by show 1 + (l.val - 1) = l.val; omega))

theorem krV_new (N : FVec Ideal S4x8192x32 .f32) (K : FVec Ideal S4x4x8192x32 .f32) (b : Fin 4) (n : Fin 8192) (d : Fin 32) :
    krV N K (ix4 (0 : Fin 4) b n d) = N (ix3 b n d) := by
  unfold krV
  pointwise

theorem krV_old (N : FVec Ideal S4x8192x32 .f32) (K : FVec Ideal S4x4x8192x32 .f32) (l : Fin 4) (h : l.val ≠ 0) (b : Fin 4) (n : Fin 8192) (d : Fin 32) :
    krV N K (ix4 l b n d) = K (ix4 l b n d) := by
  unfold krV
  pointwise
  rw [dif_neg (by omega)]
  exact congrArg (fun l' => K (ix4 l' b n d)) (Fin.ext (by show 1 + (l.val - 1) = l.val; omega))

theorem foxV_new (N : FVec Ideal S4x8192x512 .f32) (K : FVec Ideal S4x4x8192x512 .f32) (b : Fin 4) (n : Fin 8192) (d : Fin 512) :
    foxV N K (ix4 (0 : Fin 4) b n d) = N (ix3 b n d) := by
  unfold foxV
  pointwise

theorem foxV_old (N : FVec Ideal S4x8192x512 .f32) (K : FVec Ideal S4x4x8192x512 .f32) (l : Fin 4) (h : l.val ≠ 0) (b : Fin 4) (n : Fin 8192) (d : Fin 512) :
    foxV N K (ix4 l b n d) = K (ix4 l b n d) := by
  unfold foxV
  pointwise
  rw [dif_neg (by omega)]
  exact congrArg (fun l' => K (ix4 l' b n d)) (Fin.ext (by show 1 + (l.val - 1) = l.val; omega))

theorem lfV_new (N : FVec Ideal S4x8192x8 .f32) (K : FVec Ideal S4x4x8192x8 .f32) (b : Fin 4) (n : Fin 8192) (d : Fin 8) :
    lfV N K (ix4 (0 : Fin 4) b n d) = N (ix3 b n d) := by
  unfold lfV
  pointwise

theorem lfV_old (N : FVec Ideal S4x8192x8 .f32) (K : FVec Ideal S4x4x8192x8 .f32) (l : Fin 4) (h : l.val ≠ 0) (b : Fin 4) (n : Fin 8192) (d : Fin 8) :
    lfV N K (ix4 l b n d) = K (ix4 l b n d) := by
  unfold lfV
  pointwise
  rw [dif_neg (by omega)]
  exact congrArg (fun l' => K (ix4 l' b n d)) (Fin.ext (by show 1 + (l.val - 1) = l.val; omega))

/-- The reference's run: the five stacks, and the arguments as they were. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v54) = ckvV (newCkv (projV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg7))) (m ((c.tc : Thread nD τ).loc main_arg17))
      ∧ r.2.mem ((c.tc : Thread nD τ).loc main_v57) = krV (newKr (projV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg10)) (m ((c.tc : Thread nD τ).loc main_arg11))) (m ((c.tc : Thread nD τ).loc main_arg18))
      ∧ r.2.mem ((c.tc : Thread nD τ).loc main_v61) = foxV (newKf (projV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))) (m ((c.tc : Thread nD τ).loc main_arg19))
      ∧ r.2.mem ((c.tc : Thread nD τ).loc main_v65) = foxV (newVf (projV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))) (m ((c.tc : Thread nD τ).loc main_arg20))
      ∧ r.2.mem ((c.tc : Thread nD τ).loc main_v68) = lfV (newLf (projV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg9))) (m ((c.tc : Thread nD τ).loc main_arg21))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21) := by
  refine (θ_run defs _ _).mono (fun r h c => ?_) (Cert.RowsReferenceIdeal.Value.run (F := Ideal) m ρ)
  obtain ⟨h0, h1, h2, h3, h4, rest⟩ := h c
  exact ⟨h0.trans rfl, h1.trans rfl, h2.trans rfl, h3.trans rfl, h4.trans rfl, rest⟩

end Cert.RowsReferenceIdeal.Hand

end
-- ==== Proof.RowsBody.lean ====
/- One grid point of the projection call: the body's run, with the blocks it leaves in the five stacks (latents, rotated keys, plain keys,
   plain values, forget gates) as functions of the input blocks. Of the other results' blocks and of the carried row nothing is said. -/
module

public import proofs.«01_k».proof.Proof.Gen.RowsIdeal.Frame.Runs
public import Idealize.ShloMosaic.Lib.Pipeline.Value

@[expose] public section

-- the rectangles' long axes
set_option maxRecDepth 16384

noncomputable section

namespace Cert.RowsIdeal.Hand

open Cert.RowsIdeal Cert.RowsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The blocks -/

abbrev rTok : Rect S1x512x1024 := Rect.unit (s := S1x512x1024) ![0, 0, 0] S1x512x1024.size inb_S1x512x1024_S1x512x1024_0_0_0
abbrev rMod : Rect S1x1x1024 := Rect.unit (s := S1x1x1024) ![0, 0, 0] S1x1x1024.size inb_S1x1x1024_S1x1x1024_0_0_0
abbrev rGain : Rect S1x1024 := Rect.unit (s := S1x1024) ![0, 0] S1x1024.size inb_S1x1024_S1x1024_0_0
abbrev rW : Rect S1024x2432 := Rect.unit (s := S1024x2432) ![0, 0] S1024x2432.size inb_S1024x2432_S1024x2432_0_0
abbrev rKn : Rect S1x256 := Rect.unit (s := S1x256) ![0, 0] S1x256.size inb_S1x256_S1x256_0_0
abbrev rBf : Rect S1x128 := Rect.unit (s := S1x128) ![0, 0] S1x128.size inb_S1x128_S1x128_0_0
abbrev rAng : Rect S512x128 := Rect.unit (s := S512x128) ![0, 0] S512x128.size inb_S512x128_S512x128_0_0
abbrev rCkv : Rect S1x1x512x256 := Rect.unit (s := S1x1x512x256) ![0, 0, 0, 0] S1x1x512x256.size inb_S1x1x512x256_S1x1x512x256_0_0_0_0
abbrev rKr : Rect S1x1x512x32 := Rect.unit (s := S1x1x512x32) ![0, 0, 0, 0] S1x1x512x32.size inb_S1x1x512x32_S1x1x512x32_0_0_0_0
abbrev rKf : Rect S1x1x512x512 := Rect.unit (s := S1x1x512x512) ![0, 0, 0, 0] S1x1x512x512.size inb_S1x1x512x512_S1x1x512x512_0_0_0_0
abbrev rLf : Rect S1x1x512x8 := Rect.unit (s := S1x1x512x8) ![0, 0, 0, 0] S1x1x512x8.size inb_S1x1x512x8_S1x1x512x8_0_0_0_0

theorem zero4 : (![0, 0, 0, 0] : Fin 4 → ℕ) = fun _ => 0 := funext fun a => by fin_cases a <;> rfl
theorem zero3 : (![0, 0, 0] : Fin 3 → ℕ) = fun _ => 0 := funext fun a => by fin_cases a <;> rfl
theorem zero2 : (![0, 0] : Fin 2 → ℕ) = fun _ => 0 := funext fun a => by fin_cases a <;> rfl

/-- The projected rows of a block: norm, modulation, projection. -/
def projBlk (x : Vec F S1x512x1024 .f32) (sh sc : Vec F S1x1x1024 .f32) (g : Vec F S1x1024 .f32) (w : Vec F S1024x2432 .bf16) : FVec F S512x2432 .f32 := k0_pay3 x g sc sh w

/-- The latents' block. -/
def ckvOf (x : Vec F S1x512x1024 .f32) (sh sc : Vec F S1x1x1024 .f32) (g : Vec F S1x1024 .f32) (w : Vec F S1024x2432 .bf16) (n : Vec F S1x256 .f32) : Vec F S1x1x512x256 .f32 := k0_pay19 (k0_pay16 (projBlk x sh sc g w)) n (k0_pay17 (projBlk x sh sc g w))

/-- The same, as the one store leaves it. -/
def ckvLeft (x : Vec F S1x512x1024 .f32) (sh sc : Vec F S1x1x1024 .f32) (g : Vec F S1x1024 .f32) (w : Vec F S1024x2432 .bf16) (n : Vec F S1x256 .f32) : Vec F S1x1x512x256 .f32 := View.canon [⟨rCkv, k0_pay19 (k0_pay16 (k0_pay3 (View.ld x rTok) (View.ld g rGain) (View.ld sc rMod) (View.ld sh rMod) (View.ld w rW))) (View.ld n rKn) (k0_pay17 (k0_pay3 (View.ld x rTok) (View.ld g rGain) (View.ld sc rMod) (View.ld sh rMod) (View.ld w rW)))⟩]

theorem ckvLeft_eq (x : Vec F S1x512x1024 .f32) (sh sc : Vec F S1x1x1024 .f32) (g : Vec F S1x1024 .f32) (w : Vec F S1024x2432 .bf16) (n : Vec F S1x256 .f32) : ckvLeft x sh sc g w n = ckvOf x sh sc g w n := by
  unfold ckvLeft ckvOf projBlk
  rw [View.canon_unit_zero zero4, View.ld_unit_zero zero3, View.ld_unit_zero zero2, View.ld_unit_zero zero3, View.ld_unit_zero zero3, View.ld_unit_zero zero2, View.ld_unit_zero zero2]

/-- The rotated keys' block. -/
def krOf (x : Vec F S1x512x1024 .f32) (sh sc : Vec F S1x1x1024 .f32) (g : Vec F S1x1024 .f32) (w : Vec F S1024x2432 .bf16) (co si : Vec F S512x128 .f32) : Vec F S1x1x512x32 .f32 := k0_pay22 (projBlk x sh sc g w) co si

/-- The same, as the one store leaves it. -/
def krLeft (x : Vec F S1x512x1024 .f32) (sh sc : Vec F S1x1x1024 .f32) (g : Vec F S1x1024 .f32) (w : Vec F S1024x2432 .bf16) (co si : Vec F S512x128 .f32) : Vec F S1x1x512x32 .f32 := View.canon [⟨rKr, k0_pay22 (k0_pay3 (View.ld x rTok) (View.ld g rGain) (View.ld sc rMod) (View.ld sh rMod) (View.ld w rW)) (View.ld co rAng) (View.ld si rAng)⟩]

theorem krLeft_eq (x : Vec F S1x512x1024 .f32) (sh sc : Vec F S1x1x1024 .f32) (g : Vec F S1x1024 .f32) (w : Vec F S1024x2432 .bf16) (co si : Vec F S512x128 .f32) : krLeft x sh sc g w co si = krOf x sh sc g w co si := by
  unfold krLeft krOf projBlk
  rw [View.canon_unit_zero zero4, View.ld_unit_zero zero3, View.ld_unit_zero zero2, View.ld_unit_zero zero3, View.ld_unit_zero zero3, View.ld_unit_zero zero2, View.ld_unit_zero zero2, View.ld_unit_zero zero2]

/-- The plain keys' block. -/
def kfOf (x : Vec F S1x512x1024 .f32) (sh sc : Vec F S1x1x1024 .f32) (g : Vec F S1x1024 .f32) (w : Vec F S1024x2432 .bf16) : Vec F S1x1x512x512 .f32 := k0_pay45 (projBlk x sh sc g w)

/-- The same, as the one store leaves it. -/
def kfLeft (x : Vec F S1x512x1024 .f32) (sh sc : Vec F S1x1x1024 .f32) (g : Vec F S1x1024 .f32) (w : Vec F S1024x2432 .bf16) : Vec F S1x1x512x512 .f32 := View.canon [⟨rKf, k0_pay45 (k0_pay3 (View.ld x rTok) (View.ld g rGain) (View.ld sc rMod) (View.ld sh rMod) (View.ld w rW))⟩]

theorem kfLeft_eq (x : Vec F S1x512x1024 .f32) (sh sc : Vec F S1x1x1024 .f32) (g : Vec F S1x1024 .f32) (w : Vec F S1024x2432 .bf16) : kfLeft x sh sc g w = kfOf x sh sc g w := by
  unfold kfLeft kfOf projBlk
  rw [View.canon_unit_zero zero4, View.ld_unit_zero zero3, View.ld_unit_zero zero2, View.ld_unit_zero zero3, View.ld_unit_zero zero3, View.ld_unit_zero zero2]

/-- The plain values' block. -/
def vfOf (x : Vec F S1x512x1024 .f32) (sh sc : Vec F S1x1x1024 .f32) (g : Vec F S1x1024 .f32) (w : Vec F S1024x2432 .bf16) : Vec F S1x1x512x512 .f32 := k0_pay46 (projBlk x sh sc g w)

/-- The same, as the one store leaves it. -/
def vfLeft (x : Vec F S1x512x1024 .f32) (sh sc : Vec F S1x1x1024 .f32) (g : Vec F S1x1024 .f32) (w : Vec F S1024x2432 .bf16) : Vec F S1x1x512x512 .f32 := View.canon [⟨rKf, k0_pay46 (k0_pay3 (View.ld x rTok) (View.ld g rGain) (View.ld sc rMod) (View.ld sh rMod) (View.ld w rW))⟩]

theorem vfLeft_eq (x : Vec F S1x512x1024 .f32) (sh sc : Vec F S1x1x1024 .f32) (g : Vec F S1x1024 .f32) (w : Vec F S1024x2432 .bf16) : vfLeft x sh sc g w = vfOf x sh sc g w := by
  unfold vfLeft vfOf projBlk
  rw [View.canon_unit_zero zero4, View.ld_unit_zero zero3, View.ld_unit_zero zero2, View.ld_unit_zero zero3, View.ld_unit_zero zero3, View.ld_unit_zero zero2]

/-- The forget gates' block. -/
def lfOf (x : Vec F S1x512x1024 .f32) (sh sc : Vec F S1x1x1024 .f32) (g : Vec F S1x1024 .f32) (w : Vec F S1024x2432 .bf16) (b : Vec F S1x128 .f32) : Vec F S1x1x512x8 .f32 := k0_pay48 (projBlk x sh sc g w) b

/-- The same, as the one store leaves it. -/
def lfLeft (x : Vec F S1x512x1024 .f32) (sh sc : Vec F S1x1x1024 .f32) (g : Vec F S1x1024 .f32) (w : Vec F S1024x2432 .bf16) (b : Vec F S1x128 .f32) : Vec F S1x1x512x8 .f32 := View.canon [⟨rLf, k0_pay48 (k0_pay3 (View.ld x rTok) (View.ld g rGain) (View.ld sc rMod) (View.ld sh rMod) (View.ld w rW)) (View.ld b rBf)⟩]

theorem lfLeft_eq (x : Vec F S1x512x1024 .f32) (sh sc : Vec F S1x1x1024 .f32) (g : Vec F S1x1024 .f32) (w : Vec F S1024x2432 .bf16) (b : Vec F S1x128 .f32) : lfLeft x sh sc g w b = lfOf x sh sc g w b := by
  unfold lfLeft lfOf projBlk
  rw [View.canon_unit_zero zero4, View.ld_unit_zero zero3, View.ld_unit_zero zero2, View.ld_unit_zero zero3, View.ld_unit_zero zero3, View.ld_unit_zero zero2, View.ld_unit_zero zero2]

theorem ckvCovers (p : Vec F S1x1x512x256 .f32) (i : S1x1x512x256.Idx) : ∃ pc ∈ ([⟨rCkv, p⟩] : List (View.Piece (Elt F) S1x1x512x256 .f32)), i ∈ pc.1.set :=
  View.cover_of_tiled [⟨rCkv, p⟩] S1x1x512x256.size (by rfl) i

theorem krCovers (p : Vec F S1x1x512x32 .f32) (i : S1x1x512x32.Idx) : ∃ pc ∈ ([⟨rKr, p⟩] : List (View.Piece (Elt F) S1x1x512x32 .f32)), i ∈ pc.1.set :=
  View.cover_of_tiled [⟨rKr, p⟩] S1x1x512x32.size (by rfl) i

theorem kfCovers (p : Vec F S1x1x512x512 .f32) (i : S1x1x512x512.Idx) : ∃ pc ∈ ([⟨rKf, p⟩] : List (View.Piece (Elt F) S1x1x512x512 .f32)), i ∈ pc.1.set :=
  View.cover_of_tiled [⟨rKf, p⟩] S1x1x512x512.size (by rfl) i

theorem lfCovers (p : Vec F S1x1x512x8 .f32) (i : S1x1x512x8.Idx) : ∃ pc ∈ ([⟨rLf, p⟩] : List (View.Piece (Elt F) S1x1x512x8 .f32)), i ∈ pc.1.set :=
  View.cover_of_tiled [⟨rLf, p⟩] S1x1x512x8.size (by rfl) i

/-! ## The run -/

set_option maxHeartbeats 4000000 in
/-- The body's run where the carried row is set from its operand: the five stacks' blocks end at those functions of the input blocks, the inputs' as they were,
    the other results' and the carried row at some contents. -/
theorem body_set (c : Dev nD) (E : Set ℕ) (i : grid0.Coords) (hc0 : cond0_0 i)
    (arg2 : Memref sig .tc .vmem S1x512x1024 .f32) (harg2 : arg2.IsWhole) (arg3 : Memref sig .tc .vmem S1x1x1024 .f32) (harg3 : arg3.IsWhole) (arg4 : Memref sig .tc .vmem S1x1x1024 .f32) (harg4
    : arg4.IsWhole) (arg5 : Memref sig .tc .vmem S1x1024 .f32) (harg5 : arg5.IsWhole) (arg6 : Memref sig .tc .vmem S1024x2432 .bf16) (harg6 : arg6.IsWhole) (arg7 : Memref sig .tc .vmem S1x384
    .f32) (harg7 : arg7.IsWhole) (arg8 : Memref sig .tc .vmem S384x1024 .bf16) (harg8 : arg8.IsWhole) (arg9 : Memref sig .tc .vmem S1x256 .f32) (harg9 : arg9.IsWhole) (arg10 : Memref sig .tc
    .vmem S256x2048 .bf16) (harg10 : arg10.IsWhole) (arg11 : Memref sig .tc .vmem S1x128 .f32) (harg11 : arg11.IsWhole) (arg12 : Memref sig .tc .vmem S512x128 .f32) (harg12 : arg12.IsWhole)
    (arg13 : Memref sig .tc .vmem S512x128 .f32) (harg13 : arg13.IsWhole) (arg14 : Memref sig .tc .vmem S512x512 .bf16) (harg14 : arg14.IsWhole) (arg15 : Memref sig .tc .vmem S128x1024 .bf16)
    (harg15 : arg15.IsWhole) (arg16 : Memref sig .tc .vmem S128x1024 .bf16) (harg16 : arg16.IsWhole) (arg17 : Memref sig .tc .vmem S512x128 .bf16) (harg17 : arg17.IsWhole) (arg18 : Memref sig
    .tc .vmem S1x1x128 .f32) (harg18 : arg18.IsWhole) (arg24 : Memref sig .tc .vmem S1x16x512x128 .bf16) (harg24 : arg24.IsWhole) (arg25 : Memref sig .tc .vmem S1x16x512x128 .bf16) (harg25 :
    arg25.IsWhole) (arg26 : Memref sig .tc .vmem S1x16x512x128 .bf16) (harg26 : arg26.IsWhole) (arg27 : Memref sig .tc .vmem S1x1x512x256 .f32) (harg27 : arg27.IsWhole) (arg28 : Memref sig .tc
    .vmem S1x1x512x32 .f32) (harg28 : arg28.IsWhole) (arg29 : Memref sig .tc .vmem S1x1x512x512 .f32) (harg29 : arg29.IsWhole) (arg30 : Memref sig .tc .vmem S1x1x512x512 .f32) (harg30 :
    arg30.IsWhole) (arg31 : Memref sig .tc .vmem S1x1x512x8 .f32) (harg31 : arg31.IsWhole) (arg32 : Memref sig .tc .vmem S1x1x8x128 .f32) (harg32 : arg32.IsWhole) (arg33 : Memref sig .tc .vmem
    S1x128 .f32) (harg33 : arg33.IsWhole)
    (x0 : Vec F S1x512x1024 .f32) (x1 : Vec F S1x1x1024 .f32) (x2 : Vec F S1x1x1024 .f32) (x3 : Vec F S1x1024 .f32) (x4 : Vec F S1024x2432 .bf16) (x5 : Vec F S1x384 .f32) (x6 : Vec F S384x1024
    .bf16) (x7 : Vec F S1x256 .f32) (x8 : Vec F S256x2048 .bf16) (x9 : Vec F S1x128 .f32) (x10 : Vec F S512x128 .f32) (x11 : Vec F S512x128 .f32) (x12 : Vec F S512x512 .bf16) (x13 : Vec F
    S128x1024 .bf16) (x14 : Vec F S128x1024 .bf16) (x15 : Vec F S512x128 .bf16) (x16 : Vec F S1x1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread
        nD τ) arg6 fullShare x4 ∗ owns (c : Thread nD τ) arg7 fullShare x5 ∗ owns (c : Thread nD τ) arg8 fullShare x6 ∗ owns (c : Thread nD τ) arg9 fullShare x7 ∗ owns (c : Thread nD τ) arg10
        fullShare x8 ∗ owns (c : Thread nD τ) arg11 fullShare x9 ∗ owns (c : Thread nD τ) arg12 fullShare x10 ∗ owns (c : Thread nD τ) arg13 fullShare x11 ∗ owns (c : Thread nD τ) arg14 fullShare
        x12 ∗ owns (c : Thread nD τ) arg15 fullShare x13 ∗ owns (c : Thread nD τ) arg16 fullShare x14 ∗ owns (c : Thread nD τ) arg17 fullShare x15 ∗ owns (c : Thread nD τ) arg18 fullShare x16
        ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27
        fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD
        τ) arg31 fullShare d) ∗ (∃ d, owns (c : Thread nD τ) arg32 fullShare d) ∗ (∃ d, owns (c : Thread nD τ) arg33 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread
        nD τ) arg6 fullShare x4 ∗ owns (c : Thread nD τ) arg7 fullShare x5 ∗ owns (c : Thread nD τ) arg8 fullShare x6 ∗ owns (c : Thread nD τ) arg9 fullShare x7 ∗ owns (c : Thread nD τ) arg10
        fullShare x8 ∗ owns (c : Thread nD τ) arg11 fullShare x9 ∗ owns (c : Thread nD τ) arg12 fullShare x10 ∗ owns (c : Thread nD τ) arg13 fullShare x11 ∗ owns (c : Thread nD τ) arg14 fullShare
        x12 ∗ owns (c : Thread nD τ) arg15 fullShare x13 ∗ owns (c : Thread nD τ) arg16 fullShare x14 ∗ owns (c : Thread nD τ) arg17 fullShare x15 ∗ owns (c : Thread nD τ) arg18 fullShare x16
        ∗ (∃ d, owns (c : Thread nD τ) arg24 fullShare d) ∗ (∃ d, owns (c : Thread nD τ) arg25 fullShare d) ∗ (∃ d, owns (c : Thread nD τ) arg26 fullShare d) ∗ owns (c : Thread nD τ) arg27 fullShare
        (ckvOf x0 x1 x2 x3 x4 x7) ∗ owns (c : Thread nD τ) arg28 fullShare (krOf x0 x1 x2 x3 x4 x10 x11) ∗ owns (c : Thread nD τ) arg29 fullShare (kfOf x0 x1 x2 x3 x4) ∗ owns (c : Thread nD τ) arg30
        fullShare (vfOf x0 x1 x2 x3 x4) ∗ owns (c : Thread nD τ) arg31 fullShare (lfOf x0 x1 x2 x3 x4 x9) ∗ (∃ d, owns (c : Thread nD τ) arg32 fullShare d) ∗ (∃ d, owns (c : Thread nD τ) arg33 fullShare d)) -∗ K ⟨⟩))
      ⊢ wp frame (wpE (defs₀ (F := F)) Variants.none c none) E (cc0_proj i arg2 harg2 arg3 harg3 arg4 harg4 arg5 harg5 arg6 harg6 arg7 harg7 arg8 harg8 arg9 harg9 arg10 harg10 arg11 harg11 arg12 harg12 arg13 harg13 arg14 harg14 arg15 harg15 arg16 harg16
        arg17 harg17 arg18 harg18 (Memref.whole main_arg17) (Memref.isWhole_whole _) (Memref.whole main_arg18) (Memref.isWhole_whole _) (Memref.whole main_arg19) (Memref.isWhole_whole _)
        (Memref.whole main_arg20) (Memref.isWhole_whole _) (Memref.whole main_arg21) (Memref.isWhole_whole _) arg24 harg24 arg25 harg25 arg26 harg26 arg27 harg27 arg28 harg28 arg29 harg29 arg30
        harg30 arg31 harg31 arg32 harg32 arg33 harg33) K := by
  rw [← ckvLeft_eq, ← krLeft_eq, ← kfLeft_eq, ← vfLeft_eq, ← lfLeft_eq]
  simp only [cc0_proj_eq_skeleton]; unfold cc0_proj_skel
  simp only [k0_part1_eq_skeleton, k0_part2_eq_skeleton, k0_part3_eq_skeleton, k0_part4_eq_skeleton, k0_part5_eq_skeleton, k0_part6_eq_skeleton, k0_part7_eq_skeleton, k0_part8_eq_skeleton,
    k0_part9_eq_skeleton, k0_part10_eq_skeleton, k0_part11_eq_skeleton, k0_part12_eq_skeleton, k0_part13_eq_skeleton, k0_part14_eq_skeleton, k0_part15_eq_skeleton, k0_part16_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩,
    ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩,
    ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%ds0, %fs0, -, HS0⟩, Hk⟩
  subst hf0 hf1 hf2 hf3 hf4 hf5 hf6 hf7 hf8 hf9 hf10 hf11 hf12 hf13 hf14 hf15 hf16
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists _; iexists _; isplitr
    swap; · iexact H17
    ipureintro; rfl
  isplitl [H18]
  · iexists _; iexists _; isplitr
    swap; · iexact H18
    ipureintro; rfl
  isplitl [H19]
  · iexists _; iexists _; isplitr
    swap; · iexact H19
    ipureintro; rfl
  isplitl [H20]
  · iexists _; isplitr
    swap; · iexact H20
    ipureintro
    exact View.read_writes_eq_canon _ _ _ (ckvCovers _)
  isplitl [H21]
  · iexists _; isplitr
    swap; · iexact H21
    ipureintro
    exact View.read_writes_eq_canon _ _ _ (krCovers _)
  isplitl [H22]
  · iexists _; isplitr
    swap; · iexact H22
    ipureintro
    exact View.read_writes_eq_canon _ _ _ (kfCovers _)
  isplitl [H23]
  · iexists _; isplitr
    swap; · iexact H23
    ipureintro
    exact View.read_writes_eq_canon _ _ _ (kfCovers _)
  isplitl [H24]
  · iexists _; isplitr
    swap; · iexact H24
    ipureintro
    exact View.read_writes_eq_canon _ _ _ (lfCovers _)
  isplitl [H25]
  · iexists _; iexists _; isplitr
    swap; · iexact H25
    ipureintro; rfl
  iexists _; iexists _; isplitr
  swap; · iexact HS0
  ipureintro; rfl

set_option maxHeartbeats 4000000 in
/-- The body's run where the carried row is kept: the five stacks' blocks end at those functions of the input blocks, the inputs' as they were,
    the other results' and the carried row at some contents. -/
theorem body_kept (c : Dev nD) (E : Set ℕ) (i : grid0.Coords) (hc0 : ¬cond0_0 i)
    (arg2 : Memref sig .tc .vmem S1x512x1024 .f32) (harg2 : arg2.IsWhole) (arg3 : Memref sig .tc .vmem S1x1x1024 .f32) (harg3 : arg3.IsWhole) (arg4 : Memref sig .tc .vmem S1x1x1024 .f32) (harg4
    : arg4.IsWhole) (arg5 : Memref sig .tc .vmem S1x1024 .f32) (harg5 : arg5.IsWhole) (arg6 : Memref sig .tc .vmem S1024x2432 .bf16) (harg6 : arg6.IsWhole) (arg7 : Memref sig .tc .vmem S1x384
    .f32) (harg7 : arg7.IsWhole) (arg8 : Memref sig .tc .vmem S384x1024 .bf16) (harg8 : arg8.IsWhole) (arg9 : Memref sig .tc .vmem S1x256 .f32) (harg9 : arg9.IsWhole) (arg10 : Memref sig .tc
    .vmem S256x2048 .bf16) (harg10 : arg10.IsWhole) (arg11 : Memref sig .tc .vmem S1x128 .f32) (harg11 : arg11.IsWhole) (arg12 : Memref sig .tc .vmem S512x128 .f32) (harg12 : arg12.IsWhole)
    (arg13 : Memref sig .tc .vmem S512x128 .f32) (harg13 : arg13.IsWhole) (arg14 : Memref sig .tc .vmem S512x512 .bf16) (harg14 : arg14.IsWhole) (arg15 : Memref sig .tc .vmem S128x1024 .bf16)
    (harg15 : arg15.IsWhole) (arg16 : Memref sig .tc .vmem S128x1024 .bf16) (harg16 : arg16.IsWhole) (arg17 : Memref sig .tc .vmem S512x128 .bf16) (harg17 : arg17.IsWhole) (arg18 : Memref sig
    .tc .vmem S1x1x128 .f32) (harg18 : arg18.IsWhole) (arg24 : Memref sig .tc .vmem S1x16x512x128 .bf16) (harg24 : arg24.IsWhole) (arg25 : Memref sig .tc .vmem S1x16x512x128 .bf16) (harg25 :
    arg25.IsWhole) (arg26 : Memref sig .tc .vmem S1x16x512x128 .bf16) (harg26 : arg26.IsWhole) (arg27 : Memref sig .tc .vmem S1x1x512x256 .f32) (harg27 : arg27.IsWhole) (arg28 : Memref sig .tc
    .vmem S1x1x512x32 .f32) (harg28 : arg28.IsWhole) (arg29 : Memref sig .tc .vmem S1x1x512x512 .f32) (harg29 : arg29.IsWhole) (arg30 : Memref sig .tc .vmem S1x1x512x512 .f32) (harg30 :
    arg30.IsWhole) (arg31 : Memref sig .tc .vmem S1x1x512x8 .f32) (harg31 : arg31.IsWhole) (arg32 : Memref sig .tc .vmem S1x1x8x128 .f32) (harg32 : arg32.IsWhole) (arg33 : Memref sig .tc .vmem
    S1x128 .f32) (harg33 : arg33.IsWhole)
    (x0 : Vec F S1x512x1024 .f32) (x1 : Vec F S1x1x1024 .f32) (x2 : Vec F S1x1x1024 .f32) (x3 : Vec F S1x1024 .f32) (x4 : Vec F S1024x2432 .bf16) (x5 : Vec F S1x384 .f32) (x6 : Vec F S384x1024
    .bf16) (x7 : Vec F S1x256 .f32) (x8 : Vec F S256x2048 .bf16) (x9 : Vec F S1x128 .f32) (x10 : Vec F S512x128 .f32) (x11 : Vec F S512x128 .f32) (x12 : Vec F S512x512 .bf16) (x13 : Vec F
    S128x1024 .bf16) (x14 : Vec F S128x1024 .bf16) (x15 : Vec F S512x128 .bf16) (x16 : Vec F S1x1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread
        nD τ) arg6 fullShare x4 ∗ owns (c : Thread nD τ) arg7 fullShare x5 ∗ owns (c : Thread nD τ) arg8 fullShare x6 ∗ owns (c : Thread nD τ) arg9 fullShare x7 ∗ owns (c : Thread nD τ) arg10
        fullShare x8 ∗ owns (c : Thread nD τ) arg11 fullShare x9 ∗ owns (c : Thread nD τ) arg12 fullShare x10 ∗ owns (c : Thread nD τ) arg13 fullShare x11 ∗ owns (c : Thread nD τ) arg14 fullShare
        x12 ∗ owns (c : Thread nD τ) arg15 fullShare x13 ∗ owns (c : Thread nD τ) arg16 fullShare x14 ∗ owns (c : Thread nD τ) arg17 fullShare x15 ∗ owns (c : Thread nD τ) arg18 fullShare x16
        ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27
        fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD
        τ) arg31 fullShare d) ∗ (∃ d, owns (c : Thread nD τ) arg32 fullShare d) ∗ (∃ d, owns (c : Thread nD τ) arg33 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread
        nD τ) arg6 fullShare x4 ∗ owns (c : Thread nD τ) arg7 fullShare x5 ∗ owns (c : Thread nD τ) arg8 fullShare x6 ∗ owns (c : Thread nD τ) arg9 fullShare x7 ∗ owns (c : Thread nD τ) arg10
        fullShare x8 ∗ owns (c : Thread nD τ) arg11 fullShare x9 ∗ owns (c : Thread nD τ) arg12 fullShare x10 ∗ owns (c : Thread nD τ) arg13 fullShare x11 ∗ owns (c : Thread nD τ) arg14 fullShare
        x12 ∗ owns (c : Thread nD τ) arg15 fullShare x13 ∗ owns (c : Thread nD τ) arg16 fullShare x14 ∗ owns (c : Thread nD τ) arg17 fullShare x15 ∗ owns (c : Thread nD τ) arg18 fullShare x16
        ∗ (∃ d, owns (c : Thread nD τ) arg24 fullShare d) ∗ (∃ d, owns (c : Thread nD τ) arg25 fullShare d) ∗ (∃ d, owns (c : Thread nD τ) arg26 fullShare d) ∗ owns (c : Thread nD τ) arg27 fullShare
        (ckvOf x0 x1 x2 x3 x4 x7) ∗ owns (c : Thread nD τ) arg28 fullShare (krOf x0 x1 x2 x3 x4 x10 x11) ∗ owns (c : Thread nD τ) arg29 fullShare (kfOf x0 x1 x2 x3 x4) ∗ owns (c : Thread nD τ) arg30
        fullShare (vfOf x0 x1 x2 x3 x4) ∗ owns (c : Thread nD τ) arg31 fullShare (lfOf x0 x1 x2 x3 x4 x9) ∗ (∃ d, owns (c : Thread nD τ) arg32 fullShare d) ∗ (∃ d, owns (c : Thread nD τ) arg33 fullShare d)) -∗ K ⟨⟩))
      ⊢ wp frame (wpE (defs₀ (F := F)) Variants.none c none) E (cc0_proj i arg2 harg2 arg3 harg3 arg4 harg4 arg5 harg5 arg6 harg6 arg7 harg7 arg8 harg8 arg9 harg9 arg10 harg10 arg11 harg11 arg12 harg12 arg13 harg13 arg14 harg14 arg15 harg15 arg16 harg16
        arg17 harg17 arg18 harg18 (Memref.whole main_arg17) (Memref.isWhole_whole _) (Memref.whole main_arg18) (Memref.isWhole_whole _) (Memref.whole main_arg19) (Memref.isWhole_whole _)
        (Memref.whole main_arg20) (Memref.isWhole_whole _) (Memref.whole main_arg21) (Memref.isWhole_whole _) arg24 harg24 arg25 harg25 arg26 harg26 arg27 harg27 arg28 harg28 arg29 harg29 arg30
        harg30 arg31 harg31 arg32 harg32 arg33 harg33) K := by
  rw [← ckvLeft_eq, ← krLeft_eq, ← kfLeft_eq, ← vfLeft_eq, ← lfLeft_eq]
  simp only [cc0_proj_eq_skeleton]; unfold cc0_proj_skel
  simp only [k0_part1_eq_skeleton, k0_part2_eq_skeleton, k0_part3_eq_skeleton, k0_part4_eq_skeleton, k0_part5_eq_skeleton, k0_part6_eq_skeleton, k0_part7_eq_skeleton, k0_part8_eq_skeleton,
    k0_part9_eq_skeleton, k0_part10_eq_skeleton, k0_part11_eq_skeleton, k0_part12_eq_skeleton, k0_part13_eq_skeleton, k0_part14_eq_skeleton, k0_part15_eq_skeleton, k0_part16_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩,
    ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩,
    ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%ds0, %fs0, -, HS0⟩, Hk⟩
  subst hf0 hf1 hf2 hf3 hf4 hf5 hf6 hf7 hf8 hf9 hf10 hf11 hf12 hf13 hf14 hf15 hf16
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists _; iexists _; isplitr
    swap; · iexact H17
    ipureintro; rfl
  isplitl [H18]
  · iexists _; iexists _; isplitr
    swap; · iexact H18
    ipureintro; rfl
  isplitl [H19]
  · iexists _; iexists _; isplitr
    swap; · iexact H19
    ipureintro; rfl
  isplitl [H20]
  · iexists _; isplitr
    swap; · iexact H20
    ipureintro
    exact View.read_writes_eq_canon _ _ _ (ckvCovers _)
  isplitl [H21]
  · iexists _; isplitr
    swap; · iexact H21
    ipureintro
    exact View.read_writes_eq_canon _ _ _ (krCovers _)
  isplitl [H22]
  · iexists _; isplitr
    swap; · iexact H22
    ipureintro
    exact View.read_writes_eq_canon _ _ _ (kfCovers _)
  isplitl [H23]
  · iexists _; isplitr
    swap; · iexact H23
    ipureintro
    exact View.read_writes_eq_canon _ _ _ (kfCovers _)
  isplitl [H24]
  · iexists _; isplitr
    swap; · iexact H24
    ipureintro
    exact View.read_writes_eq_canon _ _ _ (lfCovers _)
  isplitl [H25]
  · iexists _; iexists _; isplitr
    swap; · iexact H25
    ipureintro; rfl
  iexists _; iexists _; isplitr
  swap; · iexact HS0
  ipureintro; rfl

end Cert.RowsIdeal.Hand

end
-- ==== Proof.RowsLaunch.lean ====
/- The projection call's run: the program runs to the end with the five stacks at what the write-backs of the body's blocks leave, the
   arguments as they were and every semaphore at zero. The other results' contents are not named. -/
module

public import proofs.«01_k».proof.Proof.RowsBody
public import Idealize.ShloMosaic.Lib.Claim

@[expose] public section

noncomputable section

namespace Cert.RowsIdeal.Hand

open Cert.RowsIdeal Cert.RowsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def oCkv (c : Dev nD) (t : Fin cfg0.N) : Vec F S1x1x512x256 .f32 := ckvOf (iblk m c 0 t) (iblk m c 1 t) (iblk m c 2 t) (iblk m c 3 t) (iblk m c 4 t) (iblk m c 7 t)
def oKr (c : Dev nD) (t : Fin cfg0.N) : Vec F S1x1x512x32 .f32 := krOf (iblk m c 0 t) (iblk m c 1 t) (iblk m c 2 t) (iblk m c 3 t) (iblk m c 4 t) (iblk m c 10 t) (iblk m c 11 t)
def oKf (c : Dev nD) (t : Fin cfg0.N) : Vec F S1x1x512x512 .f32 := kfOf (iblk m c 0 t) (iblk m c 1 t) (iblk m c 2 t) (iblk m c 3 t) (iblk m c 4 t)
def oVf (c : Dev nD) (t : Fin cfg0.N) : Vec F S1x1x512x512 .f32 := vfOf (iblk m c 0 t) (iblk m c 1 t) (iblk m c 2 t) (iblk m c 3 t) (iblk m c 4 t)
def oLf (c : Dev nD) (t : Fin cfg0.N) : Vec F S1x1x512x8 .f32 := lfOf (iblk m c 0 t) (iblk m c 1 t) (iblk m c 2 t) (iblk m c 3 t) (iblk m c 4 t) (iblk m c 9 t)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => oCkv m c t
    | ⟨21, _⟩ => oKr m c t
    | ⟨22, _⟩ => oKf m c t
    | ⟨23, _⟩ => oVf m c t
    | ⟨24, _⟩ => oLf m c t
    | ⟨25, _⟩ => iblk m c 25 t
    | ⟨n + 26, h⟩ => absurd h (by show ¬ n + 26 < 26; omega)
  Φ _ := Pipeline.ΦA spec0 c
  q _ := fullShare
  owed _ := 0

/-- The windows whose contents are not named: the queries, keys, values and the carried statistics. -/
def fgt (w : Fin cfg0.W) : Bool := w.val == 17 || w.val == 18 || w.val == 19 || w.val == 25

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_20 (c : Dev nD) (t : Fin cfg0.N) : (dats m 0 c).after 20 t = oCkv m c t := by dsimp only [dats]
theorem after_21 (c : Dev nD) (t : Fin cfg0.N) : (dats m 0 c).after 21 t = oKr m c t := by dsimp only [dats]
theorem after_22 (c : Dev nD) (t : Fin cfg0.N) : (dats m 0 c).after 22 t = oKf m c t := by dsimp only [dats]
theorem after_23 (c : Dev nD) (t : Fin cfg0.N) : (dats m 0 c).after 23 t = oVf m c t := by dsimp only [dats]
theorem after_24 (c : Dev nD) (t : Fin cfg0.N) : (dats m 0 c).after 24 t = oLf m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d
theorem before_15 (c : Dev nD) (t : Fin cfg0.N) (d) : (dats m 0 c).before 15 t d = iblk m c 15 t :=
  before0_15_of m (dats m 0 c) (A_eq m c 15) (after_15 m c) t d
theorem before_16 (c : Dev nD) (t : Fin cfg0.N) (d) : (dats m 0 c).before 16 t d = iblk m c 16 t :=
  before0_16_of m (dats m 0 c) (A_eq m c 16) (after_16 m c) t d

/-- The body at point `t`, on what the pipeline calls it with. -/
abbrev bodyAt (t : Fin cfg0.N) : Prog (TpuEff nD τ sig (Elt F) Λ₀ .tc) PUnit :=
  cc0_proj (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (Memref.whole main_arg17) (Memref.isWhole_whole _) (Memref.whole main_arg18) (Memref.isWhole_whole _) (Memref.whole main_arg19) (Memref.isWhole_whole _) (Memref.whole main_arg20) (Memref.isWhole_whole _) (Memref.whole main_arg21) (Memref.isWhole_whole _)
    (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _)

theorem defs_row (t : Fin cfg0.N) : defs₀ (F := F) .tc cfg0.body (cfg0.bodyArgs t (cfg0.slots t)) = bodyAt t := by
  unfold defs₀; rw [Defs.onTc_tc]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ X, owns (c : Thread nD τ) (ms0_17 t) fullShare X)
    ∗ (∃ X, owns (c : Thread nD τ) (ms0_18 t) fullShare X)
    ∗ (∃ X, owns (c : Thread nD τ) (ms0_19 t) fullShare X)
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ X, owns (c : Thread nD τ) (ms0_25 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ (∃ X, owns (c : Thread nD τ) (ms0_17 t) fullShare X)
    ∗ (∃ X, owns (c : Thread nD τ) (ms0_18 t) fullShare X)
    ∗ (∃ X, owns (c : Thread nD τ) (ms0_19 t) fullShare X)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ (∃ X, owns (c : Thread nD τ) (ms0_25 t) fullShare X))

set_option maxHeartbeats 4000000 in
theorem sound_body (c : Dev nD) (t : Fin cfg0.N) :
    bodyPre m c t ⊢ wp frame (wpE (defs₀ (F := F)) Variants.none c none) Set.univ (bodyAt t) (fun _ => bodyPost m c t) := by
  unfold bodyPre bodyPost bodyAt
  simp only [before_0, before_1, before_2, before_3, before_4, before_5, before_6, before_7, before_8, before_9, before_10, before_11, before_12, before_13, before_14, before_15, before_16]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq,
    after_0, after_1, after_2, after_3, after_4, after_5, after_6, after_7, after_8, after_9, after_10, after_11, after_12, after_13, after_14, after_15, after_16, after_20, after_21, after_22, after_23, after_24]
  unfold oCkv oKr oKf oVf oLf
  by_cases hc0 : cond0_0 (grid0.coords t)
  · iintro ⟨⟨HS, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
    iapply (body_set c Set.univ (grid0.coords t) hc0 _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [HS]; · iexact HS
    iintro ⟨H0, H1, H2, H3, H4, H5, H6, H7, H8, H9, H10, H11, H12, H13, H14, H15, H16, H17, H18, H19, H20, H21, H22, H23, H24, H25, HS⟩
    isplitl [HS HP]
    · isplitl [HS]; · iexact HS
      iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    iexact H25
  · iintro ⟨⟨HS, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
    iapply (body_kept c Set.univ (grid0.coords t) hc0 _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [HS]; · iexact HS
    iintro ⟨H0, H1, H2, H3, H4, H5, H6, H7, H8, H9, H10, H11, H12, H13, H14, H15, H16, H17, H18, H19, H20, H21, H22, H23, H24, H25, HS⟩
    isplitl [HS HP]
    · isplitl [HS]; · iexact HS
      iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    iexact H25

theorem body_obligation (c : Dev nD) : BodyObligation (dats (F := F) m 0 c) (defs₀ (F := F)) Variants.none () Set.univ fgt := fun t => by
  rw [bigSep_W0, bigSep_W0, defs_row]
  exact triple_restated (sound_body m c t) rfl .rfl fun _ => .rfl

set_option backward.isDefEq.respectTransparency.types false in
theorem run_main : θ_run defs (onTc (τ := τ) (main (F := F))) ⟨m, fun _ => 0, ρ⟩
    (fun r => Pipeline.RDat.FramePost cfg0 (fun c => (dats m 0 c).toRForget fgt) (V m) r ∧ r.2.sem = fun _ => 0) :=
  Pipeline.θ_run_frame_forget cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)
    (Q' := _) (hQ' := fun _ h => h)

theorem input_kept (c : Dev nD) (r : PUnit × MemSt nD τ sig (Elt F)) (h : Pipeline.RDat.FramePost cfg0 (fun c => (dats m 0 c).toRForget fgt) (V m) r) (w : Fin cfg0.W) (hin : (cfg0.win w).isOut = false) :
    r.2.mem ((cfg0.spec w).arr.view.loc (c.tc : Thread nD τ)) = V m c (Pipeline.arrRef spec0 w) :=
  (Pipeline.RDat.FramePost.arr_in h c w hin).trans (A_eq m c w)
theorem output_named (c : Dev nD) (r : PUnit × MemSt nD τ sig (Elt F)) (h : Pipeline.RDat.FramePost cfg0 (fun c => (dats m 0 c).toRForget fgt) (V m) r) (w : Fin cfg0.W) (hf : fgt w = false) :
    r.2.mem ((cfg0.spec w).arr.view.loc (c.tc : Thread nD τ)) = (dats m 0 c).arrAt w cfg0.N :=
  ((dats m 0 c).toRForget_arrAt_iff hf _ _).1 ((h c).1 w)

theorem kept_0 (c : Dev nD) (r : PUnit × MemSt nD τ sig (Elt F)) (h : Pipeline.RDat.FramePost cfg0 (fun c => (dats m 0 c).toRForget fgt) (V m) r) : r.2.mem ((c.tc : Thread nD τ).loc main_arg0) = m ((c.tc : Thread nD τ).loc main_arg0) :=
  (input_kept m c r h 0 rfl).trans (V_main_arg0 m c)
theorem kept_1 (c : Dev nD) (r : PUnit × MemSt nD τ sig (Elt F)) (h : Pipeline.RDat.FramePost cfg0 (fun c => (dats m 0 c).toRForget fgt) (V m) r) : r.2.mem ((c.tc : Thread nD τ).loc main_arg1) = m ((c.tc : Thread nD τ).loc main_arg1) :=
  (input_kept m c r h 1 rfl).trans (V_main_arg1 m c)
theorem kept_2 (c : Dev nD) (r : PUnit × MemSt nD τ sig (Elt F)) (h : Pipeline.RDat.FramePost cfg0 (fun c => (dats m 0 c).toRForget fgt) (V m) r) : r.2.mem ((c.tc : Thread nD τ).loc main_arg2) = m ((c.tc : Thread nD τ).loc main_arg2) :=
  (input_kept m c r h 2 rfl).trans (V_main_arg2 m c)
theorem kept_3 (c : Dev nD) (r : PUnit × MemSt nD τ sig (Elt F)) (h : Pipeline.RDat.FramePost cfg0 (fun c => (dats m 0 c).toRForget fgt) (V m) r) : r.2.mem ((c.tc : Thread nD τ).loc main_arg3) = m ((c.tc : Thread nD τ).loc main_arg3) :=
  (input_kept m c r h 3 rfl).trans (V_main_arg3 m c)
theorem kept_4 (c : Dev nD) (r : PUnit × MemSt nD τ sig (Elt F)) (h : Pipeline.RDat.FramePost cfg0 (fun c => (dats m 0 c).toRForget fgt) (V m) r) : r.2.mem ((c.tc : Thread nD τ).loc main_arg4) = m ((c.tc : Thread nD τ).loc main_arg4) :=
  (input_kept m c r h 4 rfl).trans (V_main_arg4 m c)
theorem kept_5 (c : Dev nD) (r : PUnit × MemSt nD τ sig (Elt F)) (h : Pipeline.RDat.FramePost cfg0 (fun c => (dats m 0 c).toRForget fgt) (V m) r) : r.2.mem ((c.tc : Thread nD τ).loc main_arg5) = m ((c.tc : Thread nD τ).loc main_arg5) :=
  (input_kept m c r h 5 rfl).trans (V_main_arg5 m c)
theorem kept_6 (c : Dev nD) (r : PUnit × MemSt nD τ sig (Elt F)) (h : Pipeline.RDat.FramePost cfg0 (fun c => (dats m 0 c).toRForget fgt) (V m) r) : r.2.mem ((c.tc : Thread nD τ).loc main_arg6) = m ((c.tc : Thread nD τ).loc main_arg6) :=
  (input_kept m c r h 6 rfl).trans (V_main_arg6 m c)
theorem kept_7 (c : Dev nD) (r : PUnit × MemSt nD τ sig (Elt F)) (h : Pipeline.RDat.FramePost cfg0 (fun c => (dats m 0 c).toRForget fgt) (V m) r) : r.2.mem ((c.tc : Thread nD τ).loc main_arg7) = m ((c.tc : Thread nD τ).loc main_arg7) :=
  (input_kept m c r h 7 rfl).trans (V_main_arg7 m c)
theorem kept_8 (c : Dev nD) (r : PUnit × MemSt nD τ sig (Elt F)) (h : Pipeline.RDat.FramePost cfg0 (fun c => (dats m 0 c).toRForget fgt) (V m) r) : r.2.mem ((c.tc : Thread nD τ).loc main_arg8) = m ((c.tc : Thread nD τ).loc main_arg8) :=
  (input_kept m c r h 8 rfl).trans (V_main_arg8 m c)
theorem kept_9 (c : Dev nD) (r : PUnit × MemSt nD τ sig (Elt F)) (h : Pipeline.RDat.FramePost cfg0 (fun c => (dats m 0 c).toRForget fgt) (V m) r) : r.2.mem ((c.tc : Thread nD τ).loc main_arg9) = m ((c.tc : Thread nD τ).loc main_arg9) :=
  (input_kept m c r h 9 rfl).trans (V_main_arg9 m c)
theorem kept_10 (c : Dev nD) (r : PUnit × MemSt nD τ sig (Elt F)) (h : Pipeline.RDat.FramePost cfg0 (fun c => (dats m 0 c).toRForget fgt) (V m) r) : r.2.mem ((c.tc : Thread nD τ).loc main_arg10) = m ((c.tc : Thread nD τ).loc main_arg10) :=
  (input_kept m c r h 10 rfl).trans (V_main_arg10 m c)
theorem kept_11 (c : Dev nD) (r : PUnit × MemSt nD τ sig (Elt F)) (h : Pipeline.RDat.FramePost cfg0 (fun c => (dats m 0 c).toRForget fgt) (V m) r) : r.2.mem ((c.tc : Thread nD τ).loc main_arg11) = m ((c.tc : Thread nD τ).loc main_arg11) :=
  (input_kept m c r h 11 rfl).trans (V_main_arg11 m c)
theorem kept_12 (c : Dev nD) (r : PUnit × MemSt nD τ sig (Elt F)) (h : Pipeline.RDat.FramePost cfg0 (fun c => (dats m 0 c).toRForget fgt) (V m) r) : r.2.mem ((c.tc : Thread nD τ).loc main_arg12) = m ((c.tc : Thread nD τ).loc main_arg12) :=
  (input_kept m c r h 12 rfl).trans (V_main_arg12 m c)
theorem kept_13 (c : Dev nD) (r : PUnit × MemSt nD τ sig (Elt F)) (h : Pipeline.RDat.FramePost cfg0 (fun c => (dats m 0 c).toRForget fgt) (V m) r) : r.2.mem ((c.tc : Thread nD τ).loc main_arg13) = m ((c.tc : Thread nD τ).loc main_arg13) :=
  (input_kept m c r h 13 rfl).trans (V_main_arg13 m c)
theorem kept_14 (c : Dev nD) (r : PUnit × MemSt nD τ sig (Elt F)) (h : Pipeline.RDat.FramePost cfg0 (fun c => (dats m 0 c).toRForget fgt) (V m) r) : r.2.mem ((c.tc : Thread nD τ).loc main_arg14) = m ((c.tc : Thread nD τ).loc main_arg14) :=
  (input_kept m c r h 14 rfl).trans (V_main_arg14 m c)
theorem kept_15 (c : Dev nD) (r : PUnit × MemSt nD τ sig (Elt F)) (h : Pipeline.RDat.FramePost cfg0 (fun c => (dats m 0 c).toRForget fgt) (V m) r) : r.2.mem ((c.tc : Thread nD τ).loc main_arg15) = m ((c.tc : Thread nD τ).loc main_arg15) :=
  (input_kept m c r h 15 rfl).trans (V_main_arg15 m c)
theorem kept_16 (c : Dev nD) (r : PUnit × MemSt nD τ sig (Elt F)) (h : Pipeline.RDat.FramePost cfg0 (fun c => (dats m 0 c).toRForget fgt) (V m) r) : r.2.mem ((c.tc : Thread nD τ).loc main_arg16) = m ((c.tc : Thread nD τ).loc main_arg16) :=
  (input_kept m c r h 16 rfl).trans (V_main_arg16 m c)
theorem kept_17 (c : Dev nD) (r : PUnit × MemSt nD τ sig (Elt F)) (h : Pipeline.RDat.FramePost cfg0 (fun c => (dats m 0 c).toRForget fgt) (V m) r) : r.2.mem ((c.tc : Thread nD τ).loc main_arg17) = m ((c.tc : Thread nD τ).loc main_arg17) :=
  ((h c).2 main_arg17 (Pipeline.mem_restRefs_of main_arg17 (by decide) (by decide))).trans (V_main_arg17 m c)
theorem kept_18 (c : Dev nD) (r : PUnit × MemSt nD τ sig (Elt F)) (h : Pipeline.RDat.FramePost cfg0 (fun c => (dats m 0 c).toRForget fgt) (V m) r) : r.2.mem ((c.tc : Thread nD τ).loc main_arg18) = m ((c.tc : Thread nD τ).loc main_arg18) :=
  ((h c).2 main_arg18 (Pipeline.mem_restRefs_of main_arg18 (by decide) (by decide))).trans (V_main_arg18 m c)
theorem kept_19 (c : Dev nD) (r : PUnit × MemSt nD τ sig (Elt F)) (h : Pipeline.RDat.FramePost cfg0 (fun c => (dats m 0 c).toRForget fgt) (V m) r) : r.2.mem ((c.tc : Thread nD τ).loc main_arg19) = m ((c.tc : Thread nD τ).loc main_arg19) :=
  ((h c).2 main_arg19 (Pipeline.mem_restRefs_of main_arg19 (by decide) (by decide))).trans (V_main_arg19 m c)
theorem kept_20 (c : Dev nD) (r : PUnit × MemSt nD τ sig (Elt F)) (h : Pipeline.RDat.FramePost cfg0 (fun c => (dats m 0 c).toRForget fgt) (V m) r) : r.2.mem ((c.tc : Thread nD τ).loc main_arg20) = m ((c.tc : Thread nD τ).loc main_arg20) :=
  ((h c).2 main_arg20 (Pipeline.mem_restRefs_of main_arg20 (by decide) (by decide))).trans (V_main_arg20 m c)
theorem kept_21 (c : Dev nD) (r : PUnit × MemSt nD τ sig (Elt F)) (h : Pipeline.RDat.FramePost cfg0 (fun c => (dats m 0 c).toRForget fgt) (V m) r) : r.2.mem ((c.tc : Thread nD τ).loc main_arg21) = m ((c.tc : Thread nD τ).loc main_arg21) :=
  ((h c).2 main_arg21 (Pipeline.mem_restRefs_of main_arg21 (by decide) (by decide))).trans (V_main_arg21 m c)
theorem named_20 (c : Dev nD) (r : PUnit × MemSt nD τ sig (Elt F)) (h : Pipeline.RDat.FramePost cfg0 (fun c => (dats m 0 c).toRForget fgt) (V m) r) : r.2.mem ((c.tc : Thread nD τ).loc main_v0_3) = (dats m 0 c).arrAt 20 cfg0.N :=
  output_named m c r h 20 rfl
theorem named_21 (c : Dev nD) (r : PUnit × MemSt nD τ sig (Elt F)) (h : Pipeline.RDat.FramePost cfg0 (fun c => (dats m 0 c).toRForget fgt) (V m) r) : r.2.mem ((c.tc : Thread nD τ).loc main_v0_4) = (dats m 0 c).arrAt 21 cfg0.N :=
  output_named m c r h 21 rfl
theorem named_22 (c : Dev nD) (r : PUnit × MemSt nD τ sig (Elt F)) (h : Pipeline.RDat.FramePost cfg0 (fun c => (dats m 0 c).toRForget fgt) (V m) r) : r.2.mem ((c.tc : Thread nD τ).loc main_v0_5) = (dats m 0 c).arrAt 22 cfg0.N :=
  output_named m c r h 22 rfl
theorem named_23 (c : Dev nD) (r : PUnit × MemSt nD τ sig (Elt F)) (h : Pipeline.RDat.FramePost cfg0 (fun c => (dats m 0 c).toRForget fgt) (V m) r) : r.2.mem ((c.tc : Thread nD τ).loc main_v0_6) = (dats m 0 c).arrAt 23 cfg0.N :=
  output_named m c r h 23 rfl
theorem named_24 (c : Dev nD) (r : PUnit × MemSt nD τ sig (Elt F)) (h : Pipeline.RDat.FramePost cfg0 (fun c => (dats m 0 c).toRForget fgt) (V m) r) : r.2.mem ((c.tc : Thread nD τ).loc main_v0_7) = (dats m 0 c).arrAt 24 cfg0.N :=
  output_named m c r h 24 rfl

/-- The five stacks and the arguments, -/
theorem run : θ_run defs (onTc (τ := τ) (main (F := F))) ⟨m, fun _ => 0, ρ⟩ (fun r => ∀ c : Dev nD,
      r.2.mem ((c.tc : Thread nD τ).loc main_v0_3) = (dats m 0 c).arrAt 20 cfg0.N
      ∧ r.2.mem ((c.tc : Thread nD τ).loc main_v0_4) = (dats m 0 c).arrAt 21 cfg0.N
      ∧ r.2.mem ((c.tc : Thread nD τ).loc main_v0_5) = (dats m 0 c).arrAt 22 cfg0.N
      ∧ r.2.mem ((c.tc : Thread nD τ).loc main_v0_6) = (dats m 0 c).arrAt 23 cfg0.N
      ∧ r.2.mem ((c.tc : Thread nD τ).loc main_v0_7) = (dats m 0 c).arrAt 24 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c => ⟨named_20 m c r h.1, named_21 m c r h.1, named_22 m c r h.1, named_23 m c r h.1, named_24 m c r h.1, kept_0 m c r h.1, kept_1 m c r h.1, kept_2 m c r h.1, kept_3 m c r h.1, kept_4 m c r h.1, kept_5 m c r h.1, kept_6 m c r h.1, kept_7 m c r h.1, kept_8 m c r h.1, kept_9 m c r h.1, kept_10 m c r h.1, kept_11 m c r h.1, kept_12 m c r h.1, kept_13 m c r h.1, kept_14 m c r h.1, kept_15 m c r h.1, kept_16 m c r h.1, kept_17 m c r h.1, kept_18 m c r h.1, kept_19 m c r h.1, kept_20 m c r h.1, kept_21 m c r h.1⟩) (run_main m ρ)

/-- and the frame: the arguments unchanged and every semaphore at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) ∧ r.2.sem = fun _ => 0) :=
  (θ_run defs _ _).mono (fun r h => ⟨fun c => ⟨kept_0 m c r h.1, kept_1 m c r h.1, kept_2 m c r h.1, kept_3 m c r h.1, kept_4 m c r h.1, kept_5 m c r h.1, kept_6 m c r h.1, kept_7 m c r h.1, kept_8 m c r h.1, kept_9 m c r h.1, kept_10 m c r h.1, kept_11 m c r h.1, kept_12 m c r h.1, kept_13 m c r h.1, kept_14 m c r h.1, kept_15 m c r h.1, kept_16 m c r h.1, kept_17 m c r h.1, kept_18 m c r h.1, kept_19 m c r h.1, kept_20 m c r h.1, kept_21 m c r h.1⟩, h.2⟩) (run_main m ρ)

end Cert.RowsIdeal.Hand

end
-- ==== Proof.RowsValue.lean ====
/- The projection call's value claim and frames: each block read at an index is its array at the block's place, the blocks cover the stacks'
   first layer, the other layers stay as given, and so the kernel's stacks are the plain reference's. -/
module

public import proofs.«01_k».proof.Defs
public import proofs.«01_k».proof.Proof.RowsRead
public import proofs.«01_k».proof.Proof.RowsLaunch
public import proofs.«01_k».proof.Proof.PlainRowsLaunch
public import Idealize.ShloMosaic.Lib.Pipeline.ValueKit

@[expose] public section

noncomputable section

namespace Cert.RowsIdeal.Hand

open Cert.RowsIdeal Cert.RowsIdeal.Gen
open Idealize.ShloMosaic Idealize.ShloMosaic.TcCoe
open Cert.RowsReferenceIdeal.Hand (projV projV_at newCkv newCkv_at newKr newKr_at newKf newKf_at newVf newVf_at newLf newLf_at
  ckvV ckvV_new ckvV_old krV krV_new krV_old foxV foxV_new foxV_old lfV lfV_new lfV_old)

variable (m : (ℓ : Loc nD τ sig) → Buf (Elt Ideal) ℓ)

/-- A point's batch, and row `r` of its block among the batch's rows. -/
def bat (t : Fin cfg0.N) : Fin 4 := grid0.coords t 0
def seg (t : Fin cfg0.N) : Fin 16 := grid0.coords t 1
def row (t : Fin cfg0.N) (r : Fin 512) : Fin 8192 := ⟨512 * (seg t).val + r.val, by have := (seg t).isLt; omega⟩

theorem word_of (n : ℕ) (h : n < 16) : (BitVec.ofNat 32 n).toNat = n := by
  rw [BitVec.toNat_ofNat, Nat.mod_eq_of_lt (by omega)]
theorem word_nil : (0#32 : BitVec 32).toNat = 0 := rfl

/-! ## The input blocks -/

theorem x_at (c : Dev nD) (t : Fin cfg0.N) (r : Fin 512) (k : Fin 1024) :
    iblk m c 0 t (ix3 (0 : Fin 1) r k) = m ((c.tc : Thread nD τ).loc main_arg0) (ix3 (bat t) (row t r) k) := by
  have hb := (bat t).isLt
  have hs := (seg t).isLt
  refine (congrArg (V m c main_arg0) (funext fun a => Fin.ext ?_)).trans (congrFun (V_main_arg0 m c) _)
  match a with
  | ⟨0, _⟩ => show (BitVec.ofNat 32 (bat t).val).toNat * 1 + 1 * 0 = (bat t).val; rw [word_of _ (by omega)]; omega
  | ⟨1, _⟩ => show (BitVec.ofNat 32 (seg t).val).toNat * 512 + 1 * r.val = 512 * (seg t).val + r.val; rw [word_of _ hs]; omega
  | ⟨2, _⟩ => show (0#32 : BitVec 32).toNat * 1024 + 1 * k.val = k.val; rw [word_nil]; omega

theorem sh_at (c : Dev nD) (t : Fin cfg0.N) (k : Fin 1024) :
    iblk m c 1 t (ix3 (0 : Fin 1) (0 : Fin 1) k) = m ((c.tc : Thread nD τ).loc main_arg1) (ix3 (bat t) (0 : Fin 1) k) := by
  have hb := (bat t).isLt
  have hs := (seg t).isLt
  refine (congrArg (V m c main_arg1) (funext fun a => Fin.ext ?_)).trans (congrFun (V_main_arg1 m c) _)
  match a with
  | ⟨0, _⟩ => show (BitVec.ofNat 32 (bat t).val).toNat * 1 + 1 * 0 = (bat t).val; rw [word_of _ (by omega)]; omega
  | ⟨1, _⟩ => show (0#32 : BitVec 32).toNat * 1 + 1 * 0 = 0; rw [word_nil]
  | ⟨2, _⟩ => show (0#32 : BitVec 32).toNat * 1024 + 1 * k.val = k.val; rw [word_nil]; omega

theorem sc_at (c : Dev nD) (t : Fin cfg0.N) (k : Fin 1024) :
    iblk m c 2 t (ix3 (0 : Fin 1) (0 : Fin 1) k) = m ((c.tc : Thread nD τ).loc main_arg2) (ix3 (bat t) (0 : Fin 1) k) := by
  have hb := (bat t).isLt
  have hs := (seg t).isLt
  refine (congrArg (V m c main_arg2) (funext fun a => Fin.ext ?_)).trans (congrFun (V_main_arg2 m c) _)
  match a with
  | ⟨0, _⟩ => show (BitVec.ofNat 32 (bat t).val).toNat * 1 + 1 * 0 = (bat t).val; rw [word_of _ (by omega)]; omega
  | ⟨1, _⟩ => show (0#32 : BitVec 32).toNat * 1 + 1 * 0 = 0; rw [word_nil]
  | ⟨2, _⟩ => show (0#32 : BitVec 32).toNat * 1024 + 1 * k.val = k.val; rw [word_nil]; omega

theorem g_at (c : Dev nD) (t : Fin cfg0.N) (k : Fin 1024) :
    iblk m c 3 t (ix2 (0 : Fin 1) k) = m ((c.tc : Thread nD τ).loc main_arg3) (ix2 (0 : Fin 1) k) := by
  have hb := (bat t).isLt
  have hs := (seg t).isLt
  refine (congrArg (V m c main_arg3) (funext fun a => Fin.ext ?_)).trans (congrFun (V_main_arg3 m c) _)
  match a with
  | ⟨0, _⟩ => show (0#32 : BitVec 32).toNat * 1 + 1 * 0 = 0; rw [word_nil]
  | ⟨1, _⟩ => show (0#32 : BitVec 32).toNat * 1024 + 1 * k.val = k.val; rw [word_nil]; omega

theorem w_at (c : Dev nD) (t : Fin cfg0.N) (k : Fin 1024) (j : Fin 2432) :
    iblk m c 4 t (ix2 k j) = m ((c.tc : Thread nD τ).loc main_arg4) (ix2 k j) := by
  have hb := (bat t).isLt
  have hs := (seg t).isLt
  refine (congrArg (V m c main_arg4) (funext fun a => Fin.ext ?_)).trans (congrFun (V_main_arg4 m c) _)
  match a with
  | ⟨0, _⟩ => show (0#32 : BitVec 32).toNat * 1024 + 1 * k.val = k.val; rw [word_nil]; omega
  | ⟨1, _⟩ => show (0#32 : BitVec 32).toNat * 2432 + 1 * j.val = j.val; rw [word_nil]; omega

theorem kn_at (c : Dev nD) (t : Fin cfg0.N) (k : Fin 256) :
    iblk m c 7 t (ix2 (0 : Fin 1) k) = m ((c.tc : Thread nD τ).loc main_arg7) (ix2 (0 : Fin 1) k) := by
  have hb := (bat t).isLt
  have hs := (seg t).isLt
  refine (congrArg (V m c main_arg7) (funext fun a => Fin.ext ?_)).trans (congrFun (V_main_arg7 m c) _)
  match a with
  | ⟨0, _⟩ => show (0#32 : BitVec 32).toNat * 1 + 1 * 0 = 0; rw [word_nil]
  | ⟨1, _⟩ => show (0#32 : BitVec 32).toNat * 256 + 1 * k.val = k.val; rw [word_nil]; omega

theorem bf_at (c : Dev nD) (t : Fin cfg0.N) (k : Fin 128) :
    iblk m c 9 t (ix2 (0 : Fin 1) k) = m ((c.tc : Thread nD τ).loc main_arg9) (ix2 (0 : Fin 1) k) := by
  have hb := (bat t).isLt
  have hs := (seg t).isLt
  refine (congrArg (V m c main_arg9) (funext fun a => Fin.ext ?_)).trans (congrFun (V_main_arg9 m c) _)
  match a with
  | ⟨0, _⟩ => show (0#32 : BitVec 32).toNat * 1 + 1 * 0 = 0; rw [word_nil]
  | ⟨1, _⟩ => show (0#32 : BitVec 32).toNat * 128 + 1 * k.val = k.val; rw [word_nil]; omega

theorem co_at (c : Dev nD) (t : Fin cfg0.N) (r : Fin 512) (k : Fin 128) :
    iblk m c 10 t (ix2 r k) = m ((c.tc : Thread nD τ).loc main_arg10) (ix2 (row t r) k) := by
  have hb := (bat t).isLt
  have hs := (seg t).isLt
  refine (congrArg (V m c main_arg10) (funext fun a => Fin.ext ?_)).trans (congrFun (V_main_arg10 m c) _)
  match a with
  | ⟨0, _⟩ => show (BitVec.ofNat 32 (seg t).val).toNat * 512 + 1 * r.val = 512 * (seg t).val + r.val; rw [word_of _ hs]; omega
  | ⟨1, _⟩ => show (0#32 : BitVec 32).toNat * 128 + 1 * k.val = k.val; rw [word_nil]; omega

theorem si_at (c : Dev nD) (t : Fin cfg0.N) (r : Fin 512) (k : Fin 128) :
    iblk m c 11 t (ix2 r k) = m ((c.tc : Thread nD τ).loc main_arg11) (ix2 (row t r) k) := by
  have hb := (bat t).isLt
  have hs := (seg t).isLt
  refine (congrArg (V m c main_arg11) (funext fun a => Fin.ext ?_)).trans (congrFun (V_main_arg11 m c) _)
  match a with
  | ⟨0, _⟩ => show (BitVec.ofNat 32 (seg t).val).toNat * 512 + 1 * r.val = 512 * (seg t).val + r.val; rw [word_of _ hs]; omega
  | ⟨1, _⟩ => show (0#32 : BitVec 32).toNat * 128 + 1 * k.val = k.val; rw [word_nil]; omega

/-! ## The blocks the body leaves, at the reference's elements -/

section Plain
variable (X : FVec Ideal S4x8192x1024 .f32) (SH SC : FVec Ideal S4x1x1024 .f32) (GN : FVec Ideal S1x1024 .f32) (W : FVec Ideal S1024x2432 .bf16)
  (P : FVec Ideal Cert.RowsReferenceIdeal.S4x8192x2432 .f32) (v : FVec Ideal S512x2432 .f32) (b : Fin 4) (n : Fin 512 → Fin 8192)

theorem projBlk_plain (x : Vec Ideal S1x512x1024 .f32) (sh sc : Vec Ideal S1x1x1024 .f32) (g : Vec Ideal S1x1024 .f32) (w : Vec Ideal S1024x2432 .bf16)
    (hx : ∀ r k, x (ix3 (0 : Fin 1) r k) = X (ix3 b (n r) k)) (hsh : ∀ k, sh (ix3 (0 : Fin 1) (0 : Fin 1) k) = SH (ix3 b (0 : Fin 1) k))
    (hsc : ∀ k, sc (ix3 (0 : Fin 1) (0 : Fin 1) k) = SC (ix3 b (0 : Fin 1) k)) (hg : ∀ k, g (ix2 (0 : Fin 1) k) = GN (ix2 (0 : Fin 1) k))
    (hw : ∀ k j, w (ix2 k j) = W (ix2 k j)) (r : Fin 512) (j : Fin 2432) :
    projBlk x sh sc g w (ix2 r j) = projV X SH SC GN W (ix3 b (n r) j) := by
  unfold projBlk
  rw [proj_at, projV_at]
  simp only [hx, hsh, hsc, hg, hw]

variable (hv : ∀ r j, v (ix2 r j) = P (ix3 b (n r) j))
include hv

theorem ckv_plain (KN : FVec Ideal S1x256 .f32) (K : FVec Ideal S4x4x8192x256 .f32) (kn : Vec Ideal S1x256 .f32)
    (hk : ∀ k, kn (ix2 (0 : Fin 1) k) = KN (ix2 (0 : Fin 1) k)) (r : Fin 512) (d : Fin 256) :
    k0_pay19 (F := Ideal) (k0_pay16 v) kn (k0_pay17 v) (ix4 (0 : Fin 1) (0 : Fin 1) r d) = ckvV (newCkv P KN) K (ix4 (0 : Fin 4) b (n r) d) := by
  rw [ckv_at, ckvV_new, newCkv_at]
  simp only [hv, hk]

theorem kr_plain (CO SI : FVec Ideal S8192x128 .f32) (K : FVec Ideal S4x4x8192x32 .f32) (co si : Vec Ideal S512x128 .f32)
    (hco : ∀ r k, co (ix2 r k) = CO (ix2 (n r) k)) (hsi : ∀ r k, si (ix2 r k) = SI (ix2 (n r) k)) (r : Fin 512) (d : Fin 32) :
    k0_pay22 (F := Ideal) v co si (ix4 (0 : Fin 1) (0 : Fin 1) r d) = krV (newKr P CO SI) K (ix4 (0 : Fin 4) b (n r) d) := by
  rw [kr_at, krV_new, newKr_at]
  simp only [hv, hco, hsi]

theorem kf_plain (K : FVec Ideal S4x4x8192x512 .f32) (r : Fin 512) (d : Fin 512) :
    k0_pay45 (F := Ideal) v (ix4 (0 : Fin 1) (0 : Fin 1) r d) = foxV (newKf P) K (ix4 (0 : Fin 4) b (n r) d) := by
  rw [kf_at, foxV_new, newKf_at]
  simp only [hv]

theorem vf_plain (K : FVec Ideal S4x4x8192x512 .f32) (r : Fin 512) (d : Fin 512) :
    k0_pay46 (F := Ideal) v (ix4 (0 : Fin 1) (0 : Fin 1) r d) = foxV (newVf P) K (ix4 (0 : Fin 4) b (n r) d) := by
  rw [vf_at, foxV_new, newVf_at]
  simp only [hv]

theorem lf_plain (BF : FVec Ideal S1x128 .f32) (K : FVec Ideal S4x4x8192x8 .f32) (bf : Vec Ideal S1x128 .f32)
    (hbf : ∀ k, bf (ix2 (0 : Fin 1) k) = BF (ix2 (0 : Fin 1) k)) (r : Fin 512) (d : Fin 8) :
    k0_pay48 (F := Ideal) v bf (ix4 (0 : Fin 1) (0 : Fin 1) r d) = lfV (newLf P BF) K (ix4 (0 : Fin 4) b (n r) d) := by
  rw [lf_at, lfV_new, newLf_at]
  simp only [hv, hbf]

end Plain

/-- The reference's projection of the launched arguments. -/
def launchedP (c : Dev nD) : FVec Ideal Cert.RowsReferenceIdeal.S4x8192x2432 .f32 :=
  projV (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

theorem launched_at (c : Dev nD) (t : Fin cfg0.N) (r : Fin 512) (j : Fin 2432) :
    projBlk (iblk m c 0 t) (iblk m c 1 t) (iblk m c 2 t) (iblk m c 3 t) (iblk m c 4 t) (ix2 r j) = launchedP m c (ix3 (bat t) (row t r) j) :=
  projBlk_plain _ _ _ _ _ (bat t) (row t) _ _ _ _ _ (x_at m c t) (sh_at m c t) (sc_at m c t) (g_at m c t) (w_at m c t) r j

/-! ## The stacks -/

theorem entry_20 (c : Dev nD) : V m c main_v0_3 = m ((c.tc : Thread nD τ).loc main_arg17) := by
  show StableHlo.after hostOps0 _ _ = _
  simp only [hostOps0]
  after_results_simp <;> rfl

theorem emb_20 (t : Fin cfg0.N) (r : Fin 512) (d : Fin 256) :
    ((cfg0.win 20).blk t).view.emb (ix4 (0 : Fin 1) (0 : Fin 1) r d) = ix4 (0 : Fin 4) (bat t) (row t r) d := by
  have hb := (bat t).isLt
  have hs := (seg t).isLt
  funext a
  apply Fin.ext
  match a with
  | ⟨0, _⟩ => show (0#32 : BitVec 32).toNat * 1 + 1 * 0 = 0; rw [word_nil]
  | ⟨1, _⟩ => show (BitVec.ofNat 32 (bat t).val).toNat * 1 + 1 * 0 = (bat t).val; rw [word_of _ (by omega)]; omega
  | ⟨2, _⟩ => show (BitVec.ofNat 32 (seg t).val).toNat * 512 + 1 * r.val = 512 * (seg t).val + r.val; rw [word_of _ hs]; omega
  | ⟨3, _⟩ => show (0#32 : BitVec 32).toNat * 256 + 1 * d.val = d.val; rw [word_nil]; omega

theorem in_20 (i : S1x1x512x256.Idx) : ∃ (r : Fin 512) (d : Fin 256), i = ix4 (0 : Fin 1) (0 : Fin 1) r d := ⟨i 2, i 3, funext fun a => by
  match a with
  | ⟨0, _⟩ => exact Subsingleton.elim (α := Fin 1) _ _
  | ⟨1, _⟩ => exact Subsingleton.elim (α := Fin 1) _ _
  | ⟨2, _⟩ => rfl
  | ⟨3, _⟩ => rfl⟩

theorem of_20 (j : S4x4x8192x256.Idx) : ∃ (l b : Fin 4) (n : Fin 8192) (d : Fin 256), j = ix4 l b n d := ⟨j 0, j 1, j 2, j 3, funext fun a => by
  match a with
  | ⟨0, _⟩ => rfl
  | ⟨1, _⟩ => rfl
  | ⟨2, _⟩ => rfl
  | ⟨3, _⟩ => rfl⟩

theorem written_20 : (cfg0.win 20).CoversWhere (fun β : Fin 4 → ℕ => β 0 = 0) := by decide +kernel

theorem result_20 (c : Dev nD) : (dats m 0 c).arrAt 20 cfg0.N
    = ckvV (newCkv (launchedP m c) (m ((c.tc : Thread nD τ).loc main_arg7))) (m ((c.tc : Thread nD τ).loc main_arg17)) := by
  refine (dats m 0 c).arrAt_eq_of_coversWhere_of_agree 20 _ (fun β : Fin 4 → ℕ => β 0 = 0) written_20 (fun t _ i => ?_) (fun j hj => ?_)
  · show oCkv m c t i = _
    obtain ⟨r, d, rfl⟩ := in_20 i
    refine Eq.trans ?_ (congrArg (ckvV _ _) (emb_20 t r d)).symm
    exact ckv_plain (launchedP m c) _ (bat t) (row t) (launched_at m c t) (m ((c.tc : Thread nD τ).loc main_arg7)) (m ((c.tc : Thread nD τ).loc main_arg17)) _ (kn_at m c t) r d
  · obtain ⟨l, b, n, d, rfl⟩ := of_20 j
    have hl : l.val ≠ 0 := fun e => hj (by show l.val / 1 = 0; omega)
    show V m c main_v0_3 (ix4 l b n d) = ckvV _ _ (ix4 l b n d)
    rw [entry_20, ckvV_old _ _ l hl]

theorem entry_21 (c : Dev nD) : V m c main_v0_4 = m ((c.tc : Thread nD τ).loc main_arg18) := by
  show StableHlo.after hostOps0 _ _ = _
  simp only [hostOps0]
  after_results_simp <;> rfl

theorem emb_21 (t : Fin cfg0.N) (r : Fin 512) (d : Fin 32) :
    ((cfg0.win 21).blk t).view.emb (ix4 (0 : Fin 1) (0 : Fin 1) r d) = ix4 (0 : Fin 4) (bat t) (row t r) d := by
  have hb := (bat t).isLt
  have hs := (seg t).isLt
  funext a
  apply Fin.ext
  match a with
  | ⟨0, _⟩ => show (0#32 : BitVec 32).toNat * 1 + 1 * 0 = 0; rw [word_nil]
  | ⟨1, _⟩ => show (BitVec.ofNat 32 (bat t).val).toNat * 1 + 1 * 0 = (bat t).val; rw [word_of _ (by omega)]; omega
  | ⟨2, _⟩ => show (BitVec.ofNat 32 (seg t).val).toNat * 512 + 1 * r.val = 512 * (seg t).val + r.val; rw [word_of _ hs]; omega
  | ⟨3, _⟩ => show (0#32 : BitVec 32).toNat * 32 + 1 * d.val = d.val; rw [word_nil]; omega

theorem in_21 (i : S1x1x512x32.Idx) : ∃ (r : Fin 512) (d : Fin 32), i = ix4 (0 : Fin 1) (0 : Fin 1) r d := ⟨i 2, i 3, funext fun a => by
  match a with
  | ⟨0, _⟩ => exact Subsingleton.elim (α := Fin 1) _ _
  | ⟨1, _⟩ => exact Subsingleton.elim (α := Fin 1) _ _
  | ⟨2, _⟩ => rfl
  | ⟨3, _⟩ => rfl⟩

theorem of_21 (j : S4x4x8192x32.Idx) : ∃ (l b : Fin 4) (n : Fin 8192) (d : Fin 32), j = ix4 l b n d := ⟨j 0, j 1, j 2, j 3, funext fun a => by
  match a with
  | ⟨0, _⟩ => rfl
  | ⟨1, _⟩ => rfl
  | ⟨2, _⟩ => rfl
  | ⟨3, _⟩ => rfl⟩

theorem written_21 : (cfg0.win 21).CoversWhere (fun β : Fin 4 → ℕ => β 0 = 0) := by decide +kernel

theorem result_21 (c : Dev nD) : (dats m 0 c).arrAt 21 cfg0.N
    = krV (newKr (launchedP m c) (m ((c.tc : Thread nD τ).loc main_arg10)) (m ((c.tc : Thread nD τ).loc main_arg11))) (m ((c.tc : Thread nD τ).loc main_arg18)) := by
  refine (dats m 0 c).arrAt_eq_of_coversWhere_of_agree 21 _ (fun β : Fin 4 → ℕ => β 0 = 0) written_21 (fun t _ i => ?_) (fun j hj => ?_)
  · show oKr m c t i = _
    obtain ⟨r, d, rfl⟩ := in_21 i
    refine Eq.trans ?_ (congrArg (krV _ _) (emb_21 t r d)).symm
    exact kr_plain (launchedP m c) _ (bat t) (row t) (launched_at m c t) (m ((c.tc : Thread nD τ).loc main_arg10)) (m ((c.tc : Thread nD τ).loc main_arg11)) (m ((c.tc : Thread nD τ).loc main_arg18)) _ _ (co_at m c t) (si_at m c t) r d
  · obtain ⟨l, b, n, d, rfl⟩ := of_21 j
    have hl : l.val ≠ 0 := fun e => hj (by show l.val / 1 = 0; omega)
    show V m c main_v0_4 (ix4 l b n d) = krV _ _ (ix4 l b n d)
    rw [entry_21, krV_old _ _ l hl]

theorem entry_22 (c : Dev nD) : V m c main_v0_5 = m ((c.tc : Thread nD τ).loc main_arg19) := by
  show StableHlo.after hostOps0 _ _ = _
  simp only [hostOps0]
  after_results_simp <;> rfl

theorem emb_22 (t : Fin cfg0.N) (r : Fin 512) (d : Fin 512) :
    ((cfg0.win 22).blk t).view.emb (ix4 (0 : Fin 1) (0 : Fin 1) r d) = ix4 (0 : Fin 4) (bat t) (row t r) d := by
  have hb := (bat t).isLt
  have hs := (seg t).isLt
  funext a
  apply Fin.ext
  match a with
  | ⟨0, _⟩ => show (0#32 : BitVec 32).toNat * 1 + 1 * 0 = 0; rw [word_nil]
  | ⟨1, _⟩ => show (BitVec.ofNat 32 (bat t).val).toNat * 1 + 1 * 0 = (bat t).val; rw [word_of _ (by omega)]; omega
  | ⟨2, _⟩ => show (BitVec.ofNat 32 (seg t).val).toNat * 512 + 1 * r.val = 512 * (seg t).val + r.val; rw [word_of _ hs]; omega
  | ⟨3, _⟩ => show (0#32 : BitVec 32).toNat * 512 + 1 * d.val = d.val; rw [word_nil]; omega

theorem in_22 (i : S1x1x512x512.Idx) : ∃ (r : Fin 512) (d : Fin 512), i = ix4 (0 : Fin 1) (0 : Fin 1) r d := ⟨i 2, i 3, funext fun a => by
  match a with
  | ⟨0, _⟩ => exact Subsingleton.elim (α := Fin 1) _ _
  | ⟨1, _⟩ => exact Subsingleton.elim (α := Fin 1) _ _
  | ⟨2, _⟩ => rfl
  | ⟨3, _⟩ => rfl⟩

theorem of_22 (j : S4x4x8192x512.Idx) : ∃ (l b : Fin 4) (n : Fin 8192) (d : Fin 512), j = ix4 l b n d := ⟨j 0, j 1, j 2, j 3, funext fun a => by
  match a with
  | ⟨0, _⟩ => rfl
  | ⟨1, _⟩ => rfl
  | ⟨2, _⟩ => rfl
  | ⟨3, _⟩ => rfl⟩

theorem written_22 : (cfg0.win 22).CoversWhere (fun β : Fin 4 → ℕ => β 0 = 0) := by decide +kernel

theorem result_22 (c : Dev nD) : (dats m 0 c).arrAt 22 cfg0.N
    = foxV (newKf (launchedP m c)) (m ((c.tc : Thread nD τ).loc main_arg19)) := by
  refine (dats m 0 c).arrAt_eq_of_coversWhere_of_agree 22 _ (fun β : Fin 4 → ℕ => β 0 = 0) written_22 (fun t _ i => ?_) (fun j hj => ?_)
  · show oKf m c t i = _
    obtain ⟨r, d, rfl⟩ := in_22 i
    refine Eq.trans ?_ (congrArg (foxV _ _) (emb_22 t r d)).symm
    exact kf_plain (launchedP m c) _ (bat t) (row t) (launched_at m c t) (m ((c.tc : Thread nD τ).loc main_arg19)) r d
  · obtain ⟨l, b, n, d, rfl⟩ := of_22 j
    have hl : l.val ≠ 0 := fun e => hj (by show l.val / 1 = 0; omega)
    show V m c main_v0_5 (ix4 l b n d) = foxV _ _ (ix4 l b n d)
    rw [entry_22, foxV_old _ _ l hl]

theorem entry_23 (c : Dev nD) : V m c main_v0_6 = m ((c.tc : Thread nD τ).loc main_arg20) := by
  show StableHlo.after hostOps0 _ _ = _
  simp only [hostOps0]
  after_results_simp <;> rfl

theorem emb_23 (t : Fin cfg0.N) (r : Fin 512) (d : Fin 512) :
    ((cfg0.win 23).blk t).view.emb (ix4 (0 : Fin 1) (0 : Fin 1) r d) = ix4 (0 : Fin 4) (bat t) (row t r) d := by
  have hb := (bat t).isLt
  have hs := (seg t).isLt
  funext a
  apply Fin.ext
  match a with
  | ⟨0, _⟩ => show (0#32 : BitVec 32).toNat * 1 + 1 * 0 = 0; rw [word_nil]
  | ⟨1, _⟩ => show (BitVec.ofNat 32 (bat t).val).toNat * 1 + 1 * 0 = (bat t).val; rw [word_of _ (by omega)]; omega
  | ⟨2, _⟩ => show (BitVec.ofNat 32 (seg t).val).toNat * 512 + 1 * r.val = 512 * (seg t).val + r.val; rw [word_of _ hs]; omega
  | ⟨3, _⟩ => show (0#32 : BitVec 32).toNat * 512 + 1 * d.val = d.val; rw [word_nil]; omega

theorem in_23 (i : S1x1x512x512.Idx) : ∃ (r : Fin 512) (d : Fin 512), i = ix4 (0 : Fin 1) (0 : Fin 1) r d := ⟨i 2, i 3, funext fun a => by
  match a with
  | ⟨0, _⟩ => exact Subsingleton.elim (α := Fin 1) _ _
  | ⟨1, _⟩ => exact Subsingleton.elim (α := Fin 1) _ _
  | ⟨2, _⟩ => rfl
  | ⟨3, _⟩ => rfl⟩

theorem of_23 (j : S4x4x8192x512.Idx) : ∃ (l b : Fin 4) (n : Fin 8192) (d : Fin 512), j = ix4 l b n d := ⟨j 0, j 1, j 2, j 3, funext fun a => by
  match a with
  | ⟨0, _⟩ => rfl
  | ⟨1, _⟩ => rfl
  | ⟨2, _⟩ => rfl
  | ⟨3, _⟩ => rfl⟩

theorem written_23 : (cfg0.win 23).CoversWhere (fun β : Fin 4 → ℕ => β 0 = 0) := by decide +kernel

theorem result_23 (c : Dev nD) : (dats m 0 c).arrAt 23 cfg0.N
    = foxV (newVf (launchedP m c)) (m ((c.tc : Thread nD τ).loc main_arg20)) := by
  refine (dats m 0 c).arrAt_eq_of_coversWhere_of_agree 23 _ (fun β : Fin 4 → ℕ => β 0 = 0) written_23 (fun t _ i => ?_) (fun j hj => ?_)
  · show oVf m c t i = _
    obtain ⟨r, d, rfl⟩ := in_23 i
    refine Eq.trans ?_ (congrArg (foxV _ _) (emb_23 t r d)).symm
    exact vf_plain (launchedP m c) _ (bat t) (row t) (launched_at m c t) (m ((c.tc : Thread nD τ).loc main_arg20)) r d
  · obtain ⟨l, b, n, d, rfl⟩ := of_23 j
    have hl : l.val ≠ 0 := fun e => hj (by show l.val / 1 = 0; omega)
    show V m c main_v0_6 (ix4 l b n d) = foxV _ _ (ix4 l b n d)
    rw [entry_23, foxV_old _ _ l hl]

theorem entry_24 (c : Dev nD) : V m c main_v0_7 = m ((c.tc : Thread nD τ).loc main_arg21) := by
  show StableHlo.after hostOps0 _ _ = _
  simp only [hostOps0]
  after_results_simp <;> rfl

theorem emb_24 (t : Fin cfg0.N) (r : Fin 512) (d : Fin 8) :
    ((cfg0.win 24).blk t).view.emb (ix4 (0 : Fin 1) (0 : Fin 1) r d) = ix4 (0 : Fin 4) (bat t) (row t r) d := by
  have hb := (bat t).isLt
  have hs := (seg t).isLt
  funext a
  apply Fin.ext
  match a with
  | ⟨0, _⟩ => show (0#32 : BitVec 32).toNat * 1 + 1 * 0 = 0; rw [word_nil]
  | ⟨1, _⟩ => show (BitVec.ofNat 32 (bat t).val).toNat * 1 + 1 * 0 = (bat t).val; rw [word_of _ (by omega)]; omega
  | ⟨2, _⟩ => show (BitVec.ofNat 32 (seg t).val).toNat * 512 + 1 * r.val = 512 * (seg t).val + r.val; rw [word_of _ hs]; omega
  | ⟨3, _⟩ => show (0#32 : BitVec 32).toNat * 8 + 1 * d.val = d.val; rw [word_nil]; omega

theorem in_24 (i : S1x1x512x8.Idx) : ∃ (r : Fin 512) (d : Fin 8), i = ix4 (0 : Fin 1) (0 : Fin 1) r d := ⟨i 2, i 3, funext fun a => by
  match a with
  | ⟨0, _⟩ => exact Subsingleton.elim (α := Fin 1) _ _
  | ⟨1, _⟩ => exact Subsingleton.elim (α := Fin 1) _ _
  | ⟨2, _⟩ => rfl
  | ⟨3, _⟩ => rfl⟩

theorem of_24 (j : S4x4x8192x8.Idx) : ∃ (l b : Fin 4) (n : Fin 8192) (d : Fin 8), j = ix4 l b n d := ⟨j 0, j 1, j 2, j 3, funext fun a => by
  match a with
  | ⟨0, _⟩ => rfl
  | ⟨1, _⟩ => rfl
  | ⟨2, _⟩ => rfl
  | ⟨3, _⟩ => rfl⟩

theorem written_24 : (cfg0.win 24).CoversWhere (fun β : Fin 4 → ℕ => β 0 = 0) := by decide +kernel

theorem result_24 (c : Dev nD) : (dats m 0 c).arrAt 24 cfg0.N
    = lfV (newLf (launchedP m c) (m ((c.tc : Thread nD τ).loc main_arg9))) (m ((c.tc : Thread nD τ).loc main_arg21)) := by
  refine (dats m 0 c).arrAt_eq_of_coversWhere_of_agree 24 _ (fun β : Fin 4 → ℕ => β 0 = 0) written_24 (fun t _ i => ?_) (fun j hj => ?_)
  · show oLf m c t i = _
    obtain ⟨r, d, rfl⟩ := in_24 i
    refine Eq.trans ?_ (congrArg (lfV _ _) (emb_24 t r d)).symm
    exact lf_plain (launchedP m c) _ (bat t) (row t) (launched_at m c t) (m ((c.tc : Thread nD τ).loc main_arg9)) (m ((c.tc : Thread nD τ).loc main_arg21)) _ (bf_at m c t) r d
  · obtain ⟨l, b, n, d, rfl⟩ := of_24 j
    have hl : l.val ≠ 0 := fun e => hj (by show l.val / 1 = 0; omega)
    show V m c main_v0_7 (ix4 l b n d) = lfV _ _ (ix4 l b n d)
    rw [entry_24, lfV_old _ _ l hl]

end Cert.RowsIdeal.Hand

namespace Cert.Hand

open Idealize.ShloMosaic Idealize.SL.Sem

theorem rows_frame : Cert.quiescent_Rows := fun m g _ => Cert.Rows.Hand.run_frame m g

theorem rows_ideal_frame : Cert.quiescent_RowsIdeal := fun m g _ => Cert.RowsIdeal.Hand.run_frame m g

theorem rows_reference_frame : Cert.quiescent_RowsReferenceIdeal := fun m g _ =>
  (θ_run Cert.RowsReferenceIdeal.defs _ _).mono (fun r h => ⟨fun c => (h c).2.2.2.2.2, sem_eq_zero_of_no_sems (by decide) r.2⟩)
    (Cert.RowsReferenceIdeal.Value.run (F := Ideal) m g)

/-- Nothing is rewritten between the program and its ideal reading. -/
theorem rows_preserved : Cert.preserves_Rows_RowsIdeal := trivial

theorem rows_algebraic : Cert.algebraic_RowsIdeal_RowsReferenceIdeal := by
  intro m g m' g' _ hargs
  refine ⟨fun c => (Cert.RowsIdeal.Hand.dats (F := Ideal) m 0 c).arrAt 20 Cert.RowsIdeal.cfg0.N, fun c => (Cert.RowsIdeal.Hand.dats (F := Ideal) m 0 c).arrAt 21 Cert.RowsIdeal.cfg0.N, fun c => (Cert.RowsIdeal.Hand.dats (F := Ideal) m 0 c).arrAt 22 Cert.RowsIdeal.cfg0.N, fun c => (Cert.RowsIdeal.Hand.dats (F := Ideal) m 0 c).arrAt 23 Cert.RowsIdeal.cfg0.N, fun c => (Cert.RowsIdeal.Hand.dats (F := Ideal) m 0 c).arrAt 24 Cert.RowsIdeal.cfg0.N,
    Cert.RowsIdeal.Hand.run (F := Ideal) m g, ?_⟩
  refine (θ_run Cert.RowsReferenceIdeal.defs _ _).mono (fun r h c => ?_) (Cert.RowsReferenceIdeal.Hand.ref_run m' g')
  obtain ⟨e0, e1, e2, e3, e4, e5, e6, e7, e8, e9, e10, e11, e12, e13, e14, e15, e16, e17, e18, e19, e20, e21⟩ := hargs c
  obtain ⟨r0, r1, r2, r3, r4, rest⟩ := h c
  rw [e0, e1, e2, e3, e4] at r0 r1 r2 r3 r4
  rw [e7, e17] at r0
  rw [e10, e11, e18] at r1
  rw [e19] at r2
  rw [e20] at r3
  rw [e9, e21] at r4
  exact ⟨r0.trans (Cert.RowsIdeal.Hand.result_20 m c).symm, r1.trans (Cert.RowsIdeal.Hand.result_21 m c).symm, r2.trans (Cert.RowsIdeal.Hand.result_22 m c).symm,
    r3.trans (Cert.RowsIdeal.Hand.result_23 m c).symm, r4.trans (Cert.RowsIdeal.Hand.result_24 m c).symm, rest⟩

end Cert.Hand

end
-- ==== Proof.SampleLastLaunch.lean ====
/- The run of the sample group's last norm, exactly: the body at a point writes one function of its four blocks, and the program runs to the end with the
   output array at what the write-backs of those blocks leave, the arguments as they were and every semaphore at zero. -/
module

public import proofs.«01_k».proof.Proof.Gen.SampleLastIdeal.Launch
public import proofs.«01_k».proof.Proof.Gen.SampleLastIdeal.Skeleton
public import Idealize.ShloMosaic.Lib.Pipeline.FrameBody
public import Idealize.ShloMosaic.Lib.Pipeline.Value
public import Idealize.ShloMosaic.Lib.Claim
public import Idealize.ShloMosaic.Lib.Exec
public import Idealize.ShloMosaic.Lib.Tactic

@[expose] public section

noncomputable section

namespace Cert.SampleLastIdeal.Hand

open Cert.SampleLastIdeal Cert.SampleLastIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body -/

abbrev rTok : Rect S1x64x1024 := Rect.unit (s := S1x64x1024) ![0, 0, 0] S1x64x1024.size inb_S1x64x1024_S1x64x1024_0_0_0
abbrev rGate : Rect S1x1x1024 := Rect.unit (s := S1x1x1024) ![0, 0, 0] S1x1x1024.size inb_S1x1x1024_S1x1x1024_0_0_0
abbrev rNorm : Rect S1x1024 := Rect.unit (s := S1x1024) ![0, 0] S1x1024.size inb_S1x1024_S1x1024_0_0

theorem zero3 : (![0, 0, 0] : Fin 3 → ℕ) = fun _ => 0 := funext fun a => by fin_cases a <;> rfl
theorem zero2 : (![0, 0] : Fin 2 → ℕ) = fun _ => 0 := funext fun a => by fin_cases a <;> rfl

/-- The output block, from the residual's, the experts' output's, the gate's and the norm weights' blocks. -/
def outOf (x y : Vec F S1x64x1024 .f32) (g : Vec F S1x1x1024 .f32) (w : Vec F S1x1024 .f32) : Vec F S1x64x1024 .f32 := k0_pay1 x g y w

/-- The same, as the one store leaves it. -/
def leftBy (x y : Vec F S1x64x1024 .f32) (g : Vec F S1x1x1024 .f32) (w : Vec F S1x1024 .f32) : Vec F S1x64x1024 .f32 :=
  View.canon [⟨rTok, k0_pay1 (View.ld x rTok) (View.ld g rGate) (View.ld y rTok) (View.ld w rNorm)⟩]

theorem leftBy_eq (x y : Vec F S1x64x1024 .f32) (g : Vec F S1x1x1024 .f32) (w : Vec F S1x1024 .f32) : leftBy x y g w = outOf x y g w := by
  unfold leftBy outOf
  rw [View.canon_unit_zero zero3, View.ld_unit_zero zero3, View.ld_unit_zero zero3, View.ld_unit_zero zero3, View.ld_unit_zero zero2]

theorem store_covers (p : Vec F S1x64x1024 .f32) (i : S1x64x1024.Idx) : ∃ pc ∈ ([⟨rTok, p⟩] : List (View.Piece (Elt F) S1x64x1024 .f32)), i ∈ pc.1.set :=
  View.cover_of_tiled [⟨rTok, p⟩] S1x64x1024.size (by rfl) i

theorem body_exact (c : Dev nD) (E : Set ℕ) (i : grid0.Coords) (arg2 : Memref sig .tc .vmem S1x64x1024 .f32) (harg2 : arg2.IsWhole)
    (arg3 : Memref sig .tc .vmem S1x64x1024 .f32) (harg3 : arg3.IsWhole) (arg4 : Memref sig .tc .vmem S1x1x1024 .f32) (harg4 : arg4.IsWhole)
    (arg5 : Memref sig .tc .vmem S1x1024 .f32) (harg5 : arg5.IsWhole) (arg6 : Memref sig .tc .vmem S1x64x1024 .f32) (harg6 : arg6.IsWhole)
    (x y : Vec F S1x64x1024 .f32) (g : Vec F S1x1x1024 .f32) (w : Vec F S1x1024 .f32) (K : PUnit → sProp 𝕄) :
    iprop(owns (c : Thread nD τ) arg2 fullShare x ∗ owns (c : Thread nD τ) arg3 fullShare y ∗ owns (c : Thread nD τ) arg4 fullShare g
        ∗ owns (c : Thread nD τ) arg5 fullShare w ∗ (∃ d, owns (c : Thread nD τ) arg6 fullShare d)
        ∗ (iprop(owns (c : Thread nD τ) arg2 fullShare x ∗ owns (c : Thread nD τ) arg3 fullShare y ∗ owns (c : Thread nD τ) arg4 fullShare g
        ∗ owns (c : Thread nD τ) arg5 fullShare w ∗ owns (c : Thread nD τ) arg6 fullShare (outOf x y g w)) -∗ K ⟨⟩))
      ⊢ wp frame (wpE (defs₀ (F := F)) Variants.none c none) E (cc0_final_norm i arg2 harg2 arg3 harg3 arg4 harg4 arg5 harg5 arg6 harg6) K := by
  rw [← leftBy_eq]
  simp only [cc0_final_norm_eq_skeleton]; unfold cc0_final_norm_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (store_covers _)

/-! ## The launch -/

variable (m : (ℓ : Loc nD τ sig) → Buf (Elt F) ℓ) (ρ : Dev nD → PrngReg)

/-- Core `c`'s buffers at the region's entry: as launched. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The block the body leaves at point `t`. -/
def oblk (c : Dev nD) (t : Fin cfg0.N) : Vec F S1x64x1024 .f32 := outOf (iblk m c 0 t) (iblk m c 1 t) (iblk m c 2 t) (iblk m c 3 t)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => oblk m c t
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = oblk m c t := by dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-- The windows' current staging memrefs at point `t`. -/
abbrev ms0 (t : Fin cfg0.N) : Memref sig .tc .vmem S1x64x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x64x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x64x1024 .f32 := win0_4.stage (cfg0.slots t 4)
abbrev hs4 (t : Fin cfg0.N) : (ms4 t).IsWhole := hstage0_4 ((cfg0.slots t 4).cast nbuf0_4)

/-- The body at point `t`, on what the pipeline calls it with. -/
abbrev bodyAt (t : Fin cfg0.N) : Prog (TpuEff nD τ sig (Elt F) Λ₀ .tc) PUnit :=
  cc0_final_norm (grid0.coords t) (ms0 t) (hs0 t) (ms1 t) (hs1 t) (ms2 t) (hs2 t) (ms3 t) (hs3 t) (ms4 t) (hs4 t)

theorem defs_row (t : Fin cfg0.N) : defs₀ (F := F) .tc cfg0.body (cfg0.bodyArgs t (cfg0.slots t)) = bodyAt t := by
  unfold defs₀; rw [Defs.onTc_tc]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

theorem sound_body (c : Dev nD) (t : Fin cfg0.N) :
    bodyPre m c t ⊢ wp frame (wpE (defs₀ (F := F)) Variants.none c none) Set.univ (bodyAt t) (fun _ => bodyPost m c t) := by
  unfold bodyPre bodyPost bodyAt
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  unfold oblk
  iintro ⟨HΦ, Ho, ⟨%d0, H0⟩, ⟨%d1, H1⟩, ⟨%d2, H2⟩, ⟨%d3, H3⟩, ⟨%d4, H4⟩⟩
  iapply (body_exact c Set.univ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

set_option backward.isDefEq.respectTransparency.types false in
theorem run_main : θ_run defs (onTc (τ := τ) (main (F := F))) ⟨m, fun _ => 0, ρ⟩ (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The result and the arguments, -/
theorem run : θ_run defs (onTc (τ := τ) (main (F := F))) ⟨m, fun _ => 0, ρ⟩ (fun r => ∀ c : Dev nD,
      r.2.mem ((c.tc : Thread nD τ).loc main_v0) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h.1 c).1 4,
    (((h.1 c).1 0).trans ((dats m 0 c).arrAt_in 0 rfl _)).trans (A_eq m c 0),
    (((h.1 c).1 1).trans ((dats m 0 c).arrAt_in 1 rfl _)).trans (A_eq m c 1),
    (((h.1 c).1 2).trans ((dats m 0 c).arrAt_in 2 rfl _)).trans (A_eq m c 2),
    (((h.1 c).1 3).trans ((dats m 0 c).arrAt_in 3 rfl _)).trans (A_eq m c 3)⟩) (run_main m ρ)

/-- and the frame: the arguments unchanged and every semaphore at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => ⟨
    (((h.1 c).1 0).trans ((dats m 0 c).arrAt_in 0 rfl _)).trans (A_eq m c 0),
    (((h.1 c).1 1).trans ((dats m 0 c).arrAt_in 1 rfl _)).trans (A_eq m c 1),
    (((h.1 c).1 2).trans ((dats m 0 c).arrAt_in 2 rfl _)).trans (A_eq m c 2),
    (((h.1 c).1 3).trans ((dats m 0 c).arrAt_in 3 rfl _)).trans (A_eq m c 3)⟩, h.2⟩) (run_main m ρ)

end Cert.SampleLastIdeal.Hand

end
-- ==== Proof.SampleLastRead.lean ====
/- The sample group's last norm at a row and lane: the kernel's block and the plain reference's element are the same function of the row. -/
module

public import proofs.«01_k».proof.Proof.SampleLastLaunch
public import proofs.«01_k».proof.Proof.Gen.SampleLastReferenceIdeal.Run
public import Idealize.ShloMosaic.Lib.Pointwise
public import Idealize.ShloMosaic.Lib.Pipeline.ValueKit

@[expose] public section

noncomputable section

namespace Cert.SampleLastIdeal.Hand

open Idealize.ShloMosaic Idealize.ShloMosaic.TcCoe Idealize.SL.Sem

/-- A row divided by its root mean square, times the weight, at lane `d`. -/
def normed (x : Fin 1024 → EReal) (w : EReal) (d : Fin 1024) : EReal :=
  x d * Ideal.rsqrt (Ideal.div (∑ k : Fin 1024, x k * x k) (Ideal.ofBits .f32 0x44800000#32) + Ideal.ofBits .f32 0x358637BD#32) * w

section Kernel
open Cert.SampleLastIdeal Cert.SampleLastIdeal.Gen

theorem outOf_at (x y : Vec Ideal S1x64x1024 .f32) (g : Vec Ideal S1x1x1024 .f32) (w : Vec Ideal S1x1024 .f32) (r : Fin 64) (d : Fin 1024) :
    outOf x y g w (ix3 (0 : Fin 1) r d)
      = normed (fun k => x (ix3 (0 : Fin 1) r k) + g (ix3 (0 : Fin 1) (0 : Fin 1) k) * y (ix3 (0 : Fin 1) r k)) (w (ix2 (0 : Fin 1) d)) d := by
  unfold outOf k0_pay1 normed
  pointwise

end Kernel

end Cert.SampleLastIdeal.Hand

namespace Cert.SampleLastReferenceIdeal.Hand

open Idealize.ShloMosaic Idealize.ShloMosaic.TcCoe Idealize.SL.Sem
open Cert.SampleLastIdeal.Hand (normed)
open Cert.SampleLastReferenceIdeal Cert.SampleLastReferenceIdeal.Gen

/-- The residual sum, and the reference's result. -/
def sumV (x y : FVec Ideal S8x64x1024 .f32) (g : FVec Ideal S8x1x1024 .f32) : FVec Ideal S8x64x1024 .f32 :=
  addf x (mulf (broadcastInDim S8x64x1024 ![0, 1, 2] bcast_S8x1x1024_S8x64x1024_0_1_2 g) y)
def plainV (x y : FVec Ideal S8x64x1024 .f32) (g : FVec Ideal S8x1x1024 .f32) (w : FVec Ideal S1x1024 .f32) : FVec Ideal S8x64x1024 .f32 :=
  mulf (mulf (sumV x y g) (broadcastInDim S8x64x1024 ![0, 1, 2] bcast_S8x64x1_S8x64x1024_0_1_2 (Host.rsqrt (addf (Host.divf
    (broadcastInDim S8x64x1 ![0, 1] bcast_S8x64_S8x64x1_0_1 (Host.reduceAdd (mulf (sumV x y g) (sumV x y g)) (constant S_ .f32 0x00000000#32) reducesTo_S8x64x1024_S8x64_d2 h_S_))
    (broadcastInDim S8x64x1 ![] bcast_S_S8x64x1 (constant S_ .f32 0x44800000#32))) (broadcastInDim S8x64x1 ![] bcast_S_S8x64x1 (constant S_ .f32 0x358637BD#32))))))
    (broadcastInDim S8x64x1024 ![0, 1, 2] bcast_S1x1x1024_S8x64x1024_0_1_2 (broadcastInDim S1x1x1024 ![1, 2] bcast_S1x1024_S1x1x1024_1_2 w))

theorem sumV_at (x y : FVec Ideal S8x64x1024 .f32) (g : FVec Ideal S8x1x1024 .f32) (b : Fin 8) (n : Fin 64) (k : Fin 1024) :
    sumV x y g (ix3 b n k) = x (ix3 b n k) + g (ix3 b (0 : Fin 1) k) * y (ix3 b n k) := by
  unfold sumV
  pointwise

theorem plainV_at (x y : FVec Ideal S8x64x1024 .f32) (g : FVec Ideal S8x1x1024 .f32) (w : FVec Ideal S1x1024 .f32) (b : Fin 8) (n : Fin 64) (d : Fin 1024) :
    plainV x y g w (ix3 b n d) = normed (fun k => x (ix3 b n k) + g (ix3 b (0 : Fin 1) k) * y (ix3 b n k)) (w (ix2 (0 : Fin 1) d)) d := by
  simp only [← sumV_at]
  unfold plainV normed
  generalize sumV x y g = s
  pointwise

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v15) = plainV (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.SampleLastReferenceIdeal.Value.run (F := Ideal) m ρ

end Cert.SampleLastReferenceIdeal.Hand

end
-- ==== Proof.SampleLastValue.lean ====
/- The value claim and the frames of the sample group's last norm: each block read at an index is its array at the block's place, the output blocks cover the
   result, and so the kernel's result is the plain reference's. -/
module

public import proofs.«01_k».proof.Defs
public import proofs.«01_k».proof.Proof.SampleLastRead
public import proofs.«01_k».proof.Proof.PlainSampleLastLaunch
public import proofs.«01_k».proof.Proof.Gen.SampleLastReferenceIdeal.Run
public import Idealize.ShloMosaic.Lib.Claim

@[expose] public section

noncomputable section

namespace Cert.SampleLastIdeal.Hand

open Cert.SampleLastIdeal Cert.SampleLastIdeal.Gen
open Idealize.ShloMosaic Idealize.ShloMosaic.TcCoe
open Cert.SampleLastReferenceIdeal.Hand (plainV plainV_at)

variable (m : (ℓ : Loc nD τ sig) → Buf (Elt Ideal) ℓ)

/-- A point's batch, and row `r` of its block among the batch's rows. -/
def bat (t : Fin cfg0.N) : Fin 8 := grid0.coords t 0
def seg (t : Fin cfg0.N) : Fin 1 := grid0.coords t 1
def row (t : Fin cfg0.N) (r : Fin 64) : Fin 64 := ⟨64 * (seg t).val + r.val, by have := (seg t).isLt; omega⟩

theorem word_of (n : ℕ) (h : n < 16) : (BitVec.ofNat 32 n).toNat = n := by
  rw [BitVec.toNat_ofNat, Nat.mod_eq_of_lt (by omega)]
theorem word_nil : (0#32 : BitVec 32).toNat = 0 := rfl

theorem x_at (c : Dev nD) (t : Fin cfg0.N) (r : Fin 64) (k : Fin 1024) :
    iblk m c 0 t (ix3 (0 : Fin 1) r k) = m ((c.tc : Thread nD τ).loc main_arg0) (ix3 (bat t) (row t r) k) := by
  have hb := (bat t).isLt
  have hs := (seg t).isLt
  refine congrArg (m ((c.tc : Thread nD τ).loc main_arg0)) (funext fun a => Fin.ext ?_)
  match a with
  | ⟨0, _⟩ => show (BitVec.ofNat 32 (bat t).val).toNat * 1 + 1 * 0 = (bat t).val; rw [word_of _ (by omega)]; omega
  | ⟨1, _⟩ => show (BitVec.ofNat 32 (seg t).val).toNat * 64 + 1 * r.val = 64 * (seg t).val + r.val; rw [word_of _ (by omega)]; omega
  | ⟨2, _⟩ => show (0#32 : BitVec 32).toNat * 1024 + 1 * k.val = k.val; rw [word_nil]; omega

theorem y_at (c : Dev nD) (t : Fin cfg0.N) (r : Fin 64) (k : Fin 1024) :
    iblk m c 1 t (ix3 (0 : Fin 1) r k) = m ((c.tc : Thread nD τ).loc main_arg1) (ix3 (bat t) (row t r) k) := by
  have hb := (bat t).isLt
  have hs := (seg t).isLt
  refine congrArg (m ((c.tc : Thread nD τ).loc main_arg1)) (funext fun a => Fin.ext ?_)
  match a with
  | ⟨0, _⟩ => show (BitVec.ofNat 32 (bat t).val).toNat * 1 + 1 * 0 = (bat t).val; rw [word_of _ (by omega)]; omega
  | ⟨1, _⟩ => show (BitVec.ofNat 32 (seg t).val).toNat * 64 + 1 * r.val = 64 * (seg t).val + r.val; rw [word_of _ (by omega)]; omega
  | ⟨2, _⟩ => show (0#32 : BitVec 32).toNat * 1024 + 1 * k.val = k.val; rw [word_nil]; omega

theorem g_at (c : Dev nD) (t : Fin cfg0.N) (k : Fin 1024) :
    iblk m c 2 t (ix3 (0 : Fin 1) (0 : Fin 1) k) = m ((c.tc : Thread nD τ).loc main_arg2) (ix3 (bat t) (0 : Fin 1) k) := by
  have hb := (bat t).isLt
  refine congrArg (m ((c.tc : Thread nD τ).loc main_arg2)) (funext fun a => Fin.ext ?_)
  match a with
  | ⟨0, _⟩ => show (BitVec.ofNat 32 (bat t).val).toNat * 1 + 1 * 0 = (bat t).val; rw [word_of _ (by omega)]; omega
  | ⟨1, _⟩ => show (0#32 : BitVec 32).toNat * 1 + 1 * 0 = 0; rw [word_nil]
  | ⟨2, _⟩ => show (0#32 : BitVec 32).toNat * 1024 + 1 * k.val = k.val; rw [word_nil]; omega

theorem w_at (c : Dev nD) (t : Fin cfg0.N) (k : Fin 1024) :
    iblk m c 3 t (ix2 (0 : Fin 1) k) = m ((c.tc : Thread nD τ).loc main_arg3) (ix2 (0 : Fin 1) k) := by
  refine congrArg (m ((c.tc : Thread nD τ).loc main_arg3)) (funext fun a => Fin.ext ?_)
  match a with
  | ⟨0, _⟩ => show (0#32 : BitVec 32).toNat * 1 + 1 * 0 = 0; rw [word_nil]
  | ⟨1, _⟩ => show (0#32 : BitVec 32).toNat * 1024 + 1 * k.val = k.val; rw [word_nil]; omega

theorem out_emb (t : Fin cfg0.N) (r : Fin 64) (k : Fin 1024) :
    ((cfg0.win 4).blk t).view.emb (ix3 (0 : Fin 1) r k) = ix3 (bat t) (row t r) k := by
  have hb := (bat t).isLt
  have hs := (seg t).isLt
  funext a
  apply Fin.ext
  match a with
  | ⟨0, _⟩ => show (BitVec.ofNat 32 (bat t).val).toNat * 1 + 1 * 0 = (bat t).val; rw [word_of _ (by omega)]; omega
  | ⟨1, _⟩ => show (BitVec.ofNat 32 (seg t).val).toNat * 64 + 1 * r.val = 64 * (seg t).val + r.val; rw [word_of _ (by omega)]; omega
  | ⟨2, _⟩ => show (0#32 : BitVec 32).toNat * 1024 + 1 * k.val = k.val; rw [word_nil]; omega

theorem covers : (cfg0.win 4).Covers := by decide +kernel

theorem in_block (i : S1x64x1024.Idx) : ∃ (r : Fin 64) (k : Fin 1024), i = ix3 (0 : Fin 1) r k := ⟨i 1, i 2, funext fun a => by
  match a with
  | ⟨0, _⟩ => exact Subsingleton.elim (α := Fin 1) _ _
  | ⟨1, _⟩ => rfl
  | ⟨2, _⟩ => rfl⟩

/-- The body's function of blocks that are the arrays' at a place is the reference's element there. -/
theorem block_plain (X Y : FVec Ideal S8x64x1024 .f32) (G : FVec Ideal S8x1x1024 .f32) (W : FVec Ideal S1x1024 .f32) (b : Fin 8) (n : Fin 64 → Fin 64)
    (x y : Vec Ideal S1x64x1024 .f32) (g : Vec Ideal S1x1x1024 .f32) (w : Vec Ideal S1x1024 .f32)
    (hx : ∀ r k, x (ix3 (0 : Fin 1) r k) = X (ix3 b (n r) k)) (hy : ∀ r k, y (ix3 (0 : Fin 1) r k) = Y (ix3 b (n r) k))
    (hg : ∀ k, g (ix3 (0 : Fin 1) (0 : Fin 1) k) = G (ix3 b (0 : Fin 1) k)) (hw : ∀ k, w (ix2 (0 : Fin 1) k) = W (ix2 (0 : Fin 1) k))
    (r : Fin 64) (d : Fin 1024) : outOf x y g w (ix3 (0 : Fin 1) r d) = plainV X Y G W (ix3 b (n r) d) := by
  rw [outOf_at, plainV_at]
  simp only [hx, hy, hg, hw]

theorem result_eq (c : Dev nD) : (dats m 0 c).arrAt 4 cfg0.N = plainV (m ((c.tc : Thread nD τ).loc main_arg0)) (m ((c.tc : Thread nD τ).loc main_arg1))
    (m ((c.tc : Thread nD τ).loc main_arg2)) (m ((c.tc : Thread nD τ).loc main_arg3)) := by
  refine (dats m 0 c).arrAt_eq_of_covers 4 _ covers fun t _ i => ?_
  show oblk m c t i = _
  obtain ⟨r, d, rfl⟩ := in_block i
  refine Eq.trans ?_ (congrArg (plainV _ _ _ _) (out_emb t r d)).symm
  exact block_plain _ _ _ _ (bat t) (row t) _ _ _ _ (x_at m c t) (y_at m c t) (g_at m c t) (w_at m c t) r d

end Cert.SampleLastIdeal.Hand

namespace Cert.Hand

open Idealize.ShloMosaic Idealize.SL.Sem

theorem sample_last_frame : Cert.quiescent_SampleLast := fun m g _ => Cert.SampleLast.Hand.run_frame m g

theorem sample_last_ideal_frame : Cert.quiescent_SampleLastIdeal := fun m g _ => Cert.SampleLastIdeal.Hand.run_frame m g

theorem sample_last_reference_frame : Cert.quiescent_SampleLastReferenceIdeal := fun m g _ =>
  (θ_run Cert.SampleLastReferenceIdeal.defs _ _).mono (fun r h => ⟨fun c => (h c).2, sem_eq_zero_of_no_sems (by decide) r.2⟩)
    (Cert.SampleLastReferenceIdeal.Value.run (F := Ideal) m g)

/-- Nothing is rewritten between the program and its ideal reading. -/
theorem sample_last_preserved : Cert.preserves_SampleLast_SampleLastIdeal := trivial

theorem sample_last_algebraic : Cert.algebraic_SampleLastIdeal_SampleLastReferenceIdeal := by
  intro m g m' g' _ hargs
  refine ⟨fun c => (Cert.SampleLastIdeal.Hand.dats (F := Ideal) m 0 c).arrAt 4 Cert.SampleLastIdeal.cfg0.N, Cert.SampleLastIdeal.Hand.run (F := Ideal) m g, ?_⟩
  refine (θ_run Cert.SampleLastReferenceIdeal.defs _ _).mono (fun r h c => ⟨(h c).1.trans ?_, (h c).2⟩) (Cert.SampleLastReferenceIdeal.Hand.ref_run m' g')
  obtain ⟨e0, e1, e2, e3⟩ := hargs c
  rw [e0, e1, e2, e3]
  exact (Cert.SampleLastIdeal.Hand.result_eq m c).symm

end Cert.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Pre_starts
public import proofs.«01_k».proof.Proof.Gen.Pre_attends
public import proofs.«01_k».proof.Proof.Gen.Pre_routes
public import proofs.«01_k».proof.Proof.Gen.Experts
public import proofs.«01_k».proof.Proof.Gen.Experts.Skeleton
public import proofs.«01_k».proof.Proof.Gen.Experts.Launch
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsReferenceIdeal
public import proofs.«01_k».proof.Proof.Gen.ExpertsReferenceIdeal.Run
public import proofs.«01_k».proof.Proof.Gen.Last
public import proofs.«01_k».proof.Proof.Gen.Last.Skeleton
public import proofs.«01_k».proof.Proof.Gen.Last.Launch
public import proofs.«01_k».proof.Proof.Gen.LastIdeal
public import proofs.«01_k».proof.Proof.Gen.LastIdeal.Skeleton
public import proofs.«01_k».proof.Proof.Gen.LastIdeal.Launch
public import proofs.«01_k».proof.Proof.Gen.LastReferenceIdeal
public import proofs.«01_k».proof.Proof.Gen.LastReferenceIdeal.Run
public import proofs.«01_k».proof.Proof.Gen.Rows
public import proofs.«01_k».proof.Proof.Gen.Rows.Skeleton
public import proofs.«01_k».proof.Proof.Gen.Rows.Launch
public import proofs.«01_k».proof.Proof.Gen.Rows.Frame.Runs
public import proofs.«01_k».proof.Proof.Gen.RowsIdeal
public import proofs.«01_k».proof.Proof.Gen.RowsIdeal.Skeleton
public import proofs.«01_k».proof.Proof.Gen.RowsIdeal.Launch
public import proofs.«01_k».proof.Proof.Gen.RowsIdeal.Frame.Runs
public import proofs.«01_k».proof.Proof.Gen.RowsReferenceIdeal
public import proofs.«01_k».proof.Proof.Gen.RowsReferenceIdeal.Run
public import proofs.«01_k».proof.Proof.Gen.SampleLast
public import proofs.«01_k».proof.Proof.Gen.SampleLast.Skeleton
public import proofs.«01_k».proof.Proof.Gen.SampleLast.Launch
public import proofs.«01_k».proof.Proof.Gen.SampleLastIdeal
public import proofs.«01_k».proof.Proof.Gen.SampleLastIdeal.Skeleton
public import proofs.«01_k».proof.Proof.Gen.SampleLastIdeal.Launch
public import proofs.«01_k».proof.Proof.Gen.SampleLastReferenceIdeal
public import proofs.«01_k».proof.Proof.Gen.SampleLastReferenceIdeal.Run
public import proofs.«01_k».proof.Proof.Frames
public import proofs.«01_k».proof.Proof.IdealValue
public import proofs.«01_k».proof.Proof.ExpertsFrames
public import proofs.«01_k».proof.Proof.ExpertsValue
public import proofs.«01_k».proof.Proof.LastValue
public import proofs.«01_k».proof.Proof.RowsValue
public import proofs.«01_k».proof.Proof.SampleLastValue
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Experts.Gen.facts,
  Cert.ExpertsIdeal.Gen.facts, Cert.ExpertsReferenceIdeal.Gen.facts, Cert.Last.Gen.facts, Cert.LastIdeal.Gen.facts,
  Cert.LastReferenceIdeal.Gen.facts, Cert.Rows.Gen.facts, Cert.RowsIdeal.Gen.facts, Cert.RowsReferenceIdeal.Gen.facts,
  Cert.SampleLast.Gen.facts, Cert.SampleLastIdeal.Gen.facts, Cert.SampleLastReferenceIdeal.Gen.facts,
  Cert.Pre_starts.Gen.facts, Cert.Pre_attends.Gen.facts, Cert.Pre_routes.Gen.facts,
  Cert.Hand.kernel_frame, Cert.Hand.ideal_frame, Cert.Hand.ideal_frame_attends, Cert.Hand.reference_frame, Cert.Hand.reference_frame_attends,
  Cert.Hand.experts_frame, Cert.Hand.experts_ideal_frame, Cert.Hand.experts_reference_frame, Cert.Hand.experts_reference_frame_routes,
  Cert.Hand.last_frame, Cert.Hand.last_ideal_frame, Cert.Hand.last_reference_frame,
  Cert.Hand.rows_frame, Cert.Hand.rows_ideal_frame, Cert.Hand.rows_reference_frame,
  Cert.Hand.sample_last_frame, Cert.Hand.sample_last_ideal_frame, Cert.Hand.sample_last_reference_frame,
  Cert.Hand.mask_named, Cert.Hand.algebraic, Cert.Hand.experts_preserved, Cert.Hand.experts_algebraic,
  Cert.Hand.last_preserved, Cert.Hand.last_algebraic, Cert.Hand.rows_preserved, Cert.Hand.rows_algebraic,
  Cert.Hand.sample_last_preserved, Cert.Hand.sample_last_algebraic⟩

end Cert.Proof

end
